-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)
  ∧ IdealRules.named_const.Statement Cert.KernelIdeal.κ "mask" .f32 0xF149F2CA#32 ⊥

def algebraic_KernelIdeal_ReferenceIdeal_on_real_rows_pre_finite [hKernelIdeal : Cert.KernelIdeal.Facts] [hReferenceIdeal : Cert.ReferenceIdeal.Facts] [hPre_finite : Cert.Pre_finite.Facts] [hOn_real_rows : Cert.On_real_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![16896, 1024]⟩ : Shape).Idx, (Cert.On_real_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.KernelIdeal.nD Cert.KernelIdeal.τ).loc Cert.KernelIdeal.main_v7) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![16896, 1024]⟩ : Shape).Idx, (Cert.On_real_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.ReferenceIdeal.nD Cert.ReferenceIdeal.τ).loc Cert.ReferenceIdeal.main_v50) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)) (v2 : (c : Dev Cert.Kernel2Ideal.nD) → Buf (Elt Ideal) ((c.tc : Thread Cert.Kernel2Ideal.nD Cert.Kernel2Ideal.τ).loc Cert.Kernel2Ideal.main_v6_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_v6_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_v17) = v1 c
          ∧ r.2.mem ((c.tc : Thread Cert.Reference2Ideal.nD Cert.Reference2Ideal.τ).loc Cert.Reference2Ideal.main_v18) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_v18) = v1 c
          ∧ r.2.mem ((c.tc : Thread Cert.Reference3Ideal.nD Cert.Reference3Ideal.τ).loc Cert.Reference3Ideal.main_v19) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  IdealRules.bf16_pair.BufferStatement Cert.Kernel4Ideal.S16896x2x1024 Cert.Kernel4Ideal.S16896x1x1024
  ∧ IdealRules.bf16_pair.BufferStatement Cert.Kernel4Ideal.S256x2x1024 Cert.Kernel4Ideal.S256x1x1024
  ∧ IdealRules.bf16_pair.Statement Cert.Kernel4Ideal.S128x2x1024 Cert.Kernel4Ideal.S128x1x1024
  ∧ IdealRules.bf16_pack.Statement Cert.Kernel4Ideal.S128x1024

def algebraic_Kernel4Ideal_Reference4Ideal_on_hidden_rows [hKernel4Ideal : Cert.Kernel4Ideal.Facts] [hReference4Ideal : Cert.Reference4Ideal.Facts] [hOn_hidden_rows : Cert.On_hidden_rows.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v12_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          (∀ i : (⟨2, ![16896, 2048]⟩ : Shape).Idx, (Cert.On_hidden_rows.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))) i = 1#1 → r.2.mem ((c.tc : Thread Cert.Kernel4Ideal.nD Cert.Kernel4Ideal.τ).loc Cert.Kernel4Ideal.main_v12_0) i = v0 c i)
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          (∀ i : (⟨2, ![16896, 2048]⟩ : Shape).Idx, (Cert.On_hidden_rows.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))) i = 1#1 → r.2.mem ((c.tc : Thread Cert.Reference4Ideal.nD Cert.Reference4Ideal.τ).loc Cert.Reference4Ideal.main_v4) i = v0 c i)
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v259) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hOn_real_rows : Cert.On_real_rows.Facts) (hOn_hidden_rows : Cert.On_hidden_rows.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_on_real_rows_pre_finite (hKernelIdeal := hKernelIdeal) (hReferenceIdeal := hReferenceIdeal) (hPre_finite := hPre_finite) (hOn_real_rows := hOn_real_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_on_hidden_rows (hKernel4Ideal := hKernel4Ideal) (hReference4Ideal := hReference4Ideal) (hOn_hidden_rows := hOn_hidden_rows)
    ∧ preserves_Kernel5_Kernel5Ideal
    ∧ algebraic_Kernel5Ideal_Reference5Ideal (hKernel5Ideal := hKernel5Ideal) (hReference5Ideal := hReference5Ideal)
-- ==== On_hidden_rows.lean ====
abbrev S16896x1024 : Shape := ⟨2, ![16896, 1024]⟩
abbrev S16896x2048 : Shape := ⟨2, ![16896, 2048]⟩
abbrev S2048x2048 : Shape := ⟨2, ![2048, 2048]⟩
abbrev S2048 : Shape := ⟨1, ![2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S2x8448x2048 : Shape := ⟨3, ![2, 8448, 2048]⟩
abbrev S_ : Shape := ⟨0, ![]⟩

class Facts : Prop where
  bcast_S_S2x8448x2048 : S_.BroadcastsInDim S2x8448x2048 (![] : Fin 0 → Fin S2x8448x2048.rank)
  shapeCasts_S2x8448x2048_S16896x2048 : S2x8448x2048.ShapeCasts S16896x2048

variable [Facts]

def fn {F : FTy → Type} [FloatOps F] (main_arg0 : FVec F S16896x1024 .bf16) (main_arg1 : FVec F S16896x1024 .bf16) (main_arg2 : FVec F S16896x2048 .f32) (main_arg3 : FVec F S2048x2048 .f32) (main_arg4 : FVec F S2048 .f32) (main_arg5 : FVec F S2048x4 .f32) (main_arg6 : FVec F S4 .f32) (main_arg7 : FVec F S2048x32 .f32) (main_arg8 : FVec F S32 .f32) : IVec S16896x2048 1 :=
  let main_v0 : IVec S2x8448x2048 32 := iotaInDim S2x8448x2048 32 1
  let main_c : IVec S_ 32 := constantI S_ 32 48#32
  let main_v1 : IVec S2x8448x2048 32 := broadcastInDim S2x8448x2048 ![] bcast_S_S2x8448x2048 main_c
  let main_v2 : IVec S2x8448x2048 1 := cmpi .sge main_v0 main_v1
  let main_c_0 : IVec S_ 32 := constantI S_ 32 8256#32
  let main_v3 : IVec S2x8448x2048 32 := broadcastInDim S2x8448x2048 ![] bcast_S_S2x8448x2048 main_c_0
  let main_v4 : IVec S2x8448x2048 1 := cmpi .slt main_v0 main_v3
  let main_v5 : IVec S2x8448x2048 1 := andi main_v2 main_v4
  let main_v6 : IVec S16896x2048 1 := shapeCast S16896x2048 main_v5 shapeCasts_S2x8448x2048_S16896x2048
  main_v6
-- ==== On_real_rows.lean ====
abbrev S16896x5120 : Shape := ⟨2, ![16896, 5120]⟩
abbrev S16896x128 : Shape := ⟨2, ![16896, 128]⟩
abbrev S8 : Shape := ⟨1, ![8]⟩
abbrev S2x8448x1024 : Shape := ⟨3, ![2, 8448, 1024]⟩
abbrev S_ : Shape := ⟨0, ![]⟩
abbrev S16896x1024 : Shape := ⟨2, ![16896, 1024]⟩

class Facts : Prop where
  bcast_S_S2x8448x1024 : S_.BroadcastsInDim S2x8448x1024 (![] : Fin 0 → Fin S2x8448x1024.rank)
  shapeCasts_S2x8448x1024_S16896x1024 : S2x8448x1024.ShapeCasts S16896x1024

variable [Facts]

def fn {F : FTy → Type} [FloatOps F] (main_arg0 : FVec F S16896x5120 .bf16) (main_arg1 : FVec F S16896x128 .f32) (main_arg2 : FVec F S8 .f32) : IVec S16896x1024 1 :=
  let main_v0 : IVec S2x8448x1024 32 := iotaInDim S2x8448x1024 32 1
  let main_c : IVec S_ 32 := constantI S_ 32 48#32
  let main_v1 : IVec S2x8448x1024 32 := broadcastInDim S2x8448x1024 ![] bcast_S_S2x8448x1024 main_c
  let main_v2 : IVec S2x8448x1024 1 := cmpi .sge main_v0 main_v1
  let main_c_0 : IVec S_ 32 := constantI S_ 32 8256#32
  let main_v3 : IVec S2x8448x1024 32 := broadcastInDim S2x8448x1024 ![] bcast_S_S2x8448x1024 main_c_0
  let main_v4 : IVec S2x8448x1024 1 := cmpi .slt main_v0 main_v3
  let main_v5 : IVec S2x8448x1024 1 := andi main_v2 main_v4
  let main_v6 : IVec S16896x1024 1 := shapeCast S16896x1024 main_v5 shapeCasts_S2x8448x1024_S16896x1024
  main_v6
-- ==== Pre_finite.lean ====
abbrev S16896x5120 : Shape := ⟨2, ![16896, 5120]⟩
abbrev S16896x128 : Shape := ⟨2, ![16896, 128]⟩
abbrev S8 : Shape := ⟨1, ![8]⟩
abbrev S_ : Shape := ⟨0, ![]⟩

class Facts : Prop where
  bitsLt_bf16_f32 : FTy.bits .bf16 < FTy.bits .f32
  bcast_S_S16896x5120 : S_.BroadcastsInDim S16896x5120 (![] : Fin 0 → Fin S16896x5120.rank)
  reducesTo_S16896x5120_S_d0_1 : S16896x5120.ReducesTo [0, 1] S_
  h_S_ : 0 < S_.numel
  bcast_S_S16896x128 : S_.BroadcastsInDim S16896x128 (![] : Fin 0 → Fin S16896x128.rank)
  reducesTo_S16896x128_S_d0_1 : S16896x128.ReducesTo [0, 1] S_
  bcast_S_S8 : S_.BroadcastsInDim S8 (![] : Fin 0 → Fin S8.rank)
  reducesTo_S8_S_d0 : S8.ReducesTo [0] S_

variable [Facts]

def fn {F : FTy → Type} [FloatOps F] (main_arg0 : FVec F S16896x5120 .bf16) (main_arg1 : FVec F S16896x128 .f32) (main_arg2 : FVec F S8 .f32) : IVec S_ 1 :=
  let main_v0 : FVec F S16896x5120 .f32 := (extf .f32 · bitsLt_bf16_f32) main_arg0
  let main_v1 : FVec F S16896x5120 .f32 := Host.absf main_v0
  let main_cst : FVec F S_ .f32 := constant S_ .f32 0x7F800000#32
  let main_v2 : FVec F S16896x5120 .f32 := broadcastInDim S16896x5120 ![] bcast_S_S16896x5120 main_cst
  let main_v3 : IVec S16896x5120 1 := cmpf .olt main_v1 main_v2
  let main_c : IVec S_ 1 := constantI S_ 1 1#1
  let main_v4 : IVec S_ 1 := (fun x v => Host.reduce IntOp.andi x v reducesTo_S16896x5120_S_d0_1 h_S_) main_v3 main_c
  let main_v5 : FVec F S16896x128 .f32 := Host.absf main_arg1
  let main_cst_0 : FVec F S_ .f32 := constant S_ .f32 0x7F800000#32
  let main_v6 : FVec F S16896x128 .f32 := broadcastInDim S16896x128 ![] bcast_S_S16896x128 main_cst_0
  let main_v7 : IVec S16896x128 1 := cmpf .olt main_v5 main_v6
  let main_c_1 : IVec S_ 1 := constantI S_ 1 1#1
  let main_v8 : IVec S_ 1 := (fun x v => Host.reduce IntOp.andi x v reducesTo_S16896x128_S_d0_1 h_S_) main_v7 main_c_1
  let main_v9 : IVec S_ 1 := andi main_v4 main_v8
  let main_v10 : FVec F S8 .f32 := Host.absf main_arg2
  let main_cst_2 : FVec F S_ .f32 := constant S_ .f32 0x7F800000#32
  let main_v11 : FVec F S8 .f32 := broadcastInDim S8 ![] bcast_S_S8 main_cst_2
  let main_v12 : IVec S8 1 := cmpf .olt main_v10 main_v11
  let main_c_3 : IVec S_ 1 := constantI S_ 1 1#1
  let main_v13 : IVec S_ 1 := (fun x v => Host.reduce IntOp.andi x v reducesTo_S8_S_d0 h_S_) main_v12 main_c_3
  let main_v14 : IVec S_ 1 := andi main_v9 main_v13
  main_v14
-- ==== Kernel.lean ====
abbrev S16896x5120 : Shape := ⟨2, ![16896, 5120]⟩
abbrev S16896x128 : Shape := ⟨2, ![16896, 128]⟩
abbrev S8 : Shape := ⟨1, ![8]⟩
abbrev S_ : Shape := ⟨0, ![]⟩
abbrev S128 : Shape := ⟨1, ![128]⟩
abbrev S1x128 : Shape := ⟨2, ![1, 128]⟩
abbrev S16896x1024 : Shape := ⟨2, ![16896, 1024]⟩
abbrev S256x128 : Shape := ⟨2, ![256, 128]⟩
abbrev S256x1024 : Shape := ⟨2, ![256, 1024]⟩
abbrev S8x128 : Shape := ⟨2, ![8, 128]⟩
abbrev S256x1 : Shape := ⟨2, ![256, 1]⟩
abbrev S256x256 : Shape := ⟨2, ![256, 256]⟩
abbrev S768x128 : Shape := ⟨2, ![768, 128]⟩
abbrev S1 : Shape := ⟨1, ![1]⟩
abbrev S768 : Shape := ⟨1, ![768]⟩
abbrev S8448x128 : Shape := ⟨2, ![8448, 128]⟩
abbrev S768x256 : Shape := ⟨2, ![768, 256]⟩
abbrev S384x256 : Shape := ⟨2, ![384, 256]⟩
abbrev S384x1 : Shape := ⟨2, ![384, 1]⟩
abbrev S384x768 : Shape := ⟨2, ![384, 768]⟩
abbrev S384 : Shape := ⟨1, ![384]⟩
abbrev S384x128 : Shape := ⟨2, ![384, 128]⟩
abbrev S384x384 : Shape := ⟨2, ![384, 384]⟩

abbrev nBuf : Space → Nat
  | .hbm => 16
  | .vmem => 17
  | .smem => 0
  | _ => 0

abbrev bufTy : (tb : Table) → Fin (tcTables nBuf tb) → BufTy
  | .hbm, ⟨0, _⟩ => ⟨S16896x5120, .bf16⟩
  | .hbm, ⟨1, _⟩ => ⟨S16896x128, .f32⟩
  | .hbm, ⟨2, _⟩ => ⟨S8, .f32⟩
  | .hbm, ⟨3, _⟩ => ⟨S_, .i32⟩
  | .hbm, ⟨4, _⟩ => ⟨S_, .f32⟩
  | .hbm, ⟨5, _⟩ => ⟨S128, .f32⟩
  | .hbm, ⟨6, _⟩ => ⟨S1x128, .f32⟩
  | .hbm, ⟨7, _⟩ => ⟨S16896x1024, .bf16⟩
  | .hbm, ⟨8, _⟩ => ⟨S_, .bf16⟩
  | .hbm, ⟨9, _⟩ => ⟨S768x128, .bf16⟩
  | .hbm, ⟨10, _⟩ => ⟨S_, .i32⟩
  | .hbm, ⟨11, _⟩ => ⟨S1, .i32⟩
  | .hbm, ⟨12, _⟩ => ⟨S_, .bf16⟩
  | .hbm, ⟨13, _⟩ => ⟨S768, .bf16⟩
  | .hbm, ⟨14, _⟩ => ⟨S768x128, .bf16⟩
  | .hbm, ⟨15, _⟩ => ⟨S16896x1024, .bf16⟩
  | .local _ .vmem, ⟨0, _⟩ => ⟨S256x128, .f32⟩
  | .local _ .vmem, ⟨1, _⟩ => ⟨S256x128, .f32⟩
  | .local _ .vmem, ⟨2, _⟩ => ⟨S1x128, .f32⟩
  | .local _ .vmem, ⟨3, _⟩ => ⟨S256x1024, .bf16⟩
  | .local _ .vmem, ⟨4, _⟩ => ⟨S256x1024, .bf16⟩
  | .local _ .vmem, ⟨5, _⟩ => ⟨S8x128, .f32⟩
  | .local _ .vmem, ⟨6, _⟩ => ⟨S768x128, .bf16⟩
  | .local _ .vmem, ⟨7, _⟩ => ⟨S768x128, .bf16⟩
  | .local _ .vmem, ⟨8, _⟩ => ⟨S8448x128, .bf16⟩
  | .local _ .vmem, ⟨9, _⟩ => ⟨S8448x128, .bf16⟩
  | .local _ .vmem, ⟨10, _⟩ => ⟨S8448x128, .bf16⟩
  | .local _ .vmem, ⟨11, _⟩ => ⟨S8448x128, .bf16⟩
  | .local _ .vmem, ⟨12, _⟩ => ⟨S8448x128, .bf16⟩
  | .local _ .vmem, ⟨13, _⟩ => ⟨S8448x128, .bf16⟩
  | .local _ .vmem, ⟨14, _⟩ => ⟨S768x128, .bf16⟩
  | .local _ .vmem, ⟨15, _⟩ => ⟨S768x128, .bf16⟩
  | .local _ .vmem, ⟨16, _⟩ => ⟨S768x128, .bf16⟩
  | _, _ => ⟨S16896x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨2, ![2, 33], ![false, false]⟩

def cc0_transform_0 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![2, 8, 11], ![false, false, false]⟩

@[reducible] def k1_t1_loop (i : grid1.Coords) : Scf.Loop 32 :=
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c4_i32 : BitVec 32 := 4#32
  let c0_i32_5 : BitVec 32 := 0#32
  let v19 : BitVec 1 := Scalar.cmpi .sgt c4_i32 c0_i32_5
  let v20 : BitVec 32 := Scalar.extui v19
  let c0_i32_6 : BitVec 32 := 0#32
  let v21 : BitVec 1 := Scalar.cmpi .slt c4_i32 c0_i32_6
  let v22 : BitVec 32 := Scalar.extui v21
  let v23 : BitVec 32 := Scalar.subi v20 v22
  let v24 : BitVec 1 := Scalar.cmpi .ne v18 v23
  let v25 : BitVec 32 := Scalar.remsi arg2 c4_i32
  let c0_i32_7 : BitVec 32 := 0#32
  let v26 : BitVec 1 := Scalar.cmpi .ne v25 c0_i32_7
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_10 : BitVec 32 := 1#32
  ⟨c0_i32_8, v34, c1_i32_10⟩
def k1_mult1 (i : grid1.Coords) (k1_t1 : Fin (k1_t1_loop i).trips) : BitVec 32 :=
  let c4_i32_24 : BitVec 32 := 4#32
  let c0_i32_8 : BitVec 32 := 0#32
  let c1_i32_10 : BitVec 32 := 1#32
  let arg9 : BitVec 32 := Scf.iv c0_i32_8 c1_i32_10 k1_t1
  let v63 : BitVec 32 := Scalar.muli c4_i32_24 arg9
  let c0_i32_25 : BitVec 32 := 0#32
  let v64 : BitVec 32 := Scalar.addi v63 c0_i32_25
  let c768_i32 : BitVec 32 := 768#32
  let v71 : BitVec 32 := Scalar.muli v64 c768_i32
  v71
def k1_mult2 (i : grid1.Coords) (k1_t1 : Fin (k1_t1_loop i).trips) : BitVec 32 :=
  let c4_i32_26 : BitVec 32 := 4#32
  let c0_i32_8 : BitVec 32 := 0#32
  let c1_i32_10 : BitVec 32 := 1#32
  let arg9 : BitVec 32 := Scf.iv c0_i32_8 c1_i32_10 k1_t1
  let v65 : BitVec 32 := Scalar.muli c4_i32_26 arg9
  let c1_i32_27 : BitVec 32 := 1#32
  let v66 : BitVec 32 := Scalar.addi v65 c1_i32_27
  let c768_i32_31 : BitVec 32 := 768#32
  let v73 : BitVec 32 := Scalar.muli v66 c768_i32_31
  v73
def k1_mult3 (i : grid1.Coords) (k1_t1 : Fin (k1_t1_loop i).trips) : BitVec 32 :=
  let c4_i32_28 : BitVec 32 := 4#32
  let c0_i32_8 : BitVec 32 := 0#32
  let c1_i32_10 : BitVec 32 := 1#32
  let arg9 : BitVec 32 := Scf.iv c0_i32_8 c1_i32_10 k1_t1
  let v67 : BitVec 32 := Scalar.muli c4_i32_28 arg9
  let c2_i32 : BitVec 32 := 2#32
  let v68 : BitVec 32 := Scalar.addi v67 c2_i32
  let c768_i32_32 : BitVec 32 := 768#32
  let v75 : BitVec 32 := Scalar.muli v68 c768_i32_32
  v75
def k1_mult4 (i : grid1.Coords) (k1_t1 : Fin (k1_t1_loop i).trips) : BitVec 32 :=
  let c4_i32_29 : BitVec 32 := 4#32
  let c0_i32_8 : BitVec 32 := 0#32
  let c1_i32_10 : BitVec 32 := 1#32
  let arg9 : BitVec 32 := Scf.iv c0_i32_8 c1_i32_10 k1_t1
  let v69 : BitVec 32 := Scalar.muli c4_i32_29 arg9
  let c3_i32_30 : BitVec 32 := 3#32
  let v70 : BitVec 32 := Scalar.addi v69 c3_i32_30
  let c768_i32_33 : BitVec 32 := 768#32
  let v77 : BitVec 32 := Scalar.muli v70 c768_i32_33
  v77
def k1_off1 (i : grid1.Coords) (k1_t1 : Fin (k1_t1_loop i).trips) (c0_i32_25 : BitVec 32) : Fin 2 → Nat :=
  let c4_i32_24 : BitVec 32 := 4#32
  let c0_i32_8 : BitVec 32 := 0#32
  let c1_i32_10 : BitVec 32 := 1#32
  let arg9 : BitVec 32 := Scf.iv c0_i32_8 c1_i32_10 k1_t1
  let v63 : BitVec 32 := Scalar.muli c4_i32_24 arg9
  let v64 : BitVec 32 := Scalar.addi v63 c0_i32_25
  let c768_i32 : BitVec 32 := 768#32
  let v71 : BitVec 32 := Scalar.muli v64 c768_i32
  let v72 : BitVec 32 := v71
  let v79 : Index := Scalar.indexCast v72
  let c0_34 : Index := 0#32
  ![v79.toNat, 0]
@[reducible] def k1_t2_loop (i : grid1.Coords) : Scf.Loop 32 :=
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c4_i32 : BitVec 32 := 4#32
  let c0_i32_5 : BitVec 32 := 0#32
  let v19 : BitVec 1 := Scalar.cmpi .sgt c4_i32 c0_i32_5
  let v20 : BitVec 32 := Scalar.extui v19
  let c0_i32_6 : BitVec 32 := 0#32
  let v21 : BitVec 1 := Scalar.cmpi .slt c4_i32 c0_i32_6
  let v22 : BitVec 32 := Scalar.extui v21
  let v23 : BitVec 32 := Scalar.subi v20 v22
  let v24 : BitVec 1 := Scalar.cmpi .ne v18 v23
  let v25 : BitVec 32 := Scalar.remsi arg2 c4_i32
  let c0_i32_7 : BitVec 32 := 0#32
  let v26 : BitVec 1 := Scalar.cmpi .ne v25 c0_i32_7
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let v31 : BitVec 32 := Scalar.addi c0_i32_8 v30
  let c1_i32_11 : BitVec 32 := 1#32
  ⟨v34, v31, c1_i32_11⟩
def k1_mult5 (i : grid1.Coords) (k1_t2 : Fin (k1_t2_loop i).trips) : BitVec 32 :=
  let c4_i32_24 : BitVec 32 := 4#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c4_i32 : BitVec 32 := 4#32
  let c0_i32_5 : BitVec 32 := 0#32
  let v19 : BitVec 1 := Scalar.cmpi .sgt c4_i32 c0_i32_5
  let v20 : BitVec 32 := Scalar.extui v19
  let c0_i32_6 : BitVec 32 := 0#32
  let v21 : BitVec 1 := Scalar.cmpi .slt c4_i32 c0_i32_6
  let v22 : BitVec 32 := Scalar.extui v21
  let v23 : BitVec 32 := Scalar.subi v20 v22
  let v24 : BitVec 1 := Scalar.cmpi .ne v18 v23
  let v25 : BitVec 32 := Scalar.remsi arg2 c4_i32
  let c0_i32_7 : BitVec 32 := 0#32
  let v26 : BitVec 1 := Scalar.cmpi .ne v25 c0_i32_7
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg9 : BitVec 32 := Scf.iv v34 c1_i32_11 k1_t2
  let v63 : BitVec 32 := Scalar.muli c4_i32_24 arg9
  let c0_i32_25 : BitVec 32 := 0#32
  let v64 : BitVec 32 := Scalar.addi v63 c0_i32_25
  let c768_i32 : BitVec 32 := 768#32
  let v71 : BitVec 32 := Scalar.muli v64 c768_i32
  v71
def k1_mult6 (i : grid1.Coords) (k1_t2 : Fin (k1_t2_loop i).trips) : BitVec 32 :=
  let c4_i32_26 : BitVec 32 := 4#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c4_i32 : BitVec 32 := 4#32
  let c0_i32_5 : BitVec 32 := 0#32
  let v19 : BitVec 1 := Scalar.cmpi .sgt c4_i32 c0_i32_5
  let v20 : BitVec 32 := Scalar.extui v19
  let c0_i32_6 : BitVec 32 := 0#32
  let v21 : BitVec 1 := Scalar.cmpi .slt c4_i32 c0_i32_6
  let v22 : BitVec 32 := Scalar.extui v21
  let v23 : BitVec 32 := Scalar.subi v20 v22
  let v24 : BitVec 1 := Scalar.cmpi .ne v18 v23
  let v25 : BitVec 32 := Scalar.remsi arg2 c4_i32
  let c0_i32_7 : BitVec 32 := 0#32
  let v26 : BitVec 1 := Scalar.cmpi .ne v25 c0_i32_7
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg9 : BitVec 32 := Scf.iv v34 c1_i32_11 k1_t2
  let v65 : BitVec 32 := Scalar.muli c4_i32_26 arg9
  let c1_i32_27 : BitVec 32 := 1#32
  let v66 : BitVec 32 := Scalar.addi v65 c1_i32_27
  let c768_i32_31 : BitVec 32 := 768#32
  let v73 : BitVec 32 := Scalar.muli v66 c768_i32_31
  v73
def k1_mult7 (i : grid1.Coords) (k1_t2 : Fin (k1_t2_loop i).trips) : BitVec 32 :=
  let c4_i32_28 : BitVec 32 := 4#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c4_i32 : BitVec 32 := 4#32
  let c0_i32_5 : BitVec 32 := 0#32
  let v19 : BitVec 1 := Scalar.cmpi .sgt c4_i32 c0_i32_5
  let v20 : BitVec 32 := Scalar.extui v19
  let c0_i32_6 : BitVec 32 := 0#32
  let v21 : BitVec 1 := Scalar.cmpi .slt c4_i32 c0_i32_6
  let v22 : BitVec 32 := Scalar.extui v21
  let v23 : BitVec 32 := Scalar.subi v20 v22
  let v24 : BitVec 1 := Scalar.cmpi .ne v18 v23
  let v25 : BitVec 32 := Scalar.remsi arg2 c4_i32
  let c0_i32_7 : BitVec 32 := 0#32
  let v26 : BitVec 1 := Scalar.cmpi .ne v25 c0_i32_7
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg9 : BitVec 32 := Scf.iv v34 c1_i32_11 k1_t2
  let v67 : BitVec 32 := Scalar.muli c4_i32_28 arg9
  let c2_i32 : BitVec 32 := 2#32
  let v68 : BitVec 32 := Scalar.addi v67 c2_i32
  let c768_i32_32 : BitVec 32 := 768#32
  let v75 : BitVec 32 := Scalar.muli v68 c768_i32_32
  v75
def k1_mult8 (i : grid1.Coords) (k1_t2 : Fin (k1_t2_loop i).trips) : BitVec 32 :=
  let c4_i32_29 : BitVec 32 := 4#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c4_i32 : BitVec 32 := 4#32
  let c0_i32_5 : BitVec 32 := 0#32
  let v19 : BitVec 1 := Scalar.cmpi .sgt c4_i32 c0_i32_5
  let v20 : BitVec 32 := Scalar.extui v19
  let c0_i32_6 : BitVec 32 := 0#32
  let v21 : BitVec 1 := Scalar.cmpi .slt c4_i32 c0_i32_6
  let v22 : BitVec 32 := Scalar.extui v21
  let v23 : BitVec 32 := Scalar.subi v20 v22
  let v24 : BitVec 1 := Scalar.cmpi .ne v18 v23
  let v25 : BitVec 32 := Scalar.remsi arg2 c4_i32
  let c0_i32_7 : BitVec 32 := 0#32
  let v26 : BitVec 1 := Scalar.cmpi .ne v25 c0_i32_7
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg9 : BitVec 32 := Scf.iv v34 c1_i32_11 k1_t2
  let v69 : BitVec 32 := Scalar.muli c4_i32_29 arg9
  let c3_i32_30 : BitVec 32 := 3#32
  let v70 : BitVec 32 := Scalar.addi v69 c3_i32_30
  let c768_i32_33 : BitVec 32 := 768#32
  let v77 : BitVec 32 := Scalar.muli v70 c768_i32_33
  v77
def k1_off2 (i : grid1.Coords) (k1_t2 : Fin (k1_t2_loop i).trips) (c0_i32_25 : BitVec 32) : Fin 2 → Nat :=
  let c4_i32_24 : BitVec 32 := 4#32
  let c0_i32_8 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_4 : BitVec 32 := 0#32
  let v16 : BitVec 1 := Scalar.cmpi .slt arg2 c0_i32_4
  let v17 : BitVec 32 := Scalar.extui v16
  let v18 : BitVec 32 := Scalar.subi v15 v17
  let c4_i32 : BitVec 32 := 4#32
  let c0_i32_5 : BitVec 32 := 0#32
  let v19 : BitVec 1 := Scalar.cmpi .sgt c4_i32 c0_i32_5
  let v20 : BitVec 32 := Scalar.extui v19
  let c0_i32_6 : BitVec 32 := 0#32
  let v21 : BitVec 1 := Scalar.cmpi .slt c4_i32 c0_i32_6
  let v22 : BitVec 32 := Scalar.extui v21
  let v23 : BitVec 32 := Scalar.subi v20 v22
  let v24 : BitVec 1 := Scalar.cmpi .ne v18 v23
  let v25 : BitVec 32 := Scalar.remsi arg2 c4_i32
  let c0_i32_7 : BitVec 32 := 0#32
  let v26 : BitVec 1 := Scalar.cmpi .ne v25 c0_i32_7
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let v30 : BitVec 32 := Scalar.subi v29 c0_i32_8
  let c1_i32_9 : BitVec 32 := 1#32
  let v32 : BitVec 32 := Scalar.divsi v30 c1_i32_9
  let v33 : BitVec 32 := Scalar.muli v32 c1_i32_9
  let v34 : BitVec 32 := Scalar.addi c0_i32_8 v33
  let c1_i32_11 : BitVec 32 := 1#32
  let arg9 : BitVec 32 := Scf.iv v34 c1_i32_11 k1_t2
  let v63 : BitVec 32 := Scalar.muli c4_i32_24 arg9
  let v64 : BitVec 32 := Scalar.addi v63 c0_i32_25
  let c768_i32 : BitVec 32 := 768#32
  let v71 : BitVec 32 := Scalar.muli v64 c768_i32
  let v72 : BitVec 32 := v71
  let v79 : Index := Scalar.indexCast v72
  let c0_34 : Index := 0#32
  ![v79.toNat, 0]
def k1_cond1 (i : grid1.Coords) : BitVec 1 :=
  let arg2 : BitVec 32 := BitVec.ofNat 32 (i 2).val
  let c4_i32_12 : BitVec 32 := 4#32
  let c0_i32_13 : BitVec 32 := 0#32
  let v37 : BitVec 1 := Scalar.cmpi .eq c4_i32_12 c0_i32_13
  let c1_i32_14 : BitVec 32 := 1#32
  let v38 : BitVec 32 := Scalar.select v37 c1_i32_14 c4_i32_12
  let v39 : BitVec 32 := Scalar.remsi arg2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let c0_i32_18 : BitVec 32 := 0#32
  let v47 : BitVec 32 := Scalar.maxsi v46 c0_i32_18
  let c3_i32_19 : BitVec 32 := 3#32
  let v48 : BitVec 32 := Scalar.minsi v47 c3_i32_19
  let c0_i32_20 : BitVec 32 := 0#32
  let v49 : BitVec 1 := Scalar.cmpi .ne v48 c0_i32_20
  v49

def k1_cond2 (i : grid1.Coords) : BitVec 1 :=
  let arg2 : BitVec 32 := BitVec.ofNat 32 (i 2).val
  let c4_i32_12 : BitVec 32 := 4#32
  let c0_i32_13 : BitVec 32 := 0#32
  let v37 : BitVec 1 := Scalar.cmpi .eq c4_i32_12 c0_i32_13
  let c1_i32_14 : BitVec 32 := 1#32
  let v38 : BitVec 32 := Scalar.select v37 c1_i32_14 c4_i32_12
  let v39 : BitVec 32 := Scalar.remsi arg2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let c0_i32_18 : BitVec 32 := 0#32
  let v47 : BitVec 32 := Scalar.maxsi v46 c0_i32_18
  let c3_i32_19 : BitVec 32 := 3#32
  let v48 : BitVec 32 := Scalar.minsi v47 c3_i32_19
  let c1_i32_24 : BitVec 32 := 1#32
  let v63 : BitVec 32 := Scalar.subi v48 c1_i32_24
  let c0_i32_25 : BitVec 32 := 0#32
  let v64 : BitVec 1 := Scalar.cmpi .ne v63 c0_i32_25
  v64

def k1_cond3 (i : grid1.Coords) : BitVec 1 :=
  let arg2 : BitVec 32 := BitVec.ofNat 32 (i 2).val
  let c4_i32_12 : BitVec 32 := 4#32
  let c0_i32_13 : BitVec 32 := 0#32
  let v37 : BitVec 1 := Scalar.cmpi .eq c4_i32_12 c0_i32_13
  let c1_i32_14 : BitVec 32 := 1#32
  let v38 : BitVec 32 := Scalar.select v37 c1_i32_14 c4_i32_12
  let v39 : BitVec 32 := Scalar.remsi arg2 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let c0_i32_18 : BitVec 32 := 0#32
  let v47 : BitVec 32 := Scalar.maxsi v46 c0_i32_18
  let c3_i32_19 : BitVec 32 := 3#32
  let v48 : BitVec 32 := Scalar.minsi v47 c3_i32_19
  let c1_i32_24 : BitVec 32 := 1#32
  let v63 : BitVec 32 := Scalar.subi v48 c1_i32_24
  let c1_i32_26 : BitVec 32 := 1#32
  let v66 : BitVec 32 := Scalar.subi v63 c1_i32_26
  let c0_i32_27 : BitVec 32 := 0#32
  let v67 : BitVec 1 := Scalar.cmpi .ne v66 c0_i32_27
  v67

def k1_mult9 (i : grid1.Coords) : BitVec 32 :=
  let arg2 : BitVec 32 := BitVec.ofNat 32 (i 2).val
  let c3_i32_28 : BitVec 32 := 3#32
  let v69 : BitVec 32 := Scalar.subi arg2 c3_i32_28
  let c0_i32_29 : BitVec 32 := 0#32
  let v70 : BitVec 32 := Scalar.addi v69 c0_i32_29
  let c768_i32 : BitVec 32 := 768#32
  let v77 : BitVec 32 := Scalar.muli v70 c768_i32
  v77
def k1_mult10 (i : grid1.Coords) : BitVec 32 :=
  let arg2 : BitVec 32 := BitVec.ofNat 32 (i 2).val
  let c3_i32_30 : BitVec 32 := 3#32
  let v71 : BitVec 32 := Scalar.subi arg2 c3_i32_30
  let c1_i32_31 : BitVec 32 := 1#32
  let v72 : BitVec 32 := Scalar.addi v71 c1_i32_31
  let c768_i32_35 : BitVec 32 := 768#32
  let v79 : BitVec 32 := Scalar.muli v72 c768_i32_35
  v79
def k1_mult11 (i : grid1.Coords) : BitVec 32 :=
  let arg2 : BitVec 32 := BitVec.ofNat 32 (i 2).val
  let c3_i32_32 : BitVec 32 := 3#32
  let v73 : BitVec 32 := Scalar.subi arg2 c3_i32_32
  let c2_i32 : BitVec 32 := 2#32
  let v74 : BitVec 32 := Scalar.addi v73 c2_i32
  let c768_i32_36 : BitVec 32 := 768#32
  let v81 : BitVec 32 := Scalar.muli v74 c768_i32_36
  v81
def k1_mult12 (i : grid1.Coords) : BitVec 32 :=
  let arg2 : BitVec 32 := BitVec.ofNat 32 (i 2).val
  let c3_i32_33 : BitVec 32 := 3#32
  let v75 : BitVec 32 := Scalar.subi arg2 c3_i32_33
  let c3_i32_34 : BitVec 32 := 3#32
  let v76 : BitVec 32 := Scalar.addi v75 c3_i32_34
  let c768_i32_37 : BitVec 32 := 768#32
  let v83 : BitVec 32 := Scalar.muli v76 c768_i32_37
  v83
def k1_off3 (i : grid1.Coords) (c0_i32_29 : BitVec 32) : Fin 2 → Nat :=
  let arg2 : BitVec 32 := BitVec.ofNat 32 (i 2).val
  let c3_i32_28 : BitVec 32 := 3#32
  let v69 : BitVec 32 := Scalar.subi arg2 c3_i32_28
  let v70 : BitVec 32 := Scalar.addi v69 c0_i32_29
  let c768_i32 : BitVec 32 := 768#32
  let v77 : BitVec 32 := Scalar.muli v70 c768_i32
  let v78 : BitVec 32 := v77
  let v85 : Index := Scalar.indexCast v78
  let c0_38 : Index := 0#32
  ![v85.toNat, 0]
def k1_off4 (i : grid1.Coords) : Fin 2 → Nat :=
  let arg2 : BitVec 32 := BitVec.ofNat 32 (i 2).val
  let c3_i32_33 : BitVec 32 := 3#32
  let v75 : BitVec 32 := Scalar.subi arg2 c3_i32_33
  let c3_i32_34 : BitVec 32 := 3#32
  let v76 : BitVec 32 := Scalar.addi v75 c3_i32_34
  let c768_i32_37 : BitVec 32 := 768#32
  let v83 : BitVec 32 := Scalar.muli v76 c768_i32_37
  let v84 : BitVec 32 := v83
  let v106 : Index := Scalar.indexCast v84
  let c0_47 : Index := 0#32
  ![v106.toNat, 0]
def k1_mult13 (i : grid1.Coords) : BitVec 32 :=
  let arg2 : BitVec 32 := BitVec.ofNat 32 (i 2).val
  let c2_i32 : BitVec 32 := 2#32
  let v69 : BitVec 32 := Scalar.subi arg2 c2_i32
  let c0_i32_28 : BitVec 32 := 0#32
  let v70 : BitVec 32 := Scalar.addi v69 c0_i32_28
  let c768_i32 : BitVec 32 := 768#32
  let v75 : BitVec 32 := Scalar.muli v70 c768_i32
  v75
def k1_mult14 (i : grid1.Coords) : BitVec 32 :=
  let arg2 : BitVec 32 := BitVec.ofNat 32 (i 2).val
  let c2_i32_29 : BitVec 32 := 2#32
  let v71 : BitVec 32 := Scalar.subi arg2 c2_i32_29
  let c1_i32_30 : BitVec 32 := 1#32
  let v72 : BitVec 32 := Scalar.addi v71 c1_i32_30
  let c768_i32_33 : BitVec 32 := 768#32
  let v77 : BitVec 32 := Scalar.muli v72 c768_i32_33
  v77
def k1_mult15 (i : grid1.Coords) : BitVec 32 :=
  let arg2 : BitVec 32 := BitVec.ofNat 32 (i 2).val
  let c2_i32_31 : BitVec 32 := 2#32
  let v73 : BitVec 32 := Scalar.subi arg2 c2_i32_31
  let c2_i32_32 : BitVec 32 := 2#32
  let v74 : BitVec 32 := Scalar.addi v73 c2_i32_32
  let c768_i32_34 : BitVec 32 := 768#32
  let v79 : BitVec 32 := Scalar.muli v74 c768_i32_34
  v79
def k1_off5 (i : grid1.Coords) (c0_i32_28 : BitVec 32) : Fin 2 → Nat :=
  let arg2 : BitVec 32 := BitVec.ofNat 32 (i 2).val
  let c2_i32 : BitVec 32 := 2#32
  let v69 : BitVec 32 := Scalar.subi arg2 c2_i32
  let v70 : BitVec 32 := Scalar.addi v69 c0_i32_28
  let c768_i32 : BitVec 32 := 768#32
  let v75 : BitVec 32 := Scalar.muli v70 c768_i32
  let v76 : BitVec 32 := v75
  let v81 : Index := Scalar.indexCast v76
  let c0_35 : Index := 0#32
  ![v81.toNat, 0]
def k1_off6 (i : grid1.Coords) : Fin 2 → Nat :=
  let arg2 : BitVec 32 := BitVec.ofNat 32 (i 2).val
  let c2_i32_31 : BitVec 32 := 2#32
  let v73 : BitVec 32 := Scalar.subi arg2 c2_i32_31
  let c2_i32_32 : BitVec 32 := 2#32
  let v74 : BitVec 32 := Scalar.addi v73 c2_i32_32
  let c768_i32_34 : BitVec 32 := 768#32
  let v79 : BitVec 32 := Scalar.muli v74 c768_i32_34
  let v80 : BitVec 32 := v79
  let v95 : Index := Scalar.indexCast v80
  let c0_41 : Index := 0#32
  ![v95.toNat, 0]
def k1_mult16 (i : grid1.Coords) : BitVec 32 :=
  let arg2 : BitVec 32 := BitVec.ofNat 32 (i 2).val
  let c1_i32_26 : BitVec 32 := 1#32
  let v66 : BitVec 32 := Scalar.subi arg2 c1_i32_26
  let c0_i32_27 : BitVec 32 := 0#32
  let v67 : BitVec 32 := Scalar.addi v66 c0_i32_27
  let c768_i32 : BitVec 32 := 768#32
  let v70 : BitVec 32 := Scalar.muli v67 c768_i32
  v70
def k1_mult17 (i : grid1.Coords) : BitVec 32 :=
  let arg2 : BitVec 32 := BitVec.ofNat 32 (i 2).val
  let c1_i32_28 : BitVec 32 := 1#32
  let v68 : BitVec 32 := Scalar.subi arg2 c1_i32_28
  let c1_i32_29 : BitVec 32 := 1#32
  let v69 : BitVec 32 := Scalar.addi v68 c1_i32_29
  let c768_i32_30 : BitVec 32 := 768#32
  let v72 : BitVec 32 := Scalar.muli v69 c768_i32_30
  v72
def k1_off7 (i : grid1.Coords) (c0_i32_27 : BitVec 32) : Fin 2 → Nat :=
  let arg2 : BitVec 32 := BitVec.ofNat 32 (i 2).val
  let c1_i32_26 : BitVec 32 := 1#32
  let v66 : BitVec 32 := Scalar.subi arg2 c1_i32_26
  let v67 : BitVec 32 := Scalar.addi v66 c0_i32_27
  let c768_i32 : BitVec 32 := 768#32
  let v70 : BitVec 32 := Scalar.muli v67 c768_i32
  let v71 : BitVec 32 := v70
  let v74 : Index := Scalar.indexCast v71
  let c0_31 : Index := 0#32
  ![v74.toNat, 0]
def k1_off8 (i : grid1.Coords) : Fin 2 → Nat :=
  let arg2 : BitVec 32 := BitVec.ofNat 32 (i 2).val
  let c1_i32_28 : BitVec 32 := 1#32
  let v68 : BitVec 32 := Scalar.subi arg2 c1_i32_28
  let c1_i32_29 : BitVec 32 := 1#32
  let v69 : BitVec 32 := Scalar.addi v68 c1_i32_29
  let c768_i32_30 : BitVec 32 := 768#32
  let v72 : BitVec 32 := Scalar.muli v69 c768_i32_30
  let v73 : BitVec 32 := v72
  let v81 : Index := Scalar.indexCast v73
  let c0_34 : Index := 0#32
  ![v81.toNat, 0]
def k1_mult18 (i : grid1.Coords) : BitVec 32 :=
  let arg2 : BitVec 32 := BitVec.ofNat 32 (i 2).val
  let c0_i32_24 : BitVec 32 := 0#32
  let v63 : BitVec 32 := Scalar.subi arg2 c0_i32_24
  let c0_i32_25 : BitVec 32 := 0#32
  let v64 : BitVec 32 := Scalar.addi v63 c0_i32_25
  let c768_i32 : BitVec 32 := 768#32
  let v65 : BitVec 32 := Scalar.muli v64 c768_i32
  v65
def k1_off9 (i : grid1.Coords) : Fin 2 → Nat :=
  let arg2 : BitVec 32 := BitVec.ofNat 32 (i 2).val
  let c0_i32_24 : BitVec 32 := 0#32
  let v63 : BitVec 32 := Scalar.subi arg2 c0_i32_24
  let c0_i32_25 : BitVec 32 := 0#32
  let v64 : BitVec 32 := Scalar.addi v63 c0_i32_25
  let c768_i32 : BitVec 32 := 768#32
  let v65 : BitVec 32 := Scalar.muli v64 c768_i32
  let v66 : BitVec 32 := v65
  let v67 : Index := Scalar.indexCast v66
  let c0_26 : Index := 0#32
  ![v67.toNat, 0]
def k1_off10 (i : grid1.Coords) : Fin 2 → Nat :=
  let arg2 : BitVec 32 := BitVec.ofNat 32 (i 2).val
  let c0_i32_24 : BitVec 32 := 0#32
  let v63 : BitVec 32 := Scalar.subi arg2 c0_i32_24
  let c0_i32_25 : BitVec 32 := 0#32
  let v64 : BitVec 32 := Scalar.addi v63 c0_i32_25
  let c768_i32 : BitVec 32 := 768#32
  let v65 : BitVec 32 := Scalar.muli v64 c768_i32
  let v66 : BitVec 32 := v65
  let v81 : Index := Scalar.indexCast v66
  let c0_31 : Index := 0#32
  ![v81.toNat, 0]
def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg0 c11_i32
  let v1 : BitVec 32 := Scalar.addi v0 arg2
  let c0_i32 : BitVec 32 := 0#32
  ![v1.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg0 c11_i32
  let v1 : BitVec 32 := Scalar.addi v0 arg2
  let c0_i32 : BitVec 32 := 0#32
  ![v1.toNat, arg1.toNat]

abbrev stage1_0 : Fin 2 → Memref sig .tc .vmem S768x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S8448x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S8448x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S8448x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 1 → Memref sig .tc .vmem S768x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S768x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]
-- ==== KernelIdeal.lean ====
variable {F : FTy → Type} [FloatOps F] [Named F]
def κ : String → Option EReal := fun
  | "mask" => some ⊥
  | "neg_log2e" => some ((-((Real.log 2)⁻¹) : ℝ) : EReal)
  | _ => none
-- ==== ReferenceIdeal.lean ====
abbrev S16896x5120 : Shape := ⟨2, ![16896, 5120]⟩
abbrev S16896x128 : Shape := ⟨2, ![16896, 128]⟩
abbrev S8 : Shape := ⟨1, ![8]⟩
abbrev S2x8448x5120 : Shape := ⟨3, ![2, 8448, 5120]⟩
abbrev S2x8208x5120 : Shape := ⟨3, ![2, 8208, 5120]⟩
abbrev S2x8208x1024 : Shape := ⟨3, ![2, 8208, 1024]⟩
abbrev S2x8208x8x128 : Shape := ⟨4, ![2, 8208, 8, 128]⟩
abbrev S2x8448x128 : Shape := ⟨3, ![2, 8448, 128]⟩
abbrev S2x8208x8 : Shape := ⟨3, ![2, 8208, 8]⟩
abbrev S1x1x8 : Shape := ⟨3, ![1, 1, 8]⟩
abbrev S_ : Shape := ⟨0, ![]⟩
abbrev S2x8x8208x128 : Shape := ⟨4, ![2, 8, 8208, 128]⟩
abbrev S2x8x8208 : Shape := ⟨3, ![2, 8, 8208]⟩
abbrev S2x8x8208x8208 : Shape := ⟨4, ![2, 8, 8208, 8208]⟩
abbrev S2x8x8208x1 : Shape := ⟨4, ![2, 8, 8208, 1]⟩
abbrev S2x8x1x8208 : Shape := ⟨4, ![2, 8, 1, 8208]⟩
abbrev S8208x8208 : Shape := ⟨2, ![8208, 8208]⟩
abbrev S2x8x128x8208 : Shape := ⟨4, ![2, 8, 128, 8208]⟩
abbrev S2x8448x1024 : Shape := ⟨3, ![2, 8448, 1024]⟩
abbrev S16896x1024 : Shape := ⟨2, ![16896, 1024]⟩

abbrev nBuf : Space → Nat
  | .hbm => 81
  | .vmem => 0
  | .smem => 0
  | _ => 0

abbrev bufTy : (tb : Table) → Fin (tcTables nBuf tb) → BufTy
  | .hbm, ⟨0, _⟩ => ⟨S16896x5120, .bf16⟩
  | .hbm, ⟨1, _⟩ => ⟨S16896x128, .f32⟩
  | .hbm, ⟨2, _⟩ => ⟨S8, .f32⟩
  | .hbm, ⟨3, _⟩ => ⟨S16896x5120, .f32⟩
  | .hbm, ⟨4, _⟩ => ⟨S2x8448x5120, .f32⟩
  | .hbm, ⟨5, _⟩ => ⟨S2x8208x5120, .f32⟩
  | .hbm, ⟨6, _⟩ => ⟨S2x8208x1024, .f32⟩
  | .hbm, ⟨7, _⟩ => ⟨S2x8208x8x128, .f32⟩
  | .hbm, ⟨8, _⟩ => ⟨S2x8208x1024, .f32⟩
  | .hbm, ⟨9, _⟩ => ⟨S2x8208x8x128, .f32⟩
  | .hbm, ⟨10, _⟩ => ⟨S2x8208x1024, .f32⟩
  | .hbm, ⟨11, _⟩ => ⟨S2x8208x8x128, .f32⟩
  | .hbm, ⟨12, _⟩ => ⟨S2x8448x128, .f32⟩
  | .hbm, ⟨13, _⟩ => ⟨S2x8208x8, .f32⟩
  | .hbm, ⟨14, _⟩ => ⟨S1x1x8, .f32⟩
  | .hbm, ⟨15, _⟩ => ⟨S2x8208x8, .f32⟩
  | .hbm, ⟨16, _⟩ => ⟨S2x8208x8, .f32⟩
  | .hbm, ⟨17, _⟩ => ⟨S2x8208x8, .f32⟩
  | .hbm, ⟨18, _⟩ => ⟨S_, .f32⟩
  | .hbm, ⟨19, _⟩ => ⟨S2x8208x8, .f32⟩
  | .hbm, ⟨20, _⟩ => ⟨S2x8208x8, .f32⟩
  | .hbm, ⟨21, _⟩ => ⟨S2x8208x8, .f32⟩
  | .hbm, ⟨22, _⟩ => ⟨S2x8208x8, .f32⟩
  | .hbm, ⟨23, _⟩ => ⟨S2x8208x8, .i1⟩
  | .hbm, ⟨24, _⟩ => ⟨S2x8208x8, .f32⟩
  | .hbm, ⟨25, _⟩ => ⟨S2x8208x8, .f32⟩
  | .hbm, ⟨26, _⟩ => ⟨S2x8208x8, .f32⟩
  | .hbm, ⟨27, _⟩ => ⟨S2x8208x8, .f32⟩
  | .hbm, ⟨28, _⟩ => ⟨S2x8208x8, .f32⟩
  | .hbm, ⟨29, _⟩ => ⟨S2x8208x8, .f32⟩
  | .hbm, ⟨30, _⟩ => ⟨S2x8208x8, .f32⟩
  | .hbm, ⟨31, _⟩ => ⟨S2x8208x8, .f32⟩
  | .hbm, ⟨32, _⟩ => ⟨S2x8208x8, .f32⟩
  | .hbm, ⟨33, _⟩ => ⟨S2x8x8208x128, .f32⟩
  | .hbm, ⟨34, _⟩ => ⟨S2x8x8208x128, .f32⟩
  | .hbm, ⟨35, _⟩ => ⟨S2x8x8208x128, .f32⟩
  | .hbm, ⟨36, _⟩ => ⟨S_, .f32⟩
  | .hbm, ⟨37, _⟩ => ⟨S_, .f32⟩
  | .hbm, ⟨38, _⟩ => ⟨S2x8208x8, .f32⟩
  | .hbm, ⟨39, _⟩ => ⟨S2x8x8208, .f32⟩
  | .hbm, ⟨40, _⟩ => ⟨S2x8x8208x8208, .f32⟩
  | .hbm, ⟨41, _⟩ => ⟨S_, .f32⟩
  | .hbm, ⟨42, _⟩ => ⟨S_, .f32⟩
  | .hbm, ⟨43, _⟩ => ⟨S2x8x8208x8208, .f32⟩
  | .hbm, ⟨44, _⟩ => ⟨S2x8x8208x8208, .f32⟩
  | .hbm, ⟨45, _⟩ => ⟨S2x8x8208x1, .f32⟩
  | .hbm, ⟨46, _⟩ => ⟨S2x8x1x8208, .f32⟩
  | .hbm, ⟨47, _⟩ => ⟨S2x8x8208x8208, .f32⟩
  | .hbm, ⟨48, _⟩ => ⟨S2x8x8208x8208, .f32⟩
  | .hbm, ⟨49, _⟩ => ⟨S2x8x8208x8208, .f32⟩
  | .hbm, ⟨50, _⟩ => ⟨S2x8x8208x8208, .f32⟩
  | .hbm, ⟨51, _⟩ => ⟨S8208x8208, .i32⟩
  | .hbm, ⟨52, _⟩ => ⟨S8208x8208, .i32⟩
  | .hbm, ⟨53, _⟩ => ⟨S8208x8208, .i1⟩
  | .hbm, ⟨54, _⟩ => ⟨S_, .f32⟩
  | .hbm, ⟨55, _⟩ => ⟨S_, .f32⟩
  | .hbm, ⟨56, _⟩ => ⟨S2x8x8208x8208, .i1⟩
  | .hbm, ⟨57, _⟩ => ⟨S2x8x8208x8208, .f32⟩
  | .hbm, ⟨58, _⟩ => ⟨S2x8x8208x8208, .f32⟩
  | .hbm, ⟨59, _⟩ => ⟨S_, .f32⟩
  | .hbm, ⟨60, _⟩ => ⟨S2x8x8208, .f32⟩
  | .hbm, ⟨61, _⟩ => ⟨S_, .f32⟩
  | .hbm, ⟨62, _⟩ => ⟨S2x8x8208, .f32⟩
  | .hbm, ⟨63, _⟩ => ⟨S2x8x8208, .f32⟩
  | .hbm, ⟨64, _⟩ => ⟨S2x8x8208x1, .f32⟩
  | .hbm, ⟨65, _⟩ => ⟨S2x8x8208x8208, .f32⟩
  | .hbm, ⟨66, _⟩ => ⟨S2x8x8208x8208, .f32⟩
  | .hbm, ⟨67, _⟩ => ⟨S2x8x8208x8208, .f32⟩
  | .hbm, ⟨68, _⟩ => ⟨S_, .f32⟩
  | .hbm, ⟨69, _⟩ => ⟨S2x8x8208, .f32⟩
  | .hbm, ⟨70, _⟩ => ⟨S2x8x8208x1, .f32⟩
  | .hbm, ⟨71, _⟩ => ⟨S2x8x8208x8208, .f32⟩
  | .hbm, ⟨72, _⟩ => ⟨S2x8x8208x8208, .f32⟩
  | .hbm, ⟨73, _⟩ => ⟨S2x8x128x8208, .f32⟩
  | .hbm, ⟨74, _⟩ => ⟨S2x8208x8x128, .f32⟩
  | .hbm, ⟨75, _⟩ => ⟨S2x8208x1024, .f32⟩
  | .hbm, ⟨76, _⟩ => ⟨S_, .i32⟩
  | .hbm, ⟨77, _⟩ => ⟨S_, .f32⟩
  | .hbm, ⟨78, _⟩ => ⟨S2x8448x1024, .f32⟩
  | .hbm, ⟨79, _⟩ => ⟨S16896x1024, .f32⟩
  | .hbm, ⟨80, _⟩ => ⟨S16896x1024, .bf16⟩
  | _, _ => ⟨S16896x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_call1_call0_cst : Ref sig .tc := ⟨.hbm, 36, rfl⟩
abbrev main_call1_call0_v0 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_0 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v33 : Ref sig .tc := ⟨.hbm, 58, rfl⟩
abbrev main_cst_1 : Ref sig .tc := ⟨.hbm, 59, rfl⟩
abbrev main_v34 : Ref sig .tc := ⟨.hbm, 60, rfl⟩
abbrev main_cst_2 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_3 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c : Ref sig .tc := ⟨.hbm, 76, rfl⟩
abbrev main_call3_v0 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩

abbrev nD : Nat := 1
abbrev τ : Topo := Topo.v7x

variable {F : FTy → Type} [FloatOps F]
-- ==== Kernel2.lean ====
abbrev S16896x2048 : Shape := ⟨2, ![16896, 2048]⟩
abbrev S2048 : Shape := ⟨1, ![2048]⟩
abbrev S2048x6144 : Shape := ⟨2, ![2048, 6144]⟩
abbrev S2048x16 : Shape := ⟨2, ![2048, 16]⟩
abbrev S16x2048 : Shape := ⟨2, ![16, 2048]⟩
abbrev S_ : Shape := ⟨0, ![]⟩
abbrev S2048x128 : Shape := ⟨2, ![2048, 128]⟩
abbrev S1x2048 : Shape := ⟨2, ![1, 2048]⟩
abbrev S16896x6144 : Shape := ⟨2, ![16896, 6144]⟩
abbrev S16x16896 : Shape := ⟨2, ![16, 16896]⟩
abbrev S16896x128 : Shape := ⟨2, ![16896, 128]⟩
abbrev S768x2048 : Shape := ⟨2, ![768, 2048]⟩
abbrev S2048x1024 : Shape := ⟨2, ![2048, 1024]⟩
abbrev S768x1024 : Shape := ⟨2, ![768, 1024]⟩
abbrev S16x768 : Shape := ⟨2, ![16, 768]⟩
abbrev S768x128 : Shape := ⟨2, ![768, 128]⟩
abbrev S768 : Shape := ⟨1, ![768]⟩
abbrev S768x1 : Shape := ⟨2, ![768, 1]⟩

abbrev nBuf : Space → Nat
  | .hbm => 17
  | .vmem => 14
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S2048x6144, .bf16⟩
  | .hbm, ⟨3, _⟩ => ⟨S2048x16, .f32⟩
  | .hbm, ⟨4, _⟩ => ⟨S16x2048, .f32⟩
  | .hbm, ⟨5, _⟩ => ⟨S_, .i32⟩
  | .hbm, ⟨6, _⟩ => ⟨S_, .f32⟩
  | .hbm, ⟨7, _⟩ => ⟨S16x2048, .f32⟩
  | .hbm, ⟨8, _⟩ => ⟨S16x2048, .bf16⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S2048x128, .bf16⟩
  | .hbm, ⟨13, _⟩ => ⟨S1x2048, .f32⟩
  | .hbm, ⟨14, _⟩ => ⟨S16896x6144, .bf16⟩
  | .hbm, ⟨15, _⟩ => ⟨S16x16896, .f32⟩
  | .hbm, ⟨16, _⟩ => ⟨S16896x128, .f32⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S16x2048, .bf16⟩
  | .local _ .vmem, ⟨6, _⟩ => ⟨S2048x128, .bf16⟩
  | .local _ .vmem, ⟨7, _⟩ => ⟨S768x1024, .bf16⟩
  | .local _ .vmem, ⟨8, _⟩ => ⟨S768x1024, .bf16⟩
  | .local _ .vmem, ⟨9, _⟩ => ⟨S16x768, .f32⟩
  | .local _ .vmem, ⟨10, _⟩ => ⟨S16x768, .f32⟩
  | .local _ .vmem, ⟨11, _⟩ => ⟨S768x128, .f32⟩
  | .local _ .vmem, ⟨12, _⟩ => ⟨S768x128, .f32⟩
  | .local _ .vmem, ⟨13, _⟩ => ⟨S768x2048, .bf16⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![22, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S16x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S768x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S16896x2048 : Shape := ⟨2, ![16896, 2048]⟩
abbrev S2048 : Shape := ⟨1, ![2048]⟩
abbrev S2048x6144 : Shape := ⟨2, ![2048, 6144]⟩
abbrev S2048x16 : Shape := ⟨2, ![2048, 16]⟩
abbrev S_ : Shape := ⟨0, ![]⟩
abbrev S16896 : Shape := ⟨1, ![16896]⟩
abbrev S16896x1 : Shape := ⟨2, ![16896, 1]⟩
abbrev S1x2048 : Shape := ⟨2, ![1, 2048]⟩
abbrev S16896x16 : Shape := ⟨2, ![16896, 16]⟩
abbrev S16896x6144 : Shape := ⟨2, ![16896, 6144]⟩
abbrev S16x16896 : Shape := ⟨2, ![16, 16896]⟩
abbrev S16896x128 : Shape := ⟨2, ![16896, 128]⟩

abbrev nBuf : Space → Nat
  | .hbm => 28
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S2048x6144, .bf16⟩
  | .hbm, ⟨3, _⟩ => ⟨S2048x16, .f32⟩
  | .hbm, ⟨4, _⟩ => ⟨S16896x2048, .f32⟩
  | .hbm, ⟨5, _⟩ => ⟨S_, .f32⟩
  | .hbm, ⟨6, _⟩ => ⟨S16896, .f32⟩
  | .hbm, ⟨7, _⟩ => ⟨S16896x1, .f32⟩
  | .hbm, ⟨8, _⟩ => ⟨S_, .f32⟩
  | .hbm, ⟨9, _⟩ => ⟨S16896x1, .f32⟩
  | .hbm, ⟨10, _⟩ => ⟨S16896x1, .f32⟩
  | .hbm, ⟨11, _⟩ => ⟨S_, .f32⟩
  | .hbm, ⟨12, _⟩ => ⟨S16896x1, .f32⟩
  | .hbm, ⟨13, _⟩ => ⟨S16896x1, .f32⟩
  | .hbm, ⟨14, _⟩ => ⟨S16896x1, .f32⟩
  | .hbm, ⟨15, _⟩ => ⟨S16896x2048, .f32⟩
  | .hbm, ⟨16, _⟩ => ⟨S16896x2048, .f32⟩
  | .hbm, ⟨17, _⟩ => ⟨S1x2048, .f32⟩
  | .hbm, ⟨18, _⟩ => ⟨S16896x2048, .f32⟩
  | .hbm, ⟨19, _⟩ => ⟨S16896x2048, .f32⟩
  | .hbm, ⟨20, _⟩ => ⟨S16896x16, .f32⟩
  | .hbm, ⟨21, _⟩ => ⟨S2048x6144, .f32⟩
  | .hbm, ⟨22, _⟩ => ⟨S16896x6144, .f32⟩
  | .hbm, ⟨23, _⟩ => ⟨S16896x6144, .bf16⟩
  | .hbm, ⟨24, _⟩ => ⟨S16x16896, .f32⟩
  | .hbm, ⟨25, _⟩ => ⟨S_, .i32⟩
  | .hbm, ⟨26, _⟩ => ⟨S_, .f32⟩
  | .hbm, ⟨27, _⟩ => ⟨S16896x128, .f32⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_call0_v0 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Kernel3.lean ====
abbrev S16896x2048 : Shape := ⟨2, ![16896, 2048]⟩
abbrev S2048 : Shape := ⟨1, ![2048]⟩
abbrev S2048x5120 : Shape := ⟨2, ![2048, 5120]⟩
abbrev S2048x8 : Shape := ⟨2, ![2048, 8]⟩
abbrev S8x2048 : Shape := ⟨2, ![8, 2048]⟩
abbrev S_ : Shape := ⟨0, ![]⟩
abbrev S16x2048 : Shape := ⟨2, ![16, 2048]⟩
abbrev S2048x128 : Shape := ⟨2, ![2048, 128]⟩
abbrev S1x2048 : Shape := ⟨2, ![1, 2048]⟩
abbrev S16896x5120 : Shape := ⟨2, ![16896, 5120]⟩
abbrev S16x16896 : Shape := ⟨2, ![16, 16896]⟩
abbrev S16896x128 : Shape := ⟨2, ![16896, 128]⟩
abbrev S768x2048 : Shape := ⟨2, ![768, 2048]⟩
abbrev S2048x1024 : Shape := ⟨2, ![2048, 1024]⟩
abbrev S768x1024 : Shape := ⟨2, ![768, 1024]⟩
abbrev S16x768 : Shape := ⟨2, ![16, 768]⟩
abbrev S768x128 : Shape := ⟨2, ![768, 128]⟩
abbrev S768 : Shape := ⟨1, ![768]⟩
abbrev S768x1 : Shape := ⟨2, ![768, 1]⟩

abbrev nBuf : Space → Nat
  | .hbm => 17
  | .vmem => 14
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S2048x5120, .bf16⟩
  | .hbm, ⟨3, _⟩ => ⟨S2048x8, .f32⟩
  | .hbm, ⟨4, _⟩ => ⟨S8x2048, .f32⟩
  | .hbm, ⟨5, _⟩ => ⟨S_, .i32⟩
  | .hbm, ⟨6, _⟩ => ⟨S_, .f32⟩
  | .hbm, ⟨7, _⟩ => ⟨S16x2048, .f32⟩
  | .hbm, ⟨8, _⟩ => ⟨S16x2048, .bf16⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S2048x128, .bf16⟩
  | .hbm, ⟨13, _⟩ => ⟨S1x2048, .f32⟩
  | .hbm, ⟨14, _⟩ => ⟨S16896x5120, .bf16⟩
  | .hbm, ⟨15, _⟩ => ⟨S16x16896, .f32⟩
  | .hbm, ⟨16, _⟩ => ⟨S16896x128, .f32⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S16x2048, .bf16⟩
  | .local _ .vmem, ⟨6, _⟩ => ⟨S2048x128, .bf16⟩
  | .local _ .vmem, ⟨7, _⟩ => ⟨S768x1024, .bf16⟩
  | .local _ .vmem, ⟨8, _⟩ => ⟨S768x1024, .bf16⟩
  | .local _ .vmem, ⟨9, _⟩ => ⟨S16x768, .f32⟩
  | .local _ .vmem, ⟨10, _⟩ => ⟨S16x768, .f32⟩
  | .local _ .vmem, ⟨11, _⟩ => ⟨S768x128, .f32⟩
  | .local _ .vmem, ⟨12, _⟩ => ⟨S768x128, .f32⟩
  | .local _ .vmem, ⟨13, _⟩ => ⟨S768x2048, .bf16⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![22, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S16x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S768x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference3Ideal.lean ====
abbrev S16896x2048 : Shape := ⟨2, ![16896, 2048]⟩
abbrev S2048 : Shape := ⟨1, ![2048]⟩
abbrev S2048x5120 : Shape := ⟨2, ![2048, 5120]⟩
abbrev S2048x8 : Shape := ⟨2, ![2048, 8]⟩
abbrev S_ : Shape := ⟨0, ![]⟩
abbrev S16896 : Shape := ⟨1, ![16896]⟩
abbrev S16896x1 : Shape := ⟨2, ![16896, 1]⟩
abbrev S1x2048 : Shape := ⟨2, ![1, 2048]⟩
abbrev S16896x8 : Shape := ⟨2, ![16896, 8]⟩
abbrev S16896x5120 : Shape := ⟨2, ![16896, 5120]⟩
abbrev S8x16896 : Shape := ⟨2, ![8, 16896]⟩
abbrev S16x16896 : Shape := ⟨2, ![16, 16896]⟩
abbrev S16896x128 : Shape := ⟨2, ![16896, 128]⟩

abbrev nBuf : Space → Nat
  | .hbm => 31
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S2048x5120, .bf16⟩
  | .hbm, ⟨3, _⟩ => ⟨S2048x8, .f32⟩
  | .hbm, ⟨4, _⟩ => ⟨S16896x2048, .f32⟩
  | .hbm, ⟨5, _⟩ => ⟨S_, .f32⟩
  | .hbm, ⟨6, _⟩ => ⟨S16896, .f32⟩
  | .hbm, ⟨7, _⟩ => ⟨S16896x1, .f32⟩
  | .hbm, ⟨8, _⟩ => ⟨S_, .f32⟩
  | .hbm, ⟨9, _⟩ => ⟨S16896x1, .f32⟩
  | .hbm, ⟨10, _⟩ => ⟨S16896x1, .f32⟩
  | .hbm, ⟨11, _⟩ => ⟨S_, .f32⟩
  | .hbm, ⟨12, _⟩ => ⟨S16896x1, .f32⟩
  | .hbm, ⟨13, _⟩ => ⟨S16896x1, .f32⟩
  | .hbm, ⟨14, _⟩ => ⟨S16896x1, .f32⟩
  | .hbm, ⟨15, _⟩ => ⟨S16896x2048, .f32⟩
  | .hbm, ⟨16, _⟩ => ⟨S16896x2048, .f32⟩
  | .hbm, ⟨17, _⟩ => ⟨S1x2048, .f32⟩
  | .hbm, ⟨18, _⟩ => ⟨S16896x2048, .f32⟩
  | .hbm, ⟨19, _⟩ => ⟨S16896x2048, .f32⟩
  | .hbm, ⟨20, _⟩ => ⟨S16896x8, .f32⟩
  | .hbm, ⟨21, _⟩ => ⟨S2048x5120, .f32⟩
  | .hbm, ⟨22, _⟩ => ⟨S16896x5120, .f32⟩
  | .hbm, ⟨23, _⟩ => ⟨S16896x5120, .bf16⟩
  | .hbm, ⟨24, _⟩ => ⟨S8x16896, .f32⟩
  | .hbm, ⟨25, _⟩ => ⟨S_, .i32⟩
  | .hbm, ⟨26, _⟩ => ⟨S_, .f32⟩
  | .hbm, ⟨27, _⟩ => ⟨S16x16896, .f32⟩
  | .hbm, ⟨28, _⟩ => ⟨S_, .i32⟩
  | .hbm, ⟨29, _⟩ => ⟨S_, .f32⟩
  | .hbm, ⟨30, _⟩ => ⟨S16896x128, .f32⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_call0_v0 : Ref sig .tc := ⟨.hbm, 26, rfl⟩
abbrev main_v18 : Ref sig .tc := ⟨.hbm, 27, rfl⟩
abbrev main_c_2 : Ref sig .tc := ⟨.hbm, 28, rfl⟩
abbrev main_call1_v0 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel4.lean ====
abbrev S16896x1024 : Shape := ⟨2, ![16896, 1024]⟩
abbrev S16896x2048 : Shape := ⟨2, ![16896, 2048]⟩
abbrev S2048x2048 : Shape := ⟨2, ![2048, 2048]⟩
abbrev S2048 : Shape := ⟨1, ![2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S2048x36 : Shape := ⟨2, ![2048, 36]⟩
abbrev S36 : Shape := ⟨1, ![36]⟩
abbrev S_ : Shape := ⟨0, ![]⟩
abbrev S2048x128 : Shape := ⟨2, ![2048, 128]⟩
abbrev S2048x256 : Shape := ⟨2, ![2048, 256]⟩
abbrev S128 : Shape := ⟨1, ![128]⟩
abbrev S1x128 : Shape := ⟨2, ![1, 128]⟩
abbrev S1x2048 : Shape := ⟨2, ![1, 2048]⟩
abbrev S16896x128 : Shape := ⟨2, ![16896, 128]⟩
abbrev S8x128 : Shape := ⟨2, ![8, 128]⟩
abbrev S66x4x256 : Shape := ⟨3, ![66, 4, 256]⟩
abbrev S256x1024 : Shape := ⟨2, ![256, 1024]⟩
abbrev S256x2048 : Shape := ⟨2, ![256, 2048]⟩
abbrev S256x128 : Shape := ⟨2, ![256, 128]⟩
abbrev S1x4x256 : Shape := ⟨3, ![1, 4, 256]⟩
abbrev S128x1024 : Shape := ⟨2, ![128, 1024]⟩
abbrev S1024x2048 : Shape := ⟨2, ![1024, 2048]⟩
abbrev S128x2048 : Shape := ⟨2, ![128, 2048]⟩
abbrev S128x1 : Shape := ⟨2, ![128, 1]⟩
abbrev S128x256 : Shape := ⟨2, ![128, 256]⟩
abbrev S128x128 : Shape := ⟨2, ![128, 128]⟩
abbrev S256 : Shape := ⟨1, ![256]⟩
abbrev S256x1 : Shape := ⟨2, ![256, 1]⟩
abbrev S256x256 : Shape := ⟨2, ![256, 256]⟩
abbrev S1x256 : Shape := ⟨2, ![1, 256]⟩
abbrev S4x256 : Shape := ⟨2, ![4, 256]⟩

abbrev nBuf : Space → Nat
  | .hbm => 30
  | .vmem => 19
  | .smem => 0
  | _ => 0

abbrev bufTy : (tb : Table) → Fin (tcTables nBuf tb) → BufTy
  | .hbm, ⟨0, _⟩ => ⟨S16896x1024, .bf16⟩
  | .hbm, ⟨1, _⟩ => ⟨S16896x1024, .bf16⟩
  | .hbm, ⟨2, _⟩ => ⟨S16896x2048, .f32⟩
  | .hbm, ⟨3, _⟩ => ⟨S2048x2048, .f32⟩
  | .hbm, ⟨4, _⟩ => ⟨S2048, .f32⟩
  | .hbm, ⟨5, _⟩ => ⟨S2048x4, .f32⟩
  | .hbm, ⟨6, _⟩ => ⟨S4, .f32⟩
  | .hbm, ⟨7, _⟩ => ⟨S2048x32, .f32⟩
  | .hbm, ⟨8, _⟩ => ⟨S32, .f32⟩
  | .hbm, ⟨9, _⟩ => ⟨S2048x36, .f32⟩
  | .hbm, ⟨10, _⟩ => ⟨S36, .f32⟩
  | .hbm, ⟨11, _⟩ => ⟨S_, .i32⟩
  | .hbm, ⟨12, _⟩ => ⟨S_, .f32⟩
  | .hbm, ⟨13, _⟩ => ⟨S2048x128, .f32⟩
  | .hbm, ⟨14, _⟩ => ⟨S2048x128, .bf16⟩
  | .hbm, ⟨15, _⟩ => ⟨S2048x128, .f32⟩
  | .hbm, ⟨16, _⟩ => ⟨S2048x128, .f32⟩
  | .hbm, ⟨17, _⟩ => ⟨S2048x128, .bf16⟩
  | .hbm, ⟨18, _⟩ => ⟨S2048x256, .bf16⟩
  | .hbm, ⟨19, _⟩ => ⟨S_, .i32⟩
  | .hbm, ⟨20, _⟩ => ⟨S_, .f32⟩
  | .hbm, ⟨21, _⟩ => ⟨S128, .f32⟩
  | .hbm, ⟨22, _⟩ => ⟨S1x128, .f32⟩
  | .hbm, ⟨23, _⟩ => ⟨S2048x2048, .bf16⟩
  | .hbm, ⟨24, _⟩ => ⟨S1x2048, .f32⟩
  | .hbm, ⟨25, _⟩ => ⟨S16896x2048, .f32⟩
  | .hbm, ⟨26, _⟩ => ⟨S16896x128, .f32⟩
  | .hbm, ⟨27, _⟩ => ⟨S8x128, .f32⟩
  | .hbm, ⟨28, _⟩ => ⟨S16896x1024, .i32⟩
  | .hbm, ⟨29, _⟩ => ⟨S66x4x256, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .f32⟩
  | .local _ .vmem, ⟨5, _⟩ => ⟨S256x2048, .f32⟩
  | .local _ .vmem, ⟨6, _⟩ => ⟨S2048x2048, .bf16⟩
  | .local _ .vmem, ⟨7, _⟩ => ⟨S1x2048, .f32⟩
  | .local _ .vmem, ⟨8, _⟩ => ⟨S2048x256, .bf16⟩
  | .local _ .vmem, ⟨9, _⟩ => ⟨S1x128, .f32⟩
  | .local _ .vmem, ⟨10, _⟩ => ⟨S256x2048, .f32⟩
  | .local _ .vmem, ⟨11, _⟩ => ⟨S256x2048, .f32⟩
  | .local _ .vmem, ⟨12, _⟩ => ⟨S256x128, .f32⟩
  | .local _ .vmem, ⟨13, _⟩ => ⟨S256x128, .f32⟩
  | .local _ .vmem, ⟨14, _⟩ => ⟨S8x128, .f32⟩
  | .local _ .vmem, ⟨15, _⟩ => ⟨S256x1024, .i32⟩
  | .local _ .vmem, ⟨16, _⟩ => ⟨S256x1024, .i32⟩
  | .local _ .vmem, ⟨17, _⟩ => ⟨S1x4x256, .f32⟩
  | .local _ .vmem, ⟨18, _⟩ => ⟨S1x4x256, .f32⟩
  | _, _ => ⟨S16896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_call1_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev main_v12_2 : Ref sig .tc := ⟨.hbm, 27, rfl⟩
abbrev main_v12_3 : Ref sig .tc := ⟨.hbm, 28, rfl⟩
abbrev main_v12_4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [BitOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel4Ideal.lean ====
abbrev S16896x1024 : Shape := ⟨2, ![16896, 1024]⟩
abbrev S16896x2048 : Shape := ⟨2, ![16896, 2048]⟩
abbrev S2048x2048 : Shape := ⟨2, ![2048, 2048]⟩
abbrev S2048 : Shape := ⟨1, ![2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S2048x36 : Shape := ⟨2, ![2048, 36]⟩
abbrev S36 : Shape := ⟨1, ![36]⟩
abbrev S_ : Shape := ⟨0, ![]⟩
abbrev S2048x128 : Shape := ⟨2, ![2048, 128]⟩
abbrev S2048x256 : Shape := ⟨2, ![2048, 256]⟩
abbrev S128 : Shape := ⟨1, ![128]⟩
abbrev S1x128 : Shape := ⟨2, ![1, 128]⟩
abbrev S1x2048 : Shape := ⟨2, ![1, 2048]⟩
abbrev S16896x128 : Shape := ⟨2, ![16896, 128]⟩
abbrev S8x128 : Shape := ⟨2, ![8, 128]⟩
abbrev S16896x2x1024 : Shape := ⟨3, ![16896, 2, 1024]⟩
abbrev S66x4x256 : Shape := ⟨3, ![66, 4, 256]⟩
abbrev S16896x1x1024 : Shape := ⟨3, ![16896, 1, 1024]⟩
abbrev S256x1024 : Shape := ⟨2, ![256, 1024]⟩
abbrev S256x2048 : Shape := ⟨2, ![256, 2048]⟩
abbrev S256x128 : Shape := ⟨2, ![256, 128]⟩
abbrev S256x2x1024 : Shape := ⟨3, ![256, 2, 1024]⟩
abbrev S256x1x1024 : Shape := ⟨3, ![256, 1, 1024]⟩
abbrev S1x4x256 : Shape := ⟨3, ![1, 4, 256]⟩
abbrev S128x1024 : Shape := ⟨2, ![128, 1024]⟩
abbrev S1024x2048 : Shape := ⟨2, ![1024, 2048]⟩
abbrev S128x2048 : Shape := ⟨2, ![128, 2048]⟩
abbrev S128x1 : Shape := ⟨2, ![128, 1]⟩
abbrev S128x2x1024 : Shape := ⟨3, ![128, 2, 1024]⟩
abbrev S128x1x1024 : Shape := ⟨3, ![128, 1, 1024]⟩
abbrev S128x256 : Shape := ⟨2, ![128, 256]⟩
abbrev S128x128 : Shape := ⟨2, ![128, 128]⟩
abbrev S256 : Shape := ⟨1, ![256]⟩
abbrev S256x1 : Shape := ⟨2, ![256, 1]⟩
abbrev S256x256 : Shape := ⟨2, ![256, 256]⟩
abbrev S1x256 : Shape := ⟨2, ![1, 256]⟩
abbrev S4x256 : Shape := ⟨2, ![4, 256]⟩

abbrev nBuf : Space → Nat
  | .hbm => 30
  | .vmem => 19
  | .smem => 0
  | _ => 0

abbrev bufTy : (tb : Table) → Fin (tcTables nBuf tb) → BufTy
  | .hbm, ⟨0, _⟩ => ⟨S16896x1024, .bf16⟩
  | .hbm, ⟨1, _⟩ => ⟨S16896x1024, .bf16⟩
  | .hbm, ⟨2, _⟩ => ⟨S16896x2048, .f32⟩
  | .hbm, ⟨3, _⟩ => ⟨S2048x2048, .f32⟩
  | .hbm, ⟨4, _⟩ => ⟨S2048, .f32⟩
  | .hbm, ⟨5, _⟩ => ⟨S2048x4, .f32⟩
  | .hbm, ⟨6, _⟩ => ⟨S4, .f32⟩
  | .hbm, ⟨7, _⟩ => ⟨S2048x32, .f32⟩
  | .hbm, ⟨8, _⟩ => ⟨S32, .f32⟩
  | .hbm, ⟨9, _⟩ => ⟨S2048x36, .f32⟩
  | .hbm, ⟨10, _⟩ => ⟨S36, .f32⟩
  | .hbm, ⟨11, _⟩ => ⟨S_, .i32⟩
  | .hbm, ⟨12, _⟩ => ⟨S_, .f32⟩
  | .hbm, ⟨13, _⟩ => ⟨S2048x128, .f32⟩
  | .hbm, ⟨14, _⟩ => ⟨S2048x128, .bf16⟩
  | .hbm, ⟨15, _⟩ => ⟨S2048x128, .f32⟩
  | .hbm, ⟨16, _⟩ => ⟨S2048x128, .f32⟩
  | .hbm, ⟨17, _⟩ => ⟨S2048x128, .bf16⟩
  | .hbm, ⟨18, _⟩ => ⟨S2048x256, .bf16⟩
  | .hbm, ⟨19, _⟩ => ⟨S_, .i32⟩
  | .hbm, ⟨20, _⟩ => ⟨S_, .f32⟩
  | .hbm, ⟨21, _⟩ => ⟨S128, .f32⟩
  | .hbm, ⟨22, _⟩ => ⟨S1x128, .f32⟩
  | .hbm, ⟨23, _⟩ => ⟨S2048x2048, .bf16⟩
  | .hbm, ⟨24, _⟩ => ⟨S1x2048, .f32⟩
  | .hbm, ⟨25, _⟩ => ⟨S16896x2048, .f32⟩
  | .hbm, ⟨26, _⟩ => ⟨S16896x128, .f32⟩
  | .hbm, ⟨27, _⟩ => ⟨S8x128, .f32⟩
  | .hbm, ⟨28, _⟩ => ⟨S16896x2x1024, .bf16⟩
  | .hbm, ⟨29, _⟩ => ⟨S66x4x256, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .f32⟩
  | .local _ .vmem, ⟨5, _⟩ => ⟨S256x2048, .f32⟩
  | .local _ .vmem, ⟨6, _⟩ => ⟨S2048x2048, .bf16⟩
  | .local _ .vmem, ⟨7, _⟩ => ⟨S1x2048, .f32⟩
  | .local _ .vmem, ⟨8, _⟩ => ⟨S2048x256, .bf16⟩
  | .local _ .vmem, ⟨9, _⟩ => ⟨S1x128, .f32⟩
  | .local _ .vmem, ⟨10, _⟩ => ⟨S256x2048, .f32⟩
  | .local _ .vmem, ⟨11, _⟩ => ⟨S256x2048, .f32⟩
  | .local _ .vmem, ⟨12, _⟩ => ⟨S256x128, .f32⟩
  | .local _ .vmem, ⟨13, _⟩ => ⟨S256x128, .f32⟩
  | .local _ .vmem, ⟨14, _⟩ => ⟨S8x128, .f32⟩
  | .local _ .vmem, ⟨15, _⟩ => ⟨S256x2x1024, .bf16⟩
  | .local _ .vmem, ⟨16, _⟩ => ⟨S256x2x1024, .bf16⟩
  | .local _ .vmem, ⟨17, _⟩ => ⟨S1x4x256, .f32⟩
  | .local _ .vmem, ⟨18, _⟩ => ⟨S1x4x256, .f32⟩
  | _, _ => ⟨S16896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_call1_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev main_v12_2 : Ref sig .tc := ⟨.hbm, 27, rfl⟩
abbrev main_v12_3 : Ref sig .tc := ⟨.hbm, 28, rfl⟩
abbrev main_v12_4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S16896x1024 : Shape := ⟨2, ![16896, 1024]⟩
abbrev S16896x2048 : Shape := ⟨2, ![16896, 2048]⟩
abbrev S2048x2048 : Shape := ⟨2, ![2048, 2048]⟩
abbrev S2048 : Shape := ⟨1, ![2048]⟩
abbrev S2048x4 : Shape := ⟨2, ![2048, 4]⟩
abbrev S4 : Shape := ⟨1, ![4]⟩
abbrev S2048x32 : Shape := ⟨2, ![2048, 32]⟩
abbrev S32 : Shape := ⟨1, ![32]⟩

abbrev nBuf : Space → Nat
  | .hbm => 14
  | .vmem => 0
  | .smem => 0
  | _ => 0

abbrev bufTy : (tb : Table) → Fin (tcTables nBuf tb) → BufTy
  | .hbm, ⟨0, _⟩ => ⟨S16896x1024, .bf16⟩
  | .hbm, ⟨1, _⟩ => ⟨S16896x1024, .bf16⟩
  | .hbm, ⟨2, _⟩ => ⟨S16896x2048, .f32⟩
  | .hbm, ⟨3, _⟩ => ⟨S2048x2048, .f32⟩
  | .hbm, ⟨4, _⟩ => ⟨S2048, .f32⟩
  | .hbm, ⟨5, _⟩ => ⟨S2048x4, .f32⟩
  | .hbm, ⟨6, _⟩ => ⟨S4, .f32⟩
  | .hbm, ⟨7, _⟩ => ⟨S2048x32, .f32⟩
  | .hbm, ⟨8, _⟩ => ⟨S32, .f32⟩
  | .hbm, ⟨9, _⟩ => ⟨S16896x1024, .f32⟩
  | .hbm, ⟨10, _⟩ => ⟨S16896x1024, .f32⟩
  | .hbm, ⟨11, _⟩ => ⟨S16896x2048, .f32⟩
  | .hbm, ⟨12, _⟩ => ⟨S16896x2048, .f32⟩
  | .hbm, ⟨13, _⟩ => ⟨S16896x2048, .f32⟩
  | _, _ => ⟨S16896x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩

abbrev nD : Nat := 1
abbrev τ : Topo := Topo.v7x

variable {F : FTy → Type} [FloatOps F]
-- ==== Kernel5.lean ====
abbrev S16896x5120 : Shape := ⟨2, ![16896, 5120]⟩
abbrev S31x1024 : Shape := ⟨2, ![31, 1024]⟩
abbrev S1024 : Shape := ⟨1, ![1024]⟩
abbrev S_ : Shape := ⟨0, ![]⟩
abbrev S32x1024 : Shape := ⟨2, ![32, 1024]⟩
abbrev S1x1024 : Shape := ⟨2, ![1, 1024]⟩
abbrev S16896x1024 : Shape := ⟨2, ![16896, 1024]⟩
abbrev S256x1024 : Shape := ⟨2, ![256, 1024]⟩
abbrev S288x1024 : Shape := ⟨2, ![288, 1024]⟩
abbrev S256 : Shape := ⟨1, ![256]⟩
abbrev S256x1 : Shape := ⟨2, ![256, 1]⟩

abbrev nBuf : Space → Nat
  | .hbm => 12
  | .vmem => 11
  | .smem => 0
  | _ => 0

abbrev bufTy : (tb : Table) → Fin (tcTables nBuf tb) → BufTy
  | .hbm, ⟨0, _⟩ => ⟨S16896x5120, .bf16⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S_, .i32⟩
  | .hbm, ⟨6, _⟩ => ⟨S_, .f32⟩
  | .hbm, ⟨7, _⟩ => ⟨S32x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S16896x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S32x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .bf16⟩
  | .local _ .vmem, ⟨9, _⟩ => ⟨S256x1024, .bf16⟩
  | .local _ .vmem, ⟨10, _⟩ => ⟨S32x1024, .f32⟩
  | _, _ => ⟨S16896x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 33], ![false, false]⟩

def cc0_transform_0 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c3_i32 : BitVec 32 := 3#32
  let c0_i32 : BitVec 32 := 0#32
  ![v1.toNat, c3_i32.toNat]

def cc0_transform_1 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c4_i32 : BitVec 32 := 4#32
  let c0_i32 : BitVec 32 := 0#32
  ![v1.toNat, c4_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S16896x5120 : Shape := ⟨2, ![16896, 5120]⟩
abbrev S31x1024 : Shape := ⟨2, ![31, 1024]⟩
abbrev S1024 : Shape := ⟨1, ![1024]⟩
abbrev S16896x1024 : Shape := ⟨2, ![16896, 1024]⟩
abbrev S2x8448x1024 : Shape := ⟨3, ![2, 8448, 1024]⟩
abbrev S_ : Shape := ⟨0, ![]⟩
abbrev S2x8478x1024 : Shape := ⟨3, ![2, 8478, 1024]⟩
abbrev S1x1024 : Shape := ⟨2, ![1, 1024]⟩
abbrev S1x1x1024 : Shape := ⟨3, ![1, 1, 1024]⟩
abbrev S2x8448 : Shape := ⟨2, ![2, 8448]⟩
abbrev S2x8448x1 : Shape := ⟨3, ![2, 8448, 1]⟩

abbrev nBuf : Space → Nat
  | .hbm => 282
  | .vmem => 0
  | .smem => 0
  | _ => 0

abbrev hbmTy0_0 (i : Nat) : BufTy := match i % 128 with
  | 0 => ⟨S16896x5120, .bf16⟩
  | 1 => ⟨S31x1024, .f32⟩
  | 2 => ⟨S1024, .f32⟩
  | 3 => ⟨S1024, .f32⟩
  | 4 => ⟨S1024, .f32⟩
  | 5 => ⟨S16896x1024, .bf16⟩
  | 6 => ⟨S16896x1024, .f32⟩
  | 7 => ⟨S2x8448x1024, .f32⟩
  | 8 => ⟨S16896x1024, .bf16⟩
  | 9 => ⟨S16896x1024, .f32⟩
  | 10 => ⟨S2x8448x1024, .f32⟩
  | 11 => ⟨S2x8448x1024, .f32⟩
  | 12 => ⟨S2x8448x1024, .f32⟩
  | 13 => ⟨S_, .f32⟩
  | 14 => ⟨S2x8448x1024, .f32⟩
  | 15 => ⟨S2x8448x1024, .f32⟩
  | 16 => ⟨S_, .f32⟩
  | 17 => ⟨S2x8448x1024, .f32⟩
  | 18 => ⟨S2x8448x1024, .f32⟩
  | 19 => ⟨S2x8448x1024, .f32⟩
  | 20 => ⟨S_, .i32⟩
  | 21 => ⟨S_, .f32⟩
  | 22 => ⟨S2x8478x1024, .f32⟩
  | 23 => ⟨S2x8448x1024, .f32⟩
  | 24 => ⟨S1x1024, .f32⟩
  | 25 => ⟨S1024, .f32⟩
  | 26 => ⟨S1x1x1024, .f32⟩
  | 27 => ⟨S2x8448x1024, .f32⟩
  | 28 => ⟨S2x8448x1024, .f32⟩
  | 29 => ⟨S2x8448x1024, .f32⟩
  | 30 => ⟨S1x1024, .f32⟩
  | 31 => ⟨S1024, .f32⟩
  | 32 => ⟨S1x1x1024, .f32⟩
  | 33 => ⟨S2x8448x1024, .f32⟩
  | 34 => ⟨S2x8448x1024, .f32⟩
  | 35 => ⟨S2x8448x1024, .f32⟩
  | 36 => ⟨S2x8448x1024, .f32⟩
  | 37 => ⟨S1x1024, .f32⟩
  | 38 => ⟨S1024, .f32⟩
  | 39 => ⟨S1x1x1024, .f32⟩
  | 40 => ⟨S2x8448x1024, .f32⟩
  | 41 => ⟨S2x8448x1024, .f32⟩
  | 42 => ⟨S2x8448x1024, .f32⟩
  | 43 => ⟨S2x8448x1024, .f32⟩
  | 44 => ⟨S1x1024, .f32⟩
  | 45 => ⟨S1024, .f32⟩
  | 46 => ⟨S1x1x1024, .f32⟩
  | 47 => ⟨S2x8448x1024, .f32⟩
  | 48 => ⟨S2x8448x1024, .f32⟩
  | 49 => ⟨S2x8448x1024, .f32⟩
  | 50 => ⟨S2x8448x1024, .f32⟩
  | 51 => ⟨S1x1024, .f32⟩
  | 52 => ⟨S1024, .f32⟩
  | 53 => ⟨S1x1x1024, .f32⟩
  | 54 => ⟨S2x8448x1024, .f32⟩
  | 55 => ⟨S2x8448x1024, .f32⟩
  | 56 => ⟨S2x8448x1024, .f32⟩
  | 57 => ⟨S2x8448x1024, .f32⟩
  | 58 => ⟨S1x1024, .f32⟩
  | 59 => ⟨S1024, .f32⟩
  | 60 => ⟨S1x1x1024, .f32⟩
  | 61 => ⟨S2x8448x1024, .f32⟩
  | 62 => ⟨S2x8448x1024, .f32⟩
  | 63 => ⟨S2x8448x1024, .f32⟩
  | 64 => ⟨S2x8448x1024, .f32⟩
  | 65 => ⟨S1x1024, .f32⟩
  | 66 => ⟨S1024, .f32⟩
  | 67 => ⟨S1x1x1024, .f32⟩
  | 68 => ⟨S2x8448x1024, .f32⟩
  | 69 => ⟨S2x8448x1024, .f32⟩
  | 70 => ⟨S2x8448x1024, .f32⟩
  | 71 => ⟨S2x8448x1024, .f32⟩
  | 72 => ⟨S1x1024, .f32⟩
  | 73 => ⟨S1024, .f32⟩
  | 74 => ⟨S1x1x1024, .f32⟩
  | 75 => ⟨S2x8448x1024, .f32⟩
  | 76 => ⟨S2x8448x1024, .f32⟩
  | 77 => ⟨S2x8448x1024, .f32⟩
  | 78 => ⟨S2x8448x1024, .f32⟩
  | 79 => ⟨S1x1024, .f32⟩
  | 80 => ⟨S1024, .f32⟩
  | 81 => ⟨S1x1x1024, .f32⟩
  | 82 => ⟨S2x8448x1024, .f32⟩
  | 83 => ⟨S2x8448x1024, .f32⟩
  | 84 => ⟨S2x8448x1024, .f32⟩
  | 85 => ⟨S2x8448x1024, .f32⟩
  | 86 => ⟨S1x1024, .f32⟩
  | 87 => ⟨S1024, .f32⟩
  | 88 => ⟨S1x1x1024, .f32⟩
  | 89 => ⟨S2x8448x1024, .f32⟩
  | 90 => ⟨S2x8448x1024, .f32⟩
  | 91 => ⟨S2x8448x1024, .f32⟩
  | 92 => ⟨S2x8448x1024, .f32⟩
  | 93 => ⟨S1x1024, .f32⟩
  | 94 => ⟨S1024, .f32⟩
  | 95 => ⟨S1x1x1024, .f32⟩
  | 96 => ⟨S2x8448x1024, .f32⟩
  | 97 => ⟨S2x8448x1024, .f32⟩
  | 98 => ⟨S2x8448x1024, .f32⟩
  | 99 => ⟨S2x8448x1024, .f32⟩
  | 100 => ⟨S1x1024, .f32⟩
  | 101 => ⟨S1024, .f32⟩
  | 102 => ⟨S1x1x1024, .f32⟩
  | 103 => ⟨S2x8448x1024, .f32⟩
  | 104 => ⟨S2x8448x1024, .f32⟩
  | 105 => ⟨S2x8448x1024, .f32⟩
  | 106 => ⟨S2x8448x1024, .f32⟩
  | 107 => ⟨S1x1024, .f32⟩
  | 108 => ⟨S1024, .f32⟩
  | 109 => ⟨S1x1x1024, .f32⟩
  | 110 => ⟨S2x8448x1024, .f32⟩
  | 111 => ⟨S2x8448x1024, .f32⟩
  | 112 => ⟨S2x8448x1024, .f32⟩
  | 113 => ⟨S2x8448x1024, .f32⟩
  | 114 => ⟨S1x1024, .f32⟩
  | 115 => ⟨S1024, .f32⟩
  | 116 => ⟨S1x1x1024, .f32⟩
  | 117 => ⟨S2x8448x1024, .f32⟩
  | 118 => ⟨S2x8448x1024, .f32⟩
  | 119 => ⟨S2x8448x1024, .f32⟩
  | 120 => ⟨S2x8448x1024, .f32⟩
  | 121 => ⟨S1x1024, .f32⟩
  | 122 => ⟨S1024, .f32⟩
  | 123 => ⟨S1x1x1024, .f32⟩
  | 124 => ⟨S2x8448x1024, .f32⟩
  | 125 => ⟨S2x8448x1024, .f32⟩
  | 126 => ⟨S2x8448x1024, .f32⟩
  | 127 => ⟨S2x8448x1024, .f32⟩
  | _ => ⟨S16896x5120, .bf16⟩

abbrev hbmTy0_1 (i : Nat) : BufTy := match i % 128 with
  | 0 => ⟨S1x1024, .f32⟩
  | 1 => ⟨S1024, .f32⟩
  | 2 => ⟨S1x1x1024, .f32⟩
  | 3 => ⟨S2x8448x1024, .f32⟩
  | 4 => ⟨S2x8448x1024, .f32⟩
  | 5 => ⟨S2x8448x1024, .f32⟩
  | 6 => ⟨S2x8448x1024, .f32⟩
  | 7 => ⟨S1x1024, .f32⟩
  | 8 => ⟨S1024, .f32⟩
  | 9 => ⟨S1x1x1024, .f32⟩
  | 10 => ⟨S2x8448x1024, .f32⟩
  | 11 => ⟨S2x8448x1024, .f32⟩
  | 12 => ⟨S2x8448x1024, .f32⟩
  | 13 => ⟨S2x8448x1024, .f32⟩
  | 14 => ⟨S1x1024, .f32⟩
  | 15 => ⟨S1024, .f32⟩
  | 16 => ⟨S1x1x1024, .f32⟩
  | 17 => ⟨S2x8448x1024, .f32⟩
  | 18 => ⟨S2x8448x1024, .f32⟩
  | 19 => ⟨S2x8448x1024, .f32⟩
  | 20 => ⟨S2x8448x1024, .f32⟩
  | 21 => ⟨S1x1024, .f32⟩
  | 22 => ⟨S1024, .f32⟩
  | 23 => ⟨S1x1x1024, .f32⟩
  | 24 => ⟨S2x8448x1024, .f32⟩
  | 25 => ⟨S2x8448x1024, .f32⟩
  | 26 => ⟨S2x8448x1024, .f32⟩
  | 27 => ⟨S2x8448x1024, .f32⟩
  | 28 => ⟨S1x1024, .f32⟩
  | 29 => ⟨S1024, .f32⟩
  | 30 => ⟨S1x1x1024, .f32⟩
  | 31 => ⟨S2x8448x1024, .f32⟩
  | 32 => ⟨S2x8448x1024, .f32⟩
  | 33 => ⟨S2x8448x1024, .f32⟩
  | 34 => ⟨S2x8448x1024, .f32⟩
  | 35 => ⟨S1x1024, .f32⟩
  | 36 => ⟨S1024, .f32⟩
  | 37 => ⟨S1x1x1024, .f32⟩
  | 38 => ⟨S2x8448x1024, .f32⟩
  | 39 => ⟨S2x8448x1024, .f32⟩
  | 40 => ⟨S2x8448x1024, .f32⟩
  | 41 => ⟨S2x8448x1024, .f32⟩
  | 42 => ⟨S1x1024, .f32⟩
  | 43 => ⟨S1024, .f32⟩
  | 44 => ⟨S1x1x1024, .f32⟩
  | 45 => ⟨S2x8448x1024, .f32⟩
  | 46 => ⟨S2x8448x1024, .f32⟩
  | 47 => ⟨S2x8448x1024, .f32⟩
  | 48 => ⟨S2x8448x1024, .f32⟩
  | 49 => ⟨S1x1024, .f32⟩
  | 50 => ⟨S1024, .f32⟩
  | 51 => ⟨S1x1x1024, .f32⟩
  | 52 => ⟨S2x8448x1024, .f32⟩
  | 53 => ⟨S2x8448x1024, .f32⟩
  | 54 => ⟨S2x8448x1024, .f32⟩
  | 55 => ⟨S2x8448x1024, .f32⟩
  | 56 => ⟨S1x1024, .f32⟩
  | 57 => ⟨S1024, .f32⟩
  | 58 => ⟨S1x1x1024, .f32⟩
  | 59 => ⟨S2x8448x1024, .f32⟩
  | 60 => ⟨S2x8448x1024, .f32⟩
  | 61 => ⟨S2x8448x1024, .f32⟩
  | 62 => ⟨S2x8448x1024, .f32⟩
  | 63 => ⟨S1x1024, .f32⟩
  | 64 => ⟨S1024, .f32⟩
  | 65 => ⟨S1x1x1024, .f32⟩
  | 66 => ⟨S2x8448x1024, .f32⟩
  | 67 => ⟨S2x8448x1024, .f32⟩
  | 68 => ⟨S2x8448x1024, .f32⟩
  | 69 => ⟨S2x8448x1024, .f32⟩
  | 70 => ⟨S1x1024, .f32⟩
  | 71 => ⟨S1024, .f32⟩
  | 72 => ⟨S1x1x1024, .f32⟩
  | 73 => ⟨S2x8448x1024, .f32⟩
  | 74 => ⟨S2x8448x1024, .f32⟩
  | 75 => ⟨S2x8448x1024, .f32⟩
  | 76 => ⟨S2x8448x1024, .f32⟩
  | 77 => ⟨S1x1024, .f32⟩
  | 78 => ⟨S1024, .f32⟩
  | 79 => ⟨S1x1x1024, .f32⟩
  | 80 => ⟨S2x8448x1024, .f32⟩
  | 81 => ⟨S2x8448x1024, .f32⟩
  | 82 => ⟨S2x8448x1024, .f32⟩
  | 83 => ⟨S2x8448x1024, .f32⟩
  | 84 => ⟨S1x1024, .f32⟩
  | 85 => ⟨S1024, .f32⟩
  | 86 => ⟨S1x1x1024, .f32⟩
  | 87 => ⟨S2x8448x1024, .f32⟩
  | 88 => ⟨S2x8448x1024, .f32⟩
  | 89 => ⟨S2x8448x1024, .f32⟩
  | 90 => ⟨S2x8448x1024, .f32⟩
  | 91 => ⟨S1x1024, .f32⟩
  | 92 => ⟨S1024, .f32⟩
  | 93 => ⟨S1x1x1024, .f32⟩
  | 94 => ⟨S2x8448x1024, .f32⟩
  | 95 => ⟨S2x8448x1024, .f32⟩
  | 96 => ⟨S2x8448x1024, .f32⟩
  | 97 => ⟨S2x8448x1024, .f32⟩
  | 98 => ⟨S1x1024, .f32⟩
  | 99 => ⟨S1024, .f32⟩
  | 100 => ⟨S1x1x1024, .f32⟩
  | 101 => ⟨S2x8448x1024, .f32⟩
  | 102 => ⟨S2x8448x1024, .f32⟩
  | 103 => ⟨S2x8448x1024, .f32⟩
  | 104 => ⟨S2x8448x1024, .f32⟩
  | 105 => ⟨S1x1024, .f32⟩
  | 106 => ⟨S1024, .f32⟩
  | 107 => ⟨S1x1x1024, .f32⟩
  | 108 => ⟨S2x8448x1024, .f32⟩
  | 109 => ⟨S2x8448x1024, .f32⟩
  | 110 => ⟨S2x8448x1024, .f32⟩
  | 111 => ⟨S1x1x1024, .f32⟩
  | 112 => ⟨S2x8448x1024, .f32⟩
  | 113 => ⟨S2x8448x1024, .f32⟩
  | 114 => ⟨S_, .f32⟩
  | 115 => ⟨S2x8448, .f32⟩
  | 116 => ⟨S2x8448x1, .f32⟩
  | 117 => ⟨S_, .f32⟩
  | 118 => ⟨S2x8448x1, .f32⟩
  | 119 => ⟨S2x8448x1, .f32⟩
  | 120 => ⟨S2x8448x1024, .f32⟩
  | 121 => ⟨S2x8448x1024, .f32⟩
  | 122 => ⟨S2x8448x1024, .f32⟩
  | 123 => ⟨S_, .f32⟩
  | 124 => ⟨S2x8448, .f32⟩
  | 125 => ⟨S2x8448x1, .f32⟩
  | 126 => ⟨S_, .f32⟩
  | 127 => ⟨S2x8448x1, .f32⟩
  | _ => ⟨S16896x5120, .bf16⟩

abbrev hbmTy0_2 (i : Nat) : BufTy := match i % 128 with
  | 0 => ⟨S2x8448x1, .f32⟩
  | 1 => ⟨S2x8448x1024, .f32⟩
  | 2 => ⟨S2x8448x1024, .f32⟩
  | 3 => ⟨S_, .f32⟩
  | 4 => ⟨S2x8448x1, .f32⟩
  | 5 => ⟨S2x8448x1, .f32⟩
  | 6 => ⟨S2x8448x1, .f32⟩
  | 7 => ⟨S2x8448x1024, .f32⟩
  | 8 => ⟨S2x8448x1024, .f32⟩
  | 9 => ⟨S1x1x1024, .f32⟩
  | 10 => ⟨S2x8448x1024, .f32⟩
  | 11 => ⟨S2x8448x1024, .f32⟩
  | 12 => ⟨S1x1x1024, .f32⟩
  | 13 => ⟨S2x8448x1024, .f32⟩
  | 14 => ⟨S2x8448x1024, .f32⟩
  | 15 => ⟨S2x8448x1024, .f32⟩
  | 16 => ⟨S2x8448x1024, .f32⟩
  | 17 => ⟨S_, .f32⟩
  | 18 => ⟨S2x8448x1024, .f32⟩
  | 19 => ⟨S2x8448x1024, .f32⟩
  | 20 => ⟨S_, .f32⟩
  | 21 => ⟨S2x8448x1024, .f32⟩
  | 22 => ⟨S2x8448x1024, .f32⟩
  | 23 => ⟨S2x8448x1024, .f32⟩
  | 24 => ⟨S16896x1024, .f32⟩
  | 25 => ⟨S16896x1024, .bf16⟩
  | _ => ⟨S16896x5120, .bf16⟩

abbrev hbmTy (i : Nat) : BufTy := match i / 128 with
  | 0 => hbmTy0_0 i
  | 1 => hbmTy0_1 i
  | 2 => hbmTy0_2 i
  | _ => ⟨S16896x5120, .bf16⟩

abbrev bufTy : (tb : Table) → Fin (tcTables nBuf tb) → BufTy
  | .hbm, ⟨i, _⟩ => hbmTy i
  | _, _ => ⟨S16896x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_call0_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_cst_1 : Ref sig .tc := ⟨.hbm, 242, rfl⟩
abbrev main_v233 : Ref sig .tc := ⟨.hbm, 243, rfl⟩
abbrev main_v234 : Ref sig .tc := ⟨.hbm, 244, rfl⟩
abbrev main_cst_2 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_cst_3 : Ref sig .tc := ⟨.hbm, 251, rfl⟩
abbrev main_v240 : Ref sig .tc := ⟨.hbm, 252, rfl⟩
abbrev main_v241 : Ref sig .tc := ⟨.hbm, 253, rfl⟩
abbrev main_cst_4 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_cst_5 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_v255 : Ref sig .tc := ⟨.hbm, 269, rfl⟩
abbrev main_v256 : Ref sig .tc := ⟨.hbm, 270, rfl⟩
abbrev main_call1_v0 : Ref sig .tc := ⟨.hbm, 271, rfl⟩
abbrev main_call1_v1 : Ref sig .tc := ⟨.hbm, 272, rfl⟩
abbrev main_call1_cst : Ref sig .tc := ⟨.hbm, 273, rfl⟩
abbrev main_call1_v2 : Ref sig .tc := ⟨.hbm, 274, rfl⟩
abbrev main_call1_v3 : Ref sig .tc := ⟨.hbm, 275, rfl⟩
abbrev main_call1_cst_0 : Ref sig .tc := ⟨.hbm, 276, rfl⟩
abbrev main_call1_v4 : Ref sig .tc := ⟨.hbm, 277, rfl⟩
abbrev main_call1_v5 : Ref sig .tc := ⟨.hbm, 278, rfl⟩
abbrev main_v257 : Ref sig .tc := ⟨.hbm, 279, rfl⟩
abbrev main_v258 : Ref sig .tc := ⟨.hbm, 280, rfl⟩
abbrev main_v259 : Ref sig .tc := ⟨.hbm, 281, rfl⟩

abbrev nD : Nat := 1
abbrev τ : Topo := Topo.v7x

variable {F : FTy → Type} [FloatOps F]
-- ==== Proof.Ideal.Run1.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Ring
public import Idealize.ShloMosaic.Lib.Tactic
public import Idealize.ShloMosaic.Lib.WordCmp
public import Idealize.ShloMosaic.Lib.Exec
public import Idealize.ShloMosaic.Lib.Pipeline.FrameBody

@[expose] public section

set_option maxRecDepth 16384

noncomputable section

/-! The attention kernel's body, run once per tail the switch can take: what it leaves in the output block. -/

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- The body where the tail holds 1 key block: the pieces it leaves in the output block, with the run. -/
def run_one (c : Dev nD) (i : grid1.Coords) (arg3 : Memref sig .tc .vmem S768x128 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S8448x128 .bf16) (harg6 : arg6.IsWhole) (arg7 : Memref sig .tc .vmem S768x128 .bf16) (harg7 : arg7.IsWhole) (arg8 : Memref sig .tc .vmem S768x128 .bf16) (harg8 : arg8.IsWhole)
    (hc1 : ¬k1_cond1 i = 1#1)
    (x3 : Vec F S768x128 .bf16) (x4 x5 x6 : Vec F S8448x128 .bf16) (x7 : Vec F S768x128 .bf16) :
    { L : List (View.Piece (Elt F) S768x128 .bf16) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f L)) -∗ K ⟨⟩))
          ⊢ wp frame (wpE (defs₀ (F := F)) Variants.none c none) E (cc1_fox_attn i arg3 harg3 arg4 harg4 arg5 harg5 arg6 harg6 arg7 harg7 arg8 harg8) K } := by
  refine ⟨?_, fun E K => ?run⟩
  case run =>
    simp only [cc1_fox_attn_eq_skeleton]; unfold cc1_fox_attn_skel
    simp only [dif_neg hc1]
    simp only [k1_part19_eq_skeleton, k1_part18_eq_skeleton]
    unfold owns
    iintro ⟨⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg3.eq_unread hf3; obtain rfl := harg4.eq_unread hf4; obtain rfl := harg5.eq_unread hf5
    obtain rfl := harg6.eq_unread hf6; obtain rfl := harg7.eq_unread hf7
    sl_exec (disch := first | sl_exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    iexists _; iexact H8

end Cert.KernelIdeal.Attn

end
-- ==== Proof.Ideal.Run2.lean ====
module

public import proofs.«01_k».proof.Proof.Ideal.Run1
public import proofs.«01_k».proof.Proof.Gen.KernelIdeal.Skeleton
public import proofs.«01_k».proof.Proof.Gen.KernelIdeal.Points
public import proofs.«01_k».proof.Proof.Gen.KernelIdeal.Loops
public import Idealize.ShloMosaic.Lib.Ring
public import Idealize.ShloMosaic.Lib.Tactic
public import Idealize.ShloMosaic.Lib.WordCmp
public import Idealize.ShloMosaic.Lib.Exec
public import Idealize.ShloMosaic.Lib.Pipeline.FrameBody

@[expose] public section

set_option maxRecDepth 16384

noncomputable section

/-! The attention kernel's body, run once per tail the switch can take: what it leaves in the output block. -/

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- The body where the tail holds 2 key blocks: the pieces it leaves in the output block, with the run. -/
def run_two (c : Dev nD) (i : grid1.Coords) (arg3 : Memref sig .tc .vmem S768x128 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S8448x128 .bf16) (harg6 : arg6.IsWhole) (arg7 : Memref sig .tc .vmem S768x128 .bf16) (harg7 : arg7.IsWhole) (arg8 : Memref sig .tc .vmem S768x128 .bf16) (harg8 : arg8.IsWhole)
    (hc1 : k1_cond1 i = 1#1) (hc2 : ¬k1_cond2 i = 1#1)
    (x3 : Vec F S768x128 .bf16) (x4 x5 x6 : Vec F S8448x128 .bf16) (x7 : Vec F S768x128 .bf16) :
    { L : List (View.Piece (Elt F) S768x128 .bf16) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f L)) -∗ K ⟨⟩))
          ⊢ wp frame (wpE (defs₀ (F := F)) Variants.none c none) E (cc1_fox_attn i arg3 harg3 arg4 harg4 arg5 harg5 arg6 harg6 arg7 harg7 arg8 harg8) K } := by
  refine ⟨?_, fun E K => ?run⟩
  case run =>
    simp only [cc1_fox_attn_eq_skeleton]; unfold cc1_fox_attn_skel
    simp only [dif_pos hc1, dif_neg hc2]
    simp only [k1_part19_eq_skeleton, k1_part16_eq_skeleton, k1_part17_eq_skeleton]
    unfold owns
    iintro ⟨⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg3.eq_unread hf3; obtain rfl := harg4.eq_unread hf4; obtain rfl := harg5.eq_unread hf5
    obtain rfl := harg6.eq_unread hf6; obtain rfl := harg7.eq_unread hf7
    sl_exec (disch := first | sl_exact hc1 | sl_exact hc2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    iexists _; iexact H8

end Cert.KernelIdeal.Attn

end
-- ==== Proof.Ideal.Run3.lean ====
module

public import proofs.«01_k».proof.Proof.Ideal.Run2
public import proofs.«01_k».proof.Proof.Gen.KernelIdeal.Skeleton
public import proofs.«01_k».proof.Proof.Gen.KernelIdeal.Points
public import proofs.«01_k».proof.Proof.Gen.KernelIdeal.Loops
public import Idealize.ShloMosaic.Lib.Ring
public import Idealize.ShloMosaic.Lib.Tactic
public import Idealize.ShloMosaic.Lib.WordCmp
public import Idealize.ShloMosaic.Lib.Exec
public import Idealize.ShloMosaic.Lib.Pipeline.FrameBody

@[expose] public section

set_option maxRecDepth 16384

noncomputable section

/-! The attention kernel's body, run once per tail the switch can take: what it leaves in the output block. -/

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- The body where the tail holds 3 key blocks: the pieces it leaves in the output block, with the run. -/
def run_three (c : Dev nD) (i : grid1.Coords) (arg3 : Memref sig .tc .vmem S768x128 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S8448x128 .bf16) (harg6 : arg6.IsWhole) (arg7 : Memref sig .tc .vmem S768x128 .bf16) (harg7 : arg7.IsWhole) (arg8 : Memref sig .tc .vmem S768x128 .bf16) (harg8 : arg8.IsWhole)
    (hc1 : k1_cond1 i = 1#1) (hc2 : k1_cond2 i = 1#1) (hc3 : ¬k1_cond3 i = 1#1)
    (x3 : Vec F S768x128 .bf16) (x4 x5 x6 : Vec F S8448x128 .bf16) (x7 : Vec F S768x128 .bf16) :
    { L : List (View.Piece (Elt F) S768x128 .bf16) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f L)) -∗ K ⟨⟩))
          ⊢ wp frame (wpE (defs₀ (F := F)) Variants.none c none) E (cc1_fox_attn i arg3 harg3 arg4 harg4 arg5 harg5 arg6 harg6 arg7 harg7 arg8 harg8) K } := by
  refine ⟨?_, fun E K => ?run⟩
  case run =>
    simp only [cc1_fox_attn_eq_skeleton]; unfold cc1_fox_attn_skel
    simp only [dif_pos hc1, dif_pos hc2, dif_neg hc3]
    simp only [k1_part19_eq_skeleton, k1_part13_eq_skeleton, k1_part14_eq_skeleton, k1_part15_eq_skeleton]
    unfold owns
    iintro ⟨⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg3.eq_unread hf3; obtain rfl := harg4.eq_unread hf4; obtain rfl := harg5.eq_unread hf5
    obtain rfl := harg6.eq_unread hf6; obtain rfl := harg7.eq_unread hf7
    sl_exec (disch := first | sl_exact hc1 | sl_exact hc2 | sl_exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    iexists _; iexact H8

end Cert.KernelIdeal.Attn

end
-- ==== Proof.Ideal.Run4.lean ====
module

public import proofs.«01_k».proof.Proof.Ideal.Run3
public import proofs.«01_k».proof.Proof.Gen.KernelIdeal.Skeleton
public import proofs.«01_k».proof.Proof.Gen.KernelIdeal.Points
public import proofs.«01_k».proof.Proof.Gen.KernelIdeal.Loops
public import Idealize.ShloMosaic.Lib.Ring
public import Idealize.ShloMosaic.Lib.Tactic
public import Idealize.ShloMosaic.Lib.WordCmp
public import Idealize.ShloMosaic.Lib.Exec
public import Idealize.ShloMosaic.Lib.Pipeline.FrameBody

@[expose] public section

set_option maxRecDepth 16384

noncomputable section

/-! The attention kernel's body, run once per tail the switch can take: what it leaves in the output block. -/

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- The body where the tail holds 4 key blocks: the pieces it leaves in the output block, with the run. -/
def run_four (c : Dev nD) (i : grid1.Coords) (arg3 : Memref sig .tc .vmem S768x128 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S8448x128 .bf16) (harg6 : arg6.IsWhole) (arg7 : Memref sig .tc .vmem S768x128 .bf16) (harg7 : arg7.IsWhole) (arg8 : Memref sig .tc .vmem S768x128 .bf16) (harg8 : arg8.IsWhole)
    (hc1 : k1_cond1 i = 1#1) (hc2 : k1_cond2 i = 1#1) (hc3 : k1_cond3 i = 1#1)
    (x3 : Vec F S768x128 .bf16) (x4 x5 x6 : Vec F S8448x128 .bf16) (x7 : Vec F S768x128 .bf16) :
    { L : List (View.Piece (Elt F) S768x128 .bf16) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f L)) -∗ K ⟨⟩))
          ⊢ wp frame (wpE (defs₀ (F := F)) Variants.none c none) E (cc1_fox_attn i arg3 harg3 arg4 harg4 arg5 harg5 arg6 harg6 arg7 harg7 arg8 harg8) K } := by
  refine ⟨?_, fun E K => ?run⟩
  case run =>
    simp only [cc1_fox_attn_eq_skeleton]; unfold cc1_fox_attn_skel
    simp only [dif_pos hc1, dif_pos hc2, dif_pos hc3]
    simp only [k1_part19_eq_skeleton, k1_part9_eq_skeleton, k1_part10_eq_skeleton, k1_part11_eq_skeleton, k1_part12_eq_skeleton]
    unfold owns
    iintro ⟨⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg3.eq_unread hf3; obtain rfl := harg4.eq_unread hf4; obtain rfl := harg5.eq_unread hf5
    obtain rfl := harg6.eq_unread hf6; obtain rfl := harg7.eq_unread hf7
    sl_exec (disch := first | sl_exact hc1 | sl_exact hc2 | sl_exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    iexists _; iexact H8

end Cert.KernelIdeal.Attn

end
-- ==== Proof.Ideal.Prep1.lean ====
module

public import proofs.«01_k».proof.Proof.Ideal.Run4
public import proofs.«01_k».proof.Proof.Gen.KernelIdeal.Skeleton
public import proofs.«01_k».proof.Proof.Gen.KernelIdeal.Points
public import proofs.«01_k».proof.Proof.Gen.KernelIdeal.Loops
public import Idealize.ShloMosaic.Lib.Ring
public import Idealize.ShloMosaic.Lib.Tactic
public import Idealize.ShloMosaic.Lib.WordCmp
public import Idealize.ShloMosaic.Lib.Exec
public import Idealize.ShloMosaic.Lib.Pipeline.FrameBody

@[expose] public section

set_option maxRecDepth 16384

noncomputable section

/-! The gate kernel's body at a batch's first point and at its later ones: what it leaves in the key columns and in the carry. -/

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The point is the first of its batch, as the body's branch reads it. -/
abbrev firstPoint (i : grid0.Coords) : Prop :=
  (Scalar.cmpi .ne (Scalar.extui (Scalar.cmpi .eq (BitVec.ofNat 32 (i 1).val) 0#32)) 0#32) = 1#1

set_option maxHeartbeats 4000000 in
/-- The body at a batch's first point, the carry at anything: the pieces it leaves in the key columns and in the carry, with the run. -/
def prep_first (c : Dev nD) (i : grid0.Coords) (arg2 : Memref sig .tc .vmem S256x128 .f32) (harg2 : arg2.IsWhole) (arg3 : Memref sig .tc .vmem S1x128 .f32) (harg3 : arg3.IsWhole) (arg4 : Memref sig .tc .vmem S256x1024 .bf16) (harg4 : arg4.IsWhole) (arg5 : Memref sig .tc .vmem S8x128 .f32) (harg5 : arg5.IsWhole)
    (hc : firstPoint i) (x2 : Vec F S256x128 .f32) (x3 : Vec F S1x128 .f32) :
    Σ' (L : List (View.Piece (Elt F) S256x1024 .bf16)), { LS : List (View.Piece (Elt F) S8x128 .f32) //
      ∀ (E : Set ℕ) (K : PUnit → sProp 𝕄),
        iprop(owns (c : Thread nD τ) arg2 fullShare x2 ∗ owns (c : Thread nD τ) arg3 fullShare x3 ∗ (∃ d, owns (c : Thread nD τ) arg4 fullShare d) ∗ (∃ d, owns (c : Thread nD τ) arg5 fullShare d)
            ∗ (iprop(owns (c : Thread nD τ) arg2 fullShare x2 ∗ owns (c : Thread nD τ) arg3 fullShare x3 ∗ (∃ f, arg4.view.loc (c : Thread nD τ) ↦[arg4.view.set]{fullShare} arg4.view.writes (Elt F) f L)
                ∗ (∃ f, arg5.view.loc (c : Thread nD τ) ↦[arg5.view.set]{fullShare} arg5.view.writes (Elt F) f LS)) -∗ K ⟨⟩))
          ⊢ wp frame (wpE (defs₀ (F := F)) Variants.none c none) E (cc0_fox_prep i arg2 harg2 arg3 harg3 arg4 harg4 arg5 harg5) K } := by
  refine ⟨?_, ?_, fun E K => ?run⟩
  case run =>
    simp only [cc0_fox_prep_eq_skeleton]; unfold cc0_fox_prep_skel
    simp only [k0_part1_eq_skeleton, k0_part2_eq_skeleton, k0_part3_eq_skeleton, k0_part4_eq_skeleton, k0_part5_eq_skeleton]
    unfold owns
    iintro ⟨⟨%f2, %hf2, H2⟩, ⟨%f3, %hf3, H3⟩, ⟨%d4, %f4, -, H4⟩, ⟨%ds, %fs, -, HS⟩, Hk⟩
    obtain rfl := harg2.eq_unread hf2; obtain rfl := harg3.eq_unread hf3
    sl_exec (disch := first | sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; iexact H4
    iexists _; iexact HS

end Cert.KernelIdeal.Attn

end
-- ==== Proof.Ideal.Prep2.lean ====
module

public import proofs.«01_k».proof.Proof.Ideal.Prep1
public import proofs.«01_k».proof.Proof.Gen.KernelIdeal.Skeleton
public import proofs.«01_k».proof.Proof.Gen.KernelIdeal.Points
public import proofs.«01_k».proof.Proof.Gen.KernelIdeal.Loops
public import Idealize.ShloMosaic.Lib.Ring
public import Idealize.ShloMosaic.Lib.Tactic
public import Idealize.ShloMosaic.Lib.WordCmp
public import Idealize.ShloMosaic.Lib.Exec
public import Idealize.ShloMosaic.Lib.Pipeline.FrameBody

@[expose] public section

set_option maxRecDepth 16384

noncomputable section

/-! The gate kernel's body at a batch's first point and at its later ones: what it leaves in the key columns and in the carry. -/

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- The body at a later point, the carry at what the point before left: the pieces it leaves in the key columns and in the carry, with the run. -/
def prep_later (c : Dev nD) (i : grid0.Coords) (arg2 : Memref sig .tc .vmem S256x128 .f32) (harg2 : arg2.IsWhole) (arg3 : Memref sig .tc .vmem S1x128 .f32) (harg3 : arg3.IsWhole) (arg4 : Memref sig .tc .vmem S256x1024 .bf16) (harg4 : arg4.IsWhole) (arg5 : Memref sig .tc .vmem S8x128 .f32) (harg5 : arg5.IsWhole)
    (hc : ¬firstPoint i) (x2 : Vec F S256x128 .f32) (x3 : Vec F S1x128 .f32) (xs : Vec F S8x128 .f32) :
    Σ' (L : List (View.Piece (Elt F) S256x1024 .bf16)), { LS : List (View.Piece (Elt F) S8x128 .f32) //
      ∀ (E : Set ℕ) (K : PUnit → sProp 𝕄),
        iprop(owns (c : Thread nD τ) arg2 fullShare x2 ∗ owns (c : Thread nD τ) arg3 fullShare x3 ∗ (∃ d, owns (c : Thread nD τ) arg4 fullShare d) ∗ owns (c : Thread nD τ) arg5 fullShare xs
            ∗ (iprop(owns (c : Thread nD τ) arg2 fullShare x2 ∗ owns (c : Thread nD τ) arg3 fullShare x3 ∗ (∃ f, arg4.view.loc (c : Thread nD τ) ↦[arg4.view.set]{fullShare} arg4.view.writes (Elt F) f L)
                ∗ (∃ f, arg5.view.loc (c : Thread nD τ) ↦[arg5.view.set]{fullShare} arg5.view.writes (Elt F) f LS)) -∗ K ⟨⟩))
          ⊢ wp frame (wpE (defs₀ (F := F)) Variants.none c none) E (cc0_fox_prep i arg2 harg2 arg3 harg3 arg4 harg4 arg5 harg5) K } := by
  refine ⟨?_, ?_, fun E K => ?run⟩
  case run =>
    simp only [cc0_fox_prep_eq_skeleton]; unfold cc0_fox_prep_skel
    simp only [k0_part1_eq_skeleton, k0_part2_eq_skeleton, k0_part3_eq_skeleton, k0_part4_eq_skeleton, k0_part5_eq_skeleton]
    unfold owns
    iintro ⟨⟨%f2, %hf2, H2⟩, ⟨%f3, %hf3, H3⟩, ⟨%d4, %f4, -, H4⟩, ⟨%fs, %hfs, HS⟩, Hk⟩
    obtain rfl := harg2.eq_unread hf2; obtain rfl := harg3.eq_unread hf3; obtain rfl := harg5.eq_unread hfs
    sl_exec (disch := first | sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; iexact H4
    iexists _; iexact HS

end Cert.KernelIdeal.Attn

end
-- ==== Proof.Ideal.Data.lean ====
module

public import proofs.«01_k».proof.Proof.Ideal.Prep2
public import Idealize.ShloMosaic.Lib.Pipeline.FrameBody
public import Idealize.ShloMosaic.Lib.Pipeline.RegionsLoop
public import Idealize.ShloMosaic.Lib.Pipeline.FrameSuffix

@[expose] public section

set_option maxRecDepth 16384

noncomputable section

/-! The two kernel regions: what each grid point leaves, and that the body at a point leaves it. -/

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- each core's buffers when the region is entered
variable (V : (c : Dev nD) → (b : Ref sig .tc) → Buf (Elt F) ((c : Thread nD τ).loc b))

/-! ## The gate kernel -/

/-- Window `w`'s block at point `t` of region 0, off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The buffer the gate kernel keeps its running sum in. -/
abbrev carryM : Memref sig .tc .vmem S8x128 .f32 := Memref.whole cc0_scratch0

/-- What point `t` leaves in its key columns and in the carry, from the carry before it. -/
def prepStep (c : Dev nD) (t : Fin cfg0.N) (xs : Vec F S8x128 .f32) : Vec F S256x1024 .bf16 × Vec F S8x128 .f32 :=
  if hc : firstPoint (grid0.coords t) then
    (View.canon (prep_first c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) carryM (Memref.isWhole_whole _) hc (blk0 V c 0 t) (blk0 V c 1 t)).1,
      View.canon (prep_first c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) carryM (Memref.isWhole_whole _) hc (blk0 V c 0 t) (blk0 V c 1 t)).2.1)
  else
    (View.canon (prep_later c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) carryM (Memref.isWhole_whole _) hc (blk0 V c 0 t) (blk0 V c 1 t) xs).1,
      View.canon (prep_later c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) carryM (Memref.isWhole_whole _) hc (blk0 V c 0 t) (blk0 V c 1 t) xs).2.1)

/-- The carry before point `n`. -/
def carryAt (c : Dev nD) : ℕ → Vec F S8x128 .f32
  | 0 => View.canon []
  | n + 1 => if h : n < cfg0.N then (prepStep V c ⟨n, h⟩ (carryAt c n)).2 else carryAt c n

theorem carryAt_succ (c : Dev nD) (t : Fin cfg0.N) : carryAt V c (t.val + 1) = (prepStep V c t (carryAt V c t.val)).2 := by
  rw [carryAt, dif_pos t.isLt]

/-- The attention kernel's staging buffers, which the gate kernel leaves alone. -/
abbrev others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- Between points: the carry, known past the first point, the buffers left alone and the generator register. -/
def carried (c : Dev nD) (n : ℕ) : sProp 𝕄 :=
  iprop((∃ d, ⌜n ≠ 0 → d = carryAt V c n⌝ ∗ owns (c : Thread nD τ) carryM fullShare d) ∗ others c ∗ ∃ r, prngReg c r)

theorem carried_start (c : Dev nD) : (Pipeline.ΦA spec0 c : sProp 𝕄) ⊢ carried V c 0 := by
  unfold Pipeline.ΦA carried; rw [scopedRest0_eq]; simp only [carryM, owns_whole]
  iintro ⟨⟨⟨%f, H⟩, Ho⟩, Hg⟩
  isplitl [H]
  · iexists f; isplitr; · ipureintro; exact fun h => absurd rfl h
    iexact H
  isplitl [Ho]; · iexact Ho
  iexact Hg

theorem carried_end (c : Dev nD) (n : ℕ) : carried V c n ⊢ (Pipeline.ΦA spec0 c : sProp 𝕄) := by
  unfold Pipeline.ΦA carried; rw [scopedRest0_eq]; simp only [carryM, owns_whole]
  iintro ⟨⟨%f, -, H⟩, Ho, Hg⟩
  isplitl [H Ho]
  · isplitl [H]; · iexists f; iexact H
    iexact Ho
  iexact Hg

/-- Input window 0's staging buffer holds its block at every point. -/
theorem staged0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl)
      (fun t => by rw [hafter]; unfold Dat.blockOf blk0; rw [hA]; try rfl) t d).trans
    (by unfold Dat.fetched Dat.blockOf blk0; rw [hA]; try rfl)

/-- Input window 1's staging buffer holds its block at every point. -/
theorem staged0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl)
      (fun t => by rw [hafter]; unfold Dat.blockOf blk0; rw [hA]; try rfl) t d).trans
    (by unfold Dat.fetched Dat.blockOf blk0; rw [hA]; try rfl)

/-- The gate region's data: arrays as found, inputs left alone, the key columns as `prepStep` leaves them. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => (prepStep V c t (carryAt V c t.val)).1
  Φ t := carried V c t.val
  q _ := fullShare
  owed _ := 0

theorem arr0 (c : Dev nD) (w : Fin cfg0.W) : (dat0 V c).A w = V c (Pipeline.arrRef spec0 w) := by
  dsimp only [dat0]
theorem left0_0 (c : Dev nD) (t : Fin cfg0.N) : (dat0 V c).after 0 t = blk0 V c 0 t := by dsimp only [dat0]
theorem left0_1 (c : Dev nD) (t : Fin cfg0.N) : (dat0 V c).after 1 t = blk0 V c 1 t := by dsimp only [dat0]
theorem left0_2 (c : Dev nD) (t : Fin cfg0.N) : (dat0 V c).after 2 t = (prepStep V c t (carryAt V c t.val)).1 := by dsimp only [dat0]
theorem held0_0 (c : Dev nD) (t : Fin cfg0.N) (d) : (dat0 V c).before 0 t d = blk0 V c 0 t :=
  staged0_0 V (dat0 V c) (arr0 V c 0) (left0_0 V c) t d
theorem held0_1 (c : Dev nD) (t : Fin cfg0.N) (d) : (dat0 V c).before 1 t d = blk0 V c 1 t :=
  staged0_1 V (dat0 V c) (arr0 V c 1) (left0_1 V c) t d

/-- What the body is called with at point `t`, the windows one by one, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it gives back. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The first point of the grid is a batch's first. -/
theorem firstPoint_zero (t : Fin cfg0.N) (h : t.val = 0) : firstPoint (grid0.coords t) := by
  have e1 : (grid0.coords t 1).val = t.val / 1 % 33 := Pipeline.Grid.coords_val t 1 (by decide) rfl
  rw [h] at e1
  simp only [firstPoint, e1]; decide

set_option maxHeartbeats 4000000 in
/-- The gate body at a point. -/
theorem body0 (c : Dev nD) (t : Fin cfg0.N) :
    pre0 V c t ⊢ wp frame (wpE (defs₀ (F := F)) Variants.none c none) Set.univ (bodyAt0 t) (fun _ => post0 V c t) := by
  unfold pre0 post0 bodyAt0
  simp only [held0_0, held0_1]
  rw [show (dat0 V c).owesAt () t.succ = (dat0 V c).owesAt () t.castSucc from rfl,
    show (dat0 V c).Φ t.castSucc = carried V c t.val from rfl,
    show (dat0 V c).Φ t.succ = carried V c (t.val + 1) from rfl, left0_0, left0_1, left0_2]
  unfold carried
  rw [carryAt_succ]
  by_cases hc : firstPoint (grid0.coords t)
  · have hs : prepStep V c t (carryAt V c t.val) = _ := dif_pos hc
    rw [hs]
    iintro ⟨⟨⟨%ds, %hds, HS⟩, Hoth, Hg⟩, Ho, ⟨%d0, H0⟩, ⟨%d1, H1⟩, ⟨%d2, H2⟩⟩

    iapply ((prep_first c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) carryM (Memref.isWhole_whole _) hc (blk0 V c 0 t) (blk0 V c 1 t)).2.2 Set.univ _)
    isplitl [H0]; · iexact H0
    isplitl [H1]; · iexact H1
    isplitl [H2]; · iexists _; iexact H2
    isplitl [HS]; · iexists _; iexact HS
    iintro ⟨H0, H1, ⟨%e2, H2⟩, ⟨%es, HS⟩⟩
    isplitl [HS Hoth Hg]
    · isplitl [HS]
      · iexists _; isplitr
        swap
        · unfold owns; iexists _; isplitr
          swap; · iexact HS
          ipureintro; rfl
        ipureintro; intro _
        exact View.read_writes_eq_canon _ _ _ (View.cover_of_tiledL _ S8x128.size (by sl_kernel_rfl))
      isplitl [Hoth]; · iexact Hoth
      iexact Hg
    isplitl [Ho]; · iexact Ho
    isplitl [H0]; · iexact H0
    isplitl [H1]; · iexact H1
    unfold owns; iexists _; isplitr
    swap; · iexact H2
    ipureintro
    exact View.read_writes_eq_canon _ _ _ (View.cover_of_tiledL _ S256x128.size (by sl_kernel_rfl))
  · have hs : prepStep V c t (carryAt V c t.val) = _ := dif_neg hc
    rw [hs]
    iintro ⟨⟨⟨%ds, %hds, HS⟩, Hoth, Hg⟩, Ho, ⟨%d0, H0⟩, ⟨%d1, H1⟩, ⟨%d2, H2⟩⟩
    obtain rfl := hds fun h => hc (firstPoint_zero t h)
    iapply ((prep_later c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) carryM (Memref.isWhole_whole _) hc (blk0 V c 0 t) (blk0 V c 1 t) (carryAt V c t.val)).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hoth Hg]
    · isplitl [HS]
      · iexists _; isplitr
        swap
        · unfold owns; iexists _; isplitr
          swap; · iexact HS
          ipureintro; rfl
        ipureintro; intro _
        exact View.read_writes_eq_canon _ _ _ (View.cover_of_tiledL _ S8x128.size (by sl_kernel_rfl))
      isplitl [Hoth]; · iexact Hoth
      iexact Hg
    isplitl [Ho]; · iexact Ho
    isplitl [H0]; · iexact H0
    isplitl [H1]; · iexact H1
    unfold owns; iexists _; isplitr
    swap; · iexact H2
    ipureintro
    exact View.read_writes_eq_canon _ _ _ (View.cover_of_tiledL _ S256x128.size (by sl_kernel_rfl))

/-- The table's body at point `t` is the printed body on the point's buffers. -/
theorem row0 (t : Fin cfg0.N) : defs₀ (F := F) .tc cfg0.body (cfg0.bodyArgs t (cfg0.slots t)) = bodyAt0 t := by
  unfold defs₀; rw [Defs.onTc_tc]

/-- Region 0's body obligation. -/
theorem obligation0 (c : Dev nD) : BodyObligation (dat0 (F := F) V c) (defs₀ (F := F)) Variants.none () Set.univ := fun t => by
  rw [bigSep_W0, bigSep_W0, row0]
  exact triple_restated (body0 V c t) rfl .rfl fun _ => .rfl

/-! ## The attention kernel -/

/-- Window `w`'s block at point `t` of region 1, off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What point `t` leaves in its output block: the tail its block number selects. -/
def attnOut (c : Dev nD) (t : Fin cfg1.N) : Vec F S768x128 .bf16 :=
  if h1 : k1_cond1 (grid1.coords t) = 1#1 then
    if h2 : k1_cond2 (grid1.coords t) = 1#1 then
      if h3 : k1_cond3 (grid1.coords t) = 1#1 then
        View.canon (run_four c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) h1 h2 h3 (blk1 V c 0 t) (blk1 V c 1 t) (blk1 V c 2 t) (blk1 V c 3 t) (blk1 V c 4 t)).1
      else View.canon (run_three c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) h1 h2 h3 (blk1 V c 0 t) (blk1 V c 1 t) (blk1 V c 2 t) (blk1 V c 3 t) (blk1 V c 4 t)).1
    else View.canon (run_two c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) h1 h2 (blk1 V c 0 t) (blk1 V c 1 t) (blk1 V c 2 t) (blk1 V c 3 t) (blk1 V c 4 t)).1
  else View.canon (run_one c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) h1 (blk1 V c 0 t) (blk1 V c 1 t) (blk1 V c 2 t) (blk1 V c 3 t) (blk1 V c 4 t)).1

/-- Input window 0's staging buffer holds its block at every point. -/
theorem staged1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl)
      (fun t => by rw [hafter]; unfold Dat.blockOf blk1; rw [hA]; try rfl) t d).trans
    (by unfold Dat.fetched Dat.blockOf blk1; rw [hA]; try rfl)

/-- Input window 1's staging buffer holds its block at every point. -/
theorem staged1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl)
      (fun t => by rw [hafter]; unfold Dat.blockOf blk1; rw [hA]; try rfl) t d).trans
    (by unfold Dat.fetched Dat.blockOf blk1; rw [hA]; try rfl)

/-- Input window 2's staging buffer holds its block at every point. -/
theorem staged1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl)
      (fun t => by rw [hafter]; unfold Dat.blockOf blk1; rw [hA]; try rfl) t d).trans
    (by unfold Dat.fetched Dat.blockOf blk1; rw [hA]; try rfl)

/-- Input window 3's staging buffer holds its block at every point. -/
theorem staged1_3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl)
      (fun t => by rw [hafter]; unfold Dat.blockOf blk1; rw [hA]; try rfl) t d).trans
    (by unfold Dat.fetched Dat.blockOf blk1; rw [hA]; try rfl)

/-- Input window 4's staging buffer holds its block at every point. -/
theorem staged1_4 {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl)
      (fun t => by rw [hafter]; unfold Dat.blockOf blk1; rw [hA]; try rfl) t d).trans
    (by unfold Dat.fetched Dat.blockOf blk1; rw [hA]; try rfl)

/-- The attention region's data: arrays as found, inputs left alone, the output block as `attnOut` leaves it. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => attnOut V c t
  Φ _ := Pipeline.ΦA spec1 c
  q w := Pipeline.shareOf spec1 w
  owed _ := 0

theorem arr1 (c : Dev nD) (w : Fin cfg1.W) : (dat1 V c).A w = V c (Pipeline.arrRef spec1 w) := by
  dsimp only [dat1]
theorem left1_0 (c : Dev nD) (t : Fin cfg1.N) : (dat1 V c).after 0 t = blk1 V c 0 t := by dsimp only [dat1]
theorem left1_1 (c : Dev nD) (t : Fin cfg1.N) : (dat1 V c).after 1 t = blk1 V c 1 t := by dsimp only [dat1]
theorem left1_2 (c : Dev nD) (t : Fin cfg1.N) : (dat1 V c).after 2 t = blk1 V c 2 t := by dsimp only [dat1]
theorem left1_3 (c : Dev nD) (t : Fin cfg1.N) : (dat1 V c).after 3 t = blk1 V c 3 t := by dsimp only [dat1]
theorem left1_4 (c : Dev nD) (t : Fin cfg1.N) : (dat1 V c).after 4 t = blk1 V c 4 t := by dsimp only [dat1]
theorem left1_5 (c : Dev nD) (t : Fin cfg1.N) : (dat1 V c).after 5 t = attnOut V c t := by dsimp only [dat1]
theorem held1_0 (c : Dev nD) (t : Fin cfg1.N) (d) : (dat1 V c).before 0 t d = blk1 V c 0 t :=
  staged1_0 V (dat1 V c) (arr1 V c 0) (left1_0 V c) t d
theorem held1_1 (c : Dev nD) (t : Fin cfg1.N) (d) : (dat1 V c).before 1 t d = blk1 V c 1 t :=
  staged1_1 V (dat1 V c) (arr1 V c 1) (left1_1 V c) t d
theorem held1_2 (c : Dev nD) (t : Fin cfg1.N) (d) : (dat1 V c).before 2 t d = blk1 V c 2 t :=
  staged1_2 V (dat1 V c) (arr1 V c 2) (left1_2 V c) t d
theorem held1_3 (c : Dev nD) (t : Fin cfg1.N) (d) : (dat1 V c).before 3 t d = blk1 V c 3 t :=
  staged1_3 V (dat1 V c) (arr1 V c 3) (left1_3 V c) t d
theorem held1_4 (c : Dev nD) (t : Fin cfg1.N) (d) : (dat1 V c).before 4 t d = blk1 V c 4 t :=
  staged1_4 V (dat1 V c) (arr1 V c 4) (left1_4 V c) t d

/-- What the body is called with at point `t`, the windows one by one, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it gives back. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 4000000 in
/-- The attention body at a point. -/
theorem body1 (c : Dev nD) (t : Fin cfg1.N) :
    pre1 V c t ⊢ wp frame (wpE (defs₀ (F := F)) Variants.none c none) Set.univ (bodyAt1 t) (fun _ => post1 V c t) := by
  unfold pre1 post1 bodyAt1
  simp only [held1_0, held1_1, held1_2, held1_3, held1_4]
  rw [show (dat1 V c).Φ t.succ = (dat1 V c).Φ t.castSucc from rfl,
    show (dat1 V c).owesAt () t.succ = (dat1 V c).owesAt () t.castSucc from rfl,
    left1_0, left1_1, left1_2, left1_3, left1_4, left1_5]
  iintro ⟨HΦ, Ho, ⟨%d0, H0⟩, ⟨%d1, H1⟩, ⟨%d2, H2⟩, ⟨%d3, H3⟩, ⟨%d4, H4⟩, ⟨%d5, H5⟩⟩
  by_cases h1 : k1_cond1 (grid1.coords t) = 1#1
  swap
  · rw [show attnOut V c t = _ from dif_neg h1]
    iapply ((run_one c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) h1 (blk1 V c 0 t) (blk1 V c 1 t) (blk1 V c 2 t) (blk1 V c 3 t) (blk1 V c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    exact View.read_writes_eq_canon _ _ _ (View.cover_of_tiledL _ S384x128.size (by sl_kernel_rfl))
  by_cases h2 : k1_cond2 (grid1.coords t) = 1#1
  swap
  · rw [show attnOut V c t = _ from (dif_pos h1).trans (dif_neg h2)]
    iapply ((run_two c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) h1 h2 (blk1 V c 0 t) (blk1 V c 1 t) (blk1 V c 2 t) (blk1 V c 3 t) (blk1 V c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    exact View.read_writes_eq_canon _ _ _ (View.cover_of_tiledL _ S384x128.size (by sl_kernel_rfl))
  by_cases h3 : k1_cond3 (grid1.coords t) = 1#1
  swap
  · rw [show attnOut V c t = _ from (dif_pos h1).trans ((dif_pos h2).trans (dif_neg h3))]
    iapply ((run_three c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) h1 h2 h3 (blk1 V c 0 t) (blk1 V c 1 t) (blk1 V c 2 t) (blk1 V c 3 t) (blk1 V c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    exact View.read_writes_eq_canon _ _ _ (View.cover_of_tiledL _ S384x128.size (by sl_kernel_rfl))
  · rw [show attnOut V c t = _ from (dif_pos h1).trans ((dif_pos h2).trans (dif_pos h3))]
    iapply ((run_four c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) h1 h2 h3 (blk1 V c 0 t) (blk1 V c 1 t) (blk1 V c 2 t) (blk1 V c 3 t) (blk1 V c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    exact View.read_writes_eq_canon _ _ _ (View.cover_of_tiledL _ S384x128.size (by sl_kernel_rfl))

/-- The table's body at point `t` is the printed body on the point's buffers. -/
theorem row1 (t : Fin cfg1.N) : defs₀ (F := F) .tc cfg1.body (cfg1.bodyArgs t (cfg1.slots t)) = bodyAt1 t := by
  unfold defs₀; rw [Defs.onTc_tc]

/-- Region 1's body obligation. -/
theorem obligation1 (c : Dev nD) : BodyObligation (dat1 (F := F) V c) (defs₀ (F := F)) Variants.none () Set.univ := fun t => by
  rw [bigSep_W1, bigSep_W1, row1]
  exact triple_restated (body1 V c t) rfl .rfl fun _ => .rfl

end Cert.KernelIdeal.Attn

end
-- ==== Proof.Ideal.Launch.lean ====
module

public import proofs.«01_k».proof.Proof.Ideal.Data
public import Idealize.ShloMosaic.Lib.Pipeline.FrameBody
public import Idealize.ShloMosaic.Lib.Pipeline.RegionsLoop
public import Idealize.ShloMosaic.Lib.Pipeline.FrameSuffix

@[expose] public section

set_option maxRecDepth 16384

noncomputable section

/-! The run of the whole program: the host's stretches and the two kernel regions in order, and what every buffer holds at the end. -/

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The program's argument arrays. -/
abbrev argRefs : List (Ref sig .tc) := [main_arg0, main_arg1, main_arg2]

/-! ## The host's stretches -/

theorem hostOps0_new : (hostOps0 : List (HloOp τ sig (Elt F))).Forall fun op => op.fresh = ∅ := by
  simp only [List.Forall]; repeat' constructor
/-- What `hostOps0` writes. -/
abbrev hostOps0_W : List (Ref sig .tc) := [main_c]
theorem hostOps0_wr : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps0_1_new : (hostOps0_1 : List (HloOp τ sig (Elt F))).Forall fun op => op.fresh = ∅ := by
  simp only [List.Forall]; repeat' constructor
/-- What `hostOps0_1` writes. -/
abbrev hostOps0_1_W : List (Ref sig .tc) := [main_call0_v0, main_v0]
theorem hostOps0_1_wr : (hostOps0_1 : List (HloOp τ sig (Elt F))).Forall fun op => op.writes ⊆ (hostOps0_1_W.map (Proc.devRef (τ := τ) .tc)).toFinset :=
  StableHlo.forall_writes_sub_of_map rfl
theorem hostOps0_1_args : ∀ a ∈ argRefs, a ∉ hostOps0_1_W := ListAll.forall_mem_of_all_decide (by decide +kernel)

theorem hostOps0_2_new : (hostOps0_2 : List (HloOp τ sig (Elt F))).Forall fun op => op.fresh = ∅ := by
  simp only [List.Forall]; repeat' constructor
/-- What `hostOps0_2` writes. -/
abbrev hostOps0_2_W : List (Ref sig .tc) := [main_v1]
theorem hostOps0_2_wr : (hostOps0_2 : List (HloOp τ sig (Elt F))).Forall fun op => op.writes ⊆ (hostOps0_2_W.map (Proc.devRef (τ := τ) .tc)).toFinset :=
  StableHlo.forall_writes_sub_of_map rfl
theorem hostOps0_2_args : ∀ a ∈ argRefs, a ∉ hostOps0_2_W := ListAll.forall_mem_of_all_decide (by decide +kernel)

theorem hostOps1_new : (hostOps1 : List (HloOp τ sig (Elt F))).Forall fun op => op.fresh = ∅ := by
  simp only [List.Forall]; repeat' constructor
/-- What `hostOps1` writes. -/
abbrev hostOps1_W : List (Ref sig .tc) := [main_cst, main_v3, main_c_0, main_v4, main_cst_1, main_v5, main_v6]
theorem hostOps1_wr : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

/-! ## Every buffer's contents between the items of the program -/

/-- At launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_wr h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_wr h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2`. -/
abbrev W3 : Dev nD → Valuation τ sig (Elt F) := fun c => StableHlo.after hostOps0_2 (W2 m ρ c)
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_wr h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- The same at the core's references. -/
abbrev V3 : (c : Dev nD) → (b : Ref sig .tc) → Buf (Elt F) ((c : Thread nD τ).loc b) := fun c b => W3 m ρ c b
/-- After region 0: its arrays as the pipeline leaves them, everything else as before. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (arr0 (V3 m ρ) c w))
  · exact W4_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn0 a ha)).trans (W3_args m ρ c a ha)
/-- The same at the core's references. -/
abbrev V4 : (c : Dev nD) → (b : Ref sig .tc) → Buf (Elt F) ((c : Thread nD τ).loc b) := fun c b => W4 m ρ c b
theorem filled0 (c : Dev nD) (w : Fin cfg0.W) : (dat0 (V3 m ρ) c).arrAt w cfg0.N = V4 m ρ c (Pipeline.arrRef spec0 w) :=
  (W4_arr m ρ c w).symm
theorem kept0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After `hostOps1`. -/
abbrev W5 : Dev nD → Valuation τ sig (Elt F) := fun c => StableHlo.after hostOps1 (W4 m ρ c)
theorem W5_of (c : Dev nD) (r : Ref sig .tc) (h : r ∉ hostOps1_W) : W5 m ρ c (Proc.devRef .tc r) = W4 m ρ c (Proc.devRef .tc r) :=
  StableHlo.after_of_writes_sub hostOps1 _ hostOps1_wr h
theorem W5_args (c : Dev nD) : ∀ a ∈ argRefs, W5 m ρ c (Proc.devRef .tc a) = m ((c : Thread nD τ).loc a) :=
  fun a ha => (W5_of m ρ c a (hostOps1_args a ha)).trans (W4_args m ρ c a ha)
/-- The same at the core's references. -/
abbrev V5 : (c : Dev nD) → (b : Ref sig .tc) → Buf (Elt F) ((c : Thread nD τ).loc b) := fun c b => W5 m ρ c b
/-- After region 1: its arrays as the pipeline leaves them, everything else as before. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact (dat1 (V5 m ρ) c).withArrays_arrAt launch₀1.sharedIn _ (arr1 (V5 m ρ) c) w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
theorem W6_of (c : Dev nD) (r : Ref sig .tc) (h : ∀ w : Fin cfg1.W, Pipeline.arrRef spec1 w = r → (cfg1.win w).isOut = false) :
    W6 m ρ c (Proc.devRef .tc r) = W5 m ρ c (Proc.devRef .tc r) := by
  by_cases hw : ∃ w : Fin cfg1.W, Pipeline.arrRef spec1 w = r
  · obtain ⟨w, rfl⟩ := hw
    exact (W6_arr m ρ c w).trans (((dat1 (V5 m ρ) c).arrAt_in w (h w rfl) _).trans (arr1 (V5 m ρ) c w))
  · exact W6_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn1 a ha)).trans (W5_args m ρ c a ha)
/-- The same at the core's references. -/
abbrev V6 : (c : Dev nD) → (b : Ref sig .tc) → Buf (Elt F) ((c : Thread nD τ).loc b) := fun c b => W6 m ρ c b
theorem filled1 (c : Dev nD) (w : Fin cfg1.W) : (dat1 (V5 m ρ) c).arrAt w cfg1.N = V6 m ρ c (Pipeline.arrRef spec1 w) :=
  (W6_arr m ρ c w).symm
theorem kept1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-! ## The two regions as parts of the run -/

abbrev adm : (p : Fin 2) → (pcfgs (F := F) p).Adm := fun p => (cfgs p).toPCfg_adm
/-- Both regions' data, each at its entry. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
/-- What rides along beside the buffers. -/
abbrev R (c : Dev nD) : sProp 𝕄 := iprop((∃ r, prngReg c r) ∗ ∃ W, owes (c : Thread nD τ) (0 : CellTallies nD τ sig Unit) W)
/-- A host stretch as a part of the run. -/
abbrev hseg (ops : List (HloOp τ sig (Elt F))) (hsub : ops.Forall fun op => op.bufs ⊆ StableHlo.tcRefs τ sig)
    (hnew : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hnew) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The buffers and the generator register at the end. -/
abbrev Tₙ (c : Dev nD) : sProp 𝕄 := iprop(StableHlo.held (c : Thread nD τ) (Pipeline.ucRefs τ sig) (W6 m ρ c) ∗ ∃ r, prngReg c r)

set_option backward.isDefEq.respectTransparency.types false in
/-- Region 0. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (arr0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = carried (V3 m ρ) c 0 from rfl]
    have hs := carried_start (V3 m ρ) c
    unfold Pipeline.ΦA at hs
    iintro ⟨Hp, -, Hr⟩
    iapply hs
    isplitl [Hr]; · iexact Hr
    iexact Hp
  hout c := by
    rw [Pipeline.ownSems0_none, show (pdats m ρ 0 c).Φ (Fin.last _) = carried (V3 m ρ) c cfg0.N from rfl]
    have hs := carried_end (V3 m ρ) c cfg0.N
    unfold Pipeline.ΦA at hs
    iintro H
    ihave H' := hs $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (filled0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V5 m ρ c) (arr1 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V5 m ρ c) (V6 m ρ c) ((pdats m ρ 1 c).arrAt · cfg1.N) (filled1 m ρ c) (kept1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- The program's parts in order. -/
abbrev segs : List (Pipeline.Seg (pcfgs (F := F)) adm (pdats m ρ) () defs₀ 𝒱₀ L lv) :=
  [ .host (hseg hostOps0 hostOps0_sub hostOps0_new (W0 m ρ)),
    .host (hseg hostOps0_1 hostOps0_1_sub hostOps0_1_new (W1 m ρ)),
    .host (hseg hostOps0_2 hostOps0_2_sub hostOps0_2_new (W2 m ρ)),
    .region (reg0 m ρ),
    .host (hseg hostOps1 hostOps1_sub hostOps1_new (W4 m ρ)),
    .region (reg1 m ρ) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- The whole program runs to the end, and leaves every buffer at `W6` and every counter at zero. -/
theorem ran : θ_run defs (onTc (τ := τ) (main (F := F))) ⟨m, fun _ => 0, ρ⟩ (fun r =>
      (∀ c : Dev nD, ∀ b ∈ Pipeline.ucRefs τ sig, r.2.mem (((c : Thread nD τ)).1, b) = W6 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

/-- The frame: the arguments end as launched, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1 c _ (mem_uc main_arg0 (by decide))).trans (W6_args m ρ c main_arg0 (by decide)),
     (h.1 c _ (mem_uc main_arg1 (by decide))).trans (W6_args m ρ c main_arg1 (by decide)),
     (h.1 c _ (mem_uc main_arg2 (by decide))).trans (W6_args m ρ c main_arg2 (by decide))⟩, h.2⟩) (ran m ρ)

/-- The program runs, leaves its arguments as launched, and its result is what the attention region writes. -/
theorem ran_result : θ_run defs (onTc (τ := τ) (main (F := F))) ⟨m, fun _ => 0, ρ⟩ (fun r => ∀ c : Dev nD,
      r.2.mem ((c.tc : Thread nD τ).loc main_v7) = (dat1 (V5 m ρ) c).arrAt 5 cfg1.N) :=
  (θ_run defs _ _).mono (fun _ h c =>
    (h.1 c _ (mem_uc main_v7 (by decide))).trans (W6_arr m ρ c 5)) (ran m ρ)

end Cert.KernelIdeal.Attn

end
-- ==== Proof.Ideal.Found.lean ====
module

public import proofs.«01_k».proof.Proof.Ideal.Data

@[expose] public section

set_option maxRecDepth 16384

noncomputable section

/-! The attention body in terms of four operations on a half of the query rows: score a key block, raise the maximum,
   scale the sum down, add a block's weighted values. -/

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI Idealize.SL.Sem

variable {F : FTy → Type} [FloatOps F] [Named F]

/-- The scores of a half's query rows against a key block: keys next to their bias columns. -/
def score (q : FVec F S384x256 .bf16) (k ke : Vec F S768x128 .bf16) : FVec F S384x768 .f32 :=
  matmul dot_S384x256_S768x256_S384x768_1_1_0_0_n_n none q
    (concatenate S768x256 1 [⟨S768x128, k⟩, ⟨S768x128, shapeCast S768x128 ke shapeCasts_S768x128_S768x128⟩] concatenates_S768x128_S768x128_S768x256_d1)
    (constant S384x768 .f32 0x00000000#32)

/-- The maximum raised by a block's scores. -/
def raise (m : FVec F S384x1 .f32) (s : FVec F S384x768 .f32) : FVec F S384x1 .f32 :=
  maximumf m (shapeCast S384x1 (multiReduction .maximumf [1] S384 s 0xFF800000#32 reduces_S384x768_S384 (.inl rfl) rfl) shapeCasts_S384_S384x1)

/-- The maximum raised by the scores of half a block. -/
def raiseLo (m : FVec F S384x1 .f32) (s : FVec F S384x384 .f32) : FVec F S384x1 .f32 :=
  maximumf m (shapeCast S384x1 (multiReduction .maximumf [1] S384 s 0xFF800000#32 reduces_S384x384_S384 (.inl rfl) rfl) shapeCasts_S384_S384x1)

/-- The running sum, brought from the maximum `m` to the maximum `m'`. -/
def shrink (m m' : FVec F S384x1 .f32) (a : FVec F S384x256 .f32) : FVec F S384x256 .f32 :=
  mulf (broadcastTo S384x256 (exp2 (subf m m')) broadcasts_S384x1_S384x256) a

/-- The running sum with a block's values added, weighted by their scores' powers. -/
def gather (m : FVec F S384x1 .f32) (s : FVec F S384x768 .f32) (v ve : Vec F S768x128 .bf16) (a : FVec F S384x256 .f32) : FVec F S384x256 .f32 :=
  addf a (matmul dot_S384x768_S768x256_S384x256_1_0_0_1_n_n none
    (truncf .bf16 (exp2 (subf s (broadcastTo S384x768 m broadcasts_S384x1_S384x768))) bitsLt_bf16_f32)
    (concatenate S768x256 1 [⟨S768x128, v⟩, ⟨S768x128, shapeCast S768x128 ve shapeCasts_S768x128_S768x128⟩] concatenates_S768x128_S768x128_S768x256_d1)
    (constant S384x256 .f32 0x00000000#32))

/-- The same for half a block. -/
def gatherLo (m : FVec F S384x1 .f32) (s : FVec F S384x384 .f32) (v ve : Vec F S384x128 .bf16) (a : FVec F S384x256 .f32) : FVec F S384x256 .f32 :=
  addf a (matmul dot_S384x384_S384x256_S384x256_1_0_0_1_n_n none
    (truncf .bf16 (exp2 (subf s (broadcastTo S384x384 m broadcasts_S384x1_S384x384))) bitsLt_bf16_f32)
    (concatenate S384x256 1 [⟨S384x128, v⟩, ⟨S384x128, shapeCast S384x128 ve shapeCasts_S384x128_S384x128⟩] concatenates_S384x128_S384x128_S384x256_d1)
    (constant S384x256 .f32 0x00000000#32))

/-- A key block: its keys, their bias columns and its values. -/
abbrev Block (F : FTy → Type) : Type := Vec F S768x128 .bf16 × Vec F S768x128 .bf16 × Vec F S768x128 .bf16

/-- The maximum over several blocks. -/
def tops (q : FVec F S384x256 .bf16) (bs : List (Block F)) (m : FVec F S384x1 .f32) : FVec F S384x1 .f32 :=
  bs.foldl (fun m b => raise m (score q b.1 b.2.1)) m

/-- The weighted sum over several blocks, at one maximum. -/
def sums (q : FVec F S384x256 .bf16) (ve : Vec F S768x128 .bf16) (bs : List (Block F)) (m : FVec F S384x1 .f32) (a : FVec F S384x256 .f32) :
    FVec F S384x256 .f32 :=
  bs.foldl (fun a b => gather m (score q b.1 b.2.1) b.2.2 ve a) a

/-- What a trip of the loop makes of a half's maximum and sum. -/
def trip (q : FVec F S384x256 .bf16) (ve : Vec F S768x128 .bf16) (bs : List (Block F)) (m : FVec F S384x1 .f32) (a : FVec F S384x256 .f32) :
    FVec F S384x256 .f32 :=
  sums q ve bs (tops q bs m) (shrink m (tops q bs m) a)

/-- The lower half's last step: the whole blocks, then the first half of the diagonal block. -/
def lastLo (q : FVec F S384x256 .bf16) (ve : Vec F S768x128 .bf16) (bs : List (Block F)) (k ke v vel : Vec F S384x128 .bf16)
    (m : FVec F S384x1 .f32) (a : FVec F S384x256 .f32) : FVec F S384x256 .f32 :=
  gatherLo (raiseLo (tops q bs m) (k1_pay73 q k ke)) (k1_pay73 q k ke) v vel
    (sums q ve bs (raiseLo (tops q bs m) (k1_pay73 q k ke)) (shrink m (raiseLo (tops q bs m) (k1_pay73 q k ke)) a))

/-- The upper half's last step: the whole blocks, then the diagonal block. -/
def lastHi (q : FVec F S384x256 .bf16) (ve : Vec F S768x128 .bf16) (bs : List (Block F)) (k ke v : Vec F S768x128 .bf16)
    (m : FVec F S384x1 .f32) (a : FVec F S384x256 .f32) : FVec F S384x256 .f32 :=
  gather (raise (tops q bs m) (k1_pay74 q k ke)) (k1_pay74 q k ke) v ve
    (sums q ve bs (raise (tops q bs m) (k1_pay74 q k ke)) (shrink m (raise (tops q bs m) (k1_pay74 q k ke)) a))

/-- A key block's rows read off a window. -/
abbrev rd (M : Memref sig .tc .vmem S8448x128 .bf16) (X : BufTy.Contents (Elt F) M.view.ty) (off : Fin 2 → ℕ)
    (h : ∀ a, off a + S768x128.size a ≤ S8448x128.size a) : Vec F S768x128 .bf16 :=
  View.readAt (Elt F) M.view (Rect.unit (s := S8448x128) off S768x128.size h).toLoadRect X

/-- Half a key block's rows read off a window. -/
abbrev rdLo (M : Memref sig .tc .vmem S8448x128 .bf16) (X : BufTy.Contents (Elt F) M.view.ty) (off : Fin 2 → ℕ)
    (h : ∀ a, off a + S384x128.size a ≤ S8448x128.size a) : Vec F S384x128 .bf16 :=
  View.readAt (Elt F) M.view (Rect.unit (s := S8448x128) off S384x128.size h).toLoadRect X

/-- A whole block-sized window, read. -/
abbrev rdAll (M : Memref sig .tc .vmem S768x128 .bf16) (X : BufTy.Contents (Elt F) M.view.ty) : Vec F S768x128 .bf16 :=
  View.readAt (Elt F) M.view (Rect.unit (s := S768x128) ![0, 0] S768x128.size inb_S768x128_S768x128_0_0).toLoadRect X

/-- Its first half, read. -/
abbrev rdTop (M : Memref sig .tc .vmem S768x128 .bf16) (X : BufTy.Contents (Elt F) M.view.ty) : Vec F S384x128 .bf16 :=
  View.readAt (Elt F) M.view (Rect.unit (s := S768x128) ![0, 0] S384x128.size inb_S768x128_S384x128_0_0).toLoadRect X

/-- The block at an offset of the three windows. -/
abbrev blockAt (arg4 arg5 arg6 : Memref sig .tc .vmem S8448x128 .bf16) (X4 : BufTy.Contents (Elt F) arg4.view.ty)
    (X5 : BufTy.Contents (Elt F) arg5.view.ty) (X6 : BufTy.Contents (Elt F) arg6.view.ty) (off : Fin 2 → ℕ)
    (h : ∀ a, off a + S768x128.size a ≤ S8448x128.size a) : Block F :=
  (rd arg4 X4 off h, rd arg5 X5 off h, rd arg6 X6 off h)

set_option maxHeartbeats 4000000 in
/-- One trip of the loop: both halves over the trip's four blocks. -/
theorem trip_found (c : Dev nD) (i : grid1.Coords) (arg3 : Memref sig .tc .vmem S768x128 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S8448x128 .bf16) (harg6 : arg6.IsWhole) (arg7 : Memref sig .tc .vmem S768x128 .bf16) (harg7 : arg7.IsWhole) (arg8 : Memref sig .tc .vmem S768x128 .bf16) (harg8 : arg8.IsWhole) (v1 : Vec F S768x128 .bf16)
    (X4 : BufTy.Contents (Elt F) arg4.view.ty) (X5 : BufTy.Contents (Elt F) arg5.view.ty) (X6 : BufTy.Contents (Elt F) arg6.view.ty) (X7 : BufTy.Contents (Elt F) arg7.view.ty)
    (k : Fin (k1_t1_loop i).trips) (acc : FVec F S384x1 .f32 × FVec F S384x256 .f32 × FVec F S384x1 .f32 × FVec F S384x256 .f32) :
    (trip_k1_t1 (F := F) Variants.none c none i arg3 harg3 arg4 harg4 arg5 harg5 arg6 harg6 arg7 harg7 arg8 harg8 v1 X4 X5 X6 X7 k).1 acc
      = (tops (k1_pay79 v1) [blockAt arg4 arg5 arg6 X4 X5 X6 (k1_off1 i k 0#32) (k1_off1_inb i k 0), blockAt arg4 arg5 arg6 X4 X5 X6 (k1_off1 i k 1#32) (k1_off1_inb i k 1), blockAt arg4 arg5 arg6 X4 X5 X6 (k1_off1 i k 2#32) (k1_off1_inb i k 2), blockAt arg4 arg5 arg6 X4 X5 X6 (k1_off1 i k 3#32) (k1_off1_inb i k 3)] acc.1,
         trip (k1_pay79 v1) (rdAll arg7 X7) [blockAt arg4 arg5 arg6 X4 X5 X6 (k1_off1 i k 0#32) (k1_off1_inb i k 0), blockAt arg4 arg5 arg6 X4 X5 X6 (k1_off1 i k 1#32) (k1_off1_inb i k 1), blockAt arg4 arg5 arg6 X4 X5 X6 (k1_off1 i k 2#32) (k1_off1_inb i k 2), blockAt arg4 arg5 arg6 X4 X5 X6 (k1_off1 i k 3#32) (k1_off1_inb i k 3)] acc.1 acc.2.1,
         tops (k1_pay80 v1) [blockAt arg4 arg5 arg6 X4 X5 X6 (k1_off1 i k 0#32) (k1_off1_inb i k 0), blockAt arg4 arg5 arg6 X4 X5 X6 (k1_off1 i k 1#32) (k1_off1_inb i k 1), blockAt arg4 arg5 arg6 X4 X5 X6 (k1_off1 i k 2#32) (k1_off1_inb i k 2), blockAt arg4 arg5 arg6 X4 X5 X6 (k1_off1 i k 3#32) (k1_off1_inb i k 3)] acc.2.2.1,
         trip (k1_pay80 v1) (rdAll arg7 X7) [blockAt arg4 arg5 arg6 X4 X5 X6 (k1_off1 i k 0#32) (k1_off1_inb i k 0), blockAt arg4 arg5 arg6 X4 X5 X6 (k1_off1 i k 1#32) (k1_off1_inb i k 1), blockAt arg4 arg5 arg6 X4 X5 X6 (k1_off1 i k 2#32) (k1_off1_inb i k 2), blockAt arg4 arg5 arg6 X4 X5 X6 (k1_off1 i k 3#32) (k1_off1_inb i k 3)] acc.2.2.1 acc.2.2.2) := by
  obtain ⟨m, a, m', a'⟩ := acc
  unfold trip_k1_t1
  rfl

/-- The maxima and sums the two loops leave. -/
abbrev looped (c : Dev nD) (i : grid1.Coords) (arg3 : Memref sig .tc .vmem S768x128 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S8448x128 .bf16) (harg6 : arg6.IsWhole) (arg7 : Memref sig .tc .vmem S768x128 .bf16) (harg7 : arg7.IsWhole) (arg8 : Memref sig .tc .vmem S768x128 .bf16) (harg8 : arg8.IsWhole) (v1 : Vec F S768x128 .bf16)
    (X4 : BufTy.Contents (Elt F) arg4.view.ty) (X5 : BufTy.Contents (Elt F) arg5.view.ty) (X6 : BufTy.Contents (Elt F) arg6.view.ty) (X7 : BufTy.Contents (Elt F) arg7.view.ty) : FVec F S384x1 .f32 × FVec F S384x256 .f32 × FVec F S384x1 .f32 × FVec F S384x256 .f32 :=
  st_k1_t2 (F := F) Variants.none c none i arg3 harg3 arg4 harg4 arg5 harg5 arg6 harg6 arg7 harg7 arg8 harg8 v1 (k1_t1_loop i).ub X4 X5 X6 X7
    (st_k1_t1 (F := F) Variants.none c none i arg3 harg3 arg4 harg4 arg5 harg5 arg6 harg6 arg7 harg7 arg8 harg8 v1 X4 X5 X6 X7 (k1_pay81, k1_pay82, k1_pay81, k1_pay82) (k1_t1_loop i).trips)
    (k1_t2_loop i).trips

set_option maxHeartbeats 4000000 in
/-- What the body with 1 block in its tail leaves: the two halves' quotients. -/
theorem run_one_found (c : Dev nD) (i : grid1.Coords) (arg3 : Memref sig .tc .vmem S768x128 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S8448x128 .bf16) (harg6 : arg6.IsWhole) (arg7 : Memref sig .tc .vmem S768x128 .bf16) (harg7 : arg7.IsWhole) (arg8 : Memref sig .tc .vmem S768x128 .bf16) (harg8 : arg8.IsWhole) (hc1 : ¬k1_cond1 i = 1#1)
    (x3 : Vec F S768x128 .bf16) (x4 x5 x6 : Vec F S8448x128 .bf16) (x7 : Vec F S768x128 .bf16) :
    (run_one c i arg3 harg3 arg4 harg4 arg5 harg5 arg6 harg6 arg7 harg7 arg8 harg8 hc1 x3 x4 x5 x6 x7).1
      = [⟨Rect.unit (s := S768x128) ![384, 0] S384x128.size inb_S768x128_S384x128_384_0,
          k1_pay7 (lastHi (k1_pay80 (rdAll arg3 (harg3.unread x3))) (rdAll arg7 (harg7.unread x7)) []
            (rd arg4 (harg4.unread x4) (k1_off10 i) (k1_off10_inb i hc1)) (rd arg5 (harg5.unread x5) (k1_off10 i) (k1_off10_inb i hc1)) (rd arg6 (harg6.unread x6) (k1_off10 i) (k1_off10_inb i hc1))
            (looped c i arg3 harg3 arg4 harg4 arg5 harg5 arg6 harg6 arg7 harg7 arg8 harg8 (rdAll arg3 (harg3.unread x3)) (harg4.unread x4) (harg5.unread x5) (harg6.unread x6) (harg7.unread x7)).2.2.1 (looped c i arg3 harg3 arg4 harg4 arg5 harg5 arg6 harg6 arg7 harg7 arg8 harg8 (rdAll arg3 (harg3.unread x3)) (harg4.unread x4) (harg5.unread x5) (harg6.unread x6) (harg7.unread x7)).2.2.2)⟩,
         ⟨Rect.unit (s := S768x128) ![0, 0] S384x128.size inb_S768x128_S384x128_0_0,
          k1_pay6 (lastLo (k1_pay79 (rdAll arg3 (harg3.unread x3))) (rdAll arg7 (harg7.unread x7)) []
            (rdLo arg4 (harg4.unread x4) (k1_off9 i) (k1_off9_inb i hc1)) (rdLo arg5 (harg5.unread x5) (k1_off9 i) (k1_off9_inb i hc1)) (rdLo arg6 (harg6.unread x6) (k1_off9 i) (k1_off9_inb i hc1)) (rdTop arg7 (harg7.unread x7))
            (looped c i arg3 harg3 arg4 harg4 arg5 harg5 arg6 harg6 arg7 harg7 arg8 harg8 (rdAll arg3 (harg3.unread x3)) (harg4.unread x4) (harg5.unread x5) (harg6.unread x6) (harg7.unread x7)).1 (looped c i arg3 harg3 arg4 harg4 arg5 harg5 arg6 harg6 arg7 harg7 arg8 harg8 (rdAll arg3 (harg3.unread x3)) (harg4.unread x4) (harg5.unread x5) (harg6.unread x6) (harg7.unread x7)).2.1)⟩] := by
  unfold run_one
  rfl

set_option maxHeartbeats 4000000 in
/-- What the body with 2 blocks in its tail leaves: the two halves' quotients. -/
theorem run_two_found (c : Dev nD) (i : grid1.Coords) (arg3 : Memref sig .tc .vmem S768x128 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S8448x128 .bf16) (harg6 : arg6.IsWhole) (arg7 : Memref sig .tc .vmem S768x128 .bf16) (harg7 : arg7.IsWhole) (arg8 : Memref sig .tc .vmem S768x128 .bf16) (harg8 : arg8.IsWhole) (hc1 : k1_cond1 i = 1#1) (hc2 : ¬k1_cond2 i = 1#1)
    (x3 : Vec F S768x128 .bf16) (x4 x5 x6 : Vec F S8448x128 .bf16) (x7 : Vec F S768x128 .bf16) :
    (run_two c i arg3 harg3 arg4 harg4 arg5 harg5 arg6 harg6 arg7 harg7 arg8 harg8 hc1 hc2 x3 x4 x5 x6 x7).1
      = [⟨Rect.unit (s := S768x128) ![384, 0] S384x128.size inb_S768x128_S384x128_384_0,
          k1_pay7 (lastHi (k1_pay80 (rdAll arg3 (harg3.unread x3))) (rdAll arg7 (harg7.unread x7)) [blockAt arg4 arg5 arg6 (harg4.unread x4) (harg5.unread x5) (harg6.unread x6) (k1_off7 i 0#32) (k1_off7_inb i hc1 hc2 0)]
            (rd arg4 (harg4.unread x4) (k1_off7 i 1#32) (k1_off7_inb i hc1 hc2 1)) (rd arg5 (harg5.unread x5) (k1_off7 i 1#32) (k1_off7_inb i hc1 hc2 1)) (rd arg6 (harg6.unread x6) (k1_off7 i 1#32) (k1_off7_inb i hc1 hc2 1))
            (looped c i arg3 harg3 arg4 harg4 arg5 harg5 arg6 harg6 arg7 harg7 arg8 harg8 (rdAll arg3 (harg3.unread x3)) (harg4.unread x4) (harg5.unread x5) (harg6.unread x6) (harg7.unread x7)).2.2.1 (looped c i arg3 harg3 arg4 harg4 arg5 harg5 arg6 harg6 arg7 harg7 arg8 harg8 (rdAll arg3 (harg3.unread x3)) (harg4.unread x4) (harg5.unread x5) (harg6.unread x6) (harg7.unread x7)).2.2.2)⟩,
         ⟨Rect.unit (s := S768x128) ![0, 0] S384x128.size inb_S768x128_S384x128_0_0,
          k1_pay6 (lastLo (k1_pay79 (rdAll arg3 (harg3.unread x3))) (rdAll arg7 (harg7.unread x7)) [blockAt arg4 arg5 arg6 (harg4.unread x4) (harg5.unread x5) (harg6.unread x6) (k1_off7 i 0#32) (k1_off7_inb i hc1 hc2 0)]
            (rdLo arg4 (harg4.unread x4) (k1_off8 i) (k1_off8_inb i hc1 hc2)) (rdLo arg5 (harg5.unread x5) (k1_off8 i) (k1_off8_inb i hc1 hc2)) (rdLo arg6 (harg6.unread x6) (k1_off8 i) (k1_off8_inb i hc1 hc2)) (rdTop arg7 (harg7.unread x7))
            (looped c i arg3 harg3 arg4 harg4 arg5 harg5 arg6 harg6 arg7 harg7 arg8 harg8 (rdAll arg3 (harg3.unread x3)) (harg4.unread x4) (harg5.unread x5) (harg6.unread x6) (harg7.unread x7)).1 (looped c i arg3 harg3 arg4 harg4 arg5 harg5 arg6 harg6 arg7 harg7 arg8 harg8 (rdAll arg3 (harg3.unread x3)) (harg4.unread x4) (harg5.unread x5) (harg6.unread x6) (harg7.unread x7)).2.1)⟩] := by
  unfold run_two
  rfl

set_option maxHeartbeats 4000000 in
/-- What the body with 3 blocks in its tail leaves: the two halves' quotients. -/
theorem run_three_found (c : Dev nD) (i : grid1.Coords) (arg3 : Memref sig .tc .vmem S768x128 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S8448x128 .bf16) (harg6 : arg6.IsWhole) (arg7 : Memref sig .tc .vmem S768x128 .bf16) (harg7 : arg7.IsWhole) (arg8 : Memref sig .tc .vmem S768x128 .bf16) (harg8 : arg8.IsWhole) (hc1 : k1_cond1 i = 1#1) (hc2 : k1_cond2 i = 1#1) (hc3 : ¬k1_cond3 i = 1#1)
    (x3 : Vec F S768x128 .bf16) (x4 x5 x6 : Vec F S8448x128 .bf16) (x7 : Vec F S768x128 .bf16) :
    (run_three c i arg3 harg3 arg4 harg4 arg5 harg5 arg6 harg6 arg7 harg7 arg8 harg8 hc1 hc2 hc3 x3 x4 x5 x6 x7).1
      = [⟨Rect.unit (s := S768x128) ![384, 0] S384x128.size inb_S768x128_S384x128_384_0,
          k1_pay7 (lastHi (k1_pay80 (rdAll arg3 (harg3.unread x3))) (rdAll arg7 (harg7.unread x7)) [blockAt arg4 arg5 arg6 (harg4.unread x4) (harg5.unread x5) (harg6.unread x6) (k1_off5 i 0#32) (k1_off5_inb i hc1 hc2 hc3 0), blockAt arg4 arg5 arg6 (harg4.unread x4) (harg5.unread x5) (harg6.unread x6) (k1_off5 i 1#32) (k1_off5_inb i hc1 hc2 hc3 1)]
            (rd arg4 (harg4.unread x4) (k1_off5 i 2#32) (k1_off5_inb i hc1 hc2 hc3 2)) (rd arg5 (harg5.unread x5) (k1_off5 i 2#32) (k1_off5_inb i hc1 hc2 hc3 2)) (rd arg6 (harg6.unread x6) (k1_off5 i 2#32) (k1_off5_inb i hc1 hc2 hc3 2))
            (looped c i arg3 harg3 arg4 harg4 arg5 harg5 arg6 harg6 arg7 harg7 arg8 harg8 (rdAll arg3 (harg3.unread x3)) (harg4.unread x4) (harg5.unread x5) (harg6.unread x6) (harg7.unread x7)).2.2.1 (looped c i arg3 harg3 arg4 harg4 arg5 harg5 arg6 harg6 arg7 harg7 arg8 harg8 (rdAll arg3 (harg3.unread x3)) (harg4.unread x4) (harg5.unread x5) (harg6.unread x6) (harg7.unread x7)).2.2.2)⟩,
         ⟨Rect.unit (s := S768x128) ![0, 0] S384x128.size inb_S768x128_S384x128_0_0,
          k1_pay6 (lastLo (k1_pay79 (rdAll arg3 (harg3.unread x3))) (rdAll arg7 (harg7.unread x7)) [blockAt arg4 arg5 arg6 (harg4.unread x4) (harg5.unread x5) (harg6.unread x6) (k1_off5 i 0#32) (k1_off5_inb i hc1 hc2 hc3 0), blockAt arg4 arg5 arg6 (harg4.unread x4) (harg5.unread x5) (harg6.unread x6) (k1_off5 i 1#32) (k1_off5_inb i hc1 hc2 hc3 1)]
            (rdLo arg4 (harg4.unread x4) (k1_off6 i) (k1_off6_inb i hc1 hc2 hc3)) (rdLo arg5 (harg5.unread x5) (k1_off6 i) (k1_off6_inb i hc1 hc2 hc3)) (rdLo arg6 (harg6.unread x6) (k1_off6 i) (k1_off6_inb i hc1 hc2 hc3)) (rdTop arg7 (harg7.unread x7))
            (looped c i arg3 harg3 arg4 harg4 arg5 harg5 arg6 harg6 arg7 harg7 arg8 harg8 (rdAll arg3 (harg3.unread x3)) (harg4.unread x4) (harg5.unread x5) (harg6.unread x6) (harg7.unread x7)).1 (looped c i arg3 harg3 arg4 harg4 arg5 harg5 arg6 harg6 arg7 harg7 arg8 harg8 (rdAll arg3 (harg3.unread x3)) (harg4.unread x4) (harg5.unread x5) (harg6.unread x6) (harg7.unread x7)).2.1)⟩] := by
  unfold run_three
  rfl

set_option maxHeartbeats 4000000 in
/-- What the body with 4 blocks in its tail leaves: the two halves' quotients. -/
theorem run_four_found (c : Dev nD) (i : grid1.Coords) (arg3 : Memref sig .tc .vmem S768x128 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S8448x128 .bf16) (harg6 : arg6.IsWhole) (arg7 : Memref sig .tc .vmem S768x128 .bf16) (harg7 : arg7.IsWhole) (arg8 : Memref sig .tc .vmem S768x128 .bf16) (harg8 : arg8.IsWhole) (hc1 : k1_cond1 i = 1#1) (hc2 : k1_cond2 i = 1#1) (hc3 : k1_cond3 i = 1#1)
    (x3 : Vec F S768x128 .bf16) (x4 x5 x6 : Vec F S8448x128 .bf16) (x7 : Vec F S768x128 .bf16) :
    (run_four c i arg3 harg3 arg4 harg4 arg5 harg5 arg6 harg6 arg7 harg7 arg8 harg8 hc1 hc2 hc3 x3 x4 x5 x6 x7).1
      = [⟨Rect.unit (s := S768x128) ![384, 0] S384x128.size inb_S768x128_S384x128_384_0,
          k1_pay7 (lastHi (k1_pay80 (rdAll arg3 (harg3.unread x3))) (rdAll arg7 (harg7.unread x7)) [blockAt arg4 arg5 arg6 (harg4.unread x4) (harg5.unread x5) (harg6.unread x6) (k1_off3 i 0#32) (k1_off3_inb i hc1 hc2 hc3 0), blockAt arg4 arg5 arg6 (harg4.unread x4) (harg5.unread x5) (harg6.unread x6) (k1_off3 i 1#32) (k1_off3_inb i hc1 hc2 hc3 1), blockAt arg4 arg5 arg6 (harg4.unread x4) (harg5.unread x5) (harg6.unread x6) (k1_off3 i 2#32) (k1_off3_inb i hc1 hc2 hc3 2)]
            (rd arg4 (harg4.unread x4) (k1_off3 i 3#32) (k1_off3_inb i hc1 hc2 hc3 3)) (rd arg5 (harg5.unread x5) (k1_off3 i 3#32) (k1_off3_inb i hc1 hc2 hc3 3)) (rd arg6 (harg6.unread x6) (k1_off3 i 3#32) (k1_off3_inb i hc1 hc2 hc3 3))
            (looped c i arg3 harg3 arg4 harg4 arg5 harg5 arg6 harg6 arg7 harg7 arg8 harg8 (rdAll arg3 (harg3.unread x3)) (harg4.unread x4) (harg5.unread x5) (harg6.unread x6) (harg7.unread x7)).2.2.1 (looped c i arg3 harg3 arg4 harg4 arg5 harg5 arg6 harg6 arg7 harg7 arg8 harg8 (rdAll arg3 (harg3.unread x3)) (harg4.unread x4) (harg5.unread x5) (harg6.unread x6) (harg7.unread x7)).2.2.2)⟩,
         ⟨Rect.unit (s := S768x128) ![0, 0] S384x128.size inb_S768x128_S384x128_0_0,
          k1_pay6 (lastLo (k1_pay79 (rdAll arg3 (harg3.unread x3))) (rdAll arg7 (harg7.unread x7)) [blockAt arg4 arg5 arg6 (harg4.unread x4) (harg5.unread x5) (harg6.unread x6) (k1_off3 i 0#32) (k1_off3_inb i hc1 hc2 hc3 0), blockAt arg4 arg5 arg6 (harg4.unread x4) (harg5.unread x5) (harg6.unread x6) (k1_off3 i 1#32) (k1_off3_inb i hc1 hc2 hc3 1), blockAt arg4 arg5 arg6 (harg4.unread x4) (harg5.unread x5) (harg6.unread x6) (k1_off3 i 2#32) (k1_off3_inb i hc1 hc2 hc3 2)]
            (rdLo arg4 (harg4.unread x4) (k1_off4 i) (k1_off4_inb i hc1 hc2 hc3)) (rdLo arg5 (harg5.unread x5) (k1_off4 i) (k1_off4_inb i hc1 hc2 hc3)) (rdLo arg6 (harg6.unread x6) (k1_off4 i) (k1_off4_inb i hc1 hc2 hc3)) (rdTop arg7 (harg7.unread x7))
            (looped c i arg3 harg3 arg4 harg4 arg5 harg5 arg6 harg6 arg7 harg7 arg8 harg8 (rdAll arg3 (harg3.unread x3)) (harg4.unread x4) (harg5.unread x5) (harg6.unread x6) (harg7.unread x7)).1 (looped c i arg3 harg3 arg4 harg4 arg5 harg5 arg6 harg6 arg7 harg7 arg8 harg8 (rdAll arg3 (harg3.unread x3)) (harg4.unread x4) (harg5.unread x5) (harg6.unread x6) (harg7.unread x7)).2.1)⟩] := by
  unfold run_four
  rfl

end Cert.KernelIdeal.Attn

end
-- ==== Proof.Ideal.Rows.lean ====
module

public import proofs.«01_k».proof.Proof.Ideal.Found
public import Idealize.ShloMosaic.Lib.Pointwise
public import Idealize.ShloMosaic.Lib.WordCmp

@[expose] public section

set_option maxRecDepth 16384

noncomputable section

/-! The four operations at an index, over the extended reals. -/

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI Idealize.SL.Sem

set_option maxHeartbeats 1000000

/-- A query row, its lanes past the head's width the ones that pick up a key's bias pieces. -/
def wide (v1 : Vec Ideal S768x128 .bf16) (o : ℕ) (ho : o + 384 ≤ 768) (r : Fin 384) (d : Fin 256) : EReal :=
  if h : d.val < 128 then v1 (ix2 ⟨o + r.val, by omega⟩ ⟨d.val, h⟩) else if d.val - 128 < 3 then 1 else 0

theorem lane_lt (n : ℕ) (hn : n < 128) : IntOp.cmpi CmpIPredicate.slt (BitVec.ofNat 32 n) 3#32 = if n < 3 then 1#1 else 0#1 := by
  interval_cases n <;> rfl

theorem q_lo (v1 : Vec Ideal S768x128 .bf16) (r : Fin 384) (d : Fin 256) :
    k1_pay79 (F := Ideal) v1 (ix2 r d) = wide v1 0 (by omega) r d := by
  pointwise [k1_pay79, k1_pay78]
  unfold wide
  split
  · simp
  · rw [lane_lt _ (by omega)]; split <;> simp [Scalar.select]

theorem q_hi (v1 : Vec Ideal S768x128 .bf16) (r : Fin 384) (d : Fin 256) :
    k1_pay80 (F := Ideal) v1 (ix2 r d) = wide v1 384 (by omega) r d := by
  pointwise [k1_pay80, k1_pay78]
  unfold wide
  split
  · simp
  · rw [lane_lt _ (by omega)]; split <;> simp [Scalar.select]

/-- A score: the product over the head's width, plus the three bias pieces. -/
def dots {n : ℕ} (v1 : Vec Ideal S768x128 .bf16) (p : Fin 768) (k ke : (⟨2, ![n, 128]⟩ : Shape).Idx → EReal) (j : Fin n) : EReal :=
  (∑ x : Fin 128, v1 (ix2 p x) * k (ix2 j x)) + ∑ x : Fin 128, (if x.val < 3 then (1 : EReal) else 0) * ke (ix2 j x)

theorem score_apply (q : FVec Ideal S384x256 .bf16) (v1 : Vec Ideal S768x128 .bf16) (o : ℕ) (ho : o + 384 ≤ 768)
    (hq : ∀ r d, q (ix2 r d) = wide v1 o ho r d) (k ke : Vec Ideal S768x128 .bf16) (r : Fin 384) (j : Fin 768) :
    score (F := Ideal) q k ke (ix2 r j) = dots v1 ⟨o + r.val, by omega⟩ k ke j := by
  have h1 : score (F := Ideal) q k ke (ix2 r j) = (∑ x : Fin 128, q (ix2 r ⟨x.val, by omega⟩) * k (ix2 j x)) + ∑ x : Fin 128, q (ix2 r ⟨128 + x.val, by omega⟩) * ke (ix2 j x) := by
    pointwise [score]
  rw [h1, dots]
  refine congr_arg₂ (fun a b : EReal => a + b) (Finset.sum_congr rfl fun x _ => ?_) (Finset.sum_congr rfl fun x _ => ?_)
  · rw [hq, wide, dif_pos x.isLt]
  · rw [hq, wide, dif_neg (by simp)]
    simp only [Nat.add_sub_cancel_left]

theorem sle_nat (a b : ℕ) (ha : a < 2 ^ 31) (hb : b < 2 ^ 31) :
    IntOp.cmpi CmpIPredicate.sle (BitVec.ofNat 32 a) (BitVec.ofNat 32 b) = if a ≤ b then 1#1 else 0#1 := by
  rw [WordCmp.cmpi_sle_ofNat ha hb]
  split <;> simp [*]

theorem scoreLo_apply (q : FVec Ideal S384x256 .bf16) (v1 : Vec Ideal S768x128 .bf16) (o : ℕ) (ho : o + 384 ≤ 768)
    (hq : ∀ r d, q (ix2 r d) = wide v1 o ho r d) (k ke : Vec Ideal S384x128 .bf16) (r : Fin 384) (j : Fin 384) :
    k1_pay73 (F := Ideal) q k ke (ix2 r j) = if j.val ≤ r.val then dots v1 ⟨o + r.val, by omega⟩ k ke j else ⊥ := by
  have h1 : k1_pay73 (F := Ideal) q k ke (ix2 r j) = Scalar.select
      (IntOp.cmpi CmpIPredicate.sle (BitVec.ofNat 32 j.val) (IntOp.addi (0#32) (BitVec.ofNat 32 r.val)))
      ((∑ x : Fin 128, q (ix2 r ⟨x.val, by omega⟩) * k (ix2 j x)) + ∑ x : Fin 128, q (ix2 r ⟨128 + x.val, by omega⟩) * ke (ix2 j x)) (Named.named (F := Ideal) κ "mask" (φ := .f32) 4048155338#32) := by
    pointwise [k1_pay73]
  have h2 : (∑ x : Fin 128, q (ix2 r ⟨x.val, by omega⟩) * k (ix2 j x)) + ∑ x : Fin 128, q (ix2 r ⟨128 + x.val, by omega⟩) * ke (ix2 j x) = dots v1 ⟨o + r.val, by omega⟩ k ke j := by
    rw [dots]
    refine congr_arg₂ (fun a b : EReal => a + b) (Finset.sum_congr rfl fun x _ => ?_) (Finset.sum_congr rfl fun x _ => ?_)
    · rw [hq, wide, dif_pos x.isLt]
    · rw [hq, wide, dif_neg (by simp)]
      simp only [Nat.add_sub_cancel_left]
  rw [h1, h2, show IntOp.addi (0#32) (BitVec.ofNat 32 r.val) = BitVec.ofNat 32 r.val from by simp [IntOp.addi],
    sle_nat _ _ (by omega) (by omega)]
  split <;> simp only [Scalar.select, if_true, if_false] <;> rfl

theorem scoreHi_apply (q : FVec Ideal S384x256 .bf16) (v1 : Vec Ideal S768x128 .bf16) (o : ℕ) (ho : o + 384 ≤ 768)
    (hq : ∀ r d, q (ix2 r d) = wide v1 o ho r d) (k ke : Vec Ideal S768x128 .bf16) (r : Fin 384) (j : Fin 768) :
    k1_pay74 (F := Ideal) q k ke (ix2 r j) = if j.val ≤ 384 + r.val then dots v1 ⟨o + r.val, by omega⟩ k ke j else ⊥ := by
  have h1 : k1_pay74 (F := Ideal) q k ke (ix2 r j) = Scalar.select
      (IntOp.cmpi CmpIPredicate.sle (BitVec.ofNat 32 j.val) (IntOp.addi (384#32) (BitVec.ofNat 32 r.val)))
      ((∑ x : Fin 128, q (ix2 r ⟨x.val, by omega⟩) * k (ix2 j x)) + ∑ x : Fin 128, q (ix2 r ⟨128 + x.val, by omega⟩) * ke (ix2 j x)) (Named.named (F := Ideal) κ "mask" (φ := .f32) 4048155338#32) := by
    pointwise [k1_pay74]
  have h2 : (∑ x : Fin 128, q (ix2 r ⟨x.val, by omega⟩) * k (ix2 j x)) + ∑ x : Fin 128, q (ix2 r ⟨128 + x.val, by omega⟩) * ke (ix2 j x) = dots v1 ⟨o + r.val, by omega⟩ k ke j := by
    rw [dots]
    refine congr_arg₂ (fun a b : EReal => a + b) (Finset.sum_congr rfl fun x _ => ?_) (Finset.sum_congr rfl fun x _ => ?_)
    · rw [hq, wide, dif_pos x.isLt]
    · rw [hq, wide, dif_neg (by simp)]
      simp only [Nat.add_sub_cancel_left]
  rw [h1, h2, show IntOp.addi (384#32) (BitVec.ofNat 32 r.val) = BitVec.ofNat 32 (384 + r.val) from by simp [IntOp.addi, BitVec.ofNat_add],
    sle_nat _ _ (by omega) (by omega)]
  split <;> simp only [Scalar.select, if_true, if_false] <;> rfl

theorem raise_apply (m : FVec Ideal S384x1 .f32) (s : FVec Ideal S384x768 .f32) (r : Fin 384) :
    raise (F := Ideal) m s (ix2 r 0) = max (m (ix2 r 0)) (Finset.univ.fold max ⊥ fun j : Fin 768 => s (ix2 r j)) := by
  pointwise [raise]
  rw [show Ideal.ofBits FTy.f32 4286578688#32 = ⊥ by simp [Ideal.ofBits, Ideal.ieee]]

theorem raiseLo_apply (m : FVec Ideal S384x1 .f32) (s : FVec Ideal S384x384 .f32) (r : Fin 384) :
    raiseLo (F := Ideal) m s (ix2 r 0) = max (m (ix2 r 0)) (Finset.univ.fold max ⊥ fun j : Fin 384 => s (ix2 r j)) := by
  pointwise [raiseLo]
  rw [show Ideal.ofBits FTy.f32 4286578688#32 = ⊥ by simp [Ideal.ofBits, Ideal.ieee]]

theorem shrink_apply (m m' : FVec Ideal S384x1 .f32) (a : FVec Ideal S384x256 .f32) (r : Fin 384) (d : Fin 256) :
    shrink (F := Ideal) m m' a (ix2 r d) = Ideal.exp2 (m (ix2 r 0) - m' (ix2 r 0)) * a (ix2 r d) := by
  pointwise [shrink]
  rfl

/-- A value block's column: a head's values, then the columns of the window that sums the weights. -/
def col {n : ℕ} (v ve : (⟨2, ![n, 128]⟩ : Shape).Idx → EReal) (j : Fin n) (d : Fin 256) : EReal :=
  if h : d.val < 128 then v (ix2 j ⟨d.val, h⟩) else ve (ix2 j ⟨d.val - 128, by omega⟩)

theorem gather_apply (m : FVec Ideal S384x1 .f32) (s : FVec Ideal S384x768 .f32) (v ve : Vec Ideal S768x128 .bf16) (a : FVec Ideal S384x256 .f32) (r : Fin 384) (d : Fin 256) :
    gather (F := Ideal) m s v ve a (ix2 r d) = a (ix2 r d) + ∑ j : Fin 768, Ideal.exp2 (s (ix2 r j) - m (ix2 r 0)) * col v ve j d := by
  pointwise [gather]
  rfl

theorem gatherLo_apply (m : FVec Ideal S384x1 .f32) (s : FVec Ideal S384x384 .f32) (v ve : Vec Ideal S384x128 .bf16) (a : FVec Ideal S384x256 .f32) (r : Fin 384) (d : Fin 256) :
    gatherLo (F := Ideal) m s v ve a (ix2 r d) = a (ix2 r d) + ∑ j : Fin 384, Ideal.exp2 (s (ix2 r j) - m (ix2 r 0)) * col v ve j d := by
  pointwise [gatherLo]
  rfl

theorem out_lo (a : FVec Ideal S384x256 .f32) (r : Fin 384) (d : Fin 128) :
    k1_pay6 (F := Ideal) a (ix2 r d) = Ideal.div (a (ix2 r ⟨d.val, by omega⟩)) (a (ix2 r 128)) := by
  pointwise [k1_pay6]
  trace_state

theorem out_hi (a : FVec Ideal S384x256 .f32) (r : Fin 384) (d : Fin 128) :
    k1_pay7 (F := Ideal) a (ix2 r d) = Ideal.div (a (ix2 r ⟨d.val, by omega⟩)) (a (ix2 r 128)) := by
  pointwise [k1_pay7]
  trace_state

theorem m_start (r : Fin 384) : k1_pay81 (F := Ideal) (ix2 r 0) = ⊥ := by
  pointwise [k1_pay81]
  rfl

theorem a_start (r : Fin 384) (d : Fin 256) : k1_pay82 (F := Ideal) (ix2 r d) = 0 := by
  pointwise [k1_pay82]

end Cert.KernelIdeal.Attn

end
-- ==== Proof.Ideal.Online.lean ====
module

public import proofs.«01_k».proof.Proof.Ideal.Data
public import Idealize.ShloMosaic.Lib.Pointwise

@[expose] public section

set_option maxRecDepth 16384

noncomputable section

/-! A weighted sum kept at a running maximum, over the extended reals: scores are real or bottom. -/

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI Idealize.SL.Sem

/-- The weight of a score against a maximum. -/
def pw (s m : EReal) : ℝ := (Ideal.exp2 (s - m)).toReal

theorem pw_bot (m : EReal) : pw ⊥ m = 0 := by
  simp [pw]

theorem pw_coe (s m : ℝ) : pw (s : EReal) (m : EReal) = (2 : ℝ) ^ (s - m) := by
  rw [pw, ← EReal.coe_sub, Ideal.exp2_coe, EReal.toReal_coe]; rfl

theorem exp2_sub {s m : EReal} (hs : s ≠ ⊤) (hm : m ≠ ⊤) (h : m = ⊥ → s = ⊥) : Ideal.exp2 (s - m) = (pw s m : EReal) := by
  induction s using EReal.rec with
  | bot => rw [pw_bot]; simp
  | top => exact absurd rfl hs
  | coe s =>
    induction m using EReal.rec with
    | bot => exact absurd (h rfl) (EReal.coe_ne_bot s)
    | top => exact absurd rfl hm
    | coe m => rw [pw_coe, ← EReal.coe_sub, Ideal.exp2_coe]; rfl

theorem pw_shift {s m m' : EReal} (hs : s ≠ ⊤) (hm : m ≠ ⊤) (hm' : m' ≠ ⊤) (h : m = ⊥ → s = ⊥) (h' : m' = ⊥ → m = ⊥) :
    pw m m' * pw s m = pw s m' := by
  induction s using EReal.rec with
  | bot => simp [pw_bot]
  | top => exact absurd rfl hs
  | coe s =>
    induction m using EReal.rec with
    | bot => exact absurd (h rfl) (EReal.coe_ne_bot s)
    | top => exact absurd rfl hm
    | coe m =>
      induction m' using EReal.rec with
      | bot => exact absurd (h' rfl) (EReal.coe_ne_bot m)
      | top => exact absurd rfl hm'
      | coe m' =>
        rw [pw_coe, pw_coe, pw_coe, ← Real.rpow_add (by norm_num)]
        congr 1; ring

/-- A maximum that has seen the first `n` scores. -/
def Held (σ : ℕ → EReal) (n : ℕ) (m : EReal) : Prop := m ≠ ⊤ ∧ (m = ⊥ → ∀ j < n, σ j = ⊥)

/-- The first `n` values, weighted by their scores against a maximum. -/
def weigh (σ : ℕ → EReal) (ω : ℕ → ℝ) (n : ℕ) (m : EReal) : ℝ := ∑ j ∈ Finset.range n, pw (σ j) m * ω j

theorem fold_max_ne_top {b : ℕ} (s : Fin b → EReal) (hs : ∀ j, s j ≠ ⊤) : Finset.univ.fold max ⊥ s ≠ ⊤ := by
  have : Finset.univ.fold max ⊥ s < ⊤ := (Finset.fold_max_lt _).mpr ⟨bot_lt_top, fun j _ => lt_top_iff_ne_top.mpr (hs j)⟩
  exact this.ne

theorem fold_max_bot {b : ℕ} (s : Fin b → EReal) (h : Finset.univ.fold max ⊥ s = ⊥) (j : Fin b) : s j = ⊥ := by
  have : Finset.univ.fold max ⊥ s ≤ ⊥ := h.le
  exact le_bot_iff.mp ((Finset.fold_max_le _).mp this |>.2 j (Finset.mem_univ j))

theorem held_raise {σ : ℕ → EReal} (hσ : ∀ j, σ j ≠ ⊤) {n b : ℕ} {m : EReal} (h : Held σ n m) (s : Fin b → EReal)
    (hs : ∀ j : Fin b, s j = σ (n + j.val)) :
    Held σ (n + b) (max m (Finset.univ.fold max ⊥ s)) ∧ (max m (Finset.univ.fold max ⊥ s) = ⊥ → m = ⊥) := by
  refine ⟨⟨?_, ?_⟩, fun e => (max_eq_bot.mp e).1⟩
  · have := fold_max_ne_top s (fun j => by rw [hs]; exact hσ _)
    rcases max_choice m (Finset.univ.fold max ⊥ s) with e | e <;> rw [e]
    · exact h.1
    · exact this
  · intro e j hj
    obtain ⟨e1, e2⟩ := max_eq_bot.mp e
    rcases Nat.lt_or_ge j n with hl | hl
    · exact h.2 e1 j hl
    · have := fold_max_bot s e2 ⟨j - n, by omega⟩
      rw [hs] at this
      simpa [Nat.add_sub_cancel' hl] using this

theorem shrink_weigh {σ : ℕ → EReal} (hσ : ∀ j, σ j ≠ ⊤) (ω : ℕ → ℝ) {n : ℕ} {m m' : EReal} (h : Held σ n m) (hm' : m' ≠ ⊤)
    (hb : m' = ⊥ → m = ⊥) : Ideal.exp2 (m - m') * (weigh σ ω n m : EReal) = (weigh σ ω n m' : EReal) := by
  rw [exp2_sub h.1 hm' hb, ← EReal.coe_mul]
  congr 1
  rw [weigh, weigh, Finset.mul_sum]
  refine Finset.sum_congr rfl fun j hj => ?_
  rw [← mul_assoc, pw_shift (hσ j) h.1 hm' (fun e => h.2 e j (Finset.mem_range.mp hj)) hb]

theorem coe_sum {ι : Type} (s : Finset ι) (f : ι → ℝ) : ((∑ i ∈ s, f i : ℝ) : EReal) = ∑ i ∈ s, (f i : EReal) :=
  map_sum (⟨⟨Real.toEReal, rfl⟩, EReal.coe_add⟩ : ℝ →+ EReal) f s

theorem gather_weigh {σ : ℕ → EReal} (hσ : ∀ j, σ j ≠ ⊤) (ω : ℕ → ℝ) {n b : ℕ} {m' : EReal} (h : Held σ (n + b) m')
    (s w : Fin b → EReal) (hs : ∀ j : Fin b, s j = σ (n + j.val)) (hw : ∀ j : Fin b, w j = (ω (n + j.val) : EReal)) :
    (weigh σ ω n m' : EReal) + ∑ j : Fin b, Ideal.exp2 (s j - m') * w j = (weigh σ ω (n + b) m' : EReal) := by
  have : ∀ j : Fin b, Ideal.exp2 (s j - m') * w j = ((pw (σ (n + j.val)) m' * ω (n + j.val) : ℝ) : EReal) := fun j => by
    rw [hs, hw, exp2_sub (hσ _) h.1 (fun e => h.2 e _ (by omega)), EReal.coe_mul]
  rw [Finset.sum_congr rfl fun j _ => this j, ← coe_sum, ← EReal.coe_add, weigh, weigh, Finset.sum_range_add,
    Finset.sum_range (fun x => pw (σ (n + x)) m' * ω (n + x))]

/-- The average of the first `n` values by their scores' powers. -/
def soft (σ : ℕ → EReal) (ω : ℕ → ℝ) (n : ℕ) : ℝ :=
  (∑ j ∈ Finset.range n, pw (σ j) 0 * ω j) / ∑ j ∈ Finset.range n, pw (σ j) 0

theorem pw_nonneg (s m : EReal) (hs : s ≠ ⊤) (hm : m ≠ ⊤) (h : m = ⊥ → s = ⊥) : 0 ≤ pw s m := by
  induction s using EReal.rec with
  | bot => rw [pw_bot]
  | top => exact absurd rfl hs
  | coe s =>
    induction m using EReal.rec with
    | bot => exact absurd (h rfl) (EReal.coe_ne_bot s)
    | top => exact absurd rfl hm
    | coe m => rw [pw_coe]; positivity

theorem div_weigh {σ : ℕ → EReal} (hσ : ∀ j, σ j ≠ ⊤) (ω : ℕ → ℝ) {n : ℕ} {m : EReal} (h : Held σ n m) (j : ℕ) (hj : j < n) (hj' : σ j ≠ ⊥) :
    Ideal.div (weigh σ ω n m : EReal) (weigh σ (fun _ => 1) n m : EReal) = (soft σ ω n : EReal) := by
  have hm : m ≠ ⊥ := fun e => hj' (h.2 e j hj)
  obtain ⟨μ, rfl⟩ : ∃ μ : ℝ, m = (μ : EReal) := ⟨m.toReal, (EReal.coe_toReal h.1 hm).symm⟩
  have e0 : ∀ i, pw (σ i) (μ : EReal) = pw (σ i) 0 * (2 : ℝ) ^ (-μ) := fun i => by
    rcases hi : σ i with _ | _ | x
    · exact (pw_bot _).trans (by rw [show pw ((none : WithBot (WithTop ℝ)) : EReal) 0 = 0 from pw_bot _, zero_mul])
    · exact absurd hi (hσ i)
    · show pw (x : EReal) (μ : EReal) = pw (x : EReal) ((0 : ℝ) : EReal) * _
      rw [pw_coe, pw_coe, ← Real.rpow_add (by norm_num)]; congr 1; ring
  have hp : 0 < ∑ i ∈ Finset.range n, pw (σ i) 0 := by
    refine Finset.sum_pos' (fun i _ => pw_nonneg _ _ (hσ i) (by simp) (by simp)) ⟨j, Finset.mem_range.mpr hj, ?_⟩
    obtain ⟨x, hx⟩ : ∃ x : ℝ, σ j = (x : EReal) := ⟨(σ j).toReal, (EReal.coe_toReal (hσ j) hj').symm⟩
    rw [hx]
    show 0 < pw (x : EReal) ((0 : ℝ) : EReal)
    rw [pw_coe]; positivity
  have e1 : ∀ f : ℕ → ℝ, weigh σ f n (μ : EReal) = (∑ i ∈ Finset.range n, pw (σ i) 0 * f i) * (2 : ℝ) ^ (-μ) := fun f => by
    rw [weigh, Finset.sum_mul]
    refine Finset.sum_congr rfl fun i _ => ?_
    rw [e0]; ring
  have hk : (0 : ℝ) < (2 : ℝ) ^ (-μ) := by positivity
  rw [e1, e1]
  simp only [mul_one]
  rw [Ideal.div_coe (mul_pos hp hk).ne', ← EReal.coe_mul]
  congr 1
  rw [soft]
  field_simp

end Cert.KernelIdeal.Attn

end
-- ==== Proof.Ideal.Fold.lean ====
module

public import proofs.«01_k».proof.Proof.Ideal.Rows
public import proofs.«01_k».proof.Proof.Ideal.Online

@[expose] public section

set_option maxRecDepth 16384

noncomputable section

/-! A half's row through a list of key blocks: its maximum has seen their scores and its sums weigh their values. -/

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI Idealize.SL.Sem

set_option maxHeartbeats 1000000

variable {σ : ℕ → EReal} {ω : Fin 256 → ℕ → ℝ} {q : FVec Ideal S384x256 .bf16} {ve : Vec Ideal S768x128 .bf16} {r : Fin 384}

/-- A row's maximum and sums after the first `n` keys. -/
def Seen (σ : ℕ → EReal) (ω : Fin 256 → ℕ → ℝ) (n : ℕ) (m : EReal) (a : Fin 256 → EReal) : Prop :=
  Held σ n m ∧ ∀ d, a d = (weigh σ (ω d) n m : EReal)

/-- A block holds the keys from `n` on. -/
def Fits (σ : ℕ → EReal) (ω : Fin 256 → ℕ → ℝ) (q : FVec Ideal S384x256 .bf16) (ve : Vec Ideal S768x128 .bf16) (r : Fin 384) (n : ℕ) (b : Block Ideal) : Prop :=
  (∀ j : Fin 768, score (F := Ideal) q b.1 b.2.1 (ix2 r j) = σ (n + j.val)) ∧ ∀ (j : Fin 768) (d : Fin 256), col b.2.2 ve j d = (ω d (n + j.val) : EReal)

/-- The blocks hold the keys from `n` on, one after the other. -/
def FitsAll (σ : ℕ → EReal) (ω : Fin 256 → ℕ → ℝ) (q : FVec Ideal S384x256 .bf16) (ve : Vec Ideal S768x128 .bf16) (r : Fin 384) : ℕ → List (Block Ideal) → Prop
  | _, [] => True
  | n, b :: bs => Fits σ ω q ve r n b ∧ FitsAll σ ω q ve r (n + 768) bs

theorem tops_held (hσ : ∀ j, σ j ≠ ⊤) (bs : List (Block Ideal)) : ∀ (n : ℕ) (m : FVec Ideal S384x1 .f32), FitsAll σ ω q ve r n bs → Held σ n (m (ix2 r 0)) →
    Held σ (n + 768 * bs.length) (tops q bs m (ix2 r 0)) ∧ (tops q bs m (ix2 r 0) = ⊥ → m (ix2 r 0) = ⊥) := by
  induction bs with
  | nil => intro n m _ h; exact ⟨h, id⟩
  | cons b bs ih =>
    intro n m hf h
    have h1 := held_raise hσ h (fun j : Fin 768 => score (F := Ideal) q b.1 b.2.1 (ix2 r j)) hf.1.1
    rw [← raise_apply] at h1
    have h2 := ih (n + 768) (raise m (score q b.1 b.2.1)) hf.2 h1.1
    refine ⟨?_, fun e => h1.2 (h2.2 e)⟩
    rw [List.length_cons, show n + 768 * (bs.length + 1) = n + 768 + 768 * bs.length by ring]
    exact h2.1

theorem held_mono {n n' : ℕ} {m : EReal} (h : Held σ n' m) (hn : n ≤ n') : Held σ n m :=
  ⟨h.1, fun e j hj => h.2 e j (by omega)⟩

theorem sums_weigh (hσ : ∀ j, σ j ≠ ⊤) (bs : List (Block Ideal)) (m : FVec Ideal S384x1 .f32) : ∀ (n : ℕ) (a : FVec Ideal S384x256 .f32),
    FitsAll σ ω q ve r n bs → Held σ (n + 768 * bs.length) (m (ix2 r 0)) → (∀ d, a (ix2 r d) = (weigh σ (ω d) n (m (ix2 r 0)) : EReal)) →
    ∀ d, sums q ve bs m a (ix2 r d) = (weigh σ (ω d) (n + 768 * bs.length) (m (ix2 r 0)) : EReal) := by
  induction bs with
  | nil => intro n a _ _ h d; exact h d
  | cons b bs ih =>
    intro n a hf hm ha d
    rw [List.length_cons, show n + 768 * (bs.length + 1) = n + 768 + 768 * bs.length by ring] at hm ⊢
    refine ih (n + 768) (gather m (score q b.1 b.2.1) b.2.2 ve a) hf.2 hm (fun d => ?_) d
    rw [gather_apply, ha]
    exact gather_weigh hσ (ω d) (held_mono hm (by omega)) _ _ hf.1.1 (fun j => hf.1.2 j d)

theorem shrink_seen (hσ : ∀ j, σ j ≠ ⊤) {n : ℕ} (m m' : FVec Ideal S384x1 .f32) (a : FVec Ideal S384x256 .f32)
    (h : Seen σ ω n (m (ix2 r 0)) (fun d => a (ix2 r d))) (ht : m' (ix2 r 0) ≠ ⊤) (hb : m' (ix2 r 0) = ⊥ → m (ix2 r 0) = ⊥) (d : Fin 256) :
    shrink m m' a (ix2 r d) = (weigh σ (ω d) n (m' (ix2 r 0)) : EReal) := by
  have := h.2 d
  dsimp only at this
  rw [shrink_apply, this]
  exact shrink_weigh hσ (ω d) h.1 ht hb

theorem trip_seen (hσ : ∀ j, σ j ≠ ⊤) (bs : List (Block Ideal)) (n : ℕ) (m : FVec Ideal S384x1 .f32) (a : FVec Ideal S384x256 .f32)
    (hf : FitsAll σ ω q ve r n bs) (h : Seen σ ω n (m (ix2 r 0)) (fun d => a (ix2 r d))) :
    Seen σ ω (n + 768 * bs.length) (tops q bs m (ix2 r 0)) (fun d => trip q ve bs m a (ix2 r d)) := by
  have h1 := tops_held hσ bs n m hf h.1
  exact ⟨h1.1, sums_weigh hσ bs _ n _ hf h1.1 (shrink_seen hσ m _ a h h1.1.1 h1.2)⟩

theorem lastLo_seen (hσ : ∀ j, σ j ≠ ⊤) (bs : List (Block Ideal)) (n : ℕ) (m : FVec Ideal S384x1 .f32) (a : FVec Ideal S384x256 .f32)
    (k ke v vel : Vec Ideal S384x128 .bf16)
    (hf : FitsAll σ ω q ve r n bs) (h : Seen σ ω n (m (ix2 r 0)) (fun d => a (ix2 r d)))
    (hs : ∀ j : Fin 384, k1_pay73 (F := Ideal) q k ke (ix2 r j) = σ (n + 768 * bs.length + j.val))
    (hw : ∀ (j : Fin 384) (d : Fin 256), col v vel j d = (ω d (n + 768 * bs.length + j.val) : EReal)) :
    ∃ μ, Seen σ ω (n + 768 * bs.length + 384) μ (fun d => lastLo q ve bs k ke v vel m a (ix2 r d)) := by
  have h1 := tops_held hσ bs n m hf h.1
  have h2 := held_raise hσ h1.1 (fun j : Fin 384 => k1_pay73 (F := Ideal) q k ke (ix2 r j)) hs
  rw [← raiseLo_apply] at h2
  refine ⟨_, h2.1, fun d => ?_⟩
  dsimp only
  rw [lastLo, gatherLo_apply, sums_weigh hσ bs _ n _ hf (held_mono h2.1 (by omega)) (shrink_seen hσ m _ a h h2.1.1 (fun e => h1.2 (h2.2 e)))]
  exact gather_weigh hσ (ω d) h2.1 _ _ hs (fun j => hw j d)

theorem lastHi_seen (hσ : ∀ j, σ j ≠ ⊤) (bs : List (Block Ideal)) (n : ℕ) (m : FVec Ideal S384x1 .f32) (a : FVec Ideal S384x256 .f32)
    (k ke v : Vec Ideal S768x128 .bf16)
    (hf : FitsAll σ ω q ve r n bs) (h : Seen σ ω n (m (ix2 r 0)) (fun d => a (ix2 r d)))
    (hs : ∀ j : Fin 768, k1_pay74 (F := Ideal) q k ke (ix2 r j) = σ (n + 768 * bs.length + j.val))
    (hw : ∀ (j : Fin 768) (d : Fin 256), col v ve j d = (ω d (n + 768 * bs.length + j.val) : EReal)) :
    ∃ μ, Seen σ ω (n + 768 * bs.length + 768) μ (fun d => lastHi q ve bs k ke v m a (ix2 r d)) := by
  have h1 := tops_held hσ bs n m hf h.1
  have h2 := held_raise hσ h1.1 (fun j : Fin 768 => k1_pay74 (F := Ideal) q k ke (ix2 r j)) hs
  rw [← raise_apply] at h2
  refine ⟨_, h2.1, fun d => ?_⟩
  dsimp only
  rw [lastHi, gather_apply, sums_weigh hσ bs _ n _ hf (held_mono h2.1 (by omega)) (shrink_seen hσ m _ a h h2.1.1 (fun e => h1.2 (h2.2 e)))]
  exact gather_weigh hσ (ω d) h2.1 _ _ hs (fun j => hw j d)

/-- Keys past `n` that score bottom do not count. -/
theorem soft_extend (f : ℕ → ℝ) {n n' : ℕ} (hn : n ≤ n') (hb : ∀ j, n ≤ j → σ j = ⊥) : soft σ f n = soft σ f n' := by
  obtain ⟨e, rfl⟩ := Nat.exists_eq_add_of_le hn
  have z : ∀ g : ℕ → ℝ, ∑ j ∈ Finset.range (n + e), pw (σ j) 0 * g j = ∑ j ∈ Finset.range n, pw (σ j) 0 * g j := fun g => by
    rw [Finset.sum_range_add, Finset.sum_eq_zero (s := Finset.range e), add_zero]
    intro j _
    rw [hb _ (by omega), pw_bot, zero_mul]
  have z1 := z (fun _ => 1)
  simp only [mul_one] at z1
  rw [soft, soft, z, z1]

end Cert.KernelIdeal.Attn

end
-- ==== Proof.Ideal.Words.lean ====
module

public import proofs.«01_k».proof.Proof.Ideal.Found

@[expose] public section

set_option maxRecDepth 16384

noncomputable section

/-! The block numbers and offsets the attention body computes, as numbers. -/

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI Idealize.SL.Sem

set_option maxHeartbeats 4000000

theorem trips_eq (i : grid1.Coords) : (k1_t1_loop i).trips = (i 2).val / 4 := by
  have h : (i 2).val < 11 := (i 2).isLt
  unfold k1_t1_loop
  simp only [show ((i 2 : Fin _) : ℕ) = (i 2).val from rfl]
  generalize (i 2).val = n at h ⊢
  interval_cases n <;> decide +kernel

theorem trips2_eq (i : grid1.Coords) : (k1_t2_loop i).trips = 0 := by
  have h : (i 2).val < 11 := (i 2).isLt
  unfold k1_t2_loop
  generalize (i 2).val = n at h ⊢
  interval_cases n <;> decide +kernel

theorem off1_eq (i : grid1.Coords) (k : Fin (k1_t1_loop i).trips) (r : Fin 4) :
    k1_off1 i k (BitVec.ofNat 32 r.val) = ![768 * (4 * k.val + r.val), 0] := by
  have hk : k.val < 3 := by have := lt_of_lt_of_eq k.isLt (trips_eq i); have h : (i 2).val < 11 := (i 2).isLt; omega
  unfold k1_off1
  generalize k.val = n at hk ⊢
  interval_cases n <;> fin_cases r <;> decide +kernel

theorem cond_cases (i : grid1.Coords) :
    (k1_cond1 i = 1#1 ↔ (i 2).val % 4 ≠ 0) ∧ (k1_cond2 i = 1#1 ↔ (i 2).val % 4 ≠ 1) ∧ (k1_cond3 i = 1#1 ↔ (i 2).val % 4 ≠ 2) := by
  have h : (i 2).val < 11 := (i 2).isLt
  unfold k1_cond1 k1_cond2 k1_cond3
  generalize (i 2).val = n at h ⊢
  interval_cases n <;> decide +kernel

theorem off3_eq (i : grid1.Coords) (h : (i 2).val % 4 = 3) (r : Fin 4) :
    k1_off3 i (BitVec.ofNat 32 r.val) = ![768 * ((i 2).val / 4 * 4 + r.val), 0] := by
  have hi : (i 2).val < 11 := (i 2).isLt
  unfold k1_off3
  generalize (i 2).val = n at h hi ⊢
  interval_cases n <;> first | (exfalso; revert h; decide) | (fin_cases r <;> decide +kernel)

theorem off5_eq (i : grid1.Coords) (h : (i 2).val % 4 = 2) (r : Fin 3) :
    k1_off5 i (BitVec.ofNat 32 r.val) = ![768 * ((i 2).val / 4 * 4 + r.val), 0] := by
  have hi : (i 2).val < 11 := (i 2).isLt
  unfold k1_off5
  generalize (i 2).val = n at h hi ⊢
  interval_cases n <;> first | (exfalso; revert h; decide) | (fin_cases r <;> decide +kernel)

theorem off7_eq (i : grid1.Coords) (h : (i 2).val % 4 = 1) (r : Fin 2) :
    k1_off7 i (BitVec.ofNat 32 r.val) = ![768 * ((i 2).val / 4 * 4 + r.val), 0] := by
  have hi : (i 2).val < 11 := (i 2).isLt
  unfold k1_off7
  generalize (i 2).val = n at h hi ⊢
  interval_cases n <;> first | (exfalso; revert h; decide) | (fin_cases r <;> decide +kernel)

theorem off4_eq (i : grid1.Coords) (h : (i 2).val % 4 = 3) : k1_off4 i = ![768 * (i 2).val, 0] := by
  have hi : (i 2).val < 11 := (i 2).isLt
  unfold k1_off4
  generalize (i 2).val = n at h hi ⊢
  interval_cases n <;> first | (exfalso; revert h; decide) | decide +kernel

theorem off6_eq (i : grid1.Coords) (h : (i 2).val % 4 = 2) : k1_off6 i = ![768 * (i 2).val, 0] := by
  have hi : (i 2).val < 11 := (i 2).isLt
  unfold k1_off6
  generalize (i 2).val = n at h hi ⊢
  interval_cases n <;> first | (exfalso; revert h; decide) | decide +kernel

theorem off8_eq (i : grid1.Coords) (h : (i 2).val % 4 = 1) : k1_off8 i = ![768 * (i 2).val, 0] := by
  have hi : (i 2).val < 11 := (i 2).isLt
  unfold k1_off8
  generalize (i 2).val = n at h hi ⊢
  interval_cases n <;> first | (exfalso; revert h; decide) | decide +kernel

theorem off9_eq (i : grid1.Coords) (h : (i 2).val % 4 = 0) : k1_off9 i = ![768 * (i 2).val, 0] := by
  have hi : (i 2).val < 11 := (i 2).isLt
  unfold k1_off9
  generalize (i 2).val = n at h hi ⊢
  interval_cases n <;> first | (exfalso; revert h; decide) | decide +kernel

theorem off10_eq (i : grid1.Coords) (h : (i 2).val % 4 = 0) : k1_off10 i = ![768 * (i 2).val, 0] := by
  have hi : (i 2).val < 11 := (i 2).isLt
  unfold k1_off10
  generalize (i 2).val = n at h hi ⊢
  interval_cases n <;> first | (exfalso; revert h; decide) | decide +kernel

end Cert.KernelIdeal.Attn

end
-- ==== Proof.Ideal.Point.lean ====
module

public import proofs.«01_k».proof.Proof.Ideal.Fold
public import proofs.«01_k».proof.Proof.Ideal.Words
public import Idealize.ShloMosaic.Lib.WholeRead

@[expose] public section

set_option maxRecDepth 16384

noncomputable section

/-! What the attention body leaves at a point, row by row: the softmax average of the values over the keys a row may see. -/

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI Idealize.SL.Sem

set_option maxHeartbeats 2000000

/-- A query row's scores: bottom past the row's own position. -/
def rowScore (x3 : Vec Ideal S768x128 .bf16) (x4 x5 : Vec Ideal S8448x128 .bf16) (n : ℕ) (p : Fin 768) (j : ℕ) : EReal :=
  if h : j < 8448 then if j ≤ 768 * n + p.val then dots x3 p x4 x5 ⟨j, h⟩ else ⊥ else ⊥

/-- The values' columns, and the column of ones that sums the weights. -/
def rowVal (x6 : Vec Ideal S8448x128 .bf16) (d : Fin 256) (j : ℕ) : ℝ :=
  if hd : d.val < 128 then (if h : j < 8448 then (x6 (ix2 ⟨j, h⟩ ⟨d.val, hd⟩) : EReal).toReal else 0) else if d.val = 128 then 1 else 0

theorem ix2_ext {a b : ℕ} {p p' : Fin a} {q q' : Fin b} (h : p.val = p'.val) (h' : q.val = q'.val) : ix2 p q = ix2 p' q' := by
  rw [Fin.ext h, Fin.ext h']

theorem rd_apply (M : Memref sig .tc .vmem S8448x128 .bf16) (hM : M.IsWhole) (x : Vec Ideal S8448x128 .bf16) (off : Fin 2 → ℕ)
    (h : ∀ a, off a + S768x128.size a ≤ S8448x128.size a) (n : ℕ) (hn : off = ![n, 0]) (hb : n + 768 ≤ 8448) (j : Fin 768) (d : Fin 128) :
    rd (F := Ideal) M (hM.unread x) off h (ix2 j d) = x (ix2 ⟨n + j.val, by omega⟩ d) := by
  subst hn
  rw [rd, hM.readAt_unread]
  congr 1
  funext a; apply Fin.ext
  fin_cases a <;> simp [LoadRect.idx, Rect.unit, Rect.toLoadRect, ix2]

theorem rdLo_apply (M : Memref sig .tc .vmem S8448x128 .bf16) (hM : M.IsWhole) (x : Vec Ideal S8448x128 .bf16) (off : Fin 2 → ℕ)
    (h : ∀ a, off a + S384x128.size a ≤ S8448x128.size a) (n : ℕ) (hn : off = ![n, 0]) (hb : n + 384 ≤ 8448) (j : Fin 384) (d : Fin 128) :
    rdLo (F := Ideal) M (hM.unread x) off h (ix2 j d) = x (ix2 ⟨n + j.val, by omega⟩ d) := by
  subst hn
  rw [rdLo, hM.readAt_unread]
  congr 1
  funext a; apply Fin.ext
  fin_cases a <;> simp [LoadRect.idx, Rect.unit, Rect.toLoadRect, ix2]

theorem rdAll_eq (M : Memref sig .tc .vmem S768x128 .bf16) (hM : M.IsWhole) (x : Vec Ideal S768x128 .bf16) :
    rdAll (F := Ideal) M (hM.unread x) = x := by
  funext y
  rw [rdAll, hM.readAt_unread]
  congr 1
  funext a; apply Fin.ext
  fin_cases a <;> simp [LoadRect.idx, Rect.unit, Rect.toLoadRect]

theorem rdTop_apply (M : Memref sig .tc .vmem S768x128 .bf16) (hM : M.IsWhole) (x : Vec Ideal S768x128 .bf16) (j : Fin 384) (d : Fin 128) :
    rdTop (F := Ideal) M (hM.unread x) (ix2 j d) = x (ix2 ⟨j.val, by omega⟩ d) := by
  rw [rdTop, hM.readAt_unread]
  congr 1
  funext a; apply Fin.ext
  fin_cases a <;> simp [LoadRect.idx, Rect.unit, Rect.toLoadRect, ix2]

theorem emb_unit_val {s : Shape} (off size : Fin s.rank → ℕ) (inb) (j : (Rect.unit off size inb).shape.Idx) (a : Fin s.rank) :
    ((Rect.unit off size inb).emb j a : ℕ) = off a + j a := by
  rw [Rect.emb_apply]; show off a + 1 * (j a : ℕ) = _; omega

theorem canon_two (A B : Vec Ideal S384x128 .bf16) (p : Fin 768) (d : Fin 128) :
    View.canon (Val := Elt Ideal) (e := .bf16) (s := S768x128) [⟨Rect.unit (s := S768x128) ![384, 0] S384x128.size inb_S768x128_S384x128_384_0, A⟩,
      ⟨Rect.unit (s := S768x128) ![0, 0] S384x128.size inb_S768x128_S384x128_0_0, B⟩] (ix2 p d)
      = if h : p.val < 384 then B (ix2 ⟨p.val, h⟩ d) else A (ix2 ⟨p.val - 384, by omega⟩ d) := by
  by_cases h : p.val < 384
  · rw [dif_pos h, View.canon_cons_of_not_mem]
    · have e : (ix2 p d : S768x128.Idx) = (Rect.unit (s := S768x128) ![0, 0] S384x128.size inb_S768x128_S384x128_0_0).emb (ix2 (⟨p.val, h⟩ : Fin 384) d) := by
        funext a; apply Fin.ext
        rw [emb_unit_val]
        fin_cases a <;> simp [ix2]
      rw [e]
      exact View.canon_cons_emb _ _ _ _
    · intro hm
      obtain ⟨x, hx⟩ := (Rect.unit (s := S768x128) ![384, 0] S384x128.size inb_S768x128_S384x128_384_0).exists_idx_of_mem hm
      have e : 384 + (x 0).val = ((ix2 p d : S768x128.Idx) 0).val := (emb_unit_val (s := S768x128) ![384, 0] S384x128.size inb_S768x128_S384x128_384_0 x 0).symm.trans (congrArg (fun y : S768x128.Idx => (y 0).val) hx)
      have : ((ix2 p d : S768x128.Idx) 0).val = p.val := rfl
      omega
  · rw [dif_neg h]
    have e : (ix2 p d : S768x128.Idx) = (Rect.unit (s := S768x128) ![384, 0] S384x128.size inb_S768x128_S384x128_384_0).emb (ix2 (⟨p.val - 384, by omega⟩ : Fin 384) d) := by
      funext a; apply Fin.ext
      rw [emb_unit_val]
      fin_cases a
      · simp [ix2]; omega
      · simp [ix2]
    rw [e]
    exact View.canon_cons_emb _ _ _ _

theorem dots_congr {n n' : ℕ} (v1 : Vec Ideal S768x128 .bf16) (p : Fin 768) {k ke : (⟨2, ![n, 128]⟩ : Shape).Idx → EReal}
    {k' ke' : (⟨2, ![n', 128]⟩ : Shape).Idx → EReal} {j : Fin n} {j' : Fin n'} (h : ∀ x, k (ix2 j x) = k' (ix2 j' x)) (h' : ∀ x, ke (ix2 j x) = ke' (ix2 j' x)) :
    dots v1 p k ke j = dots v1 p k' ke' j' := by
  unfold dots
  simp only [h, h']

theorem col_val {n : ℕ} (x6 : Vec Ideal S8448x128 .bf16) (x7 : Vec Ideal S768x128 .bf16)
    (h6 : ∀ j d, (x6 (ix2 j d) : EReal) = ((x6 (ix2 j d) : EReal).toReal : EReal))
    (v ve : (⟨2, ![n, 128]⟩ : Shape).Idx → EReal) (b : ℕ) (j : Fin n) (hb : b + j.val < 8448)
    (hv : ∀ d, v (ix2 j d) = x6 (ix2 ⟨b + j.val, hb⟩ d)) (hve : ∀ l : Fin 128, ve (ix2 j l) = if l.val = 0 then 1 else 0) (d : Fin 256) :
    col v ve j d = (rowVal x6 d (b + j.val) : EReal) := by
  unfold col rowVal
  by_cases hd : d.val < 128
  · simp only [dif_pos hd, dif_pos hb]
    rw [hv, ← h6]
  · simp only [dif_neg hd]
    rw [hve]
    dsimp only
    by_cases h8 : d.val = 128
    · rw [if_pos (by omega), if_pos h8]; rfl
    · rw [if_neg (by omega), if_neg h8]; rfl

section
variable (c : Dev nD) (i : grid1.Coords) (arg3 : Memref sig .tc .vmem S768x128 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S8448x128 .bf16) (harg6 : arg6.IsWhole) (arg7 : Memref sig .tc .vmem S768x128 .bf16) (harg7 : arg7.IsWhole) (arg8 : Memref sig .tc .vmem S768x128 .bf16) (harg8 : arg8.IsWhole)
  (x3 : Vec Ideal S768x128 .bf16) (x4 x5 x6 : Vec Ideal S8448x128 .bf16) (x7 : Vec Ideal S768x128 .bf16)
  (h6 : ∀ j d, (x6 (ix2 j d) : EReal) = ((x6 (ix2 j d) : EReal).toReal : EReal))
  (h7 : ∀ (j : Fin 768) (l : Fin 128), (x7 (ix2 j l) : EReal) = if l.val = 0 then 1 else 0)
  (hs : ∀ p j, dots x3 p x4 x5 j ≠ ⊤)

include hs in
theorem rowScore_ne_top (n : ℕ) (p : Fin 768) (j : ℕ) : rowScore x3 x4 x5 n p j ≠ ⊤ := by
  unfold rowScore
  split
  · split
    · exact hs _ _
    · simp
  · simp

theorem rowScore_past (n : ℕ) (p : Fin 768) (j : ℕ) (h : 768 * n + p.val < j) : rowScore x3 x4 x5 n p j = ⊥ := by
  unfold rowScore
  split
  · rw [if_neg (by omega)]
  · rfl

include h6 h7 in
/-- A block before the diagonal holds its keys. -/
theorem fits (o : ℕ) (ho : o + 384 ≤ 768) (q : FVec Ideal S384x256 .bf16) (hq : ∀ r d, q (ix2 r d) = wide x3 o ho r d) (r : Fin 384)
    (n : ℕ) (hn : n + 768 ≤ 768 * (i 2).val) (off : Fin 2 → ℕ) (hoff : off = ![n, 0]) (h : ∀ a, off a + S768x128.size a ≤ S8448x128.size a) :
    Fits (rowScore x3 x4 x5 (i 2).val ⟨o + r.val, by omega⟩) (rowVal x6) q x7 r n
      (blockAt (F := Ideal) arg4 arg5 arg6 (harg4.unread x4) (harg5.unread x5) (harg6.unread x6) off h) := by
  have hi : (i 2).val < 11 := (i 2).isLt
  refine ⟨fun j => ?_, fun j d => ?_⟩
  · rw [score_apply q x3 o ho hq, rowScore, dif_pos (by omega), if_pos (by dsimp only; omega)]
    exact dots_congr x3 _ (fun x => rd_apply arg4 harg4 x4 off h n hoff (by omega) j x) (fun x => rd_apply arg5 harg5 x5 off h n hoff (by omega) j x)
  · exact col_val x6 x7 h6 _ _ n j (by omega) (fun d => rd_apply arg6 harg6 x6 off h n hoff (by omega) j d) (fun l => h7 j l) d

/-- Both halves' rows have seen the first `n` keys. -/
def Halves (n : ℕ) (S : FVec Ideal S384x1 .f32 × FVec Ideal S384x256 .f32 × FVec Ideal S384x1 .f32 × FVec Ideal S384x256 .f32) : Prop :=
  ∀ r : Fin 384, Seen (rowScore x3 x4 x5 (i 2).val ⟨0 + r.val, by omega⟩) (rowVal x6) n (S.1 (ix2 r 0)) (fun d => S.2.1 (ix2 r d))
    ∧ Seen (rowScore x3 x4 x5 (i 2).val ⟨384 + r.val, by omega⟩) (rowVal x6) n (S.2.2.1 (ix2 r 0)) (fun d => S.2.2.2 (ix2 r d))

include h6 h7 hs in
theorem looped_seen : Halves i x3 x4 x5 x6 (768 * ((i 2).val / 4 * 4))
    (looped (F := Ideal) c i arg3 harg3 arg4 harg4 arg5 harg5 arg6 harg6 arg7 harg7 arg8 harg8 (rdAll arg3 (harg3.unread x3)) (harg4.unread x4) (harg5.unread x5) (harg6.unread x6) (harg7.unread x7)) := by
  have hi : (i 2).val < 11 := (i 2).isLt
  have key : ∀ k, k ≤ (k1_t1_loop i).trips → Halves i x3 x4 x5 x6 (768 * (k * 4))
      (st_k1_t1 (F := Ideal) Variants.none c none i arg3 harg3 arg4 harg4 arg5 harg5 arg6 harg6 arg7 harg7 arg8 harg8 (rdAll arg3 (harg3.unread x3)) (harg4.unread x4) (harg5.unread x5) (harg6.unread x6) (harg7.unread x7) (k1_pay81, k1_pay82, k1_pay81, k1_pay82) k) := by
    intro k
    induction k with
    | zero =>
      intro _ r
      rw [st_k1_t1_zero]
      refine ⟨⟨⟨?_, ?_⟩, ?_⟩, ⟨⟨?_, ?_⟩, ?_⟩⟩
      · exact (m_start r).trans_ne bot_ne_top
      · intro _ j hj; omega
      · intro d; rw [weigh]; exact a_start r d
      · exact (m_start r).trans_ne bot_ne_top
      · intro _ j hj; omega
      · intro d; rw [weigh]; exact a_start r d
    | succ k ih =>
      intro hk r
      have hkt : k < (i 2).val / 4 := lt_of_lt_of_eq hk (trips_eq i)
      have e := st_k1_t1_succ (F := Ideal) Variants.none c none i arg3 harg3 arg4 harg4 arg5 harg5 arg6 harg6 arg7 harg7 arg8 harg8 (rdAll arg3 (harg3.unread x3)) (harg4.unread x4) (harg5.unread x5) (harg6.unread x6) (harg7.unread x7) (k1_pay81, k1_pay82, k1_pay81, k1_pay82) ⟨k, hk⟩
      dsimp only at e
      rw [e]
      unfold tripR_k1_t1
      rw [trip_found]
      have I := ih (by omega) r
      revert I
      generalize st_k1_t1 (F := Ideal) Variants.none c none i arg3 harg3 arg4 harg4 arg5 harg5 arg6 harg6 arg7 harg7 arg8 harg8 (rdAll arg3 (harg3.unread x3)) (harg4.unread x4) (harg5.unread x5) (harg6.unread x6) (harg7.unread x7) (k1_pay81, k1_pay82, k1_pay81, k1_pay82) k = S
      intro I
      rw [rdAll_eq, rdAll_eq]
      have F := fun (o : ℕ) (ho : o + 384 ≤ 768) (q : FVec Ideal S384x256 .bf16) (hq : ∀ r d, q (ix2 r d) = wide x3 o ho r d) =>
        (show FitsAll (rowScore x3 x4 x5 (i 2).val ⟨o + r.val, by omega⟩) (rowVal x6) q x7 r (768 * (k * 4)) [blockAt (F := Ideal) arg4 arg5 arg6 (harg4.unread x4) (harg5.unread x5) (harg6.unread x6) (k1_off1 i ⟨k, hk⟩ 0#32) (k1_off1_inb i ⟨k, hk⟩ 0), blockAt (F := Ideal) arg4 arg5 arg6 (harg4.unread x4) (harg5.unread x5) (harg6.unread x6) (k1_off1 i ⟨k, hk⟩ 1#32) (k1_off1_inb i ⟨k, hk⟩ 1), blockAt (F := Ideal) arg4 arg5 arg6 (harg4.unread x4) (harg5.unread x5) (harg6.unread x6) (k1_off1 i ⟨k, hk⟩ 2#32) (k1_off1_inb i ⟨k, hk⟩ 2), blockAt (F := Ideal) arg4 arg5 arg6 (harg4.unread x4) (harg5.unread x5) (harg6.unread x6) (k1_off1 i ⟨k, hk⟩ 3#32) (k1_off1_inb i ⟨k, hk⟩ 3)] from
        ⟨fits i arg4 harg4 arg5 harg5 arg6 harg6 x3 x4 x5 x6 x7 h6 h7 o ho q hq r (768 * (k * 4)) (by omega) _ ((off1_eq i ⟨k, hk⟩ 0).trans (by congr 1; simp; omega)) (k1_off1_inb i ⟨k, hk⟩ 0),
         fits i arg4 harg4 arg5 harg5 arg6 harg6 x3 x4 x5 x6 x7 h6 h7 o ho q hq r (768 * (k * 4) + 768) (by omega) _ ((off1_eq i ⟨k, hk⟩ 1).trans (by congr 1; simp; omega)) (k1_off1_inb i ⟨k, hk⟩ 1),
         fits i arg4 harg4 arg5 harg5 arg6 harg6 x3 x4 x5 x6 x7 h6 h7 o ho q hq r (768 * (k * 4) + 768 + 768) (by omega) _ ((off1_eq i ⟨k, hk⟩ 2).trans (by congr 1; simp; omega)) (k1_off1_inb i ⟨k, hk⟩ 2),
         fits i arg4 harg4 arg5 harg5 arg6 harg6 x3 x4 x5 x6 x7 h6 h7 o ho q hq r (768 * (k * 4) + 768 + 768 + 768) (by omega) _ ((off1_eq i ⟨k, hk⟩ 3).trans (by congr 1; simp; omega)) (k1_off1_inb i ⟨k, hk⟩ 3),
         trivial⟩)
      have R := fun (o : ℕ) (ho : o + 384 ≤ 768) => rowScore_ne_top x3 x4 x5 hs (i 2).val ⟨o + r.val, by omega⟩
      have T1 : Seen (rowScore x3 x4 x5 (i 2).val ⟨0 + r.val, by omega⟩) (rowVal x6) (768 * (k * 4) + 768 * 4) _ _ := trip_seen (R 0 (by omega)) _ _ _ _ (F 0 (by omega) _ (q_lo x3)) I.1
      have T2 : Seen (rowScore x3 x4 x5 (i 2).val ⟨384 + r.val, by omega⟩) (rowVal x6) (768 * (k * 4) + 768 * 4) _ _ := trip_seen (R 384 (by omega)) _ _ _ _ (F 384 (by omega) _ (q_hi x3)) I.2
      rw [show 768 * ((k + 1) * 4) = 768 * (k * 4) + 768 * 4 by ring]
      exact ⟨T1, T2⟩
  have := key _ (le_refl _)
  unfold looped
  rw [trips2_eq]
  have e := trips_eq i
  rw [← e]
  exact this

end

end Cert.KernelIdeal.Attn

end
-- ==== Proof.Ideal.RowsOut.lean ====
module

public import proofs.«01_k».proof.Proof.Ideal.Point

@[expose] public section

set_option maxRecDepth 16384

noncomputable section

/-! The attention body's output block, row by row. -/

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI Idealize.SL.Sem

set_option maxHeartbeats 2000000

theorem fold_quot {σ : ℕ → EReal} (hσ : ∀ j, σ j ≠ ⊤) {ω : Fin 256 → ℕ → ℝ} (h1 : ω 128 = fun _ => 1) {n : ℕ} {m : EReal} {a : Fin 256 → EReal} (h : Seen σ ω n m a)
    (hn : n ≤ 8448) (hb : ∀ j, n ≤ j → σ j = ⊥) (j : ℕ) (hj : σ j ≠ ⊥) (d : Fin 256) :
    Ideal.div (a d) (a 128) = (soft σ (ω d) 8448 : EReal) := by
  rw [h.2 d, h.2 128, h1, div_weigh hσ (ω d) h.1 j (by by_contra hc; exact hj (hb j (by omega))) hj, soft_extend (ω d) hn hb]

section
variable (c : Dev nD) (i : grid1.Coords) (arg3 : Memref sig .tc .vmem S768x128 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S8448x128 .bf16) (harg6 : arg6.IsWhole) (arg7 : Memref sig .tc .vmem S768x128 .bf16) (harg7 : arg7.IsWhole) (arg8 : Memref sig .tc .vmem S768x128 .bf16) (harg8 : arg8.IsWhole)
  (x3 : Vec Ideal S768x128 .bf16) (x4 x5 x6 : Vec Ideal S8448x128 .bf16) (x7 : Vec Ideal S768x128 .bf16)
  (h6 : ∀ j d, (x6 (ix2 j d) : EReal) = ((x6 (ix2 j d) : EReal).toReal : EReal))
  (h7 : ∀ (j : Fin 768) (l : Fin 128), (x7 (ix2 j l) : EReal) = if l.val = 0 then 1 else 0)
  (hs : ∀ p j, dots x3 p x4 x5 j ≠ ⊤)

theorem rowVal_ones : rowVal x6 128 = fun _ => 1 := by
  funext j
  unfold rowVal
  rw [dif_neg (by decide), if_pos (by decide)]

include h6 h7 hs in
/-- The two halves' quotients, whatever the whole blocks of the last step: each row the softmax average. -/
theorem halves_out (bs : List (Block Ideal)) (S : FVec Ideal S384x1 .f32 × FVec Ideal S384x256 .f32 × FVec Ideal S384x1 .f32 × FVec Ideal S384x256 .f32)
    (n : ℕ) (hS : Halves i x3 x4 x5 x6 n S)
    (hf : ∀ (o : ℕ) (ho : o + 384 ≤ 768) (q : FVec Ideal S384x256 .bf16) (hq : ∀ r d, q (ix2 r d) = wide x3 o ho r d) (r : Fin 384),
      FitsAll (rowScore x3 x4 x5 (i 2).val ⟨o + r.val, by omega⟩) (rowVal x6) q x7 r n bs)
    (hn : n + 768 * bs.length = 768 * (i 2).val)
    (off off' : Fin 2 → ℕ) (hoff : off = ![768 * (i 2).val, 0]) (hoff' : off' = ![768 * (i 2).val, 0])
    (h : ∀ a, off a + S768x128.size a ≤ S8448x128.size a) (h' : ∀ a, off' a + S384x128.size a ≤ S8448x128.size a)
    (p : Fin 768) (d : Fin 128) (j : ℕ) (hj : rowScore x3 x4 x5 (i 2).val p j ≠ ⊥) :
    View.canon (Val := Elt Ideal) (e := .bf16) (s := S768x128) [⟨Rect.unit (s := S768x128) ![384, 0] S384x128.size inb_S768x128_S384x128_384_0,
          k1_pay7 (F := Ideal) (lastHi (k1_pay80 (rdAll arg3 (harg3.unread x3))) (rdAll arg7 (harg7.unread x7)) bs
            (rd arg4 (harg4.unread x4) off h) (rd arg5 (harg5.unread x5) off h) (rd arg6 (harg6.unread x6) off h) S.2.2.1 S.2.2.2)⟩,
         ⟨Rect.unit (s := S768x128) ![0, 0] S384x128.size inb_S768x128_S384x128_0_0,
          k1_pay6 (F := Ideal) (lastLo (k1_pay79 (rdAll arg3 (harg3.unread x3))) (rdAll arg7 (harg7.unread x7)) bs
            (rdLo arg4 (harg4.unread x4) off' h') (rdLo arg5 (harg5.unread x5) off' h') (rdLo arg6 (harg6.unread x6) off' h') (rdTop arg7 (harg7.unread x7)) S.1 S.2.1)⟩] (ix2 p d)
      = (soft (rowScore x3 x4 x5 (i 2).val p) (rowVal x6 ⟨d.val, by omega⟩) 8448 : EReal) := by
  have hi : (i 2).val < 11 := (i 2).isLt
  rw [canon_two, rdAll_eq, rdAll_eq]
  have hw7 : ∀ (j : Fin 384) (l : Fin 128), (rdTop (F := Ideal) arg7 (harg7.unread x7) (ix2 j l) : EReal) = if l.val = 0 then 1 else 0 := fun j l =>
    (rdTop_apply arg7 harg7 x7 j l).trans (h7 _ _)
  split
  · rename_i hp
    have ep : (⟨0 + (⟨p.val, hp⟩ : Fin 384).val, by omega⟩ : Fin 768) = p := Fin.ext (Nat.zero_add _)
    obtain ⟨μ, hμ⟩ := lastLo_seen (rowScore_ne_top x3 x4 x5 hs (i 2).val ⟨0 + (⟨p.val, hp⟩ : Fin 384).val, by omega⟩) bs n S.1 S.2.1
      (rdLo arg4 (harg4.unread x4) off' h') (rdLo arg5 (harg5.unread x5) off' h') (rdLo arg6 (harg6.unread x6) off' h') (rdTop arg7 (harg7.unread x7))
      (hf 0 (by omega) _ (q_lo x3) ⟨p.val, hp⟩) (hS ⟨p.val, hp⟩).1
      (fun j => by
        rw [scoreLo_apply _ x3 0 (by omega) (q_lo x3), hn, rowScore, dif_pos (by omega)]
        dsimp only
        refine if_congr (by omega) ?_ rfl
        exact dots_congr x3 _ (fun x => rdLo_apply arg4 harg4 x4 off' h' _ hoff' (by omega) j x) (fun x => rdLo_apply arg5 harg5 x5 off' h' _ hoff' (by omega) j x))
      (fun j d => by
        rw [hn]
        exact col_val x6 x7 h6 _ _ (768 * (i 2).val) j (by omega) (fun d => rdLo_apply arg6 harg6 x6 off' h' _ hoff' (by omega) j d) (fun l => hw7 j l) d)
    rw [ep] at hμ
    rw [out_lo]
    exact fold_quot (rowScore_ne_top x3 x4 x5 hs (i 2).val p) (rowVal_ones x6) hμ (by omega) (fun j hj => rowScore_past x3 x4 x5 _ _ _ (by omega)) j hj ⟨d.val, by omega⟩
  · rename_i hp
    have ep : (⟨384 + (⟨p.val - 384, by omega⟩ : Fin 384).val, by omega⟩ : Fin 768) = p := Fin.ext (by dsimp only; omega)
    obtain ⟨μ, hμ⟩ := lastHi_seen (rowScore_ne_top x3 x4 x5 hs (i 2).val ⟨384 + (⟨p.val - 384, by omega⟩ : Fin 384).val, by omega⟩) bs n S.2.2.1 S.2.2.2
      (rd arg4 (harg4.unread x4) off h) (rd arg5 (harg5.unread x5) off h) (rd arg6 (harg6.unread x6) off h)
      (hf 384 (by omega) _ (q_hi x3) ⟨p.val - 384, by omega⟩) (hS ⟨p.val - 384, by omega⟩).2
      (fun j => by
        rw [scoreHi_apply _ x3 384 (by omega) (q_hi x3), hn, rowScore, dif_pos (by omega)]
        dsimp only
        refine if_congr (by omega) ?_ rfl
        exact dots_congr x3 _ (fun x => rd_apply arg4 harg4 x4 off h _ hoff (by omega) j x) (fun x => rd_apply arg5 harg5 x5 off h _ hoff (by omega) j x))
      (fun j d => by
        rw [hn]
        exact col_val x6 x7 h6 _ _ (768 * (i 2).val) j (by omega) (fun d => rd_apply arg6 harg6 x6 off h _ hoff (by omega) j d) (fun l => h7 j l) d)
    rw [ep] at hμ
    rw [out_hi]
    exact fold_quot (rowScore_ne_top x3 x4 x5 hs (i 2).val p) (rowVal_ones x6) hμ (by omega) (fun j hj => rowScore_past x3 x4 x5 _ _ _ (by omega)) j hj ⟨d.val, by omega⟩

include h6 h7 hs in
theorem run_one_row (hc1 : ¬k1_cond1 i = 1#1) (p : Fin 768) (d : Fin 128) (j : ℕ) (hj : rowScore x3 x4 x5 (i 2).val p j ≠ ⊥) :
    View.canon (Val := Elt Ideal) (run_one (F := Ideal) c i arg3 harg3 arg4 harg4 arg5 harg5 arg6 harg6 arg7 harg7 arg8 harg8 hc1 x3 x4 x5 x6 x7).1 (ix2 p d)
      = (soft (rowScore x3 x4 x5 (i 2).val p) (rowVal x6 ⟨d.val, by omega⟩) 8448 : EReal) := by
  have hi : (i 2).val < 11 := (i 2).isLt
  have hm : (i 2).val % 4 = 0 := by
    obtain ⟨q1, q2, q3⟩ := cond_cases i
    simp only [q1, q2, q3] at hc1
    omega
  rw [run_one_found]
  exact halves_out i arg3 harg3 arg4 harg4 arg5 harg5 arg6 harg6 arg7 harg7 x3 x4 x5 x6 x7 h6 h7 hs [] _ (768 * ((i 2).val / 4 * 4))
    (looped_seen c i arg3 harg3 arg4 harg4 arg5 harg5 arg6 harg6 arg7 harg7 arg8 harg8 x3 x4 x5 x6 x7 h6 h7 hs)
    (fun o ho q hq r => trivial)
    (by simp only [List.length_cons, List.length_nil]; omega) _ _ (off10_eq i hm) (off9_eq i hm) (k1_off10_inb i hc1) (k1_off9_inb i hc1) p d j hj

include h6 h7 hs in
theorem run_two_row (hc1 : k1_cond1 i = 1#1) (hc2 : ¬k1_cond2 i = 1#1) (p : Fin 768) (d : Fin 128) (j : ℕ) (hj : rowScore x3 x4 x5 (i 2).val p j ≠ ⊥) :
    View.canon (Val := Elt Ideal) (run_two (F := Ideal) c i arg3 harg3 arg4 harg4 arg5 harg5 arg6 harg6 arg7 harg7 arg8 harg8 hc1 hc2 x3 x4 x5 x6 x7).1 (ix2 p d)
      = (soft (rowScore x3 x4 x5 (i 2).val p) (rowVal x6 ⟨d.val, by omega⟩) 8448 : EReal) := by
  have hi : (i 2).val < 11 := (i 2).isLt
  have hm : (i 2).val % 4 = 1 := by
    obtain ⟨q1, q2, q3⟩ := cond_cases i
    simp only [q1, q2, q3] at hc1 hc2
    omega
  rw [run_two_found]
  exact halves_out i arg3 harg3 arg4 harg4 arg5 harg5 arg6 harg6 arg7 harg7 x3 x4 x5 x6 x7 h6 h7 hs [blockAt (F := Ideal) arg4 arg5 arg6 (harg4.unread x4) (harg5.unread x5) (harg6.unread x6) (k1_off7 i 0#32) (k1_off7_inb i hc1 hc2 0)] _ (768 * ((i 2).val / 4 * 4))
    (looped_seen c i arg3 harg3 arg4 harg4 arg5 harg5 arg6 harg6 arg7 harg7 arg8 harg8 x3 x4 x5 x6 x7 h6 h7 hs)
    (fun o ho q hq r => ⟨fits i arg4 harg4 arg5 harg5 arg6 harg6 x3 x4 x5 x6 x7 h6 h7 o ho q hq r (768 * ((i 2).val / 4 * 4)) (by omega) _ ((off7_eq i hm 0).trans (by congr 1 <;> simp <;> omega)) (k1_off7_inb i hc1 hc2 0), trivial⟩)
    (by simp only [List.length_cons, List.length_nil]; omega) _ _ ((off7_eq i hm 1).trans (by congr 1 <;> simp <;> omega)) (off8_eq i hm) (k1_off7_inb i hc1 hc2 1) (k1_off8_inb i hc1 hc2) p d j hj

include h6 h7 hs in
theorem run_three_row (hc1 : k1_cond1 i = 1#1) (hc2 : k1_cond2 i = 1#1) (hc3 : ¬k1_cond3 i = 1#1) (p : Fin 768) (d : Fin 128) (j : ℕ) (hj : rowScore x3 x4 x5 (i 2).val p j ≠ ⊥) :
    View.canon (Val := Elt Ideal) (run_three (F := Ideal) c i arg3 harg3 arg4 harg4 arg5 harg5 arg6 harg6 arg7 harg7 arg8 harg8 hc1 hc2 hc3 x3 x4 x5 x6 x7).1 (ix2 p d)
      = (soft (rowScore x3 x4 x5 (i 2).val p) (rowVal x6 ⟨d.val, by omega⟩) 8448 : EReal) := by
  have hi : (i 2).val < 11 := (i 2).isLt
  have hm : (i 2).val % 4 = 2 := by
    obtain ⟨q1, q2, q3⟩ := cond_cases i
    simp only [q1, q2, q3] at hc1 hc2 hc3
    omega
  rw [run_three_found]
  exact halves_out i arg3 harg3 arg4 harg4 arg5 harg5 arg6 harg6 arg7 harg7 x3 x4 x5 x6 x7 h6 h7 hs [blockAt (F := Ideal) arg4 arg5 arg6 (harg4.unread x4) (harg5.unread x5) (harg6.unread x6) (k1_off5 i 0#32) (k1_off5_inb i hc1 hc2 hc3 0), blockAt (F := Ideal) arg4 arg5 arg6 (harg4.unread x4) (harg5.unread x5) (harg6.unread x6) (k1_off5 i 1#32) (k1_off5_inb i hc1 hc2 hc3 1)] _ (768 * ((i 2).val / 4 * 4))
    (looped_seen c i arg3 harg3 arg4 harg4 arg5 harg5 arg6 harg6 arg7 harg7 arg8 harg8 x3 x4 x5 x6 x7 h6 h7 hs)
    (fun o ho q hq r => ⟨fits i arg4 harg4 arg5 harg5 arg6 harg6 x3 x4 x5 x6 x7 h6 h7 o ho q hq r (768 * ((i 2).val / 4 * 4)) (by omega) _ ((off5_eq i hm 0).trans (by congr 1 <;> simp <;> omega)) (k1_off5_inb i hc1 hc2 hc3 0), fits i arg4 harg4 arg5 harg5 arg6 harg6 x3 x4 x5 x6 x7 h6 h7 o ho q hq r (768 * ((i 2).val / 4 * 4) + 768) (by omega) _ ((off5_eq i hm 1).trans (by congr 1 <;> simp <;> omega)) (k1_off5_inb i hc1 hc2 hc3 1), trivial⟩)
    (by simp only [List.length_cons, List.length_nil]; omega) _ _ ((off5_eq i hm 2).trans (by congr 1 <;> simp <;> omega)) (off6_eq i hm) (k1_off5_inb i hc1 hc2 hc3 2) (k1_off6_inb i hc1 hc2 hc3) p d j hj

include h6 h7 hs in
theorem run_four_row (hc1 : k1_cond1 i = 1#1) (hc2 : k1_cond2 i = 1#1) (hc3 : k1_cond3 i = 1#1) (p : Fin 768) (d : Fin 128) (j : ℕ) (hj : rowScore x3 x4 x5 (i 2).val p j ≠ ⊥) :
    View.canon (Val := Elt Ideal) (run_four (F := Ideal) c i arg3 harg3 arg4 harg4 arg5 harg5 arg6 harg6 arg7 harg7 arg8 harg8 hc1 hc2 hc3 x3 x4 x5 x6 x7).1 (ix2 p d)
      = (soft (rowScore x3 x4 x5 (i 2).val p) (rowVal x6 ⟨d.val, by omega⟩) 8448 : EReal) := by
  have hi : (i 2).val < 11 := (i 2).isLt
  have hm : (i 2).val % 4 = 3 := by
    obtain ⟨q1, q2, q3⟩ := cond_cases i
    simp only [q1, q2, q3] at hc1 hc2 hc3
    omega
  rw [run_four_found]
  exact halves_out i arg3 harg3 arg4 harg4 arg5 harg5 arg6 harg6 arg7 harg7 x3 x4 x5 x6 x7 h6 h7 hs [blockAt (F := Ideal) arg4 arg5 arg6 (harg4.unread x4) (harg5.unread x5) (harg6.unread x6) (k1_off3 i 0#32) (k1_off3_inb i hc1 hc2 hc3 0), blockAt (F := Ideal) arg4 arg5 arg6 (harg4.unread x4) (harg5.unread x5) (harg6.unread x6) (k1_off3 i 1#32) (k1_off3_inb i hc1 hc2 hc3 1), blockAt (F := Ideal) arg4 arg5 arg6 (harg4.unread x4) (harg5.unread x5) (harg6.unread x6) (k1_off3 i 2#32) (k1_off3_inb i hc1 hc2 hc3 2)] _ (768 * ((i 2).val / 4 * 4))
    (looped_seen c i arg3 harg3 arg4 harg4 arg5 harg5 arg6 harg6 arg7 harg7 arg8 harg8 x3 x4 x5 x6 x7 h6 h7 hs)
    (fun o ho q hq r => ⟨fits i arg4 harg4 arg5 harg5 arg6 harg6 x3 x4 x5 x6 x7 h6 h7 o ho q hq r (768 * ((i 2).val / 4 * 4)) (by omega) _ ((off3_eq i hm 0).trans (by congr 1 <;> simp <;> omega)) (k1_off3_inb i hc1 hc2 hc3 0), fits i arg4 harg4 arg5 harg5 arg6 harg6 x3 x4 x5 x6 x7 h6 h7 o ho q hq r (768 * ((i 2).val / 4 * 4) + 768) (by omega) _ ((off3_eq i hm 1).trans (by congr 1 <;> simp <;> omega)) (k1_off3_inb i hc1 hc2 hc3 1), fits i arg4 harg4 arg5 harg5 arg6 harg6 x3 x4 x5 x6 x7 h6 h7 o ho q hq r (768 * ((i 2).val / 4 * 4) + 768 + 768) (by omega) _ ((off3_eq i hm 2).trans (by congr 1 <;> simp <;> omega)) (k1_off3_inb i hc1 hc2 hc3 2), trivial⟩)
    (by simp only [List.length_cons, List.length_nil]; omega) _ _ ((off3_eq i hm 3).trans (by congr 1 <;> simp <;> omega)) (off4_eq i hm) (k1_off3_inb i hc1 hc2 hc3 3) (k1_off4_inb i hc1 hc2 hc3) p d j hj

end

end Cert.KernelIdeal.Attn

end
-- ==== Proof.Ideal.Region1.lean ====
module

public import proofs.«01_k».proof.Proof.Ideal.RowsOut
public import proofs.«01_k».proof.Proof.Ideal.Launch

@[expose] public section

set_option maxRecDepth 16384

noncomputable section

/-! The attention kernel's result array, row by row, off the arrays it is launched on. -/

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI Idealize.SL.Sem

set_option maxHeartbeats 2000000

/-! ## Where the windows lie -/

theorem place0 (i : grid1.Coords) : cc1_transform_0 i = ![11 * (i 0).val + (i 2).val, (i 1).val] := by
  have h0 : (i 0).val < 2 := (i 0).isLt
  have h1 : (i 1).val < 8 := (i 1).isLt
  have h2 : (i 2).val < 11 := (i 2).isLt
  unfold cc1_transform_0
  simp only [Scalar.muli, Scalar.addi, IntOp.muli, IntOp.addi, BitVec.toNat_add, BitVec.toNat_mul, BitVec.toNat_ofNat]
  congr 1 <;> [omega; (congr 1; omega)]

theorem place1 (i : grid1.Coords) : cc1_transform_1 i = ![(i 0).val, 8 + (i 1).val] := by
  have h0 : (i 0).val < 2 := (i 0).isLt
  have h1 : (i 1).val < 8 := (i 1).isLt
  unfold cc1_transform_1
  simp only [Scalar.muli, Scalar.addi, IntOp.muli, IntOp.addi, BitVec.toNat_add, BitVec.toNat_mul, BitVec.toNat_ofNat]
  congr 1 <;> [omega; (congr 1; omega)]

theorem place2 (i : grid1.Coords) : cc1_transform_2 i = ![(i 0).val, (i 1).val] := by
  have h0 : (i 0).val < 2 := (i 0).isLt
  have h1 : (i 1).val < 8 := (i 1).isLt
  unfold cc1_transform_2
  simp only [BitVec.toNat_ofNat]
  congr 1 <;> [omega; (congr 1; omega)]

theorem place3 (i : grid1.Coords) : cc1_transform_3 i = ![(i 0).val, 16 + (i 1).val] := by
  have h0 : (i 0).val < 2 := (i 0).isLt
  have h1 : (i 1).val < 8 := (i 1).isLt
  unfold cc1_transform_3
  simp only [Scalar.muli, Scalar.addi, IntOp.muli, IntOp.addi, BitVec.toNat_add, BitVec.toNat_mul, BitVec.toNat_ofNat]
  congr 1 <;> [omega; (congr 1; omega)]

theorem place4 (i : grid1.Coords) : cc1_transform_4 i = ![0, 0] := rfl

theorem place5 (i : grid1.Coords) : cc1_transform_5 i = ![11 * (i 0).val + (i 2).val, (i 1).val] := place0 i

/-- The row of batch `b`'s token `s`. -/
abbrev rowAt (b : Fin 2) (s : Fin 8448) : Fin 16896 := ⟨8448 * b.val + s.val, by omega⟩
/-- Lane `x` of the `n`th group of 128 columns. -/
abbrev colAt (n : Fin 40) (x : Fin 128) : Fin 5120 := ⟨128 * n.val + x.val, by omega⟩
/-- Lane `x` of head `h`'s columns. -/
abbrev headAt (h : Fin 8) (x : Fin 128) : Fin 1024 := ⟨128 * h.val + x.val, by omega⟩

section
variable (V : (c : Dev nD) → (b : Ref sig .tc) → Buf (Elt Ideal) ((c : Thread nD τ).loc b)) (c : Dev nD) (t : Fin cfg1.N)

/-- The point's batch, head and row block. -/
abbrev batchOf : Fin 2 := grid1.coords t 0
abbrev headOf : Fin 8 := grid1.coords t 1
abbrev blockOf : Fin 11 := grid1.coords t 2

theorem blk1_0 (p : Fin 768) (x : Fin 128) :
    blk1 V c 0 t (ix2 p x) = V c main_arg0 (ix2 (rowAt (batchOf t) ⟨768 * (blockOf t).val + p.val, by omega⟩) (colAt ⟨(headOf t).val, by omega⟩ x)) := by
  unfold blk1
  rw [View.read_apply]
  refine congrArg (V c main_arg0) (show (win1_0.rect t).emb (ix2 p x) = _ from ?_)
  refine Shape.idx_ext₂ ((win1_0.rect_emb_val t _ _).trans ?_) ((win1_0.rect_emb_val t _ _).trans ?_)
  · show cc1_transform_0 (grid1.coords t) 0 * 768 + p.val = _
    rw [place0]; show (11 * (batchOf t).val + (blockOf t).val) * 768 + p.val = 8448 * (batchOf t).val + (768 * (blockOf t).val + p.val); omega
  · show cc1_transform_0 (grid1.coords t) 1 * 128 + x.val = _
    rw [place0]; show (headOf t).val * 128 + x.val = 128 * (headOf t).val + x.val; omega

theorem blk1_1 (j : Fin 8448) (x : Fin 128) :
    blk1 V c 1 t (ix2 j x) = V c main_arg0 (ix2 (rowAt (batchOf t) j) (colAt ⟨8 + (headOf t).val, by omega⟩ x)) := by
  unfold blk1
  rw [View.read_apply]
  refine congrArg (V c main_arg0) (show (win1_1.rect t).emb (ix2 j x) = _ from ?_)
  refine Shape.idx_ext₂ ((win1_1.rect_emb_val t _ _).trans ?_) ((win1_1.rect_emb_val t _ _).trans ?_)
  · show cc1_transform_1 (grid1.coords t) 0 * 8448 + j.val = _
    rw [place1]; show (batchOf t).val * 8448 + j.val = 8448 * (batchOf t).val + j.val; omega
  · show cc1_transform_1 (grid1.coords t) 1 * 128 + x.val = _
    rw [place1]; show (8 + (headOf t).val) * 128 + x.val = 128 * (8 + (headOf t).val) + x.val; omega

theorem blk1_2 (j : Fin 8448) (x : Fin 128) :
    blk1 V c 2 t (ix2 j x) = V c main_v2 (ix2 (rowAt (batchOf t) j) (headAt (headOf t) x)) := by
  unfold blk1
  rw [View.read_apply]
  refine congrArg (V c main_v2) (show (win1_2.rect t).emb (ix2 j x) = _ from ?_)
  refine Shape.idx_ext₂ ((win1_2.rect_emb_val t _ _).trans ?_) ((win1_2.rect_emb_val t _ _).trans ?_)
  · show cc1_transform_2 (grid1.coords t) 0 * 8448 + j.val = _
    rw [place2]; show (batchOf t).val * 8448 + j.val = 8448 * (batchOf t).val + j.val; omega
  · show cc1_transform_2 (grid1.coords t) 1 * 128 + x.val = _
    rw [place2]; show (headOf t).val * 128 + x.val = 128 * (headOf t).val + x.val; omega

theorem blk1_3 (j : Fin 8448) (x : Fin 128) :
    blk1 V c 3 t (ix2 j x) = V c main_arg0 (ix2 (rowAt (batchOf t) j) (colAt ⟨16 + (headOf t).val, by omega⟩ x)) := by
  unfold blk1
  rw [View.read_apply]
  refine congrArg (V c main_arg0) (show (win1_3.rect t).emb (ix2 j x) = _ from ?_)
  refine Shape.idx_ext₂ ((win1_3.rect_emb_val t _ _).trans ?_) ((win1_3.rect_emb_val t _ _).trans ?_)
  · show cc1_transform_3 (grid1.coords t) 0 * 8448 + j.val = _
    rw [place3]; show (batchOf t).val * 8448 + j.val = 8448 * (batchOf t).val + j.val; omega
  · show cc1_transform_3 (grid1.coords t) 1 * 128 + x.val = _
    rw [place3]; show (16 + (headOf t).val) * 128 + x.val = 128 * (16 + (headOf t).val) + x.val; omega

theorem blk1_4 (j : Fin 768) (x : Fin 128) : blk1 V c 4 t (ix2 j x) = V c main_v6 (ix2 j x) := by
  unfold blk1
  rw [View.read_apply]
  refine congrArg (V c main_v6) (show (win1_4.rect t).emb (ix2 j x) = _ from ?_)
  refine Shape.idx_ext₂ ((win1_4.rect_emb_val t _ _).trans ?_) ((win1_4.rect_emb_val t _ _).trans ?_)
  · show cc1_transform_4 (grid1.coords t) 0 * 768 + j.val = j.val
    rw [place4]; show 0 * 768 + j.val = j.val; omega
  · show cc1_transform_4 (grid1.coords t) 1 * 128 + x.val = x.val
    rw [place4]; show 0 * 128 + x.val = x.val; omega

end

/-! ## The score and the values off the arrays -/

/-- The score of token `j` for the query of token `s`: bottom after `s`. -/
def logit (Z : (⟨2, ![16896, 5120]⟩ : Shape).Idx → EReal) (E : (⟨2, ![16896, 1024]⟩ : Shape).Idx → EReal) (b : Fin 2) (h : Fin 8) (s : Fin 8448) (j : ℕ) : EReal :=
  if hj : j < 8448 then
    if j ≤ s.val then
      (∑ x : Fin 128, Z (ix2 (rowAt b s) (colAt ⟨h.val, by omega⟩ x)) * Z (ix2 (rowAt b ⟨j, hj⟩) (colAt ⟨8 + h.val, by omega⟩ x)))
        + ∑ x : Fin 128, (if x.val < 3 then (1 : EReal) else 0) * E (ix2 (rowAt b ⟨j, hj⟩) (headAt h x))
    else ⊥
  else ⊥

/-- Token `j`'s value, lane `d`. -/
def valueOf (Z : (⟨2, ![16896, 5120]⟩ : Shape).Idx → EReal) (b : Fin 2) (h : Fin 8) (d : Fin 128) (j : ℕ) : ℝ :=
  if hj : j < 8448 then (Z (ix2 (rowAt b ⟨j, hj⟩) (colAt ⟨16 + h.val, by omega⟩ d))).toReal else 0

theorem sum_ne_top {ι : Type} (s : Finset ι) (f : ι → EReal) (h : ∀ i ∈ s, f i ≠ ⊤) : ∑ i ∈ s, f i ≠ ⊤ := by
  classical
  induction s using Finset.induction_on with
  | empty => simp
  | insert a s ha ih =>
    rw [Finset.sum_insert ha]
    exact EReal.add_ne_top (h a (Finset.mem_insert_self a s)) (ih fun i hi => h i (Finset.mem_insert_of_mem hi))

theorem lane_ne_top {e : EReal} (he : e ≠ ⊤) (q : Prop) [Decidable q] : (if q then (1 : EReal) else 0) * e ≠ ⊤ := by
  split
  · rwa [one_mul]
  · rw [zero_mul]; exact EReal.zero_ne_top

section
variable (V : (c : Dev nD) → (b : Ref sig .tc) → Buf (Elt Ideal) ((c : Thread nD τ).loc b)) (c : Dev nD)
  (hZ : ∀ r k, (V c main_arg0 (ix2 r k) : EReal) = ((V c main_arg0 (ix2 r k) : EReal).toReal : EReal))
  (hE : ∀ r k, (V c main_v2 (ix2 r k) : EReal) ≠ (⊤ : EReal))
  (hO : ∀ (j : Fin 768) (l : Fin 128), (V c main_v6 (ix2 j l) : EReal) = if l.val = 0 then (1 : EReal) else 0)

theorem rowScore_logit (t : Fin cfg1.N) (p : Fin 768) :
    rowScore (blk1 V c 0 t) (blk1 V c 1 t) (blk1 V c 2 t) (blockOf t).val p
      = logit (V c main_arg0) (V c main_v2) (batchOf t) (headOf t) ⟨768 * (blockOf t).val + p.val, by omega⟩ := by
  funext j
  unfold rowScore logit
  split
  · rename_i hj
    refine if_congr Iff.rfl ?_ rfl
    unfold dots
    refine congr_arg₂ (fun a b : EReal => a + b) (Finset.sum_congr rfl fun x _ => ?_) (Finset.sum_congr rfl fun x _ => ?_)
    · exact congr_arg₂ (fun a b : EReal => a * b) (blk1_0 V c t p x) (blk1_1 V c t ⟨j, hj⟩ x)
    · exact congrArg (fun b : EReal => _ * b) (blk1_2 V c t ⟨j, hj⟩ x)
  · rfl

theorem rowVal_valueOf (t : Fin cfg1.N) (d : Fin 128) :
    rowVal (blk1 V c 3 t) ⟨d.val, by omega⟩ = valueOf (V c main_arg0) (batchOf t) (headOf t) d := by
  funext j
  unfold rowVal valueOf
  rw [dif_pos (show (⟨d.val, by omega⟩ : Fin 256).val < 128 from d.isLt)]
  split
  · rename_i hj
    exact congrArg EReal.toReal (blk1_3 V c t ⟨j, hj⟩ d)
  · rfl

include hZ hE hO in
theorem attnOut_row (t : Fin cfg1.N) (p : Fin 768) (d : Fin 128) (j : ℕ)
    (hj : logit (V c main_arg0) (V c main_v2) (batchOf t) (headOf t) ⟨768 * (blockOf t).val + p.val, by omega⟩ j ≠ ⊥) :
    (attnOut V c t (ix2 p d) : EReal)
      = (soft (logit (V c main_arg0) (V c main_v2) (batchOf t) (headOf t) ⟨768 * (blockOf t).val + p.val, by omega⟩)
          (valueOf (V c main_arg0) (batchOf t) (headOf t) d) 8448 : EReal) := by
  rw [← rowScore_logit V c t p, ← rowVal_valueOf V c t d]
  rw [← rowScore_logit V c t p] at hj
  have h6 : ∀ j d, (blk1 V c 3 t (ix2 j d) : EReal) = ((blk1 V c 3 t (ix2 j d) : EReal).toReal : EReal) := fun j d => by
    rw [blk1_3]; exact hZ _ _
  have h7 : ∀ (j : Fin 768) (l : Fin 128), (blk1 V c 4 t (ix2 j l) : EReal) = if l.val = 0 then (1 : EReal) else 0 := fun j l => by
    rw [blk1_4]; exact hO j l
  have hs : ∀ p j, dots (blk1 V c 0 t) p (blk1 V c 1 t) (blk1 V c 2 t) j ≠ ⊤ := fun p j => by
    unfold dots
    refine EReal.add_ne_top (sum_ne_top _ _ fun x _ => ?_) (sum_ne_top _ _ fun x _ => ?_)
    · rw [blk1_0, blk1_1, hZ, hZ (rowAt (batchOf t) j), ← EReal.coe_mul]; exact EReal.coe_ne_top _
    · rw [blk1_2]; exact lane_ne_top (hE _ _) _
  unfold attnOut
  split
  · split
    · split
      · exact run_four_row c (grid1.coords t) _ _ _ _ _ _ _ _ _ _ _ _ _ _ _ _ _ h6 h7 hs _ _ _ p d j hj
      · exact run_three_row c (grid1.coords t) _ _ _ _ _ _ _ _ _ _ _ _ _ _ _ _ _ h6 h7 hs _ _ _ p d j hj
    · exact run_two_row c (grid1.coords t) _ _ _ _ _ _ _ _ _ _ _ _ _ _ _ _ _ h6 h7 hs _ _ p d j hj
  · exact run_one_row c (grid1.coords t) _ _ _ _ _ _ _ _ _ _ _ _ _ _ _ _ _ h6 h7 hs _ p d j hj

/-- The point that writes batch `b`, head `h`, row block `q`. -/
theorem point_at (b : Fin 2) (h : Fin 8) (q : Fin 11) : ∃ t : Fin cfg1.N, batchOf t = b ∧ headOf t = h ∧ blockOf t = q := by
  have hN : cfg1.N = 176 := N_1
  have hl : (b.val * 8 + h.val) * 11 + q.val < cfg1.N := by omega
  refine ⟨⟨(b.val * 8 + h.val) * 11 + q.val, hl⟩, Fin.ext ?_, Fin.ext ?_, Fin.ext ?_⟩
  · have e : (grid1.coords ⟨(b.val * 8 + h.val) * 11 + q.val, hl⟩ 0).val = ((b.val * 8 + h.val) * 11 + q.val) / 88 % 2 := Pipeline.Grid.coords_val _ 0 (by decide) rfl
    exact e.trans (by omega)
  · have e : (grid1.coords ⟨(b.val * 8 + h.val) * 11 + q.val, hl⟩ 1).val = ((b.val * 8 + h.val) * 11 + q.val) / 11 % 8 := Pipeline.Grid.coords_val _ 1 (by decide) rfl
    exact e.trans (by omega)
  · have e : (grid1.coords ⟨(b.val * 8 + h.val) * 11 + q.val, hl⟩ 2).val = ((b.val * 8 + h.val) * 11 + q.val) / 1 % 11 := Pipeline.Grid.coords_val _ 2 (by decide) rfl
    exact e.trans (by omega)

theorem out_emb (t : Fin cfg1.N) (p : Fin 768) (d : Fin 128) :
    (win1_5.rect t).emb (ix2 p d) = ix2 (rowAt (batchOf t) ⟨768 * (blockOf t).val + p.val, by omega⟩) (headAt (headOf t) d) := by
  refine Shape.idx_ext₂ ((win1_5.rect_emb_val t _ _).trans ?_) ((win1_5.rect_emb_val t _ _).trans ?_)
  · show cc1_transform_5 (grid1.coords t) 0 * 768 + p.val = _
    rw [place5]; show (11 * (batchOf t).val + (blockOf t).val) * 768 + p.val = 8448 * (batchOf t).val + (768 * (blockOf t).val + p.val); omega
  · show cc1_transform_5 (grid1.coords t) 1 * 128 + d.val = _
    rw [place5]; show (headOf t).val * 128 + d.val = 128 * (headOf t).val + d.val; omega

theorem idx_split (y : (⟨2, ![768, 128]⟩ : Shape).Idx) : ∃ (p : Fin 768) (x : Fin 128), y = ix2 p x :=
  ⟨y 0, y 1, funext fun a => by
    match a with
    | ⟨0, _⟩ => rfl
    | ⟨1, _⟩ => rfl⟩

theorem row_lt (q : Fin 11) (p : Fin 768) : 768 * q.val + p.val < 8448 := by omega

theorem flushed5 (t : Fin cfg1.N) : (dat1 V c).flushed 5 t = attnOut V c t := by
  show (cfg1.win 5).cut (grid1.coords t) ((dat1 V c).after 5 t) = _
  rw [left1_5]
  rfl

theorem place_inj (b b' : Fin 2) (h h' : Fin 8) (q : Fin 11) (p : Fin 768) (x d : Fin 128) (s : Fin 8448)
    (hl : 768 * q.val + p.val < 8448) (e0 : 8448 * b.val + (768 * q.val + p.val) = 8448 * b'.val + s.val) (e1 : 128 * h.val + x.val = 128 * h'.val + d.val) :
    b = b' ∧ h = h' ∧ x = d ∧ (⟨768 * q.val + p.val, hl⟩ : Fin 8448) = s :=
  ⟨Fin.ext (by omega), Fin.ext (by omega), Fin.ext (by omega), Fin.ext (by dsimp only; omega)⟩

include hZ hE hO in
/-- Every row with a key before it ends as the softmax of its scores against the values. -/
theorem attn_arr (b : Fin 2) (h : Fin 8) (s : Fin 8448) (d : Fin 128) (j : ℕ)
    (hj : logit (V c main_arg0) (V c main_v2) b h s j ≠ ⊥) :
    ((dat1 V c).arrAt 5 cfg1.N (ix2 (rowAt b s) (headAt h d)) : EReal)
      = (soft (logit (V c main_arg0) (V c main_v2) b h s) (valueOf (V c main_arg0) b h d) 8448 : EReal) := by
  let Q : (⟨2, ![16896, 1024]⟩ : Shape).Idx → EReal → Prop := fun i e => ∀ (b : Fin 2) (h : Fin 8) (s : Fin 8448) (d : Fin 128) (j : ℕ),
    i = ix2 (rowAt b s) (headAt h d) → logit (V c main_arg0) (V c main_v2) b h s j ≠ ⊥ →
      e = (soft (logit (V c main_arg0) (V c main_v2) b h s) (valueOf (V c main_arg0) b h d) 8448 : EReal)
  obtain ⟨t, hb, hh, hq⟩ := point_at b h ⟨s.val / 768, by omega⟩
  have hs : s = ⟨768 * (blockOf t).val + (⟨s.val % 768, by omega⟩ : Fin 768).val, by omega⟩ := Fin.ext (by
    show s.val = 768 * (blockOf t).val + s.val % 768
    rw [hq]; show s.val = 768 * (s.val / 768) + s.val % 768; omega)
  refine (dat1 V c).arrAt_forall_of_flushed 5 Q ?_ cfg1.N t (ix2 (rowAt b s) (headAt h d)) t.isLt (flush1_5 t) ?_ b h s d j rfl hj
  · intro t _ y b h s d j hi hj
    obtain ⟨p, x, rfl⟩ := idx_split y
    have he := (out_emb t p x).symm.trans hi
    obtain ⟨rfl, rfl, rfl, rfl⟩ := place_inj (batchOf t) b (headOf t) h (blockOf t) p x d s (row_lt _ _)
      (congrArg (fun i : (⟨2, ![16896, 1024]⟩ : Shape).Idx => (i 0).val) he) (congrArg (fun i : (⟨2, ![16896, 1024]⟩ : Shape).Idx => (i 1).val) he)
    have e1 := congrFun (flushed5 V c t) (ix2 p x)
    have e2 := attnOut_row V c hZ hE hO t p x j hj
    have e3 := e1.trans e2
    exact e3
  · show _ ∈ ((View.whole main_v7).slice (win1_5.rect t)).set
    have e : ix2 (rowAt b s) (headAt h d) = (win1_5.rect t).emb (ix2 ⟨s.val % 768, by omega⟩ d) := by
      rw [out_emb, hb, hh, ← hs]
    rw [e]
    exact View.emb_mem_set ((View.whole main_v7).slice (win1_5.rect t)) _

end

end Cert.KernelIdeal.Attn

end
-- ==== Proof.Ideal.Gate.lean ====
module

public import proofs.«01_k».proof.Proof.Ideal.Region1
public import Idealize.ShloMosaic.Lib.Pointwise

@[expose] public section

set_option maxRecDepth 16384

noncomputable section

/-! The gate kernel's arithmetic at a point: the running sum of its gates and the key columns it writes. -/

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI Idealize.SL.Sem

set_option maxHeartbeats 2000000

/-! ## Words -/

theorem sel_eq {α : Type} (x k : ℕ) (hx : x < 2 ^ 31) (hk : k < 2 ^ 31) (a b : α) :
    Scalar.select (IntOp.cmpi CmpIPredicate.eq (BitVec.ofNat 32 x) (BitVec.ofNat 32 k)) a b = if x = k then a else b := by
  have e : (BitVec.ofNat 32 x = BitVec.ofNat 32 k) ↔ x = k := WordCmp.ofNat_eq_ofNat_iff (by omega) (by omega)
  rw [WordCmp.cmpi_eq_eq]
  unfold Scalar.select
  by_cases h : x = k
  · rw [if_pos h, if_pos]; rw [decide_eq_true (e.mpr h)]; rfl
  · rw [if_neg h, if_neg]; rw [decide_eq_false (fun hh => h (e.mp hh))]; decide

theorem sge_nat (a b : ℕ) (ha : a < 2 ^ 31) (hb : b < 2 ^ 31) :
    IntOp.cmpi CmpIPredicate.sge (BitVec.ofNat 32 a) (BitVec.ofNat 32 b) = if b ≤ a then 1#1 else 0#1 := by
  rw [WordCmp.cmpi_sge_ofNat ha hb]
  split <;> simp [*]

theorem slt_nat (a b : ℕ) (ha : a < 2 ^ 31) (hb : b < 2 ^ 31) :
    IntOp.cmpi CmpIPredicate.slt (BitVec.ofNat 32 a) (BitVec.ofNat 32 b) = if a < b then 1#1 else 0#1 := by
  rw [WordCmp.cmpi_slt_ofNat ha hb]
  split <;> simp [*]

theorem row_word (q r : ℕ) (hq : q < 33) (hr : r < 256) :
    IntOp.addi (Scalar.muli (BitVec.ofNat 32 q) 256#32) (BitVec.ofNat 32 r) = BitVec.ofNat 32 (256 * q + r) := by
  apply BitVec.eq_of_toNat_eq
  simp only [Scalar.muli, Scalar.addi, IntOp.muli, IntOp.addi, BitVec.toNat_add, BitVec.toNat_mul, BitVec.toNat_ofNat]
  omega

/-! ## The gate of one token -/

/-- The logarithm of the logistic function. -/
def lsig (x : ℝ) : ℝ := min x 0 - Real.log (1 + Real.exp (-|x|))

theorem coe_abs (z : ℝ) : (FloatOps.absf (F := Ideal) (φ := .f32) (z : EReal) : EReal) = ((|z| : ℝ) : EReal) := by
  show max (z : EReal) (-(z : EReal)) = _
  rw [← EReal.coe_neg, ← EReal.coe_strictMono.monotone.map_max]
  rfl

theorem log1p_exp (z : ℝ) : Ideal.log1p (Ideal.exp ((z : ℝ) : EReal)) = ((Real.log (1 + Real.exp z) : ℝ) : EReal) := by
  have h : (0 : ℝ) < 1 + Real.exp z := by positivity
  rw [Ideal.exp_coe, Ideal.log1p, ← EReal.coe_one, ← EReal.coe_add, Ideal.log_coe, if_neg (not_le.mpr h)]

section
variable (i : grid0.Coords) (v3 : Vec Ideal S256x128 .f32) (v4 : Vec Ideal S1x128 .f32)
  (v36 : Vec Ideal S1x128 .f32)

/-- The gate of row `r`, lane `x` of the point's block: zero off the real tokens. -/
def gateRow (r : Fin 256) (x : Fin 128) : ℝ :=
  if 48 ≤ 256 * (i 1).val + r.val ∧ 256 * (i 1).val + r.val < 8256 then lsig ((v3 (ix2 r x) : EReal).toReal + (v4 (ix2 0 x) : EReal).toReal) else 0

theorem pay4_apply (h3 : ∀ r x, (v3 (ix2 r x) : EReal) = ((v3 (ix2 r x) : EReal).toReal : EReal))
    (h4 : ∀ x, (v4 (ix2 0 x) : EReal) = ((v4 (ix2 0 x) : EReal).toReal : EReal)) (r : Fin 256) (x : Fin 128) :
    (k0_pay4 (F := Ideal) i v3 v4 (ix2 r x) : EReal) = (gateRow i v3 v4 r x : EReal) := by
  have h1 : (k0_pay4 (F := Ideal) i v3 v4 (ix2 r x) : EReal)
      = Scalar.select (IntOp.andi (IntOp.cmpi .sge (IntOp.addi (Scalar.muli (BitVec.ofNat 32 (i 1).val) 256#32) (BitVec.ofNat 32 r.val)) 48#32)
          (IntOp.cmpi .slt (IntOp.addi (Scalar.muli (BitVec.ofNat 32 (i 1).val) 256#32) (BitVec.ofNat 32 r.val)) 8256#32))
        (min ((v3 (ix2 r x) : EReal) + (v4 (ix2 0 x) : EReal)) 0 - Ideal.log1p (Ideal.exp (0 - FloatOps.absf (F := Ideal) (φ := .f32) ((v3 (ix2 r x) : EReal) + (v4 (ix2 0 x) : EReal))))) (0 : EReal) := by
    pointwise [k0_pay4, k0_pay3]
  have hi : (i 1).val < 33 := (i 1).isLt
  have hr : r.val < 256 := r.isLt
  rw [h1, row_word _ _ hi hr, sge_nat _ _ (by omega) (by omega), slt_nat _ _ (by omega) (by omega), h3 r x, h4 x, ← EReal.coe_add, coe_abs, zero_sub, ← EReal.coe_neg, log1p_exp,
    ← EReal.coe_zero, ← EReal.coe_strictMono.monotone.map_min, ← EReal.coe_sub]
  unfold gateRow lsig
  by_cases p : 48 ≤ 256 * (i 1).val + r.val
  · by_cases q : 256 * (i 1).val + r.val < 8256
    · rw [if_pos p, if_pos q, if_pos ⟨p, q⟩]; rfl
    · rw [if_pos p, if_neg q, if_neg (show ¬(48 ≤ 256 * (i 1).val + r.val ∧ 256 * (i 1).val + r.val < 8256) from fun h => q h.2)]; rfl
  · rw [if_neg p, if_neg (show ¬(48 ≤ 256 * (i 1).val + r.val ∧ 256 * (i 1).val + r.val < 8256) from fun h => p h.1)]
    split <;> rfl

theorem pay5_apply (r k : Fin 256) : (k0_pay5 (F := Ideal) (ix2 r k) : EReal) = if k.val ≤ r.val then (1 : EReal) else 0 := by
  have h1 : (k0_pay5 (F := Ideal) (ix2 r k) : EReal) = Scalar.select (IntOp.cmpi .sge (BitVec.ofNat 32 r.val) (BitVec.ofNat 32 k.val)) (1 : EReal) (0 : EReal) := by
    pointwise [k0_pay5]
  rw [h1, sge_nat _ _ (by omega) (by omega)]
  split <;> rfl

theorem pay7_apply (h3 : ∀ r x, (v3 (ix2 r x) : EReal) = ((v3 (ix2 r x) : EReal).toReal : EReal))
    (h4 : ∀ x, (v4 (ix2 0 x) : EReal) = ((v4 (ix2 0 x) : EReal).toReal : EReal)) (r : Fin 256) (x : Fin 128) :
    (k0_pay7 (F := Ideal) i v3 v4 (ix2 r x) : EReal) = (0 : EReal) := by
  have h1 : (k0_pay7 (F := Ideal) i v3 v4 (ix2 r x) : EReal) = (k0_pay4 (F := Ideal) i v3 v4 (ix2 r x) : EReal) - (k0_pay4 (F := Ideal) i v3 v4 (ix2 r x) : EReal) := rfl
  rw [h1, pay4_apply i v3 v4 h3 h4, ← EReal.coe_sub, sub_self, EReal.coe_zero]

/-- The sum up to each row, from the carry. -/
abbrev cumV : FVec Ideal S256x128 .f32 :=
  k0_pay9 (F := Ideal) k0_pay5 v36 (k0_pay6 i v3 v4) (k0_pay7 i v3 v4) (k0_pay8 i v3 v4)

theorem sum_if_coe (n : ℕ) (g : Fin n → ℝ) (r : ℕ) :
    (∑ k : Fin n, (if k.val ≤ r then (1 : EReal) else 0) * (g k : EReal)) = ((∑ k : Fin n, if k.val ≤ r then g k else 0 : ℝ) : EReal) := by
  rw [coe_sum]
  refine Finset.sum_congr rfl fun k _ => ?_
  split
  · rw [one_mul]
  · rw [zero_mul, EReal.coe_zero]

theorem cumV_apply (h3 : ∀ r x, (v3 (ix2 r x) : EReal) = ((v3 (ix2 r x) : EReal).toReal : EReal))
    (h4 : ∀ x, (v4 (ix2 0 x) : EReal) = ((v4 (ix2 0 x) : EReal).toReal : EReal)) (cy : ℝ) (r : Fin 256) (x : Fin 128)
    (hc : (v36 (ix2 0 x) : EReal) = (cy : EReal)) :
    (cumV i v3 v4 v36 (ix2 r x) : EReal) = ((cy + ∑ k : Fin 256, if k.val ≤ r.val then gateRow i v3 v4 k x else 0 : ℝ) : EReal) := by
  have h1 : (cumV i v3 v4 v36 (ix2 r x) : EReal) = (v36 (ix2 0 x) : EReal)
      + (∑ k : Fin 256, (k0_pay5 (F := Ideal) (ix2 r k) : EReal) * (k0_pay6 (F := Ideal) i v3 v4 (ix2 k x) : EReal))
      + (∑ k : Fin 256, (k0_pay5 (F := Ideal) (ix2 r k) : EReal) * (k0_pay8 (F := Ideal) i v3 v4 (ix2 k x) : EReal))
      + (∑ k : Fin 256, (k0_pay5 (F := Ideal) (ix2 r k) : EReal) * ((k0_pay7 (F := Ideal) i v3 v4 (ix2 k x) : EReal) - (k0_pay8 (F := Ideal) i v3 v4 (ix2 k x) : EReal))) := by
    pointwise [cumV, k0_pay9]
  have h6 : ∀ k, (k0_pay6 (F := Ideal) i v3 v4 (ix2 k x) : EReal) = (gateRow i v3 v4 k x : EReal) := fun k => pay4_apply i v3 v4 h3 h4 k x
  have h7 : ∀ k, (k0_pay7 (F := Ideal) i v3 v4 (ix2 k x) : EReal) = (0 : EReal) := fun k => pay7_apply i v3 v4 h3 h4 k x
  have h8 : ∀ k, (k0_pay8 (F := Ideal) i v3 v4 (ix2 k x) : EReal) = (0 : EReal) := fun k => pay7_apply i v3 v4 h3 h4 k x
  rw [h1, hc]
  simp only [h6, h7, h8, mul_zero, sub_zero, Finset.sum_const_zero, add_zero, pay5_apply]
  rw [sum_if_coe, ← EReal.coe_add]

/-! ## The three key columns -/

/-- The key lane `x` of token `n` with the gates' sum `cy`. -/
def keyOf (n : ℕ) (cy : ℝ) (x : ℕ) : EReal :=
  if x < 3 then (if n < 48 then ⊥ else if x = 0 then ((-((Real.log 2)⁻¹) * cy : ℝ) : EReal) else 0) else 0

abbrev colA : FVec Ideal S256x128 .f32 := k0_pay15 (F := Ideal) (k0_pay3 i) k0_pay5 v36 (k0_pay6 i v3 v4) (k0_pay7 i v3 v4) (k0_pay8 i v3 v4)
abbrev colB : FVec Ideal S256x128 .f32 := k0_pay16 (F := Ideal) (k0_pay3 i) k0_pay5 v36 (k0_pay6 i v3 v4) (k0_pay7 i v3 v4) (k0_pay8 i v3 v4)
abbrev colC : FVec Ideal S256x128 .f32 := k0_pay17 (F := Ideal) (k0_pay3 i) k0_pay5 v36 (k0_pay6 i v3 v4) (k0_pay7 i v3 v4) (k0_pay8 i v3 v4)
abbrev laneV : IVec S256x128 32 := iota .tc S256x128 32 [1] iota_S256x128_d1_w32

theorem colA_apply (cy : ℝ) (r : Fin 256) (x : Fin 128) (hc : (cumV i v3 v4 v36 (ix2 r x) : EReal) = (cy : EReal)) :
    (colA i v3 v4 v36 (ix2 r x) : EReal) = if 256 * (i 1).val + r.val < 48 then (⊥ : EReal) else ((-((Real.log 2)⁻¹) * cy : ℝ) : EReal) := by
  have h0 : (k0_pay3 i (ix2 r 0)) = IntOp.addi (Scalar.muli (BitVec.ofNat 32 (i 1).val) 256#32) (BitVec.ofNat 32 r.val) := by
    pointwise [k0_pay3]
  have h1 : (k0_pay11 (F := Ideal) (k0_pay3 i) k0_pay5 v36 (k0_pay6 i v3 v4) (k0_pay7 i v3 v4) (k0_pay8 i v3 v4) (ix2 r x) : EReal)
      = Scalar.select (IntOp.cmpi .slt (k0_pay3 i (ix2 r 0)) 48#32) (Named.named (F := Ideal) κ "mask" (φ := .f32) 4048155338#32 : EReal)
        ((Named.named (F := Ideal) κ "neg_log2e" (φ := .f32) 3216550459#32 : EReal) * (cumV i v3 v4 v36 (ix2 r x) : EReal)) := by
    pointwise [k0_pay11]
  have h2 : (colA i v3 v4 v36 (ix2 r x) : EReal) = (k0_pay11 (F := Ideal) (k0_pay3 i) k0_pay5 v36 (k0_pay6 i v3 v4) (k0_pay7 i v3 v4) (k0_pay8 i v3 v4) (ix2 r x) : EReal) := rfl
  have hn : (Named.named (F := Ideal) κ "neg_log2e" (φ := .f32) 3216550459#32 : EReal) = ((-((Real.log 2)⁻¹) : ℝ) : EReal) := rfl
  have hi : (i 1).val < 33 := (i 1).isLt
  have hr : r.val < 256 := r.isLt
  rw [h2, h1, h0, row_word _ _ hi hr, slt_nat _ _ (by omega) (by omega), hc, hn, ← EReal.coe_mul]
  split <;> rfl

theorem colB_apply (cy : ℝ) (r : Fin 256) (x : Fin 128) (hc : (cumV i v3 v4 v36 (ix2 r x) : EReal) = (cy : EReal)) :
    (colB i v3 v4 v36 (ix2 r x) : EReal) = if 256 * (i 1).val + r.val < 48 then (⊥ : EReal) else (0 : EReal) := by
  have h2 : (colB i v3 v4 v36 (ix2 r x) : EReal) = (colA i v3 v4 v36 (ix2 r x) : EReal) - (colA i v3 v4 v36 (ix2 r x) : EReal) := rfl
  rw [h2, colA_apply i v3 v4 v36 cy r x hc]
  split
  · rfl
  · rw [← EReal.coe_sub, sub_self, EReal.coe_zero]

theorem colC_apply (cy : ℝ) (r : Fin 256) (x : Fin 128) (hc : (cumV i v3 v4 v36 (ix2 r x) : EReal) = (cy : EReal)) :
    (colC i v3 v4 v36 (ix2 r x) : EReal) = if 256 * (i 1).val + r.val < 48 then (⊥ : EReal) else (0 : EReal) := by
  have h2 : (colC i v3 v4 v36 (ix2 r x) : EReal) = (colB i v3 v4 v36 (ix2 r x) : EReal) - (colB i v3 v4 v36 (ix2 r x) : EReal) := rfl
  rw [h2, colB_apply i v3 v4 v36 cy r x hc]
  split
  · rfl
  · exact sub_zero _

end

/-! ## The eight heads' columns -/

/-- Lane `x` of head `h`'s columns, off the three vectors. -/
def laneOf (A B C : FVec Ideal S256x128 .f32) (h : Fin 128) (r : Fin 256) (x : ℕ) : EReal :=
  if x = 0 then A (ix2 r h) else if x = 1 then B (ix2 r h) else if x = 2 then C (ix2 r h) else 0

section
variable (A B C : FVec Ideal S256x128 .f32) (r : Fin 256) (x : Fin 128)

theorem head1_apply : (k0_pay26 (F := Ideal) A B C laneV (ix2 r x) : EReal) = laneOf A B C 1 r x.val := by
  have h1 : (k0_pay26 (F := Ideal) A B C laneV (ix2 r x) : EReal)
      = Scalar.select (IntOp.cmpi .eq (BitVec.ofNat 32 x.val) 0#32) (A (ix2 r 1) : EReal) (Scalar.select (IntOp.cmpi .eq (BitVec.ofNat 32 x.val) 1#32) (B (ix2 r 1) : EReal)
        (Scalar.select (IntOp.cmpi .eq (BitVec.ofNat 32 x.val) 2#32) (C (ix2 r 1) : EReal) (0 : EReal))) := by
    pointwise [k0_pay26, laneV]
  rw [h1, sel_eq _ _ (by omega) (by omega), sel_eq _ _ (by omega) (by omega), sel_eq _ _ (by omega) (by omega)]
  rfl

theorem head3_apply : (k0_pay31 (F := Ideal) A B C laneV (ix2 r x) : EReal) = laneOf A B C 3 r x.val := by
  have h1 : (k0_pay31 (F := Ideal) A B C laneV (ix2 r x) : EReal)
      = Scalar.select (IntOp.cmpi .eq (BitVec.ofNat 32 x.val) 0#32) (A (ix2 r 3) : EReal) (Scalar.select (IntOp.cmpi .eq (BitVec.ofNat 32 x.val) 1#32) (B (ix2 r 3) : EReal)
        (Scalar.select (IntOp.cmpi .eq (BitVec.ofNat 32 x.val) 2#32) (C (ix2 r 3) : EReal) (0 : EReal))) := by
    pointwise [k0_pay31, laneV]
  rw [h1, sel_eq _ _ (by omega) (by omega), sel_eq _ _ (by omega) (by omega), sel_eq _ _ (by omega) (by omega)]
  rfl

theorem head4_apply : (k0_pay32 (F := Ideal) A B C laneV (ix2 r x) : EReal) = laneOf A B C 4 r x.val := by
  have h1 : (k0_pay32 (F := Ideal) A B C laneV (ix2 r x) : EReal)
      = Scalar.select (IntOp.cmpi .eq (BitVec.ofNat 32 x.val) 0#32) (A (ix2 r 4) : EReal) (Scalar.select (IntOp.cmpi .eq (BitVec.ofNat 32 x.val) 1#32) (B (ix2 r 4) : EReal)
        (Scalar.select (IntOp.cmpi .eq (BitVec.ofNat 32 x.val) 2#32) (C (ix2 r 4) : EReal) (0 : EReal))) := by
    pointwise [k0_pay32, laneV]
  rw [h1, sel_eq _ _ (by omega) (by omega), sel_eq _ _ (by omega) (by omega), sel_eq _ _ (by omega) (by omega)]
  rfl

theorem head5_apply : (k0_pay33 (F := Ideal) A B C laneV (ix2 r x) : EReal) = laneOf A B C 5 r x.val := by
  have h1 : (k0_pay33 (F := Ideal) A B C laneV (ix2 r x) : EReal)
      = Scalar.select (IntOp.cmpi .eq (BitVec.ofNat 32 x.val) 0#32) (A (ix2 r 5) : EReal) (Scalar.select (IntOp.cmpi .eq (BitVec.ofNat 32 x.val) 1#32) (B (ix2 r 5) : EReal)
        (Scalar.select (IntOp.cmpi .eq (BitVec.ofNat 32 x.val) 2#32) (C (ix2 r 5) : EReal) (0 : EReal))) := by
    pointwise [k0_pay33, laneV]
  rw [h1, sel_eq _ _ (by omega) (by omega), sel_eq _ _ (by omega) (by omega), sel_eq _ _ (by omega) (by omega)]
  rfl

theorem head6_apply : (k0_pay34 (F := Ideal) A B C laneV (ix2 r x) : EReal) = laneOf A B C 6 r x.val := by
  have h1 : (k0_pay34 (F := Ideal) A B C laneV (ix2 r x) : EReal)
      = Scalar.select (IntOp.cmpi .eq (BitVec.ofNat 32 x.val) 0#32) (A (ix2 r 6) : EReal) (Scalar.select (IntOp.cmpi .eq (BitVec.ofNat 32 x.val) 1#32) (B (ix2 r 6) : EReal)
        (Scalar.select (IntOp.cmpi .eq (BitVec.ofNat 32 x.val) 2#32) (C (ix2 r 6) : EReal) (0 : EReal))) := by
    pointwise [k0_pay34, laneV]
  rw [h1, sel_eq _ _ (by omega) (by omega), sel_eq _ _ (by omega) (by omega), sel_eq _ _ (by omega) (by omega)]
  rfl

theorem head7_apply : (k0_pay1 (F := Ideal) A B C laneV (ix2 r x) : EReal) = laneOf A B C 7 r x.val := by
  have h1 : (k0_pay1 (F := Ideal) A B C laneV (ix2 r x) : EReal)
      = Scalar.select (IntOp.cmpi .eq (BitVec.ofNat 32 x.val) 0#32) (A (ix2 r 7) : EReal) (Scalar.select (IntOp.cmpi .eq (BitVec.ofNat 32 x.val) 1#32) (B (ix2 r 7) : EReal)
        (Scalar.select (IntOp.cmpi .eq (BitVec.ofNat 32 x.val) 2#32) (C (ix2 r 7) : EReal) (0 : EReal))) := by
    pointwise [k0_pay1, laneV]
  rw [h1, sel_eq _ _ (by omega) (by omega), sel_eq _ _ (by omega) (by omega), sel_eq _ _ (by omega) (by omega)]
  rfl

theorem head2_apply : (k0_pay30 (F := Ideal) (k0_pay27 laneV) (k0_pay28 A) (k0_pay29 B C laneV) (ix2 r x) : EReal) = laneOf A B C 2 r x.val := by
  have h1 : (k0_pay30 (F := Ideal) (k0_pay27 laneV) (k0_pay28 A) (k0_pay29 B C laneV) (ix2 r x) : EReal)
      = Scalar.select (IntOp.cmpi .eq (BitVec.ofNat 32 x.val) 0#32) (A (ix2 r 2) : EReal) (Scalar.select (IntOp.cmpi .eq (BitVec.ofNat 32 x.val) 1#32) (B (ix2 r 2) : EReal)
        (Scalar.select (IntOp.cmpi .eq (BitVec.ofNat 32 x.val) 2#32) (C (ix2 r 2) : EReal) (0 : EReal))) := by
    pointwise [k0_pay30, k0_pay27, k0_pay28, k0_pay29, laneV]
  rw [h1, sel_eq _ _ (by omega) (by omega), sel_eq _ _ (by omega) (by omega), sel_eq _ _ (by omega) (by omega)]
  rfl

end

section
variable (i : grid0.Coords) (v3 : Vec Ideal S256x128 .f32) (v4 : Vec Ideal S1x128 .f32) (v36 : Vec Ideal S1x128 .f32)

abbrev head0V : FVec Ideal S256x128 .bf16 :=
  k0_pay25 (F := Ideal) k0_pay18 (k0_pay19 (k0_pay3 i) k0_pay5 v36 (k0_pay6 i v3 v4) (k0_pay7 i v3 v4) (k0_pay8 i v3 v4)) k0_pay20
    (k0_pay21 (k0_pay3 i) k0_pay5 v36 (k0_pay6 i v3 v4) (k0_pay7 i v3 v4) (k0_pay8 i v3 v4)) k0_pay22
    (k0_pay23 (k0_pay3 i) k0_pay5 v36 (k0_pay6 i v3 v4) (k0_pay7 i v3 v4) (k0_pay8 i v3 v4)) k0_pay24

theorem head0_apply (r : Fin 256) (x : Fin 128) :
    (head0V i v3 v4 v36 (ix2 r x) : EReal) = laneOf (colA i v3 v4 v36) (colB i v3 v4 v36) (colC i v3 v4 v36) 0 r x.val := by
  have h1 : (head0V i v3 v4 v36 (ix2 r x) : EReal)
      = Scalar.select (IntOp.cmpi .eq (BitVec.ofNat 32 x.val) 0#32) (colA i v3 v4 v36 (ix2 r 0) : EReal) (Scalar.select (IntOp.cmpi .eq (BitVec.ofNat 32 x.val) 1#32) (colB i v3 v4 v36 (ix2 r 0) : EReal)
        (Scalar.select (IntOp.cmpi .eq (BitVec.ofNat 32 x.val) 2#32) (colC i v3 v4 v36 (ix2 r 0) : EReal) (0 : EReal))) := by
    pointwise [head0V, k0_pay25, k0_pay18, k0_pay19, k0_pay20, k0_pay21, k0_pay22, k0_pay23, k0_pay24]
  rw [h1, sel_eq _ _ (by omega) (by omega), sel_eq _ _ (by omega) (by omega), sel_eq _ _ (by omega) (by omega)]
  rfl

theorem lane_key (cy : ℝ) (r : Fin 256) (h : Fin 128) (x : ℕ) (hc : (cumV i v3 v4 v36 (ix2 r h) : EReal) = (cy : EReal)) :
    laneOf (colA i v3 v4 v36) (colB i v3 v4 v36) (colC i v3 v4 v36) h r x = keyOf (256 * (i 1).val + r.val) cy x := by
  unfold laneOf keyOf
  rw [colA_apply i v3 v4 v36 cy r h hc, colB_apply i v3 v4 v36 cy r h hc, colC_apply i v3 v4 v36 cy r h hc]
  by_cases h0 : x = 0
  · subst h0; simp
  · by_cases h1 : x = 1
    · subst h1; simp
    · by_cases h2 : x = 2
      · subst h2; simp
      · rw [if_neg h0, if_neg h1, if_neg h2, if_neg (by omega)]

end

/-! ## The columns' pieces put together -/

theorem piece_skip (o : ℕ) (inb) (w : Vec Ideal S256x128 .bf16) (L : List (View.Piece (Elt Ideal) S256x1024 .bf16)) (r : Fin 256) (y : Fin 1024) (h : y.val < o ∨ o + 128 ≤ y.val) :
    View.canon (Val := Elt Ideal) (e := .bf16) (s := S256x1024) (⟨Rect.unit (s := S256x1024) ![0, o] S256x128.size inb, w⟩ :: L) (ix2 r y) = View.canon L (ix2 r y) := by
  rw [View.canon_cons_of_not_mem]
  intro hm
  obtain ⟨x, hx⟩ := (Rect.unit (s := S256x1024) ![0, o] S256x128.size inb).exists_idx_of_mem hm
  have e : o + (x 1).val = y.val := (emb_unit_val (s := S256x1024) ![0, o] S256x128.size inb x 1).symm.trans (congrArg (fun y : S256x1024.Idx => (y 1).val) hx)
  have h' : (x 1).val < 128 := (x 1).isLt
  omega

theorem piece_hit (o : ℕ) (inb) (w : Vec Ideal S256x128 .bf16) (L : List (View.Piece (Elt Ideal) S256x1024 .bf16)) (r : Fin 256) (x : Fin 128) (y : Fin 1024) (h : y.val = o + x.val) :
    View.canon (Val := Elt Ideal) (e := .bf16) (s := S256x1024) (⟨Rect.unit (s := S256x1024) ![0, o] S256x128.size inb, w⟩ :: L) (ix2 r y) = w (ix2 r x) := by
  have e : (ix2 r y : S256x1024.Idx) = (Rect.unit (s := S256x1024) ![0, o] S256x128.size inb).emb (ix2 r x) := by
    funext a; apply Fin.ext
    rw [emb_unit_val]
    fin_cases a
    · simp [ix2]
    · simpa [ix2] using h
  rw [e]
  exact View.canon_cons_emb _ _ _ _

/-- The eight pieces the body stores into the key columns. -/
abbrev headPieces (p0 p1 p2 p3 p4 p5 p6 p7 : Vec Ideal S256x128 .bf16) : List (View.Piece (Elt Ideal) S256x1024 .bf16) :=
  [⟨Rect.unit (s := S256x1024) ![0, 896] S256x128.size inb_S256x1024_S256x128_0_896, p7⟩,
    ⟨Rect.unit (s := S256x1024) ![0, 768] S256x128.size inb_S256x1024_S256x128_0_768, p6⟩,
    ⟨Rect.unit (s := S256x1024) ![0, 640] S256x128.size inb_S256x1024_S256x128_0_640, p5⟩,
    ⟨Rect.unit (s := S256x1024) ![0, 512] S256x128.size inb_S256x1024_S256x128_0_512, p4⟩,
    ⟨Rect.unit (s := S256x1024) ![0, 384] S256x128.size inb_S256x1024_S256x128_0_384, p3⟩,
    ⟨Rect.unit (s := S256x1024) ![0, 256] S256x128.size inb_S256x1024_S256x128_0_256, p2⟩,
    ⟨Rect.unit (s := S256x1024) ![0, 128] S256x128.size inb_S256x1024_S256x128_0_128, p1⟩,
    ⟨Rect.unit (s := S256x1024) ![0, 0] S256x128.size inb_S256x1024_S256x128_0_0, p0⟩]

theorem headPieces_apply (p0 p1 p2 p3 p4 p5 p6 p7 : Vec Ideal S256x128 .bf16) (f : ℕ → EReal) (r : Fin 256) (h : Fin 8) (x : Fin 128)
    (e0 : h.val = 0 → (p0 (ix2 r x) : EReal) = f 0)
    (e1 : h.val = 1 → (p1 (ix2 r x) : EReal) = f 1)
    (e2 : h.val = 2 → (p2 (ix2 r x) : EReal) = f 2)
    (e3 : h.val = 3 → (p3 (ix2 r x) : EReal) = f 3)
    (e4 : h.val = 4 → (p4 (ix2 r x) : EReal) = f 4)
    (e5 : h.val = 5 → (p5 (ix2 r x) : EReal) = f 5)
    (e6 : h.val = 6 → (p6 (ix2 r x) : EReal) = f 6)
    (e7 : h.val = 7 → (p7 (ix2 r x) : EReal) = f 7)
    : (View.canon (Val := Elt Ideal) (e := .bf16) (s := S256x1024) (headPieces p0 p1 p2 p3 p4 p5 p6 p7) (ix2 r (headAt h x)) : EReal) = f h.val := by
  have hx : x.val < 128 := x.isLt
  obtain ⟨h, hh⟩ := h
  interval_cases h
  · refine (piece_skip 896 _ _ _ r _ (Or.inl (by show 128 * 0 + x.val < 896; omega))).trans ?_
    refine (piece_skip 768 _ _ _ r _ (Or.inl (by show 128 * 0 + x.val < 768; omega))).trans ?_
    refine (piece_skip 640 _ _ _ r _ (Or.inl (by show 128 * 0 + x.val < 640; omega))).trans ?_
    refine (piece_skip 512 _ _ _ r _ (Or.inl (by show 128 * 0 + x.val < 512; omega))).trans ?_
    refine (piece_skip 384 _ _ _ r _ (Or.inl (by show 128 * 0 + x.val < 384; omega))).trans ?_
    refine (piece_skip 256 _ _ _ r _ (Or.inl (by show 128 * 0 + x.val < 256; omega))).trans ?_
    refine (piece_skip 128 _ _ _ r _ (Or.inl (by show 128 * 0 + x.val < 128; omega))).trans ?_
    exact (piece_hit 0 _ _ _ r x _ (by show 128 * 0 + x.val = 0 + x.val; omega)).trans (e0 rfl)
  · refine (piece_skip 896 _ _ _ r _ (Or.inl (by show 128 * 1 + x.val < 896; omega))).trans ?_
    refine (piece_skip 768 _ _ _ r _ (Or.inl (by show 128 * 1 + x.val < 768; omega))).trans ?_
    refine (piece_skip 640 _ _ _ r _ (Or.inl (by show 128 * 1 + x.val < 640; omega))).trans ?_
    refine (piece_skip 512 _ _ _ r _ (Or.inl (by show 128 * 1 + x.val < 512; omega))).trans ?_
    refine (piece_skip 384 _ _ _ r _ (Or.inl (by show 128 * 1 + x.val < 384; omega))).trans ?_
    refine (piece_skip 256 _ _ _ r _ (Or.inl (by show 128 * 1 + x.val < 256; omega))).trans ?_
    exact (piece_hit 128 _ _ _ r x _ (by show 128 * 1 + x.val = 128 + x.val; omega)).trans (e1 rfl)
  · refine (piece_skip 896 _ _ _ r _ (Or.inl (by show 128 * 2 + x.val < 896; omega))).trans ?_
    refine (piece_skip 768 _ _ _ r _ (Or.inl (by show 128 * 2 + x.val < 768; omega))).trans ?_
    refine (piece_skip 640 _ _ _ r _ (Or.inl (by show 128 * 2 + x.val < 640; omega))).trans ?_
    refine (piece_skip 512 _ _ _ r _ (Or.inl (by show 128 * 2 + x.val < 512; omega))).trans ?_
    refine (piece_skip 384 _ _ _ r _ (Or.inl (by show 128 * 2 + x.val < 384; omega))).trans ?_
    exact (piece_hit 256 _ _ _ r x _ (by show 128 * 2 + x.val = 256 + x.val; omega)).trans (e2 rfl)
  · refine (piece_skip 896 _ _ _ r _ (Or.inl (by show 128 * 3 + x.val < 896; omega))).trans ?_
    refine (piece_skip 768 _ _ _ r _ (Or.inl (by show 128 * 3 + x.val < 768; omega))).trans ?_
    refine (piece_skip 640 _ _ _ r _ (Or.inl (by show 128 * 3 + x.val < 640; omega))).trans ?_
    refine (piece_skip 512 _ _ _ r _ (Or.inl (by show 128 * 3 + x.val < 512; omega))).trans ?_
    exact (piece_hit 384 _ _ _ r x _ (by show 128 * 3 + x.val = 384 + x.val; omega)).trans (e3 rfl)
  · refine (piece_skip 896 _ _ _ r _ (Or.inl (by show 128 * 4 + x.val < 896; omega))).trans ?_
    refine (piece_skip 768 _ _ _ r _ (Or.inl (by show 128 * 4 + x.val < 768; omega))).trans ?_
    refine (piece_skip 640 _ _ _ r _ (Or.inl (by show 128 * 4 + x.val < 640; omega))).trans ?_
    exact (piece_hit 512 _ _ _ r x _ (by show 128 * 4 + x.val = 512 + x.val; omega)).trans (e4 rfl)
  · refine (piece_skip 896 _ _ _ r _ (Or.inl (by show 128 * 5 + x.val < 896; omega))).trans ?_
    refine (piece_skip 768 _ _ _ r _ (Or.inl (by show 128 * 5 + x.val < 768; omega))).trans ?_
    exact (piece_hit 640 _ _ _ r x _ (by show 128 * 5 + x.val = 640 + x.val; omega)).trans (e5 rfl)
  · refine (piece_skip 896 _ _ _ r _ (Or.inl (by show 128 * 6 + x.val < 896; omega))).trans ?_
    exact (piece_hit 768 _ _ _ r x _ (by show 128 * 6 + x.val = 768 + x.val; omega)).trans (e6 rfl)
  · exact (piece_hit 896 _ _ _ r x _ (by show 128 * 7 + x.val = 896 + x.val; omega)).trans (e7 rfl)

end Cert.KernelIdeal.Attn

end
-- ==== Proof.Ideal.Region0.lean ====
module

public import proofs.«01_k».proof.Proof.Ideal.Gate
public import Idealize.ShloMosaic.Lib.Pipeline.ValueKit.Basic

@[expose] public section

set_option maxRecDepth 16384

noncomputable section

/-! The gate kernel's result array: the key columns of every token, with the running sum of the gates before it. -/

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI Idealize.SL.Sem

set_option maxHeartbeats 2000000

theorem inner0 (i : grid0.Coords) : cc0_transform_0 i = ![33 * (i 0).val + (i 1).val, 0] := by
  have h0 : (i 0).val < 2 := (i 0).isLt
  have h1 : (i 1).val < 33 := (i 1).isLt
  unfold cc0_transform_0
  simp only [Scalar.muli, Scalar.addi, IntOp.muli, IntOp.addi, BitVec.toNat_add, BitVec.toNat_mul, BitVec.toNat_ofNat]
  congr 1; omega

theorem inner1 (i : grid0.Coords) : cc0_transform_1 i = ![0, 0] := rfl

theorem inner2 (i : grid0.Coords) : cc0_transform_2 i = ![33 * (i 0).val + (i 1).val, 0] := inner0 i

/-- The gate of token `s` of batch `b`, lane `l`: zero off the real tokens. -/
def gate (G : (⟨2, ![16896, 128]⟩ : Shape).Idx → EReal) (B : (⟨2, ![1, 128]⟩ : Shape).Idx → EReal) (b : Fin 2) (l : Fin 128) (s : ℕ) : ℝ :=
  if h : 48 ≤ s ∧ s < 8256 then lsig ((G (ix2 (rowAt b ⟨s, by omega⟩) l)).toReal + (B (ix2 0 l)).toReal) else 0

/-- The gates of the first `n` tokens added up. -/
def gates (G : (⟨2, ![16896, 128]⟩ : Shape).Idx → EReal) (B : (⟨2, ![1, 128]⟩ : Shape).Idx → EReal) (b : Fin 2) (l : Fin 128) (n : ℕ) : ℝ :=
  ∑ u ∈ Finset.range n, gate G B b l u

theorem sum_block (f : ℕ → ℝ) (o r : ℕ) (hr : r < 256) :
    ∑ u ∈ Finset.range o, f u + ∑ k : Fin 256, (if k.val ≤ r then f (o + k.val) else 0) = ∑ u ∈ Finset.range (o + r + 1), f u := by
  rw [Fin.sum_univ_eq_sum_range (fun k => if k ≤ r then f (o + k) else 0) 256, ← Finset.sum_filter,
    show (Finset.range 256).filter (fun k => k ≤ r) = Finset.range (r + 1) from by
      ext k; simp only [Finset.mem_filter, Finset.mem_range]; omega,
    show o + r + 1 = o + (r + 1) from rfl, Finset.sum_range_add f o (r + 1)]

/-! ## The body's two runs as what they leave -/

section
variable (i : grid0.Coords) (v3 : Vec Ideal S256x128 .f32) (v4 : Vec Ideal S1x128 .f32) (v36 : Vec Ideal S1x128 .f32)

/-- The key columns the body stores. -/
abbrev keyPieces : List (View.Piece (Elt Ideal) S256x1024 .bf16) :=
  headPieces (head0V i v3 v4 v36) (k0_pay26 (colA i v3 v4 v36) (colB i v3 v4 v36) (colC i v3 v4 v36) laneV)
    (k0_pay30 (k0_pay27 laneV) (k0_pay28 (colA i v3 v4 v36)) (k0_pay29 (colB i v3 v4 v36) (colC i v3 v4 v36) laneV))
    (k0_pay31 (colA i v3 v4 v36) (colB i v3 v4 v36) (colC i v3 v4 v36) laneV) (k0_pay32 (colA i v3 v4 v36) (colB i v3 v4 v36) (colC i v3 v4 v36) laneV)
    (k0_pay33 (colA i v3 v4 v36) (colB i v3 v4 v36) (colC i v3 v4 v36) laneV) (k0_pay34 (colA i v3 v4 v36) (colB i v3 v4 v36) (colC i v3 v4 v36) laneV)
    (k0_pay1 (colA i v3 v4 v36) (colB i v3 v4 v36) (colC i v3 v4 v36) laneV)

theorem keyPieces_apply (cy : Fin 128 → ℝ) (r : Fin 256) (hc : ∀ l, (cumV i v3 v4 v36 (ix2 r l) : EReal) = (cy l : EReal)) (h : Fin 8) (x : Fin 128) :
    (View.canon (Val := Elt Ideal) (e := .bf16) (s := S256x1024) (keyPieces i v3 v4 v36) (ix2 r (headAt h x)) : EReal)
      = keyOf (256 * (i 1).val + r.val) (cy ⟨h.val, by omega⟩) x.val := by
  have hl : ∀ n : Fin 128, laneOf (colA i v3 v4 v36) (colB i v3 v4 v36) (colC i v3 v4 v36) n r x.val = keyOf (256 * (i 1).val + r.val) (cy n) x.val := fun n => lane_key i v3 v4 v36 (cy n) r n x.val (hc n)
  refine (headPieces_apply _ _ _ _ _ _ _ _ (fun n => if hn : n < 128 then keyOf (256 * (i 1).val + r.val) (cy ⟨n, hn⟩) x.val else 0) r h x ?_ ?_ ?_ ?_ ?_ ?_ ?_ ?_).trans (dif_pos _)
  · exact fun _ => ((head0_apply i v3 v4 v36 r x).trans (hl 0)).trans (by rw [dif_pos (show 0 < 128 by decide)]; rfl)
  · exact fun _ => ((head1_apply _ _ _ r x).trans (hl 1)).trans (by rw [dif_pos (show 1 < 128 by decide)]; rfl)
  · exact fun _ => ((head2_apply _ _ _ r x).trans (hl 2)).trans (by rw [dif_pos (show 2 < 128 by decide)]; rfl)
  · exact fun _ => ((head3_apply _ _ _ r x).trans (hl 3)).trans (by rw [dif_pos (show 3 < 128 by decide)]; rfl)
  · exact fun _ => ((head4_apply _ _ _ r x).trans (hl 4)).trans (by rw [dif_pos (show 4 < 128 by decide)]; rfl)
  · exact fun _ => ((head5_apply _ _ _ r x).trans (hl 5)).trans (by rw [dif_pos (show 5 < 128 by decide)]; rfl)
  · exact fun _ => ((head6_apply _ _ _ r x).trans (hl 6)).trans (by rw [dif_pos (show 6 < 128 by decide)]; rfl)
  · exact fun _ => ((head7_apply _ _ _ r x).trans (hl 7)).trans (by rw [dif_pos (show 7 < 128 by decide)]; rfl)

/-- The carry the body leaves. -/
abbrev lastV : FVec Ideal S8x128 .f32 :=
  k0_pay10 (F := Ideal) k0_pay5 v36 (k0_pay6 i v3 v4) (k0_pay7 i v3 v4) (k0_pay8 i v3 v4)

theorem lastV_apply (r : Fin 8) (l : Fin 128) : (lastV i v3 v4 v36 (ix2 r l) : EReal) = cumV i v3 v4 v36 (ix2 255 l) := by
  have h (v35 : FVec Ideal S256x256 .bf16) (v37 : FVec Ideal S256x128 .bf16) (v39 : FVec Ideal S256x128 .f32) (v40 : FVec Ideal S256x128 .bf16) :
      k0_pay10 (F := Ideal) v35 v36 v37 v39 v40 (ix2 r l) = k0_pay9 (F := Ideal) v35 v36 v37 v39 v40 (ix2 255 l) := by
    pointwise [k0_pay10]
  exact h _ _ _ _

end

section
variable (c : Dev nD) (i : grid0.Coords) (arg2 : Memref sig .tc .vmem S256x128 .f32) (harg2 : arg2.IsWhole) (arg3 : Memref sig .tc .vmem S1x128 .f32) (harg3 : arg3.IsWhole) (arg4 : Memref sig .tc .vmem S256x1024 .bf16) (harg4 : arg4.IsWhole) (arg5 : Memref sig .tc .vmem S8x128 .f32) (harg5 : arg5.IsWhole)
  (x2 : Vec Ideal S256x128 .f32) (x3 : Vec Ideal S1x128 .f32) (xs : Vec Ideal S8x128 .f32)

abbrev rdGate : Vec Ideal S256x128 .f32 := View.readAt (Elt Ideal) arg2.view (Rect.unit (s := S256x128) ![0, 0] S256x128.size inb_S256x128_S256x128_0_0).toLoadRect (harg2.unread x2)
abbrev rdBias : Vec Ideal S1x128 .f32 := View.readAt (Elt Ideal) arg3.view (Rect.unit (s := S1x128) ![0, 0] S1x128.size inb_S1x128_S1x128_0_0).toLoadRect (harg3.unread x3)
abbrev rdCarry : Vec Ideal S1x128 .f32 := View.readAt (Elt Ideal) arg5.view (Rect.unit (s := S8x128) ![0, 0] S1x128.size inb_S8x128_S1x128_0_0).toLoadRect (harg5.unread xs)
abbrev newCarry : Vec Ideal S1x128 .f32 := arg5.view.readCov (Val := Elt Ideal) [⟨Rect.unit (s := S8x128) ![0, 0] S8x128.size inb_S8x128_S8x128_0_0, k0_pay2 (F := Ideal)⟩] (Rect.unit (s := S8x128) ![0, 0] S1x128.size inb_S8x128_S1x128_0_0).toLoadRect

theorem rdGate_eq : rdGate arg2 harg2 x2 = x2 := by
  funext y
  rw [rdGate, harg2.readAt_unread]
  congr 1
  funext a; apply Fin.ext
  fin_cases a <;> simp [LoadRect.idx, Rect.unit, Rect.toLoadRect]

theorem rdBias_eq : rdBias arg3 harg3 x3 = x3 := by
  funext y
  rw [rdBias, harg3.readAt_unread]
  congr 1
  funext a; apply Fin.ext
  fin_cases a <;> simp [LoadRect.idx, Rect.unit, Rect.toLoadRect]

theorem rdCarry_apply (l : Fin 128) : rdCarry arg5 harg5 xs (ix2 0 l) = xs (ix2 0 l) := by
  rw [rdCarry, harg5.readAt_unread]
  congr 1
  funext a; apply Fin.ext
  fin_cases a <;> simp [LoadRect.idx, Rect.unit, Rect.toLoadRect, ix2]

theorem newCarry_apply (l : Fin 128) : (newCarry arg5 (ix2 0 l) : EReal) = (0 : EReal) := by
  have h : ∀ y, (k0_pay2 (F := Ideal) y : EReal) = (0 : EReal) := fun y => by
    obtain ⟨p, q, rfl⟩ : ∃ (p : Fin 8) (q : Fin 128), y = ix2 p q := ⟨y 0, y 1, funext fun a => by
      match a with
      | ⟨0, _⟩ => rfl
      | ⟨1, _⟩ => rfl⟩
    pointwise [k0_pay2]
  rw [newCarry, View.readCov_eq_canon_ld _ _ _ (fun y => ⟨_, List.mem_cons_self, View.mem_set_unit_zero (by funext a; fin_cases a <;> rfl) inb_S8x128_S8x128_0_0 y⟩), View.canon_cons_unit_lit _ _ _ (by intro a; fin_cases a <;> rfl)]
  exact h _

theorem prep_first_found (hc : firstPoint i) :
    (prep_first c i arg2 harg2 arg3 harg3 arg4 harg4 arg5 harg5 hc x2 x3).1 = keyPieces i (rdGate arg2 harg2 x2) (rdBias arg3 harg3 x3) (newCarry arg5) := by
  unfold prep_first
  rfl

theorem prep_first_last (hc : firstPoint i) :
    (prep_first c i arg2 harg2 arg3 harg3 arg4 harg4 arg5 harg5 hc x2 x3).2.1 = [⟨Rect.unit (s := S8x128) ![0, 0] S8x128.size inb_S8x128_S8x128_0_0, lastV i (rdGate arg2 harg2 x2) (rdBias arg3 harg3 x3) (newCarry arg5)⟩,
      ⟨Rect.unit (s := S8x128) ![0, 0] S8x128.size inb_S8x128_S8x128_0_0, k0_pay2 (F := Ideal)⟩] := by
  unfold prep_first
  rfl

theorem prep_later_found (hc : ¬firstPoint i) :
    (prep_later c i arg2 harg2 arg3 harg3 arg4 harg4 arg5 harg5 hc x2 x3 xs).1 = keyPieces i (rdGate arg2 harg2 x2) (rdBias arg3 harg3 x3) (rdCarry arg5 harg5 xs) := by
  unfold prep_later
  rfl

theorem prep_later_last (hc : ¬firstPoint i) :
    (prep_later c i arg2 harg2 arg3 harg3 arg4 harg4 arg5 harg5 hc x2 x3 xs).2.1 = [⟨Rect.unit (s := S8x128) ![0, 0] S8x128.size inb_S8x128_S8x128_0_0, lastV i (rdGate arg2 harg2 x2) (rdBias arg3 harg3 x3) (rdCarry arg5 harg5 xs)⟩] := by
  unfold prep_later
  rfl

end

section
variable (V : (c : Dev nD) → (b : Ref sig .tc) → Buf (Elt Ideal) ((c : Thread nD τ).loc b)) (c : Dev nD) (t : Fin cfg0.N)

/-- What a point leaves, from the carry it starts from. -/
theorem prepStep_eq (xs : Vec Ideal S8x128 .f32) : ∃ v36 : Vec Ideal S1x128 .f32,
    (∀ l, (v36 (ix2 0 l) : EReal) = if firstPoint (grid0.coords t) then (0 : EReal) else xs (ix2 0 l))
      ∧ (prepStep V c t xs).1 = View.canon (Val := Elt Ideal) (e := .bf16) (s := S256x1024) (keyPieces (grid0.coords t) (blk0 V c 0 t) (blk0 V c 1 t) v36)
      ∧ (prepStep V c t xs).2 = lastV (grid0.coords t) (blk0 V c 0 t) (blk0 V c 1 t) v36 := by
  by_cases hc : firstPoint (grid0.coords t)
  · refine ⟨newCarry carryM, fun l => (newCarry_apply carryM l).trans (if_pos hc).symm, ?_, ?_⟩
    · rw [prepStep, dif_pos hc]
      dsimp only
      rw [prep_first_found, rdGate_eq, rdBias_eq]
    · rw [prepStep, dif_pos hc]
      dsimp only
      rw [prep_first_last, View.canon_cons_unit_lit _ _ _ (by intro a; fin_cases a <;> rfl), rdGate_eq, rdBias_eq]
  · refine ⟨rdCarry carryM (Memref.isWhole_whole _) xs, fun l => (rdCarry_apply carryM (Memref.isWhole_whole _) xs l).trans (if_neg hc).symm, ?_, ?_⟩
    · rw [prepStep, dif_neg hc]
      dsimp only
      rw [prep_later_found, rdGate_eq, rdBias_eq]
    · rw [prepStep, dif_neg hc]
      dsimp only
      rw [prep_later_last, View.canon_cons_unit_lit _ _ _ (by intro a; fin_cases a <;> rfl), rdGate_eq, rdBias_eq]

/-- The point's batch and row block. -/
abbrev batch0 : Fin 2 := grid0.coords t 0
abbrev block0 : Fin 33 := grid0.coords t 1

theorem row0_lt (q : Fin 33) (r : Fin 256) : 256 * q.val + r.val < 8448 := by omega

theorem blk0_0 (r : Fin 256) (x : Fin 128) :
    blk0 V c 0 t (ix2 r x) = V c main_arg1 (ix2 (rowAt (batch0 t) ⟨256 * (block0 t).val + r.val, row0_lt _ _⟩) x) := by
  unfold blk0
  rw [View.read_apply]
  refine congrArg (V c main_arg1) (show (win0_0.rect t).emb (ix2 r x) = _ from ?_)
  refine Shape.idx_ext₂ ((win0_0.rect_emb_val t _ _).trans ?_) ((win0_0.rect_emb_val t _ _).trans ?_)
  · show cc0_transform_0 (grid0.coords t) 0 * 256 + r.val = _
    rw [inner0]; show (33 * (batch0 t).val + (block0 t).val) * 256 + r.val = 8448 * (batch0 t).val + (256 * (block0 t).val + r.val); omega
  · show cc0_transform_0 (grid0.coords t) 1 * 128 + x.val = _
    rw [inner0]; show 0 * 128 + x.val = x.val; omega

theorem blk0_1 (x : Fin 128) : blk0 V c 1 t (ix2 0 x) = V c main_v1 (ix2 0 x) := by
  unfold blk0
  rw [View.read_apply]
  refine congrArg (V c main_v1) (show (win0_1.rect t).emb (ix2 0 x) = _ from ?_)
  refine Shape.idx_ext₂ ((win0_1.rect_emb_val t _ _).trans ?_) ((win0_1.rect_emb_val t _ _).trans ?_)
  · show cc0_transform_1 (grid0.coords t) 0 * 1 + 0 = 0
    rw [inner1]; rfl
  · show cc0_transform_1 (grid0.coords t) 1 * 128 + x.val = x.val
    rw [inner1]; show 0 * 128 + x.val = x.val; omega

theorem gateRow_eq (r : Fin 256) (x : Fin 128) :
    gateRow (grid0.coords t) (blk0 V c 0 t) (blk0 V c 1 t) r x = gate (V c main_arg1) (V c main_v1) (batch0 t) x (256 * (block0 t).val + r.val) := by
  unfold gateRow gate
  rw [blk0_0, blk0_1]
  rfl

end

section
variable (V : (c : Dev nD) → (b : Ref sig .tc) → Buf (Elt Ideal) ((c : Thread nD τ).loc b)) (c : Dev nD)
  (hG : ∀ r k, (V c main_arg1 (ix2 r k) : EReal) = ((V c main_arg1 (ix2 r k) : EReal).toReal : EReal))
  (hB : ∀ k, (V c main_v1 (ix2 0 k) : EReal) = ((V c main_v1 (ix2 0 k) : EReal).toReal : EReal))

include hG hB in
theorem cumV_block (t : Fin cfg0.N) (v36 : Vec Ideal S1x128 .f32) (l : Fin 128)
    (hc : (v36 (ix2 0 l) : EReal) = (gates (V c main_arg1) (V c main_v1) (batch0 t) l (256 * (block0 t).val) : EReal)) (r : Fin 256) :
    (cumV (grid0.coords t) (blk0 V c 0 t) (blk0 V c 1 t) v36 (ix2 r l) : EReal)
      = (gates (V c main_arg1) (V c main_v1) (batch0 t) l (256 * (block0 t).val + r.val + 1) : EReal) := by
  rw [cumV_apply (grid0.coords t) (blk0 V c 0 t) (blk0 V c 1 t) v36 (fun r x => by rw [blk0_0]; exact hG _ _) (fun x => by rw [blk0_1]; exact hB _) _ r l hc]
  refine congrArg (fun z : ℝ => (z : EReal)) ?_
  rw [gates, gates, ← sum_block _ _ _ r.isLt]
  simp only [gateRow_eq]

theorem firstPoint_iff (i : grid0.Coords) : firstPoint i ↔ (i 1).val = 0 := by
  have h1 : (i 1).val < 33 := (i 1).isLt
  have e : Scalar.cmpi .eq (BitVec.ofNat 32 (i 1).val) 0#32 = if (i 1).val = 0 then 1#1 else 0#1 := by
    have e' : (BitVec.ofNat 32 (i 1).val = BitVec.ofNat 32 0) ↔ (i 1).val = 0 := WordCmp.ofNat_eq_ofNat_iff (by omega) (by omega)
    show IntOp.cmpi .eq _ _ = _
    rw [WordCmp.cmpi_eq_eq]
    by_cases h : (i 1).val = 0
    · rw [if_pos h, decide_eq_true (e'.mpr h)]; rfl
    · rw [if_neg h, decide_eq_false (fun hh => h (e'.mp hh))]; rfl
  unfold firstPoint
  rw [e]
  split
  · exact ⟨fun _ => by assumption, fun _ => by decide⟩
  · rename_i h
    exact ⟨fun hh => absurd hh (by decide), fun hh => absurd hh h⟩

theorem coords0 (n : ℕ) (h : n < cfg0.N) : (batch0 ⟨n, h⟩).val = n / 33 ∧ (block0 ⟨n, h⟩).val = n % 33 := by
  have hN : cfg0.N = 66 := N_0
  have e0 : (grid0.coords ⟨n, h⟩ 0).val = n / 33 % 2 := Pipeline.Grid.coords_val _ 0 (by decide) rfl
  have e1 : (grid0.coords ⟨n, h⟩ 1).val = n / 1 % 33 := Pipeline.Grid.coords_val _ 1 (by decide) rfl
  exact ⟨e0.trans (by omega), e1.trans (by omega)⟩

include hG hB in
/-- The carry a point starts from holds the gates of its batch's tokens before its block. -/
theorem start_apply (t : Fin cfg0.N) (v36 : Vec Ideal S1x128 .f32) (hc : ∀ l, (v36 (ix2 0 l) : EReal) = if firstPoint (grid0.coords t) then (0 : EReal) else carryAt V c t.val (ix2 0 l)) (l : Fin 128) :
    (v36 (ix2 0 l) : EReal) = (gates (V c main_arg1) (V c main_v1) (batch0 t) l (256 * (block0 t).val) : EReal) := by
  obtain ⟨n, hn⟩ := t
  induction n generalizing v36 l with
  | zero =>
    have e := (coords0 0 hn).2
    rw [hc, if_pos ((firstPoint_iff _).mpr e), show (block0 ⟨0, hn⟩).val = 0 from e]
    simp [gates]
  | succ n ih =>
    have e := coords0 (n + 1) hn
    by_cases hf : (block0 ⟨n + 1, hn⟩).val = 0
    · rw [hc, if_pos ((firstPoint_iff _).mpr hf), hf]
      simp [gates]
    · have hn' : n < cfg0.N := by omega
      have e' := coords0 n hn'
      have hN : cfg0.N = 66 := N_0
      rw [hc, if_neg (fun h => hf ((firstPoint_iff _).mp h))]
      show (carryAt V c ((⟨n, hn'⟩ : Fin cfg0.N).val + 1) (ix2 0 l) : EReal) = _
      rw [carryAt_succ]
      obtain ⟨w, hw, _, h2⟩ := prepStep_eq V c ⟨n, hn'⟩ (carryAt V c n)
      have h3 := fun l => ih w l hn' hw
      rw [h2, lastV_apply, cumV_block V c hG hB ⟨n, hn'⟩ w l (h3 l) 255]
      have hb : batch0 ⟨n, hn'⟩ = batch0 ⟨n + 1, hn⟩ := Fin.ext (by omega)
      have hq : 256 * (block0 ⟨n, hn'⟩).val + (255 : Fin 256).val + 1 = 256 * (block0 ⟨n + 1, hn⟩).val := by
        show 256 * (block0 ⟨n, hn'⟩).val + 255 + 1 = _
        omega
      rw [hb, hq]

include hG hB in
theorem key_block (t : Fin cfg0.N) (r : Fin 256) (h : Fin 8) (x : Fin 128) :
    ((prepStep V c t (carryAt V c t.val)).1 (ix2 r (headAt h x)) : EReal)
      = keyOf (256 * (block0 t).val + r.val) (gates (V c main_arg1) (V c main_v1) (batch0 t) ⟨h.val, by omega⟩ (256 * (block0 t).val + r.val + 1)) x.val := by
  obtain ⟨w, hw, h1, _⟩ := prepStep_eq V c t (carryAt V c t.val)
  rw [h1]
  exact keyPieces_apply (grid0.coords t) (blk0 V c 0 t) (blk0 V c 1 t) w (fun l => gates (V c main_arg1) (V c main_v1) (batch0 t) l (256 * (block0 t).val + r.val + 1)) r
    (fun l => cumV_block V c hG hB t w l (start_apply V c hG hB t w hw l) r) h x

theorem point0_at (b : Fin 2) (q : Fin 33) : ∃ t : Fin cfg0.N, batch0 t = b ∧ block0 t = q := by
  have hN : cfg0.N = 66 := N_0
  have hl : b.val * 33 + q.val < cfg0.N := by omega
  have e := coords0 _ hl
  exact ⟨⟨b.val * 33 + q.val, hl⟩, Fin.ext (by omega), Fin.ext (by omega)⟩

theorem key_emb (t : Fin cfg0.N) (r : Fin 256) (y : Fin 1024) :
    (win0_2.rect t).emb (ix2 r y) = ix2 (rowAt (batch0 t) ⟨256 * (block0 t).val + r.val, row0_lt _ _⟩) y := by
  refine Shape.idx_ext₂ ((win0_2.rect_emb_val t _ _).trans ?_) ((win0_2.rect_emb_val t _ _).trans ?_)
  · show cc0_transform_2 (grid0.coords t) 0 * 256 + r.val = _
    rw [inner2]; show (33 * (batch0 t).val + (block0 t).val) * 256 + r.val = 8448 * (batch0 t).val + (256 * (block0 t).val + r.val); omega
  · show cc0_transform_2 (grid0.coords t) 1 * 1024 + y.val = _
    rw [inner2]; show 0 * 1024 + y.val = y.val; omega

theorem idx_split0 (y : (⟨2, ![256, 1024]⟩ : Shape).Idx) : ∃ (r : Fin 256) (h : Fin 8) (x : Fin 128), y = ix2 r (headAt h x) := by
  have h1 : (y 1).val < 1024 := (y 1).isLt
  refine ⟨y 0, ⟨(y 1).val / 128, by omega⟩, ⟨(y 1).val % 128, by omega⟩, funext fun a => ?_⟩
  match a with
  | ⟨0, _⟩ => rfl
  | ⟨1, _⟩ => exact Fin.ext (show (y 1).val = 128 * ((y 1).val / 128) + (y 1).val % 128 by omega)

theorem flushed2 (t : Fin cfg0.N) : (dat0 V c).flushed 2 t = (prepStep V c t (carryAt V c t.val)).1 := by
  show (cfg0.win 2).cut (grid0.coords t) ((dat0 V c).after 2 t) = _
  rw [left0_2]
  rfl

theorem place0_inj (b b' : Fin 2) (h h' : Fin 8) (q : Fin 33) (r : Fin 256) (x x' : Fin 128) (s : Fin 8448)
    (hl : 256 * q.val + r.val < 8448) (e0 : 8448 * b.val + (256 * q.val + r.val) = 8448 * b'.val + s.val) (e1 : 128 * h.val + x.val = 128 * h'.val + x'.val) :
    b = b' ∧ h = h' ∧ x = x' ∧ (⟨256 * q.val + r.val, hl⟩ : Fin 8448) = s :=
  ⟨Fin.ext (by omega), Fin.ext (by omega), Fin.ext (by omega), Fin.ext (by dsimp only; omega)⟩

include hG hB in
/-- Every token's key columns. -/
theorem key_arr (b : Fin 2) (h : Fin 8) (s : Fin 8448) (x : Fin 128) :
    ((dat0 V c).arrAt 2 cfg0.N (ix2 (rowAt b s) (headAt h x)) : EReal)
      = keyOf s.val (gates (V c main_arg1) (V c main_v1) b ⟨h.val, by omega⟩ (s.val + 1)) x.val := by
  let Q : (⟨2, ![16896, 1024]⟩ : Shape).Idx → EReal → Prop := fun i e => ∀ (b : Fin 2) (h : Fin 8) (s : Fin 8448) (x : Fin 128),
    i = ix2 (rowAt b s) (headAt h x) → e = keyOf s.val (gates (V c main_arg1) (V c main_v1) b ⟨h.val, by omega⟩ (s.val + 1)) x.val
  obtain ⟨t, hb, hq⟩ := point0_at b ⟨s.val / 256, by omega⟩
  have hs : s = ⟨256 * (block0 t).val + (⟨s.val % 256, by omega⟩ : Fin 256).val, row0_lt _ _⟩ := Fin.ext (by
    show s.val = 256 * (block0 t).val + s.val % 256
    rw [hq]; show s.val = 256 * (s.val / 256) + s.val % 256; omega)
  refine (dat0 V c).arrAt_forall_of_flushed 2 Q ?_ cfg0.N t (ix2 (rowAt b s) (headAt h x)) t.isLt (flush0_2 t) ?_ b h s x rfl
  · intro t _ y b h s x hi
    obtain ⟨r, h', x', rfl⟩ := idx_split0 y
    have he := (key_emb t r (headAt h' x')).symm.trans hi
    obtain ⟨rfl, rfl, rfl, rfl⟩ := place0_inj (batch0 t) b h' h (block0 t) r x' x s (row0_lt _ _)
      (congrArg (fun i : (⟨2, ![16896, 1024]⟩ : Shape).Idx => (i 0).val) he) (congrArg (fun i : (⟨2, ![16896, 1024]⟩ : Shape).Idx => (i 1).val) he)
    have e1 := congrFun (flushed2 V c t) (ix2 r (headAt h' x'))
    have e2 := key_block V c hG hB t r h' x'
    have e3 := e1.trans e2
    exact e3
  · show _ ∈ ((View.whole main_v2).slice (win0_2.rect t)).set
    have e : ix2 (rowAt b s) (headAt h x) = (win0_2.rect t).emb (ix2 ⟨s.val % 256, by omega⟩ (headAt h x)) := by
      rw [key_emb, hb, ← hs]
    rw [e]
    exact View.emb_mem_set ((View.whole main_v2).slice (win0_2.rect t)) _

end

end Cert.KernelIdeal.Attn

end
-- ==== Proof.Ideal.Host.lean ====
module

public import proofs.«01_k».proof.Proof.Ideal.Launch
public import proofs.«01_k».proof.Proof.Ideal.Region0
public import proofs.«01_k».proof.Proof.Ideal.Region1
public import Idealize.ShloMosaic.Lib.Pointwise
public import Idealize.ShloMosaic.Lib.KernelVsHost
public import Idealize.ShloMosaic.Lib.Routing.OpsSet

@[expose] public section

set_option maxRecDepth 16384

noncomputable section

/-! The arrays the host operations prepare for the two kernels: the forget bias padded to a row of lanes, and the column of ones. -/

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI Idealize.SL.Sem

set_option maxHeartbeats 2000000

open Idealize.ShloMosaic.StableHlo Idealize.ShloMosaic.Routing

variable (m : (ℓ : Loc nD τ sig) → Buf (Elt Ideal) ℓ) (ρ : Dev nD → PrngReg) (c : Dev nD)

/-- The bias row as the host operations compute it. -/
theorem bias_eq : (V3 m ρ c main_v1 : Vec Ideal S1x128 .f32) =
    shapeCast S1x128 (pad S128 ![0] ![120] ![0] (m ((c.tc : Thread nD τ).loc main_arg2) : Vec Ideal S8 .f32)
      (sitofp (F := Ideal) .f32 (constantI S_ 32 0#32)) pads_S8_S128_01200 h_S_) shapeCasts_S128_S1x128 := by
  show StableHlo.after hostOps0_2 (W2 m ρ c) (Proc.devRef .tc main_v1) = _
  simp only [W2, W1, hostOps0, hostOps0_1, hostOps0_2, TRef.binary, TRef.nullary, TRef.ternary, TRef.unary, TRef.toBuf, TRef.ofBuf, cast_eq]
  after_results_simp <;> rfl

theorem ones_eq : (V5 m ρ c main_v6 : Vec Ideal S768x128 .bf16) =
    Host.scatter scatter_S768x128_S1_S768_0_1_1_0 (fun _ b => b) (broadcastInDim S768x128 ![] bcast_S_S768x128 (constant (F := Ideal) S_ .bf16 0x0000#16))
      (broadcastInDim S1 ![] bcast_S_S1 (constantI S_ 32 0#32)) (broadcastInDim S768 ![] bcast_S_S768 (constant (F := Ideal) S_ .bf16 0x3F80#16)) := by
  show StableHlo.after hostOps1 (W4 m ρ c) (Proc.devRef .tc main_v6) = _
  simp only [hostOps1]
  after_results_simp <;> rfl

theorem bias_apply (l : Fin 128) : (V3 m ρ c main_v1 : Vec Ideal S1x128 .f32) (ix2 0 l) =
    if h : l.val < 8 then (m ((c.tc : Thread nD τ).loc main_arg2) : Vec Ideal S8 .f32) (ix1 ⟨l.val, h⟩) else (0 : EReal) := by
  rw [bias_eq]
  refine (shapeCast_apply _ shapeCasts_S128_S1x128 (ix2 0 l) (ix1 l) ?_).trans ?_
  · rw [Shape.rowMajor_val_two, Shape.rowMajor_val_one]; show l.val = 0 * 128 + l.val; omega
  by_cases h : l.val < 8
  · rw [dif_pos h]
    refine pad_apply_of_inside _ _ _ _ _ _ _ _ (ix1 ⟨l.val, h⟩) (fun a => ?_)
    match a with
    | ⟨0, _⟩ => show l.val = 0 + l.val * (0 + 1); omega
  · rw [dif_neg h]
    refine (pad_apply_of_not_inside _ _ _ _ _ _ _ _ (0 : Fin 1) ?_).trans ?_
    · show ¬(0 ≤ l.val ∧ (l.val - 0) % (0 + 1) = 0 ∧ (l.val - 0) / (0 + 1) < 8)
      omega
    · show (((0#32 : BitVec 32).toInt : ℝ) : EReal) = 0
      simp

theorem ones_apply (j : Fin 768) (l : Fin 128) : (V5 m ρ c main_v6 : Vec Ideal S768x128 .bf16) (ix2 j l) = if l.val = 0 then (1 : EReal) else 0 := by
  rw [ones_eq]
  have key : ∀ k : S768.Idx, (scatter_S768x128_S1_S768_0_1_1_0.resultIdx? k (broadcastInDim S1 ![] bcast_S_S1 (constantI S_ 32 0#32)) = some (ix2 j l))
      ↔ ((k 0).val = j.val ∧ 0 = l.val) := by
    intro k
    refine (resultIdx?_ix2 _ _ _ _ _).trans ?_
    have e0 : scatter_S768x128_S1_S768_0_1_1_0.start k (broadcastInDim S1 ![] bcast_S_S1 (constantI S_ 32 0#32)) 0 = 0 := rfl
    have e1 : scatter_S768x128_S1_S768_0_1_1_0.start k (broadcastInDim S1 ![] bcast_S_S1 (constantI S_ 32 0#32)) 1 = 0 := rfl
    have e2 : scatter_S768x128_S1_S768_0_1_1_0.window k 0 = (k 0).val := rfl
    have e3 : scatter_S768x128_S1_S768_0_1_1_0.window k 1 = 0 := rfl
    rw [e0, e1, e2, e3]
    omega
  by_cases h : l.val = 0
  · rw [if_pos h]
    refine scatter_set_hit _ _ _ _ _ _ (fun k _ => ?_) (ix1 j) ((key _).2 ⟨rfl, h.symm⟩)
    show Ideal.ofBits .bf16 0x3F80#16 = 1
    simp [Ideal.ofBits, Ideal.ieee]; rw [← EReal.coe_mul]; norm_num
  · rw [if_neg h]
    refine (scatter_set_miss _ _ _ _ _ (fun k hk => h ((key k).1 hk).2.symm)).trans ?_
    show Ideal.ofBits .bf16 0x0000#16 = 0
    simp [Ideal.ofBits, Ideal.ieee]

theorem keys_eq : V5 m ρ c main_v2 = (dat0 (V3 m ρ) c).arrAt 2 cfg0.N :=
  (W5_of m ρ c main_v2 (by decide)).trans (W4_arr m ρ c 2)

theorem tokens_eq : V5 m ρ c main_arg0 = m ((c.tc : Thread nD τ).loc main_arg0) := W5_args m ρ c main_arg0 (by decide)

theorem slab_eq : V3 m ρ c main_arg1 = m ((c.tc : Thread nD τ).loc main_arg1) := W3_args m ρ c main_arg1 (by decide)

end Cert.KernelIdeal.Attn

end
-- ==== Proof.Ideal.Ref1.lean ====
module

public import proofs.«01_k».proof.Proof.Gen.ReferenceIdeal.Read
public import proofs.«01_k».proof.Proof.Ideal.Region1
public import proofs.«01_k».proof.Proof.Ideal.Region0
public import Idealize.ShloMosaic.Lib.KernelVsHost

@[expose] public section

set_option maxRecDepth 16384

noncomputable section

/-! The reference read entry by entry: its queries, keys and values, its gates and their running sums. -/

namespace Cert.ReferenceIdeal.Plain

open Cert.ReferenceIdeal Cert.ReferenceIdeal.Gen Cert.ReferenceIdeal.Read
open Idealize.ShloMosaic
open Cert.KernelIdeal.Attn (rowAt colAt headAt lsig coe_abs log1p_exp coe_sum)

set_option maxHeartbeats 2000000

/-- The tokens' array, the gates' slab and the bias. -/
abbrev ZT := (⟨S16896x5120, .bf16⟩ : BufTy).Contents (Elt Ideal)
abbrev GT := (⟨S16896x128, .f32⟩ : BufTy).Contents (Elt Ideal)
abbrev BT := (⟨S8, .f32⟩ : BufTy).Contents (Elt Ideal)

/-- The padded position of real token `t`. -/
def pos (t : Fin 8208) : Fin 8448 := ⟨48 + t.val, by omega⟩

theorem row_arith (b t c : ℕ) (hb : b < 2) (ht : t < 8208) (hc : c < 5120) :
    ((b * 8448 + (48 + t)) * 5120 + c) / 5120 = 8448 * b + (48 + t) ∧ ((b * 8448 + (48 + t)) * 5120 + c) % 5120 = c := by omega

theorem head_arith (b t h x : ℕ) (hb : b < 2) (ht : t < 8208) (hh : h < 8) (hx : x < 128) :
    (((b * 8208 + t) * 8 + h) * 128 + x) / 8404992 = b ∧ (((b * 8208 + t) * 8 + h) * 128 + x) / 1024 % 8208 = t
      ∧ (((b * 8208 + t) * 8 + h) * 128 + x) % 1024 = 128 * h + x := by omega

variable (Z : ZT) (G : GT) (B : BT)

theorem v2_at (b : Fin 2) (t : Fin 8208) (c : Fin 5120) : (val_main_v2 (F := Ideal) Z (ix3 b t c) : EReal) = Z (ix2 (rowAt b (pos t)) c) := by
  rw [val_main_v2_apply, val_main_v1_apply, val_main_v0_apply]
  show Z _ = _
  refine congrArg Z (funext fun a => Fin.ext ?_)
  match a with
  | ⟨0, _⟩ => exact (row_arith b.val t.val c.val b.isLt t.isLt c.isLt).1
  | ⟨1, _⟩ => exact (row_arith b.val t.val c.val b.isLt t.isLt c.isLt).2

theorem v15_at (b : Fin 2) (h : Fin 8) (t : Fin 8208) (x : Fin 128) :
    (val_main_v15 (F := Ideal) Z (ix4 b h t x) : EReal) = Z (ix2 (rowAt b (pos t)) (colAt ⟨h.val, by omega⟩ x)) := by
  rw [val_main_v15_apply, val_main_v4_apply, val_main_v3_apply]
  refine (congrArg _ (funext fun a => Fin.ext ?_)).trans (v2_at Z b t (colAt ⟨h.val, by omega⟩ x))
  have e := head_arith b.val t.val h.val x.val b.isLt t.isLt h.isLt x.isLt
  match a with
  | ⟨0, _⟩ => exact e.1
  | ⟨1, _⟩ => exact e.2.1
  | ⟨2, _⟩ => exact e.2.2

theorem v16_at (b : Fin 2) (h : Fin 8) (t : Fin 8208) (x : Fin 128) :
    (val_main_v16 (F := Ideal) Z (ix4 b h t x) : EReal) = Z (ix2 (rowAt b (pos t)) (colAt ⟨8 + h.val, by omega⟩ x)) := by
  rw [val_main_v16_apply, val_main_v6_apply, val_main_v5_apply]
  refine (congrArg _ (funext fun a => Fin.ext ?_)).trans (v2_at Z b t (colAt ⟨8 + h.val, by omega⟩ x))
  have e := head_arith b.val t.val h.val x.val b.isLt t.isLt h.isLt x.isLt
  match a with
  | ⟨0, _⟩ => exact e.1
  | ⟨1, _⟩ => exact e.2.1
  | ⟨2, _⟩ => exact (congrArg (1024 + ·) e.2.2).trans (by show 1024 + (128 * h.val + x.val) = 128 * (8 + h.val) + x.val; omega)

theorem v17_at (b : Fin 2) (h : Fin 8) (t : Fin 8208) (x : Fin 128) :
    (val_main_v17 (F := Ideal) Z (ix4 b h t x) : EReal) = Z (ix2 (rowAt b (pos t)) (colAt ⟨16 + h.val, by omega⟩ x)) := by
  rw [val_main_v17_apply, val_main_v8_apply, val_main_v7_apply]
  refine (congrArg _ (funext fun a => Fin.ext ?_)).trans (v2_at Z b t (colAt ⟨16 + h.val, by omega⟩ x))
  have e := head_arith b.val t.val h.val x.val b.isLt t.isLt h.isLt x.isLt
  match a with
  | ⟨0, _⟩ => exact e.1
  | ⟨1, _⟩ => exact e.2.1
  | ⟨2, _⟩ => exact (congrArg (2048 + ·) e.2.2).trans (by show 2048 + (128 * h.val + x.val) = 128 * (16 + h.val) + x.val; omega)

theorem slab_arith (b t c : ℕ) (hb : b < 2) (ht : t < 8208) (hc : c < 8) :
    ((b * 8448 + (48 + t)) * 128 + c) / 128 = 8448 * b + (48 + t) ∧ ((b * 8448 + (48 + t)) * 128 + c) % 128 = c := by omega

theorem v10_at (b : Fin 2) (t : Fin 8208) (h : Fin 8) :
    (val_main_v10 (F := Ideal) G (ix3 b t h) : EReal) = G (ix2 (rowAt b (pos t)) ⟨h.val, by omega⟩) := by
  rw [val_main_v10_apply, val_main_v9_apply]
  refine congrArg G (funext fun a => Fin.ext ?_)
  have e := slab_arith b.val t.val h.val b.isLt t.isLt h.isLt
  match a with
  | ⟨0, _⟩ => exact e.1
  | ⟨1, _⟩ => exact e.2

theorem v12_at (b : Fin 2) (t : Fin 8208) (h : Fin 8) : (val_main_v12 (F := Ideal) B (ix3 b t h) : EReal) = B (ix1 h) := by
  rw [val_main_v12_apply, val_main_v11_apply]
  refine congrArg B (funext fun a => Fin.ext ?_)
  match a with
  | ⟨0, _⟩ => rfl

/-- Token `t`'s gate. -/
def lg (b : Fin 2) (h : Fin 8) (t : Fin 8208) : ℝ :=
  lsig (EReal.toReal (G (ix2 (rowAt b (pos t)) ⟨h.val, by omega⟩)) + EReal.toReal (B (ix1 h)))

variable (hZ : ∀ r k, (Z (ix2 r k) : EReal) = ((EReal.toReal (Z (ix2 r k)) : ℝ) : EReal))
  (hG : ∀ r k, (G (ix2 r k) : EReal) = ((EReal.toReal (G (ix2 r k)) : ℝ) : EReal))
  (hB : ∀ k, (B (ix1 k) : EReal) = ((EReal.toReal (B (ix1 k)) : ℝ) : EReal))

theorem softplus_scalar (x : ℝ) : -(max (-(x : EReal)) 0 + Ideal.log1p (Ideal.exp (-(max (-(x : EReal)) (-(-(x : EReal))))))) = ((lsig x : ℝ) : EReal) := by
  rw [neg_neg, ← EReal.coe_neg, ← EReal.coe_zero, ← EReal.coe_strictMono.monotone.map_max, ← EReal.coe_strictMono.monotone.map_max, ← EReal.coe_neg, log1p_exp,
    ← EReal.coe_add, ← EReal.coe_neg]
  congr 1
  have e : max (-x) x = |x| := by rw [max_comm]; rfl
  rw [e]
  unfold lsig
  rcases le_total x 0 with h | h
  · rw [max_eq_left (by linarith), min_eq_left h]; ring
  · rw [max_eq_right (by linarith), min_eq_right h]; ring

include hG hB in
theorem v14_at (b : Fin 2) (t : Fin 8208) (h : Fin 8) : (val_main_v14 (F := Ideal) G B (ix3 b t h) : EReal) = ((lg G B b h t : ℝ) : EReal) := by
  have hz : Ideal.ofBits .f32 0x00000000#32 = 0 := by simp [Ideal.ofBits, Ideal.ieee]
  have e0 : (val_main_call0_v0 (F := Ideal) G B (ix3 b t h) : EReal) = -((EReal.toReal (G (ix2 (rowAt b (pos t)) ⟨h.val, by omega⟩)) + EReal.toReal (B (ix1 h)) : ℝ) : EReal) := by
    rw [val_main_call0_v0_apply, val_main_v13_apply]
    show -((val_main_v10 (F := Ideal) G (ix3 b t h) : EReal) + (val_main_v12 (F := Ideal) B (ix3 b t h) : EReal)) = _
    rw [v10_at, v12_at, hG, hB, ← EReal.coe_add, EReal.toReal_coe, EReal.toReal_coe]
  have e3 : (val_main_call0_call0_v3 (F := Ideal) G B (ix3 b t h) : EReal) = val_main_call0_v0 (F := Ideal) G B (ix3 b t h) := by
    rw [val_main_call0_call0_v3_apply, val_main_call0_call0_v2_apply]
    show (val_main_call0_v0 (F := Ideal) G B (ix3 b t h) : EReal) - Ideal.ofBits .f32 0x00000000#32 = _
    rw [hz, sub_zero]
  rw [val_main_v14_apply, val_main_call0_v1_apply]
  have e4 : val_main_call0_call0_v4 (F := Ideal) G B (ix3 b t h) = 0#1 := by
    rw [val_main_call0_call0_v4_apply]
    generalize val_main_call0_call0_v3 (F := Ideal) G B (ix3 b t h) = y
    show Ideal.cmp .une y y = 0#1
    simp [Ideal.cmp]
  rw [e4]
  show -(val_main_call0_call0_v11 (F := Ideal) G B (ix3 b t h) : EReal) = _
  rw [val_main_call0_call0_v11_apply, val_main_call0_call0_v1_apply, val_main_call0_call0_v10_apply, val_main_call0_call0_v9_apply, val_main_call0_call0_v8_apply,
    val_main_call0_call0_v7_apply, val_main_call0_call0_v0_apply]
  show -(max (val_main_call0_v0 (F := Ideal) G B (ix3 b t h) : EReal) (Ideal.ofBits .f32 0x00000000#32)
    + Ideal.log1p (Ideal.exp (-(max (val_main_call0_call0_v3 (F := Ideal) G B (ix3 b t h) : EReal) (-(val_main_call0_call0_v3 (F := Ideal) G B (ix3 b t h) : EReal)))))) = _
  rw [e3, e0, hz]
  exact softplus_scalar _

/-! ## The running sum of the gates -/

/-- The axis a window runs along, as the window's only axis with more than one place. -/
def winEquiv : (⟨3, ![1, 8208, 1]⟩ : Shape).Idx ≃ Fin 8208 where
  toFun w := w 1
  invFun k := ix3 (0 : Fin 1) k (0 : Fin 1)
  left_inv w := funext fun a => match a with
    | ⟨0, _⟩ => Subsingleton.elim (α := Fin 1) _ _
    | ⟨1, _⟩ => rfl
    | ⟨2, _⟩ => Subsingleton.elim (α := Fin 1) _ _
  right_inv _ := rfl

theorem foldl_add {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

/-- The running sum of `f`'s first `t + 1` entries, as the window sum writes it. -/
theorem window_sum' (f : ℕ → ℝ) (N t : ℕ) (ht : t ≤ N) :
    ∑ k ∈ Finset.range (N + 1), (if N ≤ t + k then f (t + k - N) else 0) = ∑ u ∈ Finset.range (t + 1), f u := by
  obtain ⟨d, rfl⟩ := Nat.exists_eq_add_of_le ht
  rw [show t + d + 1 = d + (t + 1) by omega, Finset.sum_range_add]
  rw [Finset.sum_eq_zero (fun k hk => if_neg (by have := Finset.mem_range.1 hk; omega)), zero_add]
  refine Finset.sum_congr rfl fun k hk => ?_
  rw [if_pos (by omega)]
  congr 1; omega

theorem window_sum (f : ℕ → ℝ) (t : ℕ) (ht : t < 8208) :
    ∑ k ∈ Finset.range 8208, (if 8207 ≤ t + k then f (t + k - 8207) else 0) = ∑ u ∈ Finset.range (t + 1), f u :=
  window_sum' f 8207 t (by omega)

/-- The gates of the first `t + 1` real tokens added up. -/
def cum (b : Fin 2) (h : Fin 8) (t : ℕ) : ℝ := ∑ u ∈ Finset.range (t + 1), if hu : u < 8208 then lg G B b h ⟨u, hu⟩ else 0

include hG hB in
theorem v18_at (b : Fin 2) (t : Fin 8208) (h : Fin 8) : (val_main_v18 (F := Ideal) G B (ix3 b t h) : EReal) = ((cum G B b h t.val : ℝ) : EReal) := by
  have hz : (val_main_call1_call0_v0 (F := Ideal) (Shape.Idx.first h_S_) : EReal) = 0 := by
    rw [val_main_call1_call0_v0_apply]
    show Ideal.ofBits .f32 0x00000000#32 = 0
    simp [Ideal.ofBits, Ideal.ieee]
  unfold val_main_v18 Host.reduceWindowAdd
  rw [Ideal.hostReduceWindowAdd_def, hz]
  unfold Ideal.hostReduceWindowAdd Host.reduceWindow
  dsimp only
  rw [foldl_add, zero_add, ← Fin.sum_univ_def]
  unfold cum
  rw [← window_sum _ t.val t.isLt, ← Fin.sum_univ_eq_sum_range (fun k => if 8207 ≤ t.val + k then (if hu : t.val + k - 8207 < 8208 then lg G B b h ⟨t.val + k - 8207, hu⟩ else 0) else 0), coe_sum]
  refine Eq.trans ?_ (Equiv.sum_comp ((⟨3, ![1, 8208, 1]⟩ : Shape).rowMajor.symm.trans winEquiv) _)
  refine Finset.sum_congr rfl fun n _ => ?_
  rw [Equiv.trans_apply]
  have w0 : ((⟨3, ![1, 8208, 1]⟩ : Shape).rowMajor.symm n 0).val = 0 := Nat.lt_one_iff.1 (((⟨3, ![1, 8208, 1]⟩ : Shape).rowMajor.symm n 0).isLt)
  have w2 : ((⟨3, ![1, 8208, 1]⟩ : Shape).rowMajor.symm n 2).val = 0 := Nat.lt_one_iff.1 (((⟨3, ![1, 8208, 1]⟩ : Shape).rowMajor.symm n 2).isLt)
  have w1 : ((⟨3, ![1, 8208, 1]⟩ : Shape).rowMajor.symm n 1).val < 8208 := ((⟨3, ![1, 8208, 1]⟩ : Shape).rowMajor.symm n 1).isLt
  have wE : (winEquiv ((⟨3, ![1, 8208, 1]⟩ : Shape).rowMajor.symm n)).val = ((⟨3, ![1, 8208, 1]⟩ : Shape).rowMajor.symm n 1).val := rfl
  rw [wE]
  by_cases hk : 8207 ≤ t.val + ((⟨3, ![1, 8208, 1]⟩ : Shape).rowMajor.symm n 1).val
  · rw [if_pos hk, dif_pos (show t.val + ((⟨3, ![1, 8208, 1]⟩ : Shape).rowMajor.symm n 1).val - 8207 < 8208 by omega), ← v14_at G B hG hB]
    refine (dif_pos (fun a => ?_)).trans ?_
    · match a with
      | ⟨0, _⟩ => show 0 ≤ b.val * 1 + ((⟨3, ![1, 8208, 1]⟩ : Shape).rowMajor.symm n 0).val ∧ b.val * 1 + ((⟨3, ![1, 8208, 1]⟩ : Shape).rowMajor.symm n 0).val - 0 < 2; omega
      | ⟨1, _⟩ => show 8207 ≤ t.val * 1 + ((⟨3, ![1, 8208, 1]⟩ : Shape).rowMajor.symm n 1).val ∧ t.val * 1 + ((⟨3, ![1, 8208, 1]⟩ : Shape).rowMajor.symm n 1).val - 8207 < 8208; omega
      | ⟨2, _⟩ => show 0 ≤ h.val * 1 + ((⟨3, ![1, 8208, 1]⟩ : Shape).rowMajor.symm n 2).val ∧ h.val * 1 + ((⟨3, ![1, 8208, 1]⟩ : Shape).rowMajor.symm n 2).val - 0 < 8; omega
    refine congrArg _ (funext fun a => Fin.ext ?_)
    match a with
    | ⟨0, _⟩ => show b.val * 1 + ((⟨3, ![1, 8208, 1]⟩ : Shape).rowMajor.symm n 0).val - 0 = b.val; omega
    | ⟨1, _⟩ => show t.val * 1 + ((⟨3, ![1, 8208, 1]⟩ : Shape).rowMajor.symm n 1).val - 8207 = t.val + ((⟨3, ![1, 8208, 1]⟩ : Shape).rowMajor.symm n 1).val - 8207; omega
    | ⟨2, _⟩ => show h.val * 1 + ((⟨3, ![1, 8208, 1]⟩ : Shape).rowMajor.symm n 2).val - 0 = h.val; omega
  · rw [if_neg hk]
    refine (dif_neg (fun hin => hk ?_)).trans EReal.coe_zero.symm
    have q : 8207 ≤ t.val * 1 + ((⟨3, ![1, 8208, 1]⟩ : Shape).rowMajor.symm n 1).val := (hin 1).1
    omega

end Cert.ReferenceIdeal.Plain

end
-- ==== Proof.Ideal.Ref2.lean ====
module

public import proofs.«01_k».proof.Proof.Ideal.Ref1

@[expose] public section

set_option maxRecDepth 16384

noncomputable section

/-! The reference read entry by entry: its scores, its softmax and its result. -/

namespace Cert.ReferenceIdeal.Plain

open Cert.ReferenceIdeal Cert.ReferenceIdeal.Gen Cert.ReferenceIdeal.Read
open Idealize.ShloMosaic
open Cert.KernelIdeal.Attn (rowAt colAt headAt lsig coe_abs log1p_exp coe_sum)

set_option maxHeartbeats 2000000

variable (Z : ZT) (G : GT) (B : BT)

/-- Query `t` times key `u`. -/
def qk (b : Fin 2) (h : Fin 8) (t u : Fin 8208) : ℝ :=
  ∑ x : Fin 128, EReal.toReal (Z (ix2 (rowAt b (pos t)) (colAt ⟨h.val, by omega⟩ x))) * EReal.toReal (Z (ix2 (rowAt b (pos u)) (colAt ⟨8 + h.val, by omega⟩ x)))

/-- Value `u`, lane `d`. -/
def vl (b : Fin 2) (h : Fin 8) (d : Fin 128) (u : Fin 8208) : ℝ := EReal.toReal (Z (ix2 (rowAt b (pos u)) (colAt ⟨16 + h.val, by omega⟩ d)))

/-- The score of key `u` for query `t`. -/
def score (b : Fin 2) (h : Fin 8) (t u : Fin 8208) : ℝ := qk Z b h t u * Real.log 2 + (cum G B b h t.val - cum G B b h u.val)

/-- The weight of key `u` for query `t`, up to a factor of the query's own. -/
def wt (b : Fin 2) (h : Fin 8) (t u : Fin 8208) : ℝ := if u.val ≤ t.val then Real.exp (Real.log 2 * qk Z b h t u - cum G B b h u.val) else 0

/-- The attention's entry: the values averaged by the weights. -/
def attn (b : Fin 2) (h : Fin 8) (t : Fin 8208) (d : Fin 128) : ℝ :=
  (∑ u : Fin 8208, wt Z G B b h t u * vl Z b h d u) / ∑ u : Fin 8208, wt Z G B b h t u

variable (hZ : ∀ r k, (Z (ix2 r k) : EReal) = ((EReal.toReal (Z (ix2 r k)) : ℝ) : EReal))
  (hG : ∀ r k, (G (ix2 r k) : EReal) = ((EReal.toReal (G (ix2 r k)) : ℝ) : EReal))
  (hB : ∀ k, (B (ix1 k) : EReal) = ((EReal.toReal (B (ix1 k)) : ℝ) : EReal))

include hZ in
theorem v20_at (b : Fin 2) (h : Fin 8) (t u : Fin 8208) : (val_main_v20 (F := Ideal) Z (ix4 b h t u) : EReal) = ((qk Z b h t u : ℝ) : EReal) := by
  rw [val_main_v20_apply]
  unfold qk
  rw [coe_sum]
  refine Finset.sum_congr rfl fun x _ => ?_
  rw [EReal.coe_mul, ← hZ, ← hZ, ← v15_at Z b h t x, ← v16_at Z b h u x]
  refine congr_arg₂ (fun a b : EReal => a * b) (congrArg _ (funext fun a => ?_)) (congrArg _ (funext fun a => ?_))
  all_goals match a with
    | ⟨0, _⟩ => rfl
    | ⟨1, _⟩ => rfl
    | ⟨2, _⟩ => rfl
    | ⟨3, _⟩ => rfl

theorem two_bits : Ideal.ofBits .f32 0x40000000#32 = ((2 : ℝ) : EReal) := by
  simp [Ideal.ofBits, Ideal.ieee]
  rw [← EReal.coe_mul]
  norm_num

theorem v22_at (i : S2x8x8208x8208.Idx) : (val_main_v22 (F := Ideal) i : EReal) = ((Real.log 2 : ℝ) : EReal) := by
  rw [val_main_v22_apply, val_main_v21_apply]
  show Ideal.log (Ideal.ofBits .f32 0x40000000#32) = _
  rw [two_bits, Ideal.log_coe, if_neg (by norm_num)]

include hG hB in
theorem v26_at (b : Fin 2) (h : Fin 8) (t u : Fin 8208) : (val_main_v26 (F := Ideal) G B (ix4 b h t u) : EReal) = ((cum G B b h t.val : ℝ) : EReal) := by
  rw [val_main_v26_apply, val_main_v24_apply, val_main_v19_apply, ← v18_at G B hG hB]
  refine congrArg _ (funext fun a => ?_)
  match a with
    | ⟨0, _⟩ => rfl
    | ⟨1, _⟩ => rfl
    | ⟨2, _⟩ => rfl

include hG hB in
theorem v27_at (b : Fin 2) (h : Fin 8) (t u : Fin 8208) : (val_main_v27 (F := Ideal) G B (ix4 b h t u) : EReal) = ((cum G B b h u.val : ℝ) : EReal) := by
  rw [val_main_v27_apply, val_main_v25_apply, val_main_v19_apply, ← v18_at G B hG hB]
  refine congrArg _ (funext fun a => ?_)
  match a with
    | ⟨0, _⟩ => rfl
    | ⟨1, _⟩ => rfl
    | ⟨2, _⟩ => rfl

include hZ hG hB in
theorem v29_at (b : Fin 2) (h : Fin 8) (t u : Fin 8208) : (val_main_v29 (F := Ideal) Z G B (ix4 b h t u) : EReal) = ((score Z G B b h t u : ℝ) : EReal) := by
  rw [val_main_v29_apply, val_main_v23_apply, val_main_v28_apply]
  show (val_main_v20 (F := Ideal) Z (ix4 b h t u) : EReal) * (val_main_v22 (F := Ideal) (ix4 b h t u) : EReal)
    + ((val_main_v26 (F := Ideal) G B (ix4 b h t u) : EReal) - (val_main_v27 (F := Ideal) G B (ix4 b h t u) : EReal)) = _
  rw [v20_at Z hZ, v22_at, v26_at G B hG hB, v27_at G B hG hB, ← EReal.coe_mul, ← EReal.coe_sub, ← EReal.coe_add]
  rfl

theorem neg_inf_bits : Ideal.ofBits .f32 0xFF800000#32 = ⊥ := by simp [Ideal.ofBits, Ideal.ieee]

theorem sle_nat (a b : ℕ) (ha : a < 2 ^ 31) (hb : b < 2 ^ 31) :
    IntOp.cmpi CmpIPredicate.sle (BitVec.ofNat 32 a) (BitVec.ofNat 32 b) = if a ≤ b then 1#1 else 0#1 := by
  rw [WordCmp.cmpi_sle_ofNat ha hb]
  split <;> simp [*]

include hZ hG hB in
theorem v33_at (b : Fin 2) (h : Fin 8) (t u : Fin 8208) :
    (val_main_v33 (F := Ideal) Z G B (ix4 b h t u) : EReal) = if u.val ≤ t.val then ((score Z G B b h t u : ℝ) : EReal) else ⊥ := by
  rw [val_main_v33_apply, val_main_call2_v1_apply, val_main_v32_apply, val_main_v30_apply, val_main_v31_apply, v29_at Z G B hZ hG hB,
    val_main_call2_v2_apply, val_main_call2_v0_apply, val_main_cst_0_apply]
  show Scalar.select (IntOp.cmpi CmpIPredicate.sle (BitVec.ofNat 32 u.val) (BitVec.ofNat 32 t.val)) ((score Z G B b h t u : ℝ) : EReal) (Ideal.ofBits .f32 0xFF800000#32) = _
  rw [sle_nat _ _ (by omega) (by omega), neg_inf_bits]
  split <;> rfl

theorem idx_eta4 (i : S2x8x8208x8208.Idx) : i = ix4 (⟨(i 0).val, (i 0).isLt⟩ : Fin 2) (⟨(i 1).val, (i 1).isLt⟩ : Fin 8) (⟨(i 2).val, (i 2).isLt⟩ : Fin 8208) (⟨(i 3).val, (i 3).isLt⟩ : Fin 8208) :=
  funext fun a => match a with
    | ⟨0, _⟩ => rfl
    | ⟨1, _⟩ => rfl
    | ⟨2, _⟩ => rfl
    | ⟨3, _⟩ => rfl

theorem fold_max_real {ι : Type} (s : Finset ι) (x : ι → EReal) (hx : ∀ i, x i ≠ ⊤) (i : ι) (hi : i ∈ s) (hr : x i ≠ ⊥) :
    ∃ M : ℝ, s.fold max ⊥ x = (M : EReal) := by
  have h1 : s.fold max ⊥ x ≠ ⊤ := fun e => by
    have := (Finset.fold_max_lt (s := s) (b := (⊥ : EReal)) (f := x) (c := ⊤)).2 ⟨bot_lt_top, fun i _ => lt_top_iff_ne_top.2 (hx i)⟩
    exact this.ne e
  have h2 : s.fold max ⊥ x ≠ ⊥ := fun e => by
    have := (Finset.le_fold_max (s := s) (b := (⊥ : EReal)) (f := x) (c := x i)).2 (Or.inr ⟨i, hi, le_rfl⟩)
    rw [e] at this
    exact hr (le_bot_iff.1 this)
  exact ⟨_, (EReal.coe_toReal h1 h2).symm⟩

include hZ hG hB in
theorem v36_at (b : Fin 2) (h : Fin 8) (t : Fin 8208) : ∃ M : ℝ, (val_main_v36 (F := Ideal) Z G B (ix3 b h t) : EReal) = (M : EReal) := by
  have hv : ∀ i, (val_main_v33 (F := Ideal) Z G B i : EReal) ≠ ⊤ := fun i => by
    rw [idx_eta4 i, v33_at Z G B hZ hG hB]
    split
    · exact EReal.coe_ne_top _
    · exact bot_ne_top
  have hr : (val_main_v33 (F := Ideal) Z G B (ix4 b h t t) : EReal) ≠ ⊥ := by
    rw [v33_at Z G B hZ hG hB, if_pos le_rfl]
    exact EReal.coe_ne_bot _
  have e34 : (val_main_v34 (F := Ideal) Z G B (ix3 b h t) : EReal)
      = (Finset.univ.filter fun i => reducesTo_S2x8x8208x8208_S2x8x8208_d3.drop i = ix3 b h t).fold max (Ideal.ofBits .f32 0xFF800000#32) (val_main_v33 (F := Ideal) Z G B) :=
    Host.reduce_eq_fold (max : EReal → EReal → EReal) (val_main_v33 (F := Ideal) Z G B) (val_main_cst_1 (F := Ideal)) reducesTo_S2x8x8208x8208_S2x8x8208_d3 h_S_ (ix3 b h t)
  rw [neg_inf_bits] at e34
  obtain ⟨M, hM⟩ := fold_max_real (Finset.univ.filter fun i => reducesTo_S2x8x8208x8208_S2x8x8208_d3.drop i = ix3 b h t) _ hv (ix4 b h t t) (Finset.mem_filter.2 ⟨Finset.mem_univ _, funext fun a => Fin.ext (by
    match a with
    | ⟨0, _⟩ => rfl
    | ⟨1, _⟩ => rfl
    | ⟨2, _⟩ => rfl)⟩) hr
  refine ⟨M, ?_⟩
  rw [val_main_v36_apply, val_main_v35_apply]
  show max (Ideal.ofBits .f32 0xFF800000#32) (val_main_v34 (F := Ideal) Z G B (ix3 b h t) : EReal) = _
  rw [e34, hM, neg_inf_bits]
  exact max_eq_right bot_le

theorem score_shift (q c c' M : ℝ) : q * Real.log 2 + (c - c') - M = c - M + (Real.log 2 * q - c') := by ring

include hZ hG hB in
/-- The exponentials: the weights times one positive factor of the query's. -/
theorem v40_at (b : Fin 2) (h : Fin 8) (t : Fin 8208) : ∃ κ : ℝ, 0 < κ ∧ ∀ u : Fin 8208, (val_main_v40 (F := Ideal) Z G B (ix4 b h t u) : EReal) = ((κ * wt Z G B b h t u : ℝ) : EReal) := by
  obtain ⟨M, hM⟩ := v36_at Z G B hZ hG hB b h t
  refine ⟨Real.exp (cum G B b h t.val - M), Real.exp_pos _, fun u => ?_⟩
  rw [val_main_v40_apply, val_main_v39_apply, val_main_v38_apply, val_main_v37_apply]
  have e : (val_main_v36 (F := Ideal) Z G B (idx_main_v37 (idx_main_v38 (ix4 b h t u))) : EReal) = (M : EReal) := by
    rw [← hM]
    refine congrArg _ (funext fun a => ?_)
    match a with
    | ⟨0, _⟩ => rfl
    | ⟨1, _⟩ => rfl
    | ⟨2, _⟩ => rfl
  show Ideal.exp ((val_main_v33 (F := Ideal) Z G B (ix4 b h t u) : EReal) - (val_main_v36 (F := Ideal) Z G B (idx_main_v37 (idx_main_v38 (ix4 b h t u))) : EReal)) = _
  rw [e, v33_at Z G B hZ hG hB]
  unfold wt
  by_cases hu : u.val ≤ t.val
  · rw [if_pos hu, if_pos hu, ← EReal.coe_sub, Ideal.exp_coe, ← Real.exp_add]
    exact congrArg (fun y : ℝ => ((Real.exp y : ℝ) : EReal)) (score_shift _ _ _ _)
  · rw [if_neg hu, if_neg hu, EReal.bot_sub, Ideal.exp_bot, mul_zero, EReal.coe_zero]

theorem wt_nonneg (b : Fin 2) (h : Fin 8) (t u : Fin 8208) : 0 ≤ wt Z G B b h t u := by
  unfold wt
  split
  · exact (Real.exp_pos _).le
  · exact le_rfl

theorem wt_sum_pos (b : Fin 2) (h : Fin 8) (t : Fin 8208) : 0 < ∑ u : Fin 8208, wt Z G B b h t u :=
  Finset.sum_pos' (fun u _ => wt_nonneg Z G B b h t u) ⟨t, Finset.mem_univ _, by unfold wt; rw [if_pos le_rfl]; exact Real.exp_pos _⟩

include hZ hG hB in
theorem v44_at (b : Fin 2) (h : Fin 8) (t u : Fin 8208) :
    (val_main_v44 (F := Ideal) Z G B (ix4 b h t u) : EReal) = ((wt Z G B b h t u / ∑ w : Fin 8208, wt Z G B b h t w : ℝ) : EReal) := by
  obtain ⟨κ, hκ, h40⟩ := v40_at Z G B hZ hG hB b h t
  have e41 : (val_main_v41 (F := Ideal) Z G B (ix3 b h t) : EReal) = ((κ * ∑ w : Fin 8208, wt Z G B b h t w : ℝ) : EReal) := by
    rw [val_main_v41_apply]
    have hz : (val_main_cst_3 (F := Ideal) (Shape.Idx.first h_S_) : EReal) = 0 := by
      show Ideal.ofBits .f32 0x00000000#32 = 0
      simp [Ideal.ofBits, Ideal.ieee]
    rw [hz, zero_add, Finset.mul_sum, coe_sum]
    refine Finset.sum_congr rfl fun w _ => ?_
    rw [← h40]
    refine congrArg _ (funext fun a => ?_)
    match a with
    | ⟨0, _⟩ => rfl
    | ⟨1, _⟩ => rfl
    | ⟨2, _⟩ => rfl
    | ⟨3, _⟩ => rfl
  rw [val_main_v44_apply, val_main_v43_apply, val_main_v42_apply, h40]
  have e : (val_main_v41 (F := Ideal) Z G B (idx_main_v42 (idx_main_v43 (ix4 b h t u))) : EReal) = ((κ * ∑ w : Fin 8208, wt Z G B b h t w : ℝ) : EReal) := by
    rw [← e41]
    refine congrArg _ (funext fun a => ?_)
    match a with
    | ⟨0, _⟩ => rfl
    | ⟨1, _⟩ => rfl
    | ⟨2, _⟩ => rfl
  show Ideal.div _ (val_main_v41 (F := Ideal) Z G B (idx_main_v42 (idx_main_v43 (ix4 b h t u))) : EReal) = _
  have hp := wt_sum_pos Z G B b h t
  rw [e, Ideal.div_coe (mul_pos hκ hp).ne', ← EReal.coe_mul]
  congr 1
  field_simp

include hZ hG hB in
theorem v45_at (b : Fin 2) (h : Fin 8) (d : Fin 128) (t : Fin 8208) :
    (val_main_v45 (F := Ideal) Z G B (ix4 b h d t) : EReal) = ((attn Z G B b h t d : ℝ) : EReal) := by
  rw [val_main_v45_apply]
  unfold attn
  rw [Finset.sum_div, coe_sum]
  refine Finset.sum_congr rfl fun u _ => ?_
  have e1 : (val_main_v17 (F := Ideal) Z (lidx_main_v45 (ix4 b h d t) u) : EReal) = ((vl Z b h d u : ℝ) : EReal) := by
    unfold vl
    rw [← hZ, ← v17_at Z b h u d]
    refine congrArg _ (funext fun a => ?_)
    match a with
    | ⟨0, _⟩ => rfl
    | ⟨1, _⟩ => rfl
    | ⟨2, _⟩ => rfl
    | ⟨3, _⟩ => rfl
  have e2 : (val_main_v44 (F := Ideal) Z G B (ridx_main_v45 (ix4 b h d t) u) : EReal) = ((wt Z G B b h t u / ∑ w : Fin 8208, wt Z G B b h t w : ℝ) : EReal) := by
    rw [← v44_at Z G B hZ hG hB]
    refine congrArg _ (funext fun a => ?_)
    match a with
    | ⟨0, _⟩ => rfl
    | ⟨1, _⟩ => rfl
    | ⟨2, _⟩ => rfl
    | ⟨3, _⟩ => rfl
  rw [e1, e2, ← EReal.coe_mul]
  congr 1; ring

theorem out_arith (b s h d : ℕ) (hb : b < 2) (hs : s < 8448) (hh : h < 8) (hd : d < 128) :
    ((8448 * b + s) * 1024 + (128 * h + d)) / 8650752 = b ∧ ((8448 * b + s) * 1024 + (128 * h + d)) / 1024 % 8448 = s
      ∧ ((8448 * b + s) * 1024 + (128 * h + d)) % 1024 = 128 * h + d := by omega

theorem lane_arith (b t h d : ℕ) (hb : b < 2) (ht : t < 8208) (hh : h < 8) (hd : d < 128) :
    ((b * 8208 + t) * 1024 + (128 * h + d)) / 8404992 = b ∧ ((b * 8208 + t) * 1024 + (128 * h + d)) / 1024 % 8208 = t
      ∧ ((b * 8208 + t) * 1024 + (128 * h + d)) / 128 % 8 = h ∧ ((b * 8208 + t) * 1024 + (128 * h + d)) % 128 = d := by omega

include hZ hG hB in
/-- The reference's result on the real tokens. -/
theorem v50_at (b : Fin 2) (h : Fin 8) (t : Fin 8208) (d : Fin 128) :
    (val_main_v50 (F := Ideal) Z G B (ix2 (rowAt b (pos t)) (headAt h d)) : EReal) = ((attn Z G B b h t d : ℝ) : EReal) := by
  rw [val_main_v50_apply, val_main_v49_apply]
  show (val_main_v48 (F := Ideal) Z G B _ : EReal) = _
  have e := out_arith b.val (48 + t.val) h.val d.val b.isLt (by omega) h.isLt d.isLt
  have e0 : (idx_main_v49 (ix2 (rowAt b (pos t)) (headAt h d))) = ix3 b (pos t) (headAt h d) := funext fun a => Fin.ext (by
    match a with
    | ⟨0, _⟩ => exact e.1
    | ⟨1, _⟩ => exact e.2.1
    | ⟨2, _⟩ => exact e.2.2)
  rw [e0]
  unfold val_main_v48
  refine (pad_apply_of_inside _ _ _ _ _ _ _ _ (ix3 b t (headAt h d)) (fun a => ?_)).trans ?_
  · match a with
    | ⟨0, _⟩ => show b.val = 0 + b.val * (0 + 1); omega
    | ⟨1, _⟩ => show 48 + t.val = 48 + t.val * (0 + 1); omega
    | ⟨2, _⟩ => show (headAt h d).val = 0 + (headAt h d).val * (0 + 1); omega
  rw [val_main_v47_apply, val_main_v46_apply, ← v45_at Z G B hZ hG hB]
  have f := lane_arith b.val t.val h.val d.val b.isLt t.isLt h.isLt d.isLt
  refine congrArg _ (funext fun a => Fin.ext ?_)
  match a with
    | ⟨0, _⟩ => exact f.1
    | ⟨1, _⟩ => exact f.2.2.1
    | ⟨2, _⟩ => exact f.2.2.2
    | ⟨3, _⟩ => exact f.2.1

end Cert.ReferenceIdeal.Plain

end
-- ==== Proof.Ideal.KVal.lean ====
module

public import proofs.«01_k».proof.Proof.Ideal.Host
public import proofs.«01_k».proof.Proof.Ideal.Ref2

@[expose] public section

set_option maxRecDepth 16384

noncomputable section

/-! The kernel's result on the real tokens, as the attention the reference computes. -/

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI Idealize.SL.Sem

open Cert.ReferenceIdeal.Plain (pos qk vl wt attn lg cum)

set_option maxHeartbeats 2000000

/-- A sum whose first `a` and last `c` terms are zero. -/
theorem sum_mid (f : ℕ → ℝ) (a n c : ℕ) (h0 : ∀ j, j < a → f j = 0) (h1 : ∀ j, a + n ≤ j → f j = 0) :
    ∑ j ∈ Finset.range (a + n + c), f j = ∑ u : Fin n, f (a + u.val) := by
  rw [Finset.sum_range_add, Finset.sum_range_add, Finset.sum_eq_zero (fun j hj => h0 j (Finset.mem_range.1 hj)),
    Finset.sum_eq_zero (s := Finset.range c) (fun j _ => h1 _ (Nat.le_add_right _ _)), zero_add, add_zero, Fin.sum_univ_eq_sum_range (fun u => f (a + u)) n]

theorem sum_real (f : ℕ → ℝ) (h0 : ∀ j, j < 48 → f j = 0) (h1 : ∀ j, 8256 ≤ j → f j = 0) :
    ∑ j ∈ Finset.range 8448, f j = ∑ u : Fin 8208, f (48 + u.val) := sum_mid f 48 8208 192 h0 h1

theorem row_split (r : Fin 16896) : ∃ (b : Fin 2) (s : Fin 8448), r = rowAt b s :=
  ⟨⟨r.val / 8448, by omega⟩, ⟨r.val % 8448, by omega⟩, Fin.ext (by show r.val = 8448 * (r.val / 8448) + r.val % 8448; omega)⟩

theorem lane_split (k : Fin 1024) : ∃ (h : Fin 8) (x : Fin 128), k = headAt h x :=
  ⟨⟨k.val / 128, by omega⟩, ⟨k.val % 128, by omega⟩, Fin.ext (by show k.val = 128 * (k.val / 128) + k.val % 128; omega)⟩

theorem keyOf_ne_top (n : ℕ) (cy : ℝ) (x : ℕ) : keyOf n cy x ≠ ⊤ := by
  unfold keyOf
  split
  · split
    · exact bot_ne_top
    · split
      · exact EReal.coe_ne_top _
      · exact EReal.zero_ne_top
  · exact EReal.zero_ne_top

theorem key_sum (n : ℕ) (cy : ℝ) : ∑ x : Fin 128, (if x.val < 3 then (1 : EReal) else 0) * keyOf n cy x.val
    = if n < 48 then ⊥ else ((-((Real.log 2)⁻¹) * cy : ℝ) : EReal) := by
  by_cases hn : n < 48
  · rw [if_pos hn, ← Finset.add_sum_erase _ _ (Finset.mem_univ (0 : Fin 128))]
    have e : keyOf n cy (0 : Fin 128).val = ⊥ := by
      unfold keyOf; rw [if_pos (by decide), if_pos hn]
    rw [e, if_pos (by decide), one_mul, EReal.bot_add]
  · rw [if_neg hn, Finset.sum_eq_single (0 : Fin 128)]
    · unfold keyOf
      rw [if_pos (by decide), if_pos (by decide), if_neg hn, if_pos (by decide), one_mul]
    · intro x _ hx
      have hx' : x.val ≠ 0 := fun e => hx (Fin.ext e)
      unfold keyOf
      split
      · first | exact mul_zero _ | rw [if_neg hn, if_neg hx', mul_zero]
      · rw [zero_mul]
    · intro h; exact absurd (Finset.mem_univ _) h

theorem exp_two (q c : ℝ) : (2 : ℝ) ^ (q + -((Real.log 2)⁻¹) * c - 0) = Real.exp (Real.log 2 * q - c) := by
  rw [Real.rpow_def_of_pos (by norm_num)]
  congr 1
  have h : Real.log 2 ≠ 0 := (Real.log_pos (by norm_num)).ne'
  field_simp
  ring

variable (m : (ℓ : Loc nD τ sig) → Buf (Elt Ideal) ℓ) (ρ : Dev nD → PrngReg) (c : Dev nD)

/-- The tokens' array, the gates' slab and the bias, as the run is given them. -/
abbrev argZ : Cert.ReferenceIdeal.Plain.ZT := m ((c.tc : Thread nD τ).loc main_arg0)
abbrev argG : Cert.ReferenceIdeal.Plain.GT := m ((c.tc : Thread nD τ).loc main_arg1)
abbrev argB : Cert.ReferenceIdeal.Plain.BT := m ((c.tc : Thread nD τ).loc main_arg2)

variable (hZ : ∀ r k, (argZ m c (ix2 r k) : EReal) = ((EReal.toReal (argZ m c (ix2 r k)) : ℝ) : EReal))
  (hG : ∀ r k, (argG m c (ix2 r k) : EReal) = ((EReal.toReal (argG m c (ix2 r k)) : ℝ) : EReal))
  (hB : ∀ k, (argB m c (ix1 k) : EReal) = ((EReal.toReal (argB m c (ix1 k)) : ℝ) : EReal))

include hB in
theorem bias_real (k : Fin 128) : ((V3 m ρ c main_v1 : Vec Ideal S1x128 .f32) (ix2 0 k) : EReal) = ((EReal.toReal ((V3 m ρ c main_v1 : Vec Ideal S1x128 .f32) (ix2 0 k)) : ℝ) : EReal) := by
  rw [bias_apply]
  split
  · exact hB _
  · rw [EReal.toReal_zero, EReal.coe_zero]

theorem gate_real (b : Fin 2) (h : Fin 8) (i : ℕ) (hi : i < 8208) :
    gate (V3 m ρ c main_arg1) (V3 m ρ c main_v1) b ⟨h.val, by omega⟩ (48 + i) = lg (argG m c) (argB m c) b h ⟨i, hi⟩ := by
  unfold gate lg
  rw [dif_pos (by omega), bias_apply, dif_pos h.isLt, slab_eq]
  rfl

theorem gates_real (b : Fin 2) (h : Fin 8) (u : Fin 8208) :
    gates (V3 m ρ c main_arg1) (V3 m ρ c main_v1) b ⟨h.val, by omega⟩ (48 + u.val + 1) = cum (argG m c) (argB m c) b h u.val := by
  unfold gates cum
  rw [show 48 + u.val + 1 = 48 + (u.val + 1) from rfl, Finset.sum_range_add _ 48 (u.val + 1),
    Finset.sum_eq_zero (fun j hj => by unfold gate; rw [dif_neg (by have := Finset.mem_range.1 hj; omega)]), zero_add]
  refine Finset.sum_congr rfl fun i hi => ?_
  have hi' : i < 8208 := by have := Finset.mem_range.1 hi; omega
  rw [dif_pos hi']
  exact gate_real m ρ c b h i hi'

include hG hB in
theorem keys_at (b : Fin 2) (h : Fin 8) (s : Fin 8448) (x : Fin 128) :
    ((V5 m ρ c main_v2 : Vec Ideal S16896x1024 .bf16) (ix2 (rowAt b s) (headAt h x)) : EReal)
      = keyOf s.val (gates (V3 m ρ c main_arg1) (V3 m ρ c main_v1) b ⟨h.val, by omega⟩ (s.val + 1)) x.val := by
  rw [keys_eq]
  exact key_arr (V3 m ρ) c (fun r k => by rw [slab_eq]; exact hG r k) (fun k => bias_real m ρ c hB k) b h s x

include hZ hG hB in
theorem logit_eq (b : Fin 2) (h : Fin 8) (t : Fin 8208) (j : ℕ) :
    logit (V5 m ρ c main_arg0) (V5 m ρ c main_v2) b h (pos t) j
      = if hj : 48 ≤ j ∧ j ≤ 48 + t.val then ((qk (argZ m c) b h t ⟨j - 48, by omega⟩ + -((Real.log 2)⁻¹) * cum (argG m c) (argB m c) b h (j - 48) : ℝ) : EReal) else ⊥ := by
  unfold logit
  by_cases hj8 : j < 8448
  · rw [dif_pos hj8]
    by_cases hjt : j ≤ 48 + t.val
    · rw [if_pos (show j ≤ (pos t).val from hjt)]
      have e : ∑ x : Fin 128, (if x.val < 3 then (1 : EReal) else 0) * (V5 m ρ c main_v2 : Vec Ideal S16896x1024 .bf16) (ix2 (rowAt b ⟨j, hj8⟩) (headAt h x))
          = if j < 48 then ⊥ else ((-((Real.log 2)⁻¹) * gates (V3 m ρ c main_arg1) (V3 m ρ c main_v1) b ⟨h.val, by omega⟩ (j + 1) : ℝ) : EReal) := by
        rw [← key_sum]
        refine Finset.sum_congr rfl fun x _ => ?_
        rw [keys_at m ρ c hG hB]
      rw [e]
      by_cases h48 : j < 48
      · rw [if_pos h48, dif_neg (by omega), EReal.add_bot]
      · rw [if_neg h48, dif_pos ⟨by omega, hjt⟩, EReal.coe_add]
        obtain ⟨i, rfl⟩ := Nat.exists_eq_add_of_le (Nat.le_of_not_lt h48)
        have hi : i < 8208 := by omega
        have eg := gates_real m ρ c b h ⟨i, hi⟩
        have e48 : 48 + i - 48 = i := by omega
        refine congr_arg₂ (fun a b : EReal => a + b) ?_ ?_
        · unfold qk
          rw [coe_sum]
          refine Finset.sum_congr rfl fun x _ => ?_
          rw [EReal.coe_mul, ← hZ, ← hZ, tokens_eq]
          simp only [e48]
          rfl
        · rw [eg]
          simp only [e48]
    · rw [if_neg (show ¬(j ≤ (pos t).val) from hjt), dif_neg (fun q => hjt q.2)]
  · rw [dif_neg hj8, dif_neg (by omega)]

include hZ hG hB in
theorem pw_at (b : Fin 2) (h : Fin 8) (t u : Fin 8208) :
    pw (logit (V5 m ρ c main_arg0) (V5 m ρ c main_v2) b h (pos t) (48 + u.val)) 0 = wt (argZ m c) (argG m c) (argB m c) b h t u := by
  rw [logit_eq m ρ c hZ hG hB]
  unfold wt
  have e48 : 48 + u.val - 48 = u.val := by omega
  by_cases hu : u.val ≤ t.val
  · rw [dif_pos (by omega), if_pos hu, ← EReal.coe_zero, pw_coe, exp_two]
    simp only [e48]
  · rw [dif_neg (by omega), if_neg hu, pw_bot]

include hZ hG hB in
theorem pw_off (b : Fin 2) (h : Fin 8) (t : Fin 8208) (j : ℕ) (hj : j < 48 ∨ 8256 ≤ j) :
    pw (logit (V5 m ρ c main_arg0) (V5 m ρ c main_v2) b h (pos t) j) 0 = 0 := by
  rw [logit_eq m ρ c hZ hG hB, dif_neg (by omega), pw_bot]

include hZ hG hB in
/-- The kernel's result on the real tokens. -/
theorem kernel_at (b : Fin 2) (h : Fin 8) (t : Fin 8208) (d : Fin 128) :
    ((dat1 (V5 m ρ) c).arrAt 5 cfg1.N (ix2 (rowAt b (pos t)) (headAt h d)) : EReal) = ((attn (argZ m c) (argG m c) (argB m c) b h t d : ℝ) : EReal) := by
  have hj : logit (V5 m ρ c main_arg0) (V5 m ρ c main_v2) b h (pos t) (48 + t.val) ≠ ⊥ := by
    rw [logit_eq m ρ c hZ hG hB, dif_pos (by omega)]
    exact EReal.coe_ne_bot _
  rw [attn_arr (V5 m ρ) c (fun r k => by rw [tokens_eq]; exact hZ r k) (fun r k => by
      obtain ⟨b, s, rfl⟩ := row_split r
      obtain ⟨h, x, rfl⟩ := lane_split k
      rw [keys_at m ρ c hG hB]
      exact keyOf_ne_top _ _ _) (fun j l => ones_apply m ρ c j l) b h (pos t) d _ hj]
  refine congrArg (fun y : ℝ => (y : EReal)) ?_
  unfold soft attn
  rw [sum_real _ (fun j hj => by rw [pw_off m ρ c hZ hG hB b h t j (Or.inl hj), zero_mul]) (fun j hj => by rw [pw_off m ρ c hZ hG hB b h t j (Or.inr hj), zero_mul]),
    sum_real _ (fun j hj => pw_off m ρ c hZ hG hB b h t j (Or.inl hj)) (fun j hj => pw_off m ρ c hZ hG hB b h t j (Or.inr hj))]
  refine congr_arg₂ (fun a b : ℝ => a / b) (Finset.sum_congr rfl fun u _ => ?_) (Finset.sum_congr rfl fun u _ => pw_at m ρ c hZ hG hB b h t u)
  rw [pw_at m ρ c hZ hG hB]
  refine congrArg (wt (argZ m c) (argG m c) (argB m c) b h t u * ·) ?_
  unfold valueOf vl
  rw [dif_pos (show 48 + u.val < 8448 by omega), tokens_eq]
  rfl

end Cert.KernelIdeal.Attn

end
-- ==== Proof.Ideal.Meet.lean ====
module

public import proofs.«01_k».proof.Defs
public import proofs.«01_k».proof.Proof.Ideal.KVal
public import proofs.«01_k».proof.Proof.Gen.Pre_finite
public import proofs.«01_k».proof.Proof.Gen.On_real_rows

@[expose] public section

set_option maxRecDepth 16384

noncomputable section

/-! The two programs meet: where the inputs are finite, the kernel's result and the reference's are equal on the rows of the real tokens. -/

namespace Cert.Meet

open Idealize.ShloMosaic Idealize.ShloMosaic.TcCoe
open Idealize.SL.Sem
open Cert.KernelIdeal.Attn (rowAt headAt dat1 V5 kernel_at)
open Cert.KernelIdeal (cfg1)
open Cert.ReferenceIdeal.Plain (pos attn v50_at)

instance : Cert.Pre_finite.Facts := Cert.Pre_finite.Gen.facts
instance : Cert.On_real_rows.Facts := Cert.On_real_rows.Gen.facts

/-! ### Finite inputs -/

theorem foldl_and {α : Type} (g : α → BitVec 1) : ∀ (l : List α) (v : BitVec 1), l.foldl (fun r n => IntOp.andi r (g n)) v = 1#1 →
    v = 1#1 ∧ ∀ n ∈ l, g n = 1#1
  | [], v, h => ⟨h, fun n hn => absurd hn List.not_mem_nil⟩
  | a :: l, v, h => by
    obtain ⟨h1, h2⟩ := foldl_and g l _ h
    have h3 := (IntOp.andi_eq_one).1 h1
    refine ⟨h3.1, fun n hn => ?_⟩
    rcases List.mem_cons.1 hn with e | e
    · rw [e]; exact h3.2
    · exact h2 n e

theorem all_of_reduce {s t u : Shape} {axes : List (Fin s.rank)} (x : s.Idx → BitVec 1) (init : u.Idx → BitVec 1) (h : s.ReducesTo axes t)
    (hu : 0 < u.numel) (j : t.Idx) (hj : ∀ k : t.Idx, k = j) (e : Host.reduce IntOp.andi x init h hu j = 1#1) (i : s.Idx) : x i = 1#1 := by
  rw [Host.reduce_eq_foldl] at e
  refine (foldl_and x _ _ e).2 i ?_
  rw [List.mem_filter]
  refine ⟨List.mem_map.2 ⟨s.rowMajor i, List.mem_finRange _, s.rowMajor.symm_apply_apply i⟩, ?_⟩
  rw [hj (h.drop i)]
  exact decide_eq_true rfl

theorem real_of_cmp (x : EReal) (h : Ideal.cmp .olt (max x (-x)) (Ideal.ofBits .f32 0x7F800000#32) = 1#1) : x = ((EReal.toReal x : ℝ) : EReal) := by
  have e : Ideal.ofBits .f32 0x7F800000#32 = (⊤ : EReal) := by simp [Ideal.ofBits, Ideal.ieee]
  rw [e] at h
  have hx : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  have h1 : x ≠ ⊤ := fun q => by rw [q] at hx; simp at hx
  have h2 : x ≠ ⊥ := fun q => by rw [q] at hx; simp at hx
  exact (EReal.coe_toReal h1 h2).symm

abbrev ix0 : Cert.Pre_finite.S_.Idx := fun a => Fin.elim0 a

theorem ix0_eq (k : Cert.Pre_finite.S_.Idx) : k = ix0 := funext fun a => Fin.elim0 a

variable (Z : Cert.ReferenceIdeal.Plain.ZT) (G : Cert.ReferenceIdeal.Plain.GT) (B : Cert.ReferenceIdeal.Plain.BT)

theorem finite_all (h : Cert.Pre_finite.fn (F := Ideal) Z G B = fun _ => 1#1) :
    (∀ i, (Z i : EReal) = ((EReal.toReal (Z i) : ℝ) : EReal)) ∧ (∀ i, (G i : EReal) = ((EReal.toReal (G i) : ℝ) : EReal))
      ∧ ∀ i, (B i : EReal) = ((EReal.toReal (B i) : ℝ) : EReal) := by
  have h0 := congrFun h ix0
  have h1 := (IntOp.andi_eq_one).1 h0
  have h2 := (IntOp.andi_eq_one).1 h1.1
  exact ⟨fun i => real_of_cmp _ (all_of_reduce _ _ _ _ ix0 ix0_eq h2.1 i), fun i => real_of_cmp _ (all_of_reduce _ _ _ _ ix0 ix0_eq h2.2 i),
    fun i => real_of_cmp _ (all_of_reduce _ _ _ _ ix0 ix0_eq h1.2 i)⟩

/-! ### The rows of the real tokens -/

theorem real_row (b : Fin 2) (s : Fin 8448) (c : Fin 1024) (h : Cert.On_real_rows.fn (F := Ideal) Z G B (ix2 (rowAt b s) c) = 1#1) :
    48 ≤ s.val ∧ s.val < 8256 := by
  have e : Cert.On_real_rows.fn (F := Ideal) Z G B (ix2 (rowAt b s) c)
      = IntOp.andi (IntOp.cmpi .sge (BitVec.ofNat 32 s.val) (BitVec.ofNat 32 48)) (IntOp.cmpi .slt (BitVec.ofNat 32 s.val) (BitVec.ofNat 32 8256)) := by
    have e0 : Cert.On_real_rows.fn (F := Ideal) Z G B = shapeCast Cert.On_real_rows.S16896x1024
        (fun i : Cert.On_real_rows.S2x8448x1024.Idx => IntOp.andi (IntOp.cmpi .sge (BitVec.ofNat 32 (i 1).val) (BitVec.ofNat 32 48)) (IntOp.cmpi .slt (BitVec.ofNat 32 (i 1).val) (BitVec.ofNat 32 8256)))
        Cert.On_real_rows.Facts.shapeCasts_S2x8448x1024_S16896x1024 := rfl
    rw [e0]
    refine (shapeCast_apply _ _ _ (ix3 b s c) ?_).trans rfl
    rw [Shape.rowMajor_val_two, Shape.rowMajor_val_three]
    show (b.val * 8448 + s.val) * 1024 + c.val = (8448 * b.val + s.val) * 1024 + c.val
    ring
  rw [e] at h
  obtain ⟨h1, h2⟩ := (IntOp.andi_eq_one).1 h
  rw [Cert.KernelIdeal.Attn.sge_nat _ _ (by omega) (by omega)] at h1
  rw [Cert.KernelIdeal.Attn.slt_nat _ _ (by omega) (by omega)] at h2
  constructor
  · by_contra q; rw [if_neg q] at h1; exact absurd h1 (by decide)
  · by_contra q; rw [if_neg q] at h2; exact absurd h2 (by decide)

/-- An entry the mask selects is one of a real token, of some head. -/
theorem real_index (i : (⟨2, ![16896, 1024]⟩ : Shape).Idx) (h : Cert.On_real_rows.fn (F := Ideal) Z G B i = 1#1) :
    ∃ (b : Fin 2) (t : Fin 8208) (e : Fin 8) (d : Fin 128), i = ix2 (rowAt b (pos t)) (headAt e d) := by
  obtain ⟨b, s, hr⟩ := Cert.KernelIdeal.Attn.row_split (i 0)
  obtain ⟨e, d, hc⟩ := Cert.KernelIdeal.Attn.lane_split (i 1)
  have hi : i = ix2 (rowAt b s) (headAt e d) := Shape.idx_ext₂ (congrArg Fin.val hr) (congrArg Fin.val hc)
  rw [hi] at h
  obtain ⟨h1, h2⟩ := real_row Z G B b s _ h
  refine ⟨b, ⟨s.val - 48, by omega⟩, e, d, hi.trans ?_⟩
  have hs : s = pos ⟨s.val - 48, by omega⟩ := Fin.ext (by show s.val = 48 + (s.val - 48); omega)
  exact congrArg (fun q => ix2 (rowAt b q) (headAt e d)) hs

/-! ### The kernel and the reference -/

section
variable (m : (ℓ : Loc Cert.KernelIdeal.nD Cert.KernelIdeal.τ Cert.KernelIdeal.sig) → Buf (Elt Ideal) ℓ) (ρ : Dev Cert.KernelIdeal.nD → PrngReg)

open Cert.KernelIdeal Cert.KernelIdeal.Attn in
theorem ran_kernel : θ_run defs (onTc (τ := τ) (main (F := Ideal))) ⟨m, fun _ => 0, ρ⟩ (fun r => ∀ c : Dev nD,
      r.2.mem ((c.tc : Thread nD τ).loc main_v7) = (dat1 (V5 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h.1 c _ (mem_uc main_v7 (by decide))).trans (W6_arr m ρ c 5),
     (h.1 c _ (mem_uc main_arg0 (by decide))).trans (W6_args m ρ c main_arg0 (by decide)),
     (h.1 c _ (mem_uc main_arg1 (by decide))).trans (W6_args m ρ c main_arg1 (by decide)),
     (h.1 c _ (mem_uc main_arg2 (by decide))).trans (W6_args m ρ c main_arg2 (by decide))⟩) (ran m ρ)

/-- On the entries the mask selects, what the kernel writes is what the reference computes. -/
theorem meet (c : Dev Cert.KernelIdeal.nD) (hp : Cert.Pre_KernelIdeal_finite m)
    (i : (⟨2, ![16896, 1024]⟩ : Shape).Idx)
    (h : Cert.On_real_rows.fn (F := Ideal) (Cert.KernelIdeal.Attn.argZ m c) (Cert.KernelIdeal.Attn.argG m c) (Cert.KernelIdeal.Attn.argB m c) i = 1#1) :
    (Cert.ReferenceIdeal.Read.val_main_v50 (F := Ideal) (Cert.KernelIdeal.Attn.argZ m c) (Cert.KernelIdeal.Attn.argG m c) (Cert.KernelIdeal.Attn.argB m c) i : EReal)
      = ((dat1 (V5 m ρ) c).arrAt 5 cfg1.N i : EReal) := by
  obtain ⟨hZ, hG, hB⟩ := finite_all _ _ _ (hp c)
  obtain ⟨b, t, e, d, rfl⟩ := real_index _ _ _ i h
  exact (v50_at _ _ _ (fun r k => hZ _) (fun r k => hG _) (fun k => hB _) b e t d).trans
    (kernel_at m ρ c (fun r k => hZ _) (fun r k => hG _) (fun k => hB _) b e t d).symm

end

/-- Where the inputs are finite both programs run, and their results are equal on the rows of the real tokens. -/
theorem algebraic : Cert.algebraic_KernelIdeal_ReferenceIdeal_on_real_rows_pre_finite := by
  intro m g m' g' hp ha
  refine ⟨fun c => (dat1 (V5 m g) c).arrAt 5 cfg1.N, ?_, ?_⟩
  · exact (θ_run _ _ _).mono (fun r h c => ⟨fun i _ => congrFun (h c).1 i, (h c).2⟩) (ran_kernel m g)
  · refine (θ_run _ _ _).mono (fun r h c => ⟨fun i hi => ?_, (h c).2⟩) (Cert.ReferenceIdeal.Value.run m' g')
    refine (congrFun ((h c).1.trans (Cert.ReferenceIdeal.Read.val_main_v50_eq m' c)) i).trans ?_
    rw [(ha c).1, (ha c).2.1, (ha c).2.2]
    exact meet m g c hp i hi

end Cert.Meet

end
-- ==== Proof.Proj.Run.lean ====
module

public import proofs.«01_k».proof.Proof.Gen.Kernel2Ideal.Skeleton
public import proofs.«01_k».proof.Proof.Gen.Kernel2Ideal.Points
public import Idealize.ShloMosaic.Lib.Ring
public import Idealize.ShloMosaic.Lib.Tactic
public import Idealize.ShloMosaic.Lib.WordCmp
public import Idealize.ShloMosaic.Lib.WholeRead
public import Idealize.ShloMosaic.Lib.Exec
public import Idealize.ShloMosaic.Lib.Pipeline.FrameBody
public import Idealize.ShloMosaic.Lib.Pipeline.ValueKit.Basic

@[expose] public section

set_option maxRecDepth 16384

noncomputable section

/-! The projection's body at a row block's first point, where it norms the rows and projects the gate columns, and at the later ones,
   where it only multiplies the normed rows by the point's weights. -/

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The whole of a buffer, read back. -/
theorem rd_whole {S : Shape} {e : EltTy} (a : Memref sig .tc .vmem S e) (ha : a.IsWhole) {off : Fin S.rank → ℕ} (h0 : ∀ b, off b = 0)
    (inb : ∀ b, off b + S.size b ≤ S.size b) (x : Vec F S e) :
    View.readAt (Elt F) a.view (Rect.unit (s := S) off S.size inb).toLoadRect (ha.unread x) = x := by
  funext y
  rw [ha.readAt_unread]
  congr 1
  funext b; apply Fin.ext
  simp [LoadRect.idx, Rect.unit, Rect.toLoadRect, h0 b]

/-- The whole of a buffer, read back after a whole store. -/
theorem rd_stored {S : Shape} {e : EltTy} (a : Memref sig .tc .vmem S e) {off : Fin S.rank → ℕ} (h0 : ∀ b, off b = 0)
    (inb : ∀ b, off b + S.size b ≤ S.size b) (w : Vec F S e) :
    a.view.readCov (Val := Elt F) [⟨Rect.unit (s := S) off S.size inb, w⟩] (Rect.unit (s := S) off S.size inb).toLoadRect = w := by
  rw [View.readCov_eq_canon_ld _ _ _ (fun y => ⟨_, List.mem_cons_self, View.mem_set_unit_zero (funext h0) inb y⟩), View.canon_cons_unit_lit _ _ _ h0]
  funext y
  refine congrArg w (funext fun b => Fin.ext ?_)
  simp [LoadRect.idx, Rect.unit, h0 b]

/-- What a whole store leaves. -/
theorem left_stored {S : Shape} {e : EltTy} (a : Memref sig .tc .vmem S e) {off : Fin S.rank → ℕ} (h0 : ∀ b, off b = 0)
    (inb : ∀ b, off b + S.size b ≤ S.size b) (w : Vec F S e) (f : BufTy.Contents (Elt F) a.view.ty) :
    View.read (Elt F) a.view (a.view.writes (Elt F) f [⟨Rect.unit (s := S) off S.size inb, w⟩]) = w :=
  (View.read_writes_eq_canon _ _ _ (fun y => ⟨_, List.mem_cons_self, View.mem_set_unit_zero (funext h0) inb y⟩)).trans (View.canon_cons_unit_lit _ _ _ h0)

theorem off0 : ∀ b : Fin 2, (![0, 0] : Fin 2 → ℕ) b = 0 := by decide

/-- The point is the first of its row block, as the body's branch reads it. -/
abbrev firstPoint (i : grid0.Coords) : Prop := k0_cond1 i = 1#1

variable (c : Dev nD) (i : grid0.Coords) (arg2 : Memref sig .tc .vmem S768x2048 .f32) (harg2 : arg2.IsWhole) (arg3 : Memref sig .tc .vmem S1x2048 .f32) (harg3 : arg3.IsWhole)
  (arg4 : Memref sig .tc .vmem S2048x1024 .bf16) (harg4 : arg4.IsWhole) (arg5 : Memref sig .tc .vmem S16x2048 .bf16) (harg5 : arg5.IsWhole)
  (arg6 : Memref sig .tc .vmem S2048x128 .bf16) (harg6 : arg6.IsWhole) (arg7 : Memref sig .tc .vmem S768x1024 .bf16) (harg7 : arg7.IsWhole)
  (arg8 : Memref sig .tc .vmem S16x768 .f32) (harg8 : arg8.IsWhole) (arg9 : Memref sig .tc .vmem S768x128 .f32) (harg9 : arg9.IsWhole)
  (arg10 : Memref sig .tc .vmem S768x2048 .bf16) (harg10 : arg10.IsWhole)

set_option maxHeartbeats 4000000 in
/-- The body at a row block's first point. -/
theorem run_first (hc : firstPoint i) (x2 : Vec F S768x2048 .f32) (x3 : Vec F S1x2048 .f32) (x4 : Vec F S2048x1024 .bf16) (x5 : Vec F S16x2048 .bf16) (x6 : Vec F S2048x128 .bf16)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare x6 ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare (k0_pay5 (k0_pay2 x2 x3) x4) ∗ owns (c : Thread nD τ) arg8 fullShare (k0_pay3 x2 x3 x5)
            ∗ owns (c : Thread nD τ) arg9 fullShare (k0_pay4 x2 x3 x6) ∗ owns (c : Thread nD τ) arg10 fullShare (k0_pay2 x2 x3)) -∗ K ⟨⟩))
      ⊢ wp frame (wpE (defs₀ (F := F)) Variants.none c none) E (cc0_norm_inproj i arg2 harg2 arg3 harg3 arg4 harg4 arg5 harg5 arg6 harg6 arg7 harg7 arg8 harg8 arg9 harg9 arg10 harg10) K := by
  simp only [cc0_norm_inproj_eq_skeleton]; unfold cc0_norm_inproj_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds, %fs, -, HS⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | sl_exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (left_stored arg7 off0 _ _ _).trans ?_
    exact congrArg₂ k0_pay5 ((rd_stored arg10 off0 _ _).trans (congrArg₂ k0_pay2 (rd_whole arg2 harg2 off0 _ x2) (rd_whole arg3 harg3 off0 _ x3))) (rd_whole arg4 harg4 off0 _ x4)
  isplitl [H8]
  · iexists _; isplitr
    swap; · iexact H8
    ipureintro
    refine (left_stored arg8 off0 _ _ _).trans ?_
    exact congr (congrArg₂ k0_pay3 (rd_whole arg2 harg2 off0 _ x2) (rd_whole arg3 harg3 off0 _ x3)) (rd_whole arg5 harg5 off0 _ x5)
  isplitl [H9]
  · iexists _; isplitr
    swap; · iexact H9
    ipureintro
    refine (left_stored arg9 off0 _ _ _).trans ?_
    exact congr (congrArg₂ k0_pay4 (rd_whole arg2 harg2 off0 _ x2) (rd_whole arg3 harg3 off0 _ x3)) (rd_whole arg6 harg6 off0 _ x6)
  iexists _; isplitr
  swap; · iexact HS
  ipureintro
  refine (left_stored arg10 off0 _ _ _).trans ?_
  exact congrArg₂ k0_pay2 (rd_whole arg2 harg2 off0 _ x2) (rd_whole arg3 harg3 off0 _ x3)

set_option maxHeartbeats 4000000 in
/-- The body at a later point: the normed rows are where the first point left them. -/
theorem run_later (hc : ¬firstPoint i) (x4 : Vec F S2048x1024 .bf16) (xs : Vec F S768x2048 .bf16)
    (E : Set ℕ) (K : PUnit → sProp 𝕄) :
    iprop(owns (c : Thread nD τ) arg4 fullShare x4 ∗ (∃ d, owns (c : Thread nD τ) arg7 fullShare d) ∗ owns (c : Thread nD τ) arg10 fullShare xs
        ∗ (iprop(owns (c : Thread nD τ) arg4 fullShare x4 ∗ owns (c : Thread nD τ) arg7 fullShare (k0_pay5 xs x4) ∗ owns (c : Thread nD τ) arg10 fullShare xs) -∗ K ⟨⟩))
      ⊢ wp frame (wpE (defs₀ (F := F)) Variants.none c none) E (cc0_norm_inproj i arg2 harg2 arg3 harg3 arg4 harg4 arg5 harg5 arg6 harg6 arg7 harg7 arg8 harg8 arg9 harg9 arg10 harg10) K := by
  simp only [cc0_norm_inproj_eq_skeleton]; unfold cc0_norm_inproj_skel
  unfold owns
  iintro ⟨⟨%f4, %hf4, H4⟩, ⟨%d7, %f7, -, H7⟩, ⟨%fs, %hfs, HS⟩, Hk⟩
  obtain rfl := harg4.eq_unread hf4; obtain rfl := harg10.eq_unread hfs
  sl_exec (disch := first | sl_exact hc)
  sl_step
  iapply Hk
  isplitl [H4]
  · iexists _; isplitr; · ipureintro; exact harg4.read_unread _
    iexact H4
  isplitl [H7]
  · iexists _; isplitr
    swap; · iexact H7
    ipureintro
    refine (left_stored arg7 off0 _ _ _).trans ?_
    exact congrArg₂ k0_pay5 (rd_whole arg10 harg10 off0 _ xs) (rd_whole arg4 harg4 off0 _ x4)
  iexists _; isplitr; · ipureintro; exact harg10.read_unread _
  iexact HS

end Cert.Kernel2Ideal.Proj

end
-- ==== Proof.Proj.Data.lean ====
module

public import proofs.«01_k».proof.Proof.Proj.Run
public import proofs.«01_k».proof.Proof.Gen.Kernel2Ideal.Launch
public import Idealize.ShloMosaic.Lib.Pipeline.FrameBody
public import Idealize.ShloMosaic.Lib.Pipeline.RegionsLoop
public import Idealize.ShloMosaic.Lib.Pipeline.FrameSuffix

@[expose] public section

set_option maxRecDepth 16384

noncomputable section

/-! The projection's region: what each grid point leaves, and that the body at a point leaves it. -/

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid's points -/

theorem row_at (t : Fin cfg0.N) : (grid0.coords t 0).val = t.val / 6 % 22 := Pipeline.Grid.coords_val t 0 (by decide) rfl
theorem col_at (t : Fin cfg0.N) : (grid0.coords t 1).val = t.val % 6 := (Pipeline.Grid.coords_val t 1 (by decide) rfl : (grid0.coords t 1).val = t.val / 1 % 6).trans (by rw [Nat.div_one])

theorem firstPoint_iff (i : grid0.Coords) : firstPoint i ↔ (i 1).val = 0 := by
  have h1 : (i 1).val < 6 := (i 1).isLt
  have e : Scalar.cmpi .eq (BitVec.ofNat 32 (i 1).val) 0#32 = if (i 1).val = 0 then 1#1 else 0#1 := by
    have e' : (BitVec.ofNat 32 (i 1).val = BitVec.ofNat 32 0) ↔ (i 1).val = 0 := WordCmp.ofNat_eq_ofNat_iff (by omega) (by omega)
    show IntOp.cmpi .eq _ _ = _
    rw [WordCmp.cmpi_eq_eq]
    by_cases h : (i 1).val = 0
    · rw [if_pos h, decide_eq_true (e'.mpr h)]; rfl
    · rw [if_neg h, decide_eq_false (fun hh => h (e'.mp hh))]; rfl
  unfold firstPoint k0_cond1
  dsimp only
  rw [e]
  split
  · exact ⟨fun _ => by assumption, fun _ => by decide⟩
  · rename_i h
    exact ⟨fun hh => absurd hh (by decide), fun hh => absurd hh h⟩

theorem firstPoint_at (t : Fin cfg0.N) : firstPoint (grid0.coords t) ↔ t.val % 6 = 0 := by
  rw [firstPoint_iff, col_at]

/-- At a row block's first point the body stores into every output, -/
theorem idle_first (w : Fin 8) (t : Fin cfg0.N) (h : firstPoint (grid0.coords t)) : cfg0.idle w (cfg0.grid.coords t) = false := by
  have h' : k0_cond1 (grid0.coords t) = 1#1 := h
  show idle0 w (grid0.coords t) = false
  fin_cases w <;> simp [idle0, h']

/-- and at a later one into none of the gate outputs. -/
theorem idle_later (w : Fin 8) (hw : 6 ≤ w.val) (t : Fin cfg0.N) (h : ¬firstPoint (grid0.coords t)) : cfg0.idle w (cfg0.grid.coords t) = true := by
  have h' : ¬k0_cond1 (grid0.coords t) = 1#1 := h
  show idle0 w (grid0.coords t) = true
  fin_cases w <;> first | (exfalso; revert hw; decide) | simp [idle0, h']

-- each core's buffers when the region is entered
variable (V : (c : Dev nD) → (b : Ref sig .tc) → Buf (Elt F) ((c : Thread nD τ).loc b))

/-- Window `w`'s block at point `t`, off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The buffer the normed rows are kept in. -/
abbrev rowsM : Memref sig .tc .vmem S768x2048 .bf16 := Memref.whole cc0_scratch0

/-- The normed rows of the point's row block, -/
def normed (c : Dev nD) (t : Fin cfg0.N) : Vec F S768x2048 .bf16 := k0_pay2 (blk V c 0 t) (blk V c 1 t)
/-- their product with the point's weights, -/
def mainBlk (c : Dev nD) (t : Fin cfg0.N) : Vec F S768x1024 .bf16 := k0_pay5 (normed V c t) (blk V c 2 t)
/-- the gate columns of these rows, transposed, -/
def gateT (c : Dev nD) (t : Fin cfg0.N) : Vec F S16x768 .f32 := k0_pay3 (blk V c 0 t) (blk V c 1 t) (blk V c 3 t)
/-- and the gate columns. -/
def gateC (c : Dev nD) (t : Fin cfg0.N) : Vec F S768x128 .f32 := k0_pay4 (blk V c 0 t) (blk V c 1 t) (blk V c 4 t)

theorem blk_0_same (c : Dev nD) {n : ℕ} (hn' : n < cfg0.N) (hn : n + 1 < cfg0.N) (h : (n + 1) % 6 ≠ 0) : blk V c 0 ⟨n, hn'⟩ = blk V c 0 ⟨n + 1, hn⟩ := by
  have e : (grid0.coords ⟨n, hn'⟩ 0).val = (grid0.coords ⟨n + 1, hn⟩ 0).val := by
    rw [row_at, row_at]
    have hN : cfg0.N = 132 := N_0
    show n / 6 % 22 = (n + 1) / 6 % 22
    omega
  have e2 : cc0_transform_0 (grid0.coords ⟨n, hn'⟩) = cc0_transform_0 (grid0.coords ⟨n + 1, hn⟩) := by
    unfold cc0_transform_0
    dsimp only
    rw [e]
  funext y
  unfold blk
  rw [View.read_apply, View.read_apply]
  refine congrArg (V c main_arg0) (show (win0_0.rect ⟨n, hn'⟩).emb y = (win0_0.rect ⟨n + 1, hn⟩).emb y from ?_)
  refine Shape.idx_ext₂ ((win0_0.rect_emb_val _ _ _).trans (Eq.trans ?_ (win0_0.rect_emb_val _ _ _).symm)) ((win0_0.rect_emb_val _ _ _).trans (Eq.trans ?_ (win0_0.rect_emb_val _ _ _).symm))
  · show cc0_transform_0 (grid0.coords ⟨n, hn'⟩) 0 * 768 + (y 0).val = cc0_transform_0 (grid0.coords ⟨n + 1, hn⟩) 0 * 768 + (y 0).val
    rw [e2]
  · show cc0_transform_0 (grid0.coords ⟨n, hn'⟩) 1 * 2048 + (y 1).val = cc0_transform_0 (grid0.coords ⟨n + 1, hn⟩) 1 * 2048 + (y 1).val
    rw [e2]

theorem blk_1_same (c : Dev nD) (t t' : Fin cfg0.N) : blk V c 1 t = blk V c 1 t' := rfl
theorem blk_3_same (c : Dev nD) (t t' : Fin cfg0.N) : blk V c 3 t = blk V c 3 t' := rfl
theorem blk_4_same (c : Dev nD) (t t' : Fin cfg0.N) : blk V c 4 t = blk V c 4 t' := rfl

theorem normed_same (c : Dev nD) {n : ℕ} (hn' : n < cfg0.N) (hn : n + 1 < cfg0.N) (h : (n + 1) % 6 ≠ 0) : normed V c ⟨n, hn'⟩ = normed V c ⟨n + 1, hn⟩ := by
  unfold normed
  rw [blk_0_same V c hn' hn h, blk_1_same V c ⟨n, hn'⟩ ⟨n + 1, hn⟩]
theorem gateT_same (c : Dev nD) {n : ℕ} (hn' : n < cfg0.N) (hn : n + 1 < cfg0.N) (h : (n + 1) % 6 ≠ 0) : gateT V c ⟨n, hn'⟩ = gateT V c ⟨n + 1, hn⟩ := by
  unfold gateT
  rw [blk_0_same V c hn' hn h, blk_1_same V c ⟨n, hn'⟩ ⟨n + 1, hn⟩, blk_3_same V c ⟨n, hn'⟩ ⟨n + 1, hn⟩]
theorem gateC_same (c : Dev nD) {n : ℕ} (hn' : n < cfg0.N) (hn : n + 1 < cfg0.N) (h : (n + 1) % 6 ≠ 0) : gateC V c ⟨n, hn'⟩ = gateC V c ⟨n + 1, hn⟩ := by
  unfold gateC
  rw [blk_0_same V c hn' hn h, blk_1_same V c ⟨n, hn'⟩ ⟨n + 1, hn⟩, blk_4_same V c ⟨n, hn'⟩ ⟨n + 1, hn⟩]

/-- Between points: the normed rows of the point before, and the generator register. -/
def carried (c : Dev nD) (n : ℕ) : sProp 𝕄 :=
  iprop((∃ d, ⌜∀ t : Fin cfg0.N, t.val + 1 = n → d = normed V c t⌝ ∗ owns (c : Thread nD τ) rowsM fullShare d) ∗ ∃ r, prngReg c r)

theorem carried_start (c : Dev nD) : (Pipeline.ΦA spec0 c : sProp 𝕄) ⊢ carried V c 0 := by
  unfold Pipeline.ΦA carried; rw [scopedRest0_eq]; simp only [rowsM, owns_whole]
  iintro ⟨⟨%f, H⟩, Hg⟩
  isplitl [H]
  · iexists f; isplitr; · ipureintro; exact fun t h => absurd h (Nat.succ_ne_zero _)
    iexact H
  iexact Hg

theorem carried_end (c : Dev nD) (n : ℕ) : carried V c n ⊢ (Pipeline.ΦA spec0 c : sProp 𝕄) := by
  unfold Pipeline.ΦA carried; rw [scopedRest0_eq]; simp only [rowsM, owns_whole]
  iintro ⟨⟨%f, -, H⟩, Hg⟩
  isplitl [H]
  · iexists f; iexact H
  iexact Hg

/-- The region's data: arrays as found, inputs left alone, the outputs as above. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => mainBlk V c t
    | ⟨6, _⟩ => gateT V c t
    | ⟨7, _⟩ => gateC V c t
  Φ t := carried V c t.val
  q _ := fullShare
  owed _ := 0

theorem arr (c : Dev nD) (w : Fin cfg0.W) : (dat V c).A w = V c (Pipeline.arrRef spec0 w) := by
  dsimp only [dat]
theorem left_0 (c : Dev nD) (t : Fin cfg0.N) : (dat V c).after 0 t = blk V c 0 t := by dsimp only [dat]
theorem left_1 (c : Dev nD) (t : Fin cfg0.N) : (dat V c).after 1 t = blk V c 1 t := by dsimp only [dat]
theorem left_2 (c : Dev nD) (t : Fin cfg0.N) : (dat V c).after 2 t = blk V c 2 t := by dsimp only [dat]
theorem left_3 (c : Dev nD) (t : Fin cfg0.N) : (dat V c).after 3 t = blk V c 3 t := by dsimp only [dat]
theorem left_4 (c : Dev nD) (t : Fin cfg0.N) : (dat V c).after 4 t = blk V c 4 t := by dsimp only [dat]
theorem left_5 (c : Dev nD) (t : Fin cfg0.N) : (dat V c).after 5 t = mainBlk V c t := by dsimp only [dat]
theorem left_6 (c : Dev nD) (t : Fin cfg0.N) : (dat V c).after 6 t = gateT V c t := by dsimp only [dat]
theorem left_7 (c : Dev nD) (t : Fin cfg0.N) : (dat V c).after 7 t = gateC V c t := by dsimp only [dat]
theorem held_0 (c : Dev nD) (t : Fin cfg0.N) (d) : (dat V c).before 0 t d = blk V c 0 t :=
  ((dat V c).before_in_eq_fetched 0 rfl (fun _ => rfl) (fun _ _ _ => rfl)
      (fun t => by rw [left_0]; unfold Dat.blockOf blk; rw [arr]; try rfl) t d).trans
    (by unfold Dat.fetched Dat.blockOf blk; rw [arr]; try rfl)
theorem held_1 (c : Dev nD) (t : Fin cfg0.N) (d) : (dat V c).before 1 t d = blk V c 1 t :=
  ((dat V c).before_in_eq_fetched 1 rfl (fun _ => rfl) (fun _ _ _ => rfl)
      (fun t => by rw [left_1]; unfold Dat.blockOf blk; rw [arr]; try rfl) t d).trans
    (by unfold Dat.fetched Dat.blockOf blk; rw [arr]; try rfl)
theorem held_2 (c : Dev nD) (t : Fin cfg0.N) (d) : (dat V c).before 2 t d = blk V c 2 t :=
  ((dat V c).before_in_eq_fetched 2 rfl (fun _ => rfl) (fun _ _ _ => rfl)
      (fun t => by rw [left_2]; unfold Dat.blockOf blk; rw [arr]; try rfl) t d).trans
    (by unfold Dat.fetched Dat.blockOf blk; rw [arr]; try rfl)
theorem held_3 (c : Dev nD) (t : Fin cfg0.N) (d) : (dat V c).before 3 t d = blk V c 3 t :=
  ((dat V c).before_in_eq_fetched 3 rfl (fun _ => rfl) (fun _ _ _ => rfl)
      (fun t => by rw [left_3]; unfold Dat.blockOf blk; rw [arr]; try rfl) t d).trans
    (by unfold Dat.fetched Dat.blockOf blk; rw [arr]; try rfl)
theorem held_4 (c : Dev nD) (t : Fin cfg0.N) (d) : (dat V c).before 4 t d = blk V c 4 t :=
  ((dat V c).before_in_eq_fetched 4 rfl (fun _ => rfl) (fun _ _ _ => rfl)
      (fun t => by rw [left_4]; unfold Dat.blockOf blk; rw [arr]; try rfl) t d).trans
    (by unfold Dat.fetched Dat.blockOf blk; rw [arr]; try rfl)

theorem kept_6 (c : Dev nD) (t : Fin cfg0.N) (d) : (dat V c).kept 6 t d = (dat V c).after 6 t := by
  unfold Dat.kept
  rw [Pipeline.fill_of_clip_none 6 (cfg0.grid.coords t) (fun _ => rfl) d ((dat V c).after 6 t)]
  funext j
  unfold Window.fill
  split <;> rfl

theorem kept_7 (c : Dev nD) (t : Fin cfg0.N) (d) : (dat V c).kept 7 t d = (dat V c).after 7 t := by
  unfold Dat.kept
  rw [Pipeline.fill_of_clip_none 7 (cfg0.grid.coords t) (fun _ => rfl) d ((dat V c).after 7 t)]
  funext j
  unfold Window.fill
  split <;> rfl

/-- Output window 6's buffer at a later point holds what the row block's first point left. -/
theorem held_6 (c : Dev nD) (t : Fin cfg0.N) (h : t.val % 6 ≠ 0) (d) : (dat V c).before 6 t d = gateT V c t := by
  obtain ⟨n, hn⟩ := t
  induction n generalizing d with
  | zero => exact absurd rfl h
  | succ n ih =>
    have hn' : n < cfg0.N := by omega
    have h : (n + 1) % 6 ≠ 0 := h
    have hf : (cfg0.win 6).flush ⟨n, hn'⟩ = false := by
      rw [Bool.eq_false_iff]; intro hh
      have := (flush0_6 ⟨n, hn'⟩).mp hh
      have e : n % 6 = 5 := this
      omega
    have hs : gateT V c ⟨n, hn'⟩ = gateT V c ⟨n + 1, hn⟩ := gateT_same V c hn' hn h
    refine ((dat V c).before_of_pos 6 ⟨n + 1, hn⟩ (Nat.succ_ne_zero n) rfl d).trans ?_
    rw [if_neg (show ¬(cfg0.win 6).flush ⟨n + 1 - 1, _⟩ = true from by rw [show (cfg0.win 6).flush ⟨n + 1 - 1, _⟩ = false from hf]; decide)]
    by_cases h0 : n % 6 = 0
    · have hi : cfg0.idle 6 (cfg0.grid.coords ⟨n, hn'⟩) = false := idle_first 6 ⟨n, hn'⟩ ((firstPoint_at ⟨n, hn'⟩).mpr h0)
      refine Eq.trans ?_ hs
      rw [← left_6 V c ⟨n, hn'⟩]
      unfold Dat.left
      rw [show cfg0.idle 6 (cfg0.grid.coords ⟨n + 1 - 1, _⟩) = false from hi]
      exact kept_6 V c ⟨n, hn'⟩ d
    · refine Eq.trans ?_ ((ih d hn' h0).trans hs)
      have hi : cfg0.idle 6 (cfg0.grid.coords ⟨n, hn'⟩) = true := idle_later 6 (by decide) ⟨n, hn'⟩ (fun hh => h0 ((firstPoint_at ⟨n, hn'⟩).mp hh))
      unfold Dat.left
      rw [show cfg0.idle 6 (cfg0.grid.coords ⟨n + 1 - 1, _⟩) = true from hi]
      rfl

/-- Output window 7's buffer at a later point holds what the row block's first point left. -/
theorem held_7 (c : Dev nD) (t : Fin cfg0.N) (h : t.val % 6 ≠ 0) (d) : (dat V c).before 7 t d = gateC V c t := by
  obtain ⟨n, hn⟩ := t
  induction n generalizing d with
  | zero => exact absurd rfl h
  | succ n ih =>
    have hn' : n < cfg0.N := by omega
    have h : (n + 1) % 6 ≠ 0 := h
    have hf : (cfg0.win 7).flush ⟨n, hn'⟩ = false := by
      rw [Bool.eq_false_iff]; intro hh
      have := (flush0_7 ⟨n, hn'⟩).mp hh
      have e : n % 6 = 5 := this
      omega
    have hs : gateC V c ⟨n, hn'⟩ = gateC V c ⟨n + 1, hn⟩ := gateC_same V c hn' hn h
    refine ((dat V c).before_of_pos 7 ⟨n + 1, hn⟩ (Nat.succ_ne_zero n) rfl d).trans ?_
    rw [if_neg (show ¬(cfg0.win 7).flush ⟨n + 1 - 1, _⟩ = true from by rw [show (cfg0.win 7).flush ⟨n + 1 - 1, _⟩ = false from hf]; decide)]
    by_cases h0 : n % 6 = 0
    · have hi : cfg0.idle 7 (cfg0.grid.coords ⟨n, hn'⟩) = false := idle_first 7 ⟨n, hn'⟩ ((firstPoint_at ⟨n, hn'⟩).mpr h0)
      refine Eq.trans ?_ hs
      rw [← left_7 V c ⟨n, hn'⟩]
      unfold Dat.left
      rw [show cfg0.idle 7 (cfg0.grid.coords ⟨n + 1 - 1, _⟩) = false from hi]
      exact kept_7 V c ⟨n, hn'⟩ d
    · refine Eq.trans ?_ ((ih d hn' h0).trans hs)
      have hi : cfg0.idle 7 (cfg0.grid.coords ⟨n, hn'⟩) = true := idle_later 7 (by decide) ⟨n, hn'⟩ (fun hh => h0 ((firstPoint_at ⟨n, hn'⟩).mp hh))
      unfold Dat.left
      rw [show cfg0.idle 7 (cfg0.grid.coords ⟨n + 1 - 1, _⟩) = true from hi]
      rfl

/-- What the body owes of an output it may leave alone. -/
def leaves (c : Dev nD) (w : Fin cfg0.W) (t : Fin cfg0.N) : sProp 𝕄 :=
  match cfg0.idle w (cfg0.grid.coords t) with
  | true =>
    match (cfg0.win w).flush t with
    | false => iprop(∃ d, owns (c : Thread nD τ) ((cfg0.win w).stage (cfg0.slots t w)) fullShare ((dat V c).before w t d))
    | true => owns (c : Thread nD τ) ((cfg0.win w).stage (cfg0.slots t w)) fullShare ((dat V c).after w t)
  | false => owns (c : Thread nD τ) ((cfg0.win w).stage (cfg0.slots t w)) fullShare ((dat V c).after w t)

theorem leaves_first (c : Dev nD) (w : Fin cfg0.W) (t : Fin cfg0.N) (h : firstPoint (grid0.coords t)) :
    leaves V c w t = owns (c : Thread nD τ) ((cfg0.win w).stage (cfg0.slots t w)) fullShare ((dat V c).after w t) := by
  unfold leaves
  rw [idle_first w t h]

theorem leaves_later (c : Dev nD) (w : Fin cfg0.W) (t : Fin cfg0.N) (d) (h : (dat V c).before w t d = (dat V c).after w t) :
    owns (c : Thread nD τ) ((cfg0.win w).stage (cfg0.slots t w)) fullShare ((dat V c).before w t d) ⊢ leaves V c w t := by
  unfold leaves
  cases cfg0.idle w (cfg0.grid.coords t) with
  | false => dsimp only; rw [h]
  | true =>
    cases (cfg0.win w).flush t with
    | true => dsimp only; rw [h]
    | false =>
      dsimp only
      iintro H
      iexists d
      iexact H

/-- What the body is called with at point `t`, the windows one by one, -/
def pre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- and what it gives back. -/
def post (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ leaves V c 6 t
    ∗ leaves V c 7 t)

set_option maxHeartbeats 4000000 in
/-- The body at a point. -/
theorem body (c : Dev nD) (t : Fin cfg0.N) :
    pre V c t ⊢ wp frame (wpE (defs₀ (F := F)) Variants.none c none) Set.univ (bodyAt0 t) (fun _ => post V c t) := by
  unfold pre post bodyAt0
  simp only [held_0, held_1, held_2, held_3, held_4]
  rw [show (dat V c).owesAt () t.succ = (dat V c).owesAt () t.castSucc from rfl,
    show (dat V c).Φ t.castSucc = carried V c t.val from rfl,
    show (dat V c).Φ t.succ = carried V c (t.val + 1) from rfl, left_0, left_1, left_2, left_3, left_4, left_5]
  unfold carried
  by_cases hc : firstPoint (grid0.coords t)
  · rw [leaves_first V c 6 t hc, leaves_first V c 7 t hc, left_6, left_7]
    iintro ⟨⟨⟨%ds, %hds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) rowsM (Memref.isWhole_whole _) hc (blk V c 0 t) (blk V c 1 t) (blk V c 2 t) (blk V c 3 t) (blk V c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexists _; iexact HS
    iintro ⟨H0, H1, H2, H3, H4, H5, H6, H7, HS⟩
    isplitl [HS Hg]
    · isplitl [HS]
      · iexists _; isplitr
        swap; · iexact HS
        ipureintro; intro t' ht'
        obtain rfl : t' = t := Fin.ext (by omega)
        rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iintro ⟨⟨⟨%ds, %hds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have ht : t.val % 6 ≠ 0 := fun h => hc ((firstPoint_at t).mpr h)
    obtain rfl : ds = normed V c t := by
      obtain ⟨n, hn⟩ := t
      cases n with
      | zero => exact absurd rfl ht
      | succ n => exact (hds ⟨n, by omega⟩ rfl).trans (normed_same V c _ hn ht)
    iapply (run_later c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) rowsM (Memref.isWhole_whole _) hc (blk V c 2 t) (normed V c t) Set.univ _)
    isplitl [H2]; · iexact H2
    isplitl [H5]; · iexists _; iexact H5
    isplitl [HS]; · iexact HS
    iintro ⟨H2, H5, HS⟩
    isplitl [HS Hg]
    · isplitl [HS]
      · iexists _; isplitr
        swap; · iexact HS
        ipureintro; intro t' ht'
        obtain rfl : t' = t := Fin.ext (by omega)
        rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iapply (leaves_later V c 6 t d6 ((held_6 V c t ht d6).trans (left_6 V c t).symm)); iexact H6
    iapply (leaves_later V c 7 t d7 ((held_7 V c t ht d7).trans (left_7 V c t).symm)); iexact H7

/-- The table's body at point `t` is the printed body on the point's buffers. -/
theorem row (t : Fin cfg0.N) : defs₀ (F := F) .tc cfg0.body (cfg0.bodyArgs t (cfg0.slots t)) = bodyAt0 t := by
  unfold defs₀; rw [Defs.onTc_tc]

/-- The region's body obligation. -/
theorem obligation (c : Dev nD) : BodyObligation (dat (F := F) V c) (defs₀ (F := F)) Variants.none () Set.univ := fun t => by
  rw [bigSep_W0, bigSep_W0, row]
  exact triple_restated (body V c t) rfl .rfl fun _ => .rfl

end Cert.Kernel2Ideal.Proj

end
-- ==== Proof.Proj.Launch.lean ====
module

public import proofs.«01_k».proof.Proof.Proj.Data
public import Idealize.ShloMosaic.Lib.Pipeline.FrameBody
public import Idealize.ShloMosaic.Lib.Pipeline.RegionsLoop
public import Idealize.ShloMosaic.Lib.Pipeline.FrameSuffix

@[expose] public section

set_option maxRecDepth 16384

noncomputable section

/-! The run of the whole program: the host's stretches and the kernel region in order, and what every buffer holds at the end. -/

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's argument arrays. -/
abbrev argRefs : List (Ref sig .tc) := [main_arg0, main_arg1, main_arg2, main_arg3]

/-! ## The host's stretches -/

theorem hostOps0_new : (hostOps0 : List (HloOp τ sig (Elt F))).Forall fun op => op.fresh = ∅ := by
  simp only [List.Forall]; repeat' constructor
/-- What `hostOps0` writes. -/
abbrev hostOps0_W : List (Ref sig .tc) := [main_v0, main_c]
theorem hostOps0_wr : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps0_1_new : (hostOps0_1 : List (HloOp τ sig (Elt F))).Forall fun op => op.fresh = ∅ := by
  simp only [List.Forall]; repeat' constructor
/-- What `hostOps0_1` writes. -/
abbrev hostOps0_1_W : List (Ref sig .tc) := [main_call0_v0, main_v1]
theorem hostOps0_1_wr : (hostOps0_1 : List (HloOp τ sig (Elt F))).Forall fun op => op.writes ⊆ (hostOps0_1_W.map (Proc.devRef (τ := τ) .tc)).toFinset :=
  StableHlo.forall_writes_sub_of_map rfl
theorem hostOps0_1_args : ∀ a ∈ argRefs, a ∉ hostOps0_1_W := ListAll.forall_mem_of_all_decide (by decide +kernel)

theorem hostOps0_2_new : (hostOps0_2 : List (HloOp τ sig (Elt F))).Forall fun op => op.fresh = ∅ := by
  simp only [List.Forall]; repeat' constructor
/-- What `hostOps0_2` writes. -/
abbrev hostOps0_2_W : List (Ref sig .tc) := [main_v2, main_c_0]
theorem hostOps0_2_wr : (hostOps0_2 : List (HloOp τ sig (Elt F))).Forall fun op => op.writes ⊆ (hostOps0_2_W.map (Proc.devRef (τ := τ) .tc)).toFinset :=
  StableHlo.forall_writes_sub_of_map rfl
theorem hostOps0_2_args : ∀ a ∈ argRefs, a ∉ hostOps0_2_W := ListAll.forall_mem_of_all_decide (by decide +kernel)

theorem hostOps0_3_new : (hostOps0_3 : List (HloOp τ sig (Elt F))).Forall fun op => op.fresh = ∅ := by
  simp only [List.Forall]; repeat' constructor
/-- What `hostOps0_3` writes. -/
abbrev hostOps0_3_W : List (Ref sig .tc) := [main_call1_v0, main_v3]
theorem hostOps0_3_wr : (hostOps0_3 : List (HloOp τ sig (Elt F))).Forall fun op => op.writes ⊆ (hostOps0_3_W.map (Proc.devRef (τ := τ) .tc)).toFinset :=
  StableHlo.forall_writes_sub_of_map rfl
theorem hostOps0_3_args : ∀ a ∈ argRefs, a ∉ hostOps0_3_W := ListAll.forall_mem_of_all_decide (by decide +kernel)

theorem hostOps0_4_new : (hostOps0_4 : List (HloOp τ sig (Elt F))).Forall fun op => op.fresh = ∅ := by
  simp only [List.Forall]; repeat' constructor
/-- What `hostOps0_4` writes. -/
abbrev hostOps0_4_W : List (Ref sig .tc) := [main_v4, main_v5]
theorem hostOps0_4_wr : (hostOps0_4 : List (HloOp τ sig (Elt F))).Forall fun op => op.writes ⊆ (hostOps0_4_W.map (Proc.devRef (τ := τ) .tc)).toFinset :=
  StableHlo.forall_writes_sub_of_map rfl
theorem hostOps0_4_args : ∀ a ∈ argRefs, a ∉ hostOps0_4_W := ListAll.forall_mem_of_all_decide (by decide +kernel)

/-! ## Every buffer's contents between the items of the program -/

/-- At launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl

/-- After `hostOps0`. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_wr h
theorem W1_args (c : Dev nD) : ∀ a ∈ argRefs, W1 m ρ c (Proc.devRef .tc a) = m ((c : Thread nD τ).loc a) :=
  fun a ha => (W1_of m ρ c a (hostOps0_args a ha)).trans (W0_args m ρ c a ha)

/-- After `hostOps0_1`. -/
abbrev W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_wr h
theorem W2_args (c : Dev nD) : ∀ a ∈ argRefs, W2 m ρ c (Proc.devRef .tc a) = m ((c : Thread nD τ).loc a) :=
  fun a ha => (W2_of m ρ c a (hostOps0_1_args a ha)).trans (W1_args m ρ c a ha)

/-- After `hostOps0_2`. -/
abbrev W3 : Dev nD → Valuation τ sig (Elt F) := fun c => StableHlo.after hostOps0_2 (W2 m ρ c)
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_wr h
theorem W3_args (c : Dev nD) : ∀ a ∈ argRefs, W3 m ρ c (Proc.devRef .tc a) = m ((c : Thread nD τ).loc a) :=
  fun a ha => (W3_of m ρ c a (hostOps0_2_args a ha)).trans (W2_args m ρ c a ha)

/-- After `hostOps0_3`. -/
abbrev W4 : Dev nD → Valuation τ sig (Elt F) := fun c => StableHlo.after hostOps0_3 (W3 m ρ c)
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_wr h
theorem W4_args (c : Dev nD) : ∀ a ∈ argRefs, W4 m ρ c (Proc.devRef .tc a) = m ((c : Thread nD τ).loc a) :=
  fun a ha => (W4_of m ρ c a (hostOps0_3_args a ha)).trans (W3_args m ρ c a ha)

/-- After `hostOps0_4`. -/
abbrev W5 : Dev nD → Valuation τ sig (Elt F) := fun c => StableHlo.after hostOps0_4 (W4 m ρ c)
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_wr h
theorem W5_args (c : Dev nD) : ∀ a ∈ argRefs, W5 m ρ c (Proc.devRef .tc a) = m ((c : Thread nD τ).loc a) :=
  fun a ha => (W5_of m ρ c a (hostOps0_4_args a ha)).trans (W4_args m ρ c a ha)

/-- The same at the core's references. -/
abbrev V5 : (c : Dev nD) → (b : Ref sig .tc) → Buf (Elt F) ((c : Thread nD τ).loc b) := fun c b => W5 m ρ c b
/-- After region 0: its arrays as the pipeline leaves them, everything else as before. -/
def W6 (c : Dev nD) : Valuation τ sig (Elt F) :=
  Pipeline.withArrays spec0 c (W5 m ρ c) fun w => (dat (V5 m ρ) c).arrAt w cfg0.N
theorem W6_arr (c : Dev nD) (w : Fin cfg0.W) :
    W6 m ρ c (Proc.devRef .tc (Pipeline.arrRef spec0 w)) = (dat (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
theorem W6_of (c : Dev nD) (r : Ref sig .tc) (h : ∀ w : Fin cfg0.W, Pipeline.arrRef spec0 w = r → (cfg0.win w).isOut = false) :
    W6 m ρ c (Proc.devRef .tc r) = W5 m ρ c (Proc.devRef .tc r) := by
  by_cases hw : ∃ w : Fin cfg0.W, Pipeline.arrRef spec0 w = r
  · obtain ⟨w, rfl⟩ := hw
    exact (W6_arr m ρ c w).trans (((dat (V5 m ρ) c).arrAt_in w (h w rfl) _).trans (arr (V5 m ρ) c w))
  · exact W6_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn0 a ha)).trans (W5_args m ρ c a ha)
/-- The same at the core's references. -/
abbrev V6 : (c : Dev nD) → (b : Ref sig .tc) → Buf (Elt F) ((c : Thread nD τ).loc b) := fun c b => W6 m ρ c b
theorem filled0 (c : Dev nD) (w : Fin cfg0.W) : (dat (V5 m ρ) c).arrAt w cfg0.N = V6 m ρ c (Pipeline.arrRef spec0 w) :=
  (W6_arr m ρ c w).symm
theorem kept0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-! ## The region as a part of the run -/

abbrev adm : (p : Fin 1) → (pcfgs (F := F) p).Adm := fun p => (cfgs p).toPCfg_adm
/-- The region's data at its entry. -/
def pdats : (p : Fin 1) → (c : Dev nD) → Dat τ (Elt F) Unit ℕ (UR sig nD τ) ℕ (Pipeline.pin (pcfgs (F := F)) adm p) c
  | ⟨0, _⟩ => fun c => dat (V5 m ρ) c

abbrev 𝒱₀ : Variants := Variants.none
abbrev L : GSem nD τ sig → Finset Unit := fun _ => ∅
abbrev lv : GSem nD τ sig → Unit → ℕ := fun _ _ => 0
/-- What rides along beside the buffers. -/
abbrev R (c : Dev nD) : sProp 𝕄 := iprop((∃ r, prngReg c r) ∗ ∃ W, owes (c : Thread nD τ) (0 : CellTallies nD τ sig Unit) W)
/-- A host stretch as a part of the run. -/
abbrev hseg (ops : List (HloOp τ sig (Elt F))) (hsub : ops.Forall fun op => op.bufs ⊆ StableHlo.tcRefs τ sig)
    (hnew : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hnew) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The buffers and the generator register at the end. -/
abbrev Tₙ (c : Dev nD) : sProp 𝕄 := iprop(StableHlo.held (c : Thread nD τ) (Pipeline.ucRefs τ sig) (W6 m ρ c) ∗ ∃ r, prngReg c r)

set_option backward.isDefEq.respectTransparency.types false in
/-- The region. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) (arr (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = carried (V5 m ρ) c 0 from rfl]
    have hs := carried_start (V5 m ρ) c
    unfold Pipeline.ΦA at hs
    iintro ⟨Hp, -, Hr⟩
    iapply hs
    isplitl [Hr]; · iexact Hr
    iexact Hp
  hout c := by
    rw [Pipeline.ownSems0_none, show (pdats m ρ 0 c).Φ (Fin.last _) = carried (V5 m ρ) c cfg0.N from rfl]
    have hs := carried_end (V5 m ρ) c cfg0.N
    unfold Pipeline.ΦA at hs
    iintro H
    ihave H' := hs $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (filled0 m ρ c) (kept0 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- The program's parts in order. -/
abbrev segs : List (Pipeline.Seg (pcfgs (F := F)) adm (pdats m ρ) () defs₀ 𝒱₀ L lv) :=
  [ .host (hseg hostOps0 hostOps0_sub hostOps0_new (W0 m ρ)),
    .host (hseg hostOps0_1 hostOps0_1_sub hostOps0_1_new (W1 m ρ)),
    .host (hseg hostOps0_2 hostOps0_2_sub hostOps0_2_new (W2 m ρ)),
    .host (hseg hostOps0_3 hostOps0_3_sub hostOps0_3_new (W3 m ρ)),
    .host (hseg hostOps0_4 hostOps0_4_sub hostOps0_4_new (W4 m ρ)),
    .region (reg0 m ρ) ]

theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- The whole program runs to the end, and leaves every buffer at `W6` and every counter at zero. -/
theorem ran : θ_run defs (onTc (τ := τ) (main (F := F))) ⟨m, fun _ => 0, ρ⟩ (fun r =>
      (∀ c : Dev nD, ∀ b ∈ Pipeline.ucRefs τ sig, r.2.mem (((c : Thread nD τ)).1, b) = W6 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

/-- The frame: the arguments end as launched, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨(h.1 c _ (mem_uc main_arg0 (by decide))).trans (W6_args m ρ c main_arg0 (by decide)),
     (h.1 c _ (mem_uc main_arg1 (by decide))).trans (W6_args m ρ c main_arg1 (by decide)),
     (h.1 c _ (mem_uc main_arg2 (by decide))).trans (W6_args m ρ c main_arg2 (by decide)),
     (h.1 c _ (mem_uc main_arg3 (by decide))).trans (W6_args m ρ c main_arg3 (by decide))⟩, h.2⟩) (ran m ρ)

/-- The program runs, and its results are what the region writes. -/
theorem ran_results :
    θ_run defs (onTc (τ := τ) (main (F := F))) ⟨m, fun _ => 0, ρ⟩ (fun r => ∀ c : Dev nD,
      r.2.mem ((c.tc : Thread nD τ).loc main_v6_0) = (dat (V5 m ρ) c).arrAt 5 cfg0.N
      ∧ r.2.mem ((c.tc : Thread nD τ).loc main_v6_1) = (dat (V5 m ρ) c).arrAt 6 cfg0.N
      ∧ r.2.mem ((c.tc : Thread nD τ).loc main_v6_2) = (dat (V5 m ρ) c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h.1 c _ (mem_uc main_v6_0 (by decide))).trans (W6_arr m ρ c 5),
     (h.1 c _ (mem_uc main_v6_1 (by decide))).trans (W6_arr m ρ c 6),
     (h.1 c _ (mem_uc main_v6_2 (by decide))).trans (W6_arr m ρ c 7),
     (h.1 c _ (mem_uc main_arg0 (by decide))).trans (W6_args m ρ c main_arg0 (by decide)),
     (h.1 c _ (mem_uc main_arg1 (by decide))).trans (W6_args m ρ c main_arg1 (by decide)),
     (h.1 c _ (mem_uc main_arg2 (by decide))).trans (W6_args m ρ c main_arg2 (by decide)),
     (h.1 c _ (mem_uc main_arg3 (by decide))).trans (W6_args m ρ c main_arg3 (by decide))⟩) (ran m ρ)

end Cert.Kernel2Ideal.Proj

end
-- ==== Proof.Proj.Value.lean ====
module

public import proofs.«01_k».proof.Proof.Proj.Launch
public import Idealize.ShloMosaic.Lib.Pointwise
public import Idealize.ShloMosaic.Lib.KernelVsHost
public import Idealize.ShloMosaic.Lib.Routing.OpsSet

@[expose] public section

set_option maxRecDepth 16384

noncomputable section

/-! What the input projection writes, entry by entry: each row normed, then multiplied by the two blocks of weights. -/

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI Idealize.SL.Sem
open Idealize.ShloMosaic.StableHlo Idealize.ShloMosaic.Routing

set_option maxHeartbeats 2000000

/-- A row divided by its root mean square, times the gains. -/
def nrm (x g : Fin 2048 → EReal) (k : Fin 2048) : EReal :=
  x k * Ideal.rsqrt (Ideal.div (∑ j : Fin 2048, x j * x j) (Ideal.ofBits .f32 0x45000000#32) + Ideal.ofBits .f32 0x358637BD#32) * g k

/-- A normed row times a column of weights. -/
def proj (x g w : Fin 2048 → EReal) : EReal := ∑ k : Fin 2048, nrm x g k * w k

/-! ## The body's values -/

section
variable (x : Vec Ideal S768x2048 .f32) (g : Vec Ideal S1x2048 .f32)

theorem pay1_apply (r : Fin 768) (k : Fin 2048) :
    (k0_pay1 (F := Ideal) x g (ix2 r k) : EReal) = nrm (fun j => x (ix2 r j)) (fun j => g (ix2 0 j)) k := by
  unfold nrm
  pointwise [k0_pay1]

theorem pay2_apply (r : Fin 768) (k : Fin 2048) :
    (k0_pay2 (F := Ideal) x g (ix2 r k) : EReal) = nrm (fun j => x (ix2 r j)) (fun j => g (ix2 0 j)) k := by
  refine Eq.trans ?_ (pay1_apply x g r k)
  unfold k0_pay2
  exact shapeCast_apply _ _ (ix2 r k) (ix2 r k) rfl

theorem pay3_apply (w : Vec Ideal S16x2048 .bf16) (p : Fin 16) (r : Fin 768) :
    (k0_pay3 (F := Ideal) x g w (ix2 p r) : EReal) = proj (fun j => x (ix2 r j)) (fun j => g (ix2 0 j)) (fun k => w (ix2 p k)) := by
  have h : (k0_pay3 (F := Ideal) x g w (ix2 p r) : EReal) = ∑ k : Fin 2048, (w (ix2 p k) : EReal) * (k0_pay1 (F := Ideal) x g (ix2 r k) : EReal) := by
    unfold k0_pay3
    generalize k0_pay1 (F := Ideal) x g = u
    pointwise []
  rw [h, proj]
  exact Finset.sum_congr rfl fun k _ => by rw [pay1_apply, mul_comm]

theorem pay4_apply (w : Vec Ideal S2048x128 .bf16) (r : Fin 768) (q : Fin 128) :
    (k0_pay4 (F := Ideal) x g w (ix2 r q) : EReal) = proj (fun j => x (ix2 r j)) (fun j => g (ix2 0 j)) (fun k => w (ix2 k q)) := by
  have h : (k0_pay4 (F := Ideal) x g w (ix2 r q) : EReal) = ∑ k : Fin 2048, (k0_pay1 (F := Ideal) x g (ix2 r k) : EReal) * (w (ix2 k q) : EReal) := by
    unfold k0_pay4
    generalize k0_pay1 (F := Ideal) x g = u
    pointwise []
  rw [h, proj]
  exact Finset.sum_congr rfl fun k _ => by rw [pay1_apply]

theorem pay5_apply (u : Vec Ideal S768x2048 .bf16) (w : Vec Ideal S2048x1024 .bf16) (r : Fin 768) (q : Fin 1024) :
    (k0_pay5 (F := Ideal) u w (ix2 r q) : EReal) = ∑ k : Fin 2048, (u (ix2 r k) : EReal) * (w (ix2 k q) : EReal) := by
  pointwise [k0_pay5]

end

/-! ## The blocks the body reads and writes -/

theorem rows_lt (t : Fin cfg0.N) (r : Fin 768) : 768 * (t.val / 6 % 22) + r.val < 16896 := by omega
theorem cols_lt (t : Fin cfg0.N) (q : Fin 1024) : 1024 * (t.val % 6) + q.val < 6144 := by omega

/-- The row of the whole array that row `r` of point `t`'s block is, -/
abbrev rowOf (t : Fin cfg0.N) (r : Fin 768) : Fin 16896 := ⟨768 * (t.val / 6 % 22) + r.val, rows_lt t r⟩
/-- and the column that column `q` of the point's block is. -/
abbrev colOf (t : Fin cfg0.N) (q : Fin 1024) : Fin 6144 := ⟨1024 * (t.val % 6) + q.val, cols_lt t q⟩

theorem word_at (n : ℕ) (h : n < 2 ^ 32) : (BitVec.ofNat 32 n).toNat = n := by
  rw [BitVec.toNat_ofNat]; exact Nat.mod_eq_of_lt h

theorem inner0 (t : Fin cfg0.N) : cc0_transform_0 (grid0.coords t) = ![t.val / 6 % 22, 0] := by
  rw [← row_at t]
  have h0 : (grid0.coords t 0).val < 22 := (grid0.coords t 0).isLt
  unfold cc0_transform_0
  try simp only [BitVec.toNat_ofNat]
  congr 1; omega
theorem inner2 (t : Fin cfg0.N) : cc0_transform_2 (grid0.coords t) = ![0, t.val % 6] := by
  rw [← col_at t]
  have h0 : (grid0.coords t 1).val < 6 := (grid0.coords t 1).isLt
  unfold cc0_transform_2
  try simp only [BitVec.toNat_ofNat]
  rw [Nat.mod_eq_of_lt (show (grid0.coords t 1).val < 2 ^ 32 by omega)]
theorem inner5 (t : Fin cfg0.N) : cc0_transform_5 (grid0.coords t) = ![t.val / 6 % 22, t.val % 6] := by
  rw [← row_at t, ← col_at t]
  have h0 : (grid0.coords t 0).val < 22 := (grid0.coords t 0).isLt
  have h1 : (grid0.coords t 1).val < 6 := (grid0.coords t 1).isLt
  unfold cc0_transform_5
  try simp only [BitVec.toNat_ofNat]
  rw [Nat.mod_eq_of_lt (show (grid0.coords t 0).val < 2 ^ 32 by omega), Nat.mod_eq_of_lt (show (grid0.coords t 1).val < 2 ^ 32 by omega)]
theorem inner6 (t : Fin cfg0.N) : cc0_transform_6 (grid0.coords t) = ![0, t.val / 6 % 22] := by
  rw [← row_at t]
  have h0 : (grid0.coords t 0).val < 22 := (grid0.coords t 0).isLt
  unfold cc0_transform_6
  try simp only [BitVec.toNat_ofNat]
  rw [Nat.mod_eq_of_lt (show (grid0.coords t 0).val < 2 ^ 32 by omega)]
theorem inner7 (t : Fin cfg0.N) : cc0_transform_7 (grid0.coords t) = ![t.val / 6 % 22, 0] := by
  rw [← row_at t]
  have h0 : (grid0.coords t 0).val < 22 := (grid0.coords t 0).isLt
  unfold cc0_transform_7
  try simp only [BitVec.toNat_ofNat]
  rw [Nat.mod_eq_of_lt (show (grid0.coords t 0).val < 2 ^ 32 by omega)]

section
variable (V : (c : Dev nD) → (b : Ref sig .tc) → Buf (Elt Ideal) ((c : Thread nD τ).loc b)) (c : Dev nD)

theorem blk0_apply (t : Fin cfg0.N) (r : Fin 768) (k : Fin 2048) :
    ((blk V c 0 t : Vec Ideal S768x2048 .f32) (ix2 r k) : EReal) = (V c main_arg0 : Vec Ideal S16896x2048 .f32) (ix2 (rowOf t r) k) := by
  show ((win0_0.blk t).view.read (Elt Ideal) (V c main_arg0)) (ix2 r k) = _
  rw [View.read_apply]
  refine congrArg (V c main_arg0) (show (win0_0.rect t).emb (ix2 r k) = ix2 (rowOf t r) k from ?_)
  refine Shape.idx_ext₂ ((win0_0.rect_emb_val t _ _).trans ?_) ((win0_0.rect_emb_val t _ _).trans ?_)
  · show cc0_transform_0 (grid0.coords t) 0 * 768 + r.val = 768 * (t.val / 6 % 22) + r.val
    rw [inner0]; show (t.val / 6 % 22) * 768 + _ = _; omega
  · show cc0_transform_0 (grid0.coords t) 1 * 2048 + k.val = k.val
    rw [inner0]; show 0 * 2048 + _ = _; omega

theorem blk1_apply (t : Fin cfg0.N) (k : Fin 2048) :
    ((blk V c 1 t : Vec Ideal S1x2048 .f32) (ix2 0 k) : EReal) = (V c main_v5 : Vec Ideal S1x2048 .f32) (ix2 0 k) := by
  show ((win0_1.blk t).view.read (Elt Ideal) (V c main_v5)) (ix2 0 k) = _
  rw [View.read_apply]
  refine congrArg (V c main_v5) (show (win0_1.rect t).emb (ix2 0 k) = ix2 0 k from ?_)
  refine Shape.idx_ext₂ ((win0_1.rect_emb_val t _ _).trans ?_) ((win0_1.rect_emb_val t _ _).trans ?_)
  · show 0 * 1 + 0 = 0; omega
  · show 0 * 2048 + k.val = k.val; omega

theorem blk2_apply (t : Fin cfg0.N) (k : Fin 2048) (q : Fin 1024) :
    ((blk V c 2 t : Vec Ideal S2048x1024 .bf16) (ix2 k q) : EReal) = (V c main_arg2 : Vec Ideal S2048x6144 .bf16) (ix2 k (colOf t q)) := by
  show ((win0_2.blk t).view.read (Elt Ideal) (V c main_arg2)) (ix2 k q) = _
  rw [View.read_apply]
  refine congrArg (V c main_arg2) (show (win0_2.rect t).emb (ix2 k q) = ix2 k (colOf t q) from ?_)
  refine Shape.idx_ext₂ ((win0_2.rect_emb_val t _ _).trans ?_) ((win0_2.rect_emb_val t _ _).trans ?_)
  · show cc0_transform_2 (grid0.coords t) 0 * 2048 + k.val = k.val
    rw [inner2]; show 0 * 2048 + _ = _; omega
  · show cc0_transform_2 (grid0.coords t) 1 * 1024 + q.val = 1024 * (t.val % 6) + q.val
    rw [inner2]; show (t.val % 6) * 1024 + _ = _; omega

theorem blk3_apply (t : Fin cfg0.N) (p : Fin 16) (k : Fin 2048) :
    ((blk V c 3 t : Vec Ideal S16x2048 .bf16) (ix2 p k) : EReal) = (V c main_v2 : Vec Ideal S16x2048 .bf16) (ix2 p k) := by
  show ((win0_3.blk t).view.read (Elt Ideal) (V c main_v2)) (ix2 p k) = _
  rw [View.read_apply]
  refine congrArg (V c main_v2) (show (win0_3.rect t).emb (ix2 p k) = ix2 p k from ?_)
  refine Shape.idx_ext₂ ((win0_3.rect_emb_val t _ _).trans ?_) ((win0_3.rect_emb_val t _ _).trans ?_)
  · show 0 * 16 + p.val = p.val; omega
  · show 0 * 2048 + k.val = k.val; omega

theorem blk4_apply (t : Fin cfg0.N) (k : Fin 2048) (q : Fin 128) :
    ((blk V c 4 t : Vec Ideal S2048x128 .bf16) (ix2 k q) : EReal) = (V c main_v4 : Vec Ideal S2048x128 .bf16) (ix2 k q) := by
  show ((win0_4.blk t).view.read (Elt Ideal) (V c main_v4)) (ix2 k q) = _
  rw [View.read_apply]
  refine congrArg (V c main_v4) (show (win0_4.rect t).emb (ix2 k q) = ix2 k q from ?_)
  refine Shape.idx_ext₂ ((win0_4.rect_emb_val t _ _).trans ?_) ((win0_4.rect_emb_val t _ _).trans ?_)
  · show 0 * 2048 + k.val = k.val; omega
  · show 0 * 128 + q.val = q.val; omega

theorem main_emb (t : Fin cfg0.N) (r : Fin 768) (q : Fin 1024) : (win0_5.rect t).emb (ix2 r q) = ix2 (rowOf t r) (colOf t q) := by
  refine Shape.idx_ext₂ ((win0_5.rect_emb_val t _ _).trans ?_) ((win0_5.rect_emb_val t _ _).trans ?_)
  · show cc0_transform_5 (grid0.coords t) 0 * 768 + r.val = 768 * (t.val / 6 % 22) + r.val
    rw [inner5]; show (t.val / 6 % 22) * 768 + _ = _; omega
  · show cc0_transform_5 (grid0.coords t) 1 * 1024 + q.val = 1024 * (t.val % 6) + q.val
    rw [inner5]; show (t.val % 6) * 1024 + _ = _; omega

theorem gateT_emb (t : Fin cfg0.N) (p : Fin 16) (r : Fin 768) : (win0_6.rect t).emb (ix2 p r) = ix2 p (rowOf t r) := by
  refine Shape.idx_ext₂ ((win0_6.rect_emb_val t _ _).trans ?_) ((win0_6.rect_emb_val t _ _).trans ?_)
  · show cc0_transform_6 (grid0.coords t) 0 * 16 + p.val = p.val
    rw [inner6]; show 0 * 16 + _ = _; omega
  · show cc0_transform_6 (grid0.coords t) 1 * 768 + r.val = 768 * (t.val / 6 % 22) + r.val
    rw [inner6]; show (t.val / 6 % 22) * 768 + _ = _; omega

theorem gateC_emb (t : Fin cfg0.N) (r : Fin 768) (q : Fin 128) : (win0_7.rect t).emb (ix2 r q) = ix2 (rowOf t r) q := by
  refine Shape.idx_ext₂ ((win0_7.rect_emb_val t _ _).trans ?_) ((win0_7.rect_emb_val t _ _).trans ?_)
  · show cc0_transform_7 (grid0.coords t) 0 * 768 + r.val = 768 * (t.val / 6 % 22) + r.val
    rw [inner7]; show (t.val / 6 % 22) * 768 + _ = _; omega
  · show cc0_transform_7 (grid0.coords t) 1 * 128 + q.val = q.val
    rw [inner7]; show 0 * 128 + _ = _; omega

/-! ## The three results -/

/-- Row `r` of the residual stream, -/
abbrev rowX (r : Fin 16896) : Fin 2048 → EReal := fun k => (V c main_arg0 : Vec Ideal S16896x2048 .f32) (ix2 r k)
/-- and the gains. -/
abbrev gains : Fin 2048 → EReal := fun k => (V c main_v5 : Vec Ideal S1x2048 .f32) (ix2 0 k)

theorem normed_apply (t : Fin cfg0.N) (r : Fin 768) (k : Fin 2048) :
    (normed V c t (ix2 r k) : EReal) = nrm (rowX V c (rowOf t r)) (gains V c) k := by
  unfold normed
  refine (pay2_apply _ _ r k).trans ?_
  congr 1
  · funext j; exact blk0_apply V c t r j
  · funext j; exact blk1_apply V c t j

theorem mainBlk_apply (t : Fin cfg0.N) (r : Fin 768) (q : Fin 1024) :
    (mainBlk V c t (ix2 r q) : EReal) = proj (rowX V c (rowOf t r)) (gains V c) (fun k => (V c main_arg2 : Vec Ideal S2048x6144 .bf16) (ix2 k (colOf t q))) := by
  unfold mainBlk
  refine (pay5_apply _ _ r q).trans (Finset.sum_congr rfl fun k _ => ?_)
  exact congrArg₂ (fun a b : EReal => a * b) (normed_apply V c t r k) (blk2_apply V c t k q)

theorem gateT_apply (t : Fin cfg0.N) (p : Fin 16) (r : Fin 768) :
    (gateT V c t (ix2 p r) : EReal) = proj (rowX V c (rowOf t r)) (gains V c) (fun k => (V c main_v2 : Vec Ideal S16x2048 .bf16) (ix2 p k)) := by
  unfold gateT
  refine (pay3_apply _ _ _ p r).trans ?_
  congr 1
  · funext j; exact blk0_apply V c t r j
  · funext j; exact blk1_apply V c t j
  · funext j; exact blk3_apply V c t p j

theorem gateC_apply (t : Fin cfg0.N) (r : Fin 768) (q : Fin 128) :
    (gateC V c t (ix2 r q) : EReal) = proj (rowX V c (rowOf t r)) (gains V c) (fun k => (V c main_v4 : Vec Ideal S2048x128 .bf16) (ix2 k q)) := by
  unfold gateC
  refine (pay4_apply _ _ _ r q).trans ?_
  congr 1
  · funext j; exact blk0_apply V c t r j
  · funext j; exact blk1_apply V c t j
  · funext j; exact blk4_apply V c t j q

theorem idx_two {a b : ℕ} (y : (⟨2, ![a, b]⟩ : Shape).Idx) : ∃ (p : Fin a) (q : Fin b), y = ix2 p q :=
  ⟨y 0, y 1, funext fun d => by
    match d with
    | ⟨0, _⟩ => rfl
    | ⟨1, _⟩ => rfl⟩

theorem flushed5 (t : Fin cfg0.N) : (dat V c).flushed 5 t = mainBlk V c t := by
  rw [← left_5 V c t]
theorem flushed6 (t : Fin cfg0.N) : (dat V c).flushed 6 t = gateT V c t := by
  rw [← left_6 V c t]
theorem flushed7 (t : Fin cfg0.N) : (dat V c).flushed 7 t = gateC V c t := by
  rw [← left_7 V c t]

theorem N_eq : cfg0.N = 132 := N_0

/-- The product with the main weights. -/
theorem main_arr (r : Fin 16896) (q : Fin 6144) :
    ((dat V c).arrAt 5 cfg0.N (ix2 r q) : EReal) = proj (rowX V c r) (gains V c) (fun k => (V c main_arg2 : Vec Ideal S2048x6144 .bf16) (ix2 k q)) := by
  let Q : (⟨2, ![16896, 6144]⟩ : Shape).Idx → EReal → Prop := fun i e =>
    e = proj (rowX V c (i 0)) (gains V c) (fun k => (V c main_arg2 : Vec Ideal S2048x6144 .bf16) (ix2 k (i 1)))
  have hN := N_eq
  let t : Fin cfg0.N := ⟨6 * (r.val / 768) + q.val / 1024, by omega⟩
  refine (dat V c).arrAt_forall_of_flushed 5 Q ?_ cfg0.N t (ix2 r q) t.isLt (flush0_5 t) ?_
  · intro t _ y
    obtain ⟨p, x, rfl⟩ := idx_two y
    have e1 := (congrFun (flushed5 V c t) (ix2 p x)).trans (mainBlk_apply V c t p x)
    show Q ((win0_5.rect t).emb (ix2 p x)) _
    rw [main_emb]
    exact e1
  · show _ ∈ ((View.whole main_v6_0).slice (win0_5.rect t)).set
    have e : ix2 r q = (win0_5.rect t).emb (ix2 ⟨r.val % 768, by omega⟩ ⟨q.val % 1024, by omega⟩) := by
      rw [main_emb]
      refine Shape.idx_ext₂ ?_ ?_
      · show r.val = 768 * ((6 * (r.val / 768) + q.val / 1024) / 6 % 22) + r.val % 768; omega
      · show q.val = 1024 * ((6 * (r.val / 768) + q.val / 1024) % 6) + q.val % 1024; omega
    rw [e]
    exact View.emb_mem_set ((View.whole main_v6_0).slice (win0_5.rect t)) _

/-- The gate columns, transposed. -/
theorem gateT_arr (p : Fin 16) (r : Fin 16896) :
    ((dat V c).arrAt 6 cfg0.N (ix2 p r) : EReal) = proj (rowX V c r) (gains V c) (fun k => (V c main_v2 : Vec Ideal S16x2048 .bf16) (ix2 p k)) := by
  let Q : (⟨2, ![16, 16896]⟩ : Shape).Idx → EReal → Prop := fun i e =>
    e = proj (rowX V c (i 1)) (gains V c) (fun k => (V c main_v2 : Vec Ideal S16x2048 .bf16) (ix2 (i 0) k))
  have hN := N_eq
  let t : Fin cfg0.N := ⟨6 * (r.val / 768) + 5, by omega⟩
  refine (dat V c).arrAt_forall_of_flushed 6 Q ?_ cfg0.N t (ix2 p r) t.isLt ((flush0_6 t).mpr (by show (6 * (r.val / 768) + 5) % 6 = 5; omega)) ?_
  · intro t _ y
    obtain ⟨p, x, rfl⟩ := idx_two y
    have e1 := (congrFun (flushed6 V c t) (ix2 p x)).trans (gateT_apply V c t p x)
    show Q ((win0_6.rect t).emb (ix2 p x)) _
    rw [gateT_emb]
    exact e1
  · show _ ∈ ((View.whole main_v6_1).slice (win0_6.rect t)).set
    have e : ix2 p r = (win0_6.rect t).emb (ix2 p ⟨r.val % 768, by omega⟩) := by
      rw [gateT_emb]
      refine Shape.idx_ext₂ rfl ?_
      show r.val = 768 * ((6 * (r.val / 768) + 5) / 6 % 22) + r.val % 768; omega
    rw [e]
    exact View.emb_mem_set ((View.whole main_v6_1).slice (win0_6.rect t)) _

/-- The gate columns. -/
theorem gateC_arr (r : Fin 16896) (q : Fin 128) :
    ((dat V c).arrAt 7 cfg0.N (ix2 r q) : EReal) = proj (rowX V c r) (gains V c) (fun k => (V c main_v4 : Vec Ideal S2048x128 .bf16) (ix2 k q)) := by
  let Q : (⟨2, ![16896, 128]⟩ : Shape).Idx → EReal → Prop := fun i e =>
    e = proj (rowX V c (i 0)) (gains V c) (fun k => (V c main_v4 : Vec Ideal S2048x128 .bf16) (ix2 k (i 1)))
  have hN := N_eq
  let t : Fin cfg0.N := ⟨6 * (r.val / 768) + 5, by omega⟩
  refine (dat V c).arrAt_forall_of_flushed 7 Q ?_ cfg0.N t (ix2 r q) t.isLt ((flush0_7 t).mpr (by show (6 * (r.val / 768) + 5) % 6 = 5; omega)) ?_
  · intro t _ y
    obtain ⟨p, x, rfl⟩ := idx_two y
    have e1 := (congrFun (flushed7 V c t) (ix2 p x)).trans (gateC_apply V c t p x)
    show Q ((win0_7.rect t).emb (ix2 p x)) _
    rw [gateC_emb]
    exact e1
  · show _ ∈ ((View.whole main_v6_2).slice (win0_7.rect t)).set
    have e : ix2 r q = (win0_7.rect t).emb (ix2 ⟨r.val % 768, by omega⟩ q) := by
      rw [gateC_emb]
      refine Shape.idx_ext₂ ?_ rfl
      show r.val = 768 * ((6 * (r.val / 768) + 5) / 6 % 22) + r.val % 768; omega
    rw [e]
    exact View.emb_mem_set ((View.whole main_v6_2).slice (win0_7.rect t)) _

end

/-! ## What the host operations prepare -/

section
variable (m : (ℓ : Loc nD τ sig) → Buf (Elt Ideal) ℓ) (ρ : Dev nD → PrngReg) (c : Dev nD)

/-- The gate weights as given. -/
abbrev argC : Vec Ideal S2048x16 .f32 := m ((c.tc : Thread nD τ).loc main_arg3)

theorem wT_eq : (V5 m ρ c main_v2 : Vec Ideal S16x2048 .bf16) =
    truncf .bf16 (pad S16x2048 ![0, 0] ![0, 0] ![0, 0] (transpose S16x2048 [1, 0] (argC m c) transposes_S2048x16_S16x2048_1_0)
      (sitofp (F := Ideal) .f32 (constantI S_ 32 0#32)) pads_S16x2048_S16x2048_000_000 h_S_) bitsLt_bf16_f32 := by
  refine (W5_of m ρ c main_v2 (by decide)).trans ((W4_of m ρ c main_v2 (by decide)).trans ?_)
  show StableHlo.after hostOps0_2 (W2 m ρ c) (Proc.devRef .tc main_v2) = _
  simp only [W2, W1, hostOps0, hostOps0_1, hostOps0_2, TRef.binary, TRef.nullary, TRef.ternary, TRef.unary, TRef.toBuf, TRef.ofBuf, cast_eq]
  after_results_simp <;> rfl

theorem wC_eq : (V5 m ρ c main_v4 : Vec Ideal S2048x128 .bf16) =
    truncf .bf16 (pad S2048x128 ![0, 0] ![0, 112] ![0, 0] (argC m c)
      (sitofp (F := Ideal) .f32 (constantI S_ 32 0#32)) pads_S2048x16_S2048x128_000_01120 h_S_) bitsLt_bf16_f32 := by
  show StableHlo.after hostOps0_4 (W4 m ρ c) (Proc.devRef .tc main_v4) = _
  simp only [W4, W3, W2, W1, hostOps0, hostOps0_1, hostOps0_2, hostOps0_3, hostOps0_4, TRef.binary, TRef.nullary, TRef.ternary, TRef.unary, TRef.toBuf, TRef.ofBuf, cast_eq]
  after_results_simp <;> rfl

theorem gains_eq : (V5 m ρ c main_v5 : Vec Ideal S1x2048 .f32) =
    shapeCast S1x2048 (m ((c.tc : Thread nD τ).loc main_arg1) : Vec Ideal S2048 .f32) shapeCasts_S2048_S1x2048 := by
  show StableHlo.after hostOps0_4 (W4 m ρ c) (Proc.devRef .tc main_v5) = _
  simp only [W4, W3, W2, W1, hostOps0, hostOps0_1, hostOps0_2, hostOps0_3, hostOps0_4, TRef.binary, TRef.nullary, TRef.ternary, TRef.unary, TRef.toBuf, TRef.ofBuf, cast_eq]
  after_results_simp <;> rfl

theorem zero_word (i : S_.Idx) : (sitofp (F := Ideal) .f32 (constantI S_ 32 0#32) i : EReal) = 0 := by
  show (((0#32 : BitVec 32).toInt : ℝ) : EReal) = 0
  simp

/-- A gate column's weight: the weight given, and zero past the columns given. -/
def gateW (k : Fin 2048) (q : ℕ) : EReal := if h : q < 16 then argC m c (ix2 k ⟨q, h⟩) else 0

theorem wC_apply (k : Fin 2048) (q : Fin 128) : ((V5 m ρ c main_v4 : Vec Ideal S2048x128 .bf16) (ix2 k q) : EReal) = gateW m c k q.val := by
  rw [wC_eq]
  unfold gateW
  by_cases h : q.val < 16
  · refine Eq.trans ?_ (dif_pos h).symm
    refine pad_apply_of_inside (α := EReal) ![0, 0] ![0, 112] ![0, 0] _ _ pads_S2048x16_S2048x128_000_01120 _ _ (ix2 k ⟨q.val, h⟩) (fun a => ?_)
    match a with
    | ⟨0, _⟩ => show k.val = 0 + k.val * (0 + 1); omega
    | ⟨1, _⟩ => show q.val = 0 + q.val * (0 + 1); omega
  · refine Eq.trans ?_ (dif_neg h).symm
    refine (pad_apply_of_not_inside (α := EReal) ![0, 0] ![0, 112] ![0, 0] (argC m c) _ pads_S2048x16_S2048x128_000_01120 _ _ (1 : Fin 2) ?_).trans (zero_word _)
    show ¬(0 ≤ q.val ∧ (q.val - 0) % (0 + 1) = 0 ∧ (q.val - 0) / (0 + 1) < 16)
    rintro ⟨-, -, h3⟩; omega

theorem wT_apply (p : Fin 16) (k : Fin 2048) : ((V5 m ρ c main_v2 : Vec Ideal S16x2048 .bf16) (ix2 p k) : EReal) = gateW m c k p.val := by
  rw [wT_eq]
  unfold gateW
  by_cases h : p.val < 16
  · refine Eq.trans ?_ (dif_pos h).symm
    refine (pad_apply_of_inside (α := EReal) ![0, 0] ![0, 0] ![0, 0] _ _ pads_S16x2048_S16x2048_000_000 _ _ (ix2 ⟨p.val, h⟩ k) (fun a => ?_)).trans ?_
    · match a with
      | ⟨0, _⟩ => show p.val = 0 + p.val * (0 + 1); omega
      | ⟨1, _⟩ => show k.val = 0 + k.val * (0 + 1); omega
    · exact transpose_apply [1, 0] (argC m c) transposes_S2048x16_S16x2048_1_0 (ix2 ⟨p.val, h⟩ k) (ix2 k ⟨p.val, h⟩) (fun b => by
        match b with
        | ⟨0, _⟩ => rfl
        | ⟨1, _⟩ => rfl)
  · refine Eq.trans ?_ (dif_neg h).symm
    refine (pad_apply_of_not_inside (α := EReal) ![0, 0] ![0, 0] ![0, 0] (transpose S16x2048 [1, 0] (argC m c) transposes_S2048x16_S16x2048_1_0) _ pads_S16x2048_S16x2048_000_000 _ _ (0 : Fin 2) ?_).trans (zero_word _)
    show ¬(0 ≤ p.val ∧ (p.val - 0) % (0 + 1) = 0 ∧ (p.val - 0) / (0 + 1) < 16)
    rintro ⟨-, -, h3⟩; omega

theorem gains_apply (k : Fin 2048) : ((V5 m ρ c main_v5 : Vec Ideal S1x2048 .f32) (ix2 0 k) : EReal) = (m ((c.tc : Thread nD τ).loc main_arg1) : Vec Ideal S2048 .f32) (ix1 k) := by
  rw [gains_eq]
  refine shapeCast_apply _ shapeCasts_S2048_S1x2048 (ix2 0 k) (ix1 k) ?_
  rw [Shape.rowMajor_val_two, Shape.rowMajor_val_one]; show k.val = 0 * 2048 + k.val; omega

/-- Row `r` of the residual stream as given, -/
abbrev rowA (r : Fin 16896) : Fin 2048 → EReal := fun k => (m ((c.tc : Thread nD τ).loc main_arg0) : Vec Ideal S16896x2048 .f32) (ix2 r k)
/-- and the gains as given. -/
abbrev gainA : Fin 2048 → EReal := fun k => (m ((c.tc : Thread nD τ).loc main_arg1) : Vec Ideal S2048 .f32) (ix1 k)

theorem rowX_eq (r : Fin 16896) : rowX (V5 m ρ) c r = rowA m c r := by
  funext k; exact congrFun (W5_args m ρ c main_arg0 (by decide)) _
theorem gainX_eq : gains (V5 m ρ) c = gainA m c := funext fun k => gains_apply m ρ c k

theorem main_out (r : Fin 16896) (q : Fin 6144) : ((dat (V5 m ρ) c).arrAt 5 cfg0.N (ix2 r q) : EReal)
    = proj (rowA m c r) (gainA m c) (fun k => (m ((c.tc : Thread nD τ).loc main_arg2) : Vec Ideal S2048x6144 .bf16) (ix2 k q)) := by
  refine (main_arr (V5 m ρ) c r q).trans ?_
  rw [rowX_eq, gainX_eq]
  exact congrArg (proj _ _) (funext fun k => congrFun (W5_args m ρ c main_arg2 (by decide)) _)
theorem gateT_out (p : Fin 16) (r : Fin 16896) : ((dat (V5 m ρ) c).arrAt 6 cfg0.N (ix2 p r) : EReal)
    = proj (rowA m c r) (gainA m c) (fun k => gateW m c k p.val) := by
  refine (gateT_arr (V5 m ρ) c p r).trans ?_
  rw [rowX_eq, gainX_eq]
  exact congrArg (proj _ _) (funext fun k => wT_apply m ρ c p k)
theorem gateC_out (r : Fin 16896) (q : Fin 128) : ((dat (V5 m ρ) c).arrAt 7 cfg0.N (ix2 r q) : EReal)
    = proj (rowA m c r) (gainA m c) (fun k => gateW m c k q.val) := by
  refine (gateC_arr (V5 m ρ) c r q).trans ?_
  rw [rowX_eq, gainX_eq]
  exact congrArg (proj _ _) (funext fun k => wC_apply m ρ c k q)

end

end Cert.Kernel2Ideal.Proj

end
-- ==== Proof.Proj.Meet.lean ====
module

public import proofs.«01_k».proof.Proof.Proj.Value
public import proofs.«01_k».proof.Proof.Gen.Reference2Ideal.Run
public import proofs.«01_k».proof.Proof.Gen.Reference2Ideal.Read
public import proofs.«01_k».proof.Defs

@[expose] public section

set_option maxRecDepth 16384

noncomputable section

/-! The reference of the input projection entry by entry, and that the kernel's three results are the reference's. -/

namespace Cert.ProjMeet

open Idealize.ShloMosaic Idealize.ShloMosaic.TcCoe Idealize.ShloMosaic.Tactic
open Idealize.SL Idealize.SL.Sem
open Cert.Reference2Ideal Cert.Reference2Ideal.Gen Cert.Reference2Ideal.Read
open Cert.Kernel2Ideal.Proj (nrm proj)

set_option maxHeartbeats 2000000

section
variable (X : (⟨S16896x2048, .f32⟩ : BufTy).Contents (Elt Ideal)) (A : (⟨S2048, .f32⟩ : BufTy).Contents (Elt Ideal))
  (W : (⟨S2048x6144, .bf16⟩ : BufTy).Contents (Elt Ideal)) (Y : (⟨S2048x16, .f32⟩ : BufTy).Contents (Elt Ideal))

theorem square_sum (r : Fin 16896) : (val_main_v1 (F := Ideal) X (ix1 r) : EReal) = ∑ j : Fin 2048, X (ix2 r j) * X (ix2 r j) := by
  have h0 : (val_main_cst (F := Ideal) (Shape.Idx.first h_S_) : EReal) = (0 : EReal) := by
    show Ideal.ofBits .f32 0x00000000#32 = 0
    simp [Ideal.ofBits, Ideal.ieee]
  rw [val_main_v1_apply, h0, zero_add]
  refine Finset.sum_congr rfl fun j _ => ?_
  have e : idx_main_v1 (ix1 r) j = ix2 r j := Shape.idx_ext₂ rfl rfl
  rw [e]
  rfl

theorem scale (r : Fin 16896) : (val_main_v7 (F := Ideal) X (ix2 r 0) : EReal)
    = Ideal.rsqrt (Ideal.div (∑ j : Fin 2048, X (ix2 r j) * X (ix2 r j)) (Ideal.ofBits .f32 0x45000000#32) + Ideal.ofBits .f32 0x358637BD#32) := by
  rw [val_main_v7_apply, val_main_v6_apply, val_main_v4_apply, val_main_v2_apply, val_main_v3_apply, val_main_v5_apply]
  have e : idx_main_v2 (ix2 r 0) = ix1 r := by
    funext a
    match a with
    | ⟨0, _⟩ => rfl
  rw [e, square_sum]
  rfl

theorem normed_row (r : Fin 16896) (k : Fin 2048) : (val_main_v12 (F := Ideal) X A (ix2 r k) : EReal) = nrm (fun j => X (ix2 r j)) (fun j => A (ix1 j)) k := by
  rw [val_main_v12_apply, val_main_v9_apply, val_main_v8_apply, val_main_v11_apply, val_main_v10_apply]
  have e1 : idx_main_v8 (ix2 r k) = ix2 r 0 := Shape.idx_ext₂ rfl rfl
  have e2 : idx_main_v10 (idx_main_v11 (ix2 r k)) = ix1 k := by
    funext a
    match a with
    | ⟨0, _⟩ => rfl
  rw [e1, e2, scale]
  rfl

theorem main_ref (r : Fin 16896) (q : Fin 6144) : (val_main_v16 (F := Ideal) X A W (ix2 r q) : EReal) = proj (fun j => X (ix2 r j)) (fun j => A (ix1 j)) (fun k => W (ix2 k q)) := by
  have h : (val_main_v16 (F := Ideal) X A W (ix2 r q) : EReal) = val_main_v15 (F := Ideal) X A W (ix2 r q) := rfl
  rw [h, val_main_v15_apply, proj]
  refine Finset.sum_congr rfl fun k _ => ?_
  have e1 : lidx_main_v15 (ix2 r q) k = ix2 r k := Shape.idx_ext₂ rfl rfl
  have e2 : ridx_main_v15 (ix2 r q) k = ix2 k q := Shape.idx_ext₂ rfl rfl
  rw [e1, e2, normed_row]
  rfl

theorem gate_ref (r : Fin 16896) (q : Fin 16) : (val_main_v13 (F := Ideal) X A Y (ix2 r q) : EReal) = proj (fun j => X (ix2 r j)) (fun j => A (ix1 j)) (fun k => Y (ix2 k q)) := by
  rw [val_main_v13_apply, proj]
  refine Finset.sum_congr rfl fun k _ => ?_
  have e1 : lidx_main_v13 (ix2 r q) k = ix2 r k := Shape.idx_ext₂ rfl rfl
  have e2 : ridx_main_v13 (ix2 r q) k = ix2 k q := Shape.idx_ext₂ rfl rfl
  rw [e1, e2, normed_row]

/-- A product with no weights is zero. -/
theorem proj_zero (x g : Fin 2048 → EReal) : proj x g (fun _ => 0) = 0 := by
  rw [proj]
  exact Finset.sum_eq_zero fun k _ => mul_zero _

theorem zero_word (i : S_.Idx) : (val_main_call0_v0 (F := Ideal) i : EReal) = 0 := by
  show (((0#32 : BitVec 32).toInt : ℝ) : EReal) = 0
  simp

theorem gateT_ref (p : Fin 16) (r : Fin 16896) : (val_main_v17 (F := Ideal) X A Y (ix2 p r) : EReal)
    = proj (fun j => X (ix2 r j)) (fun j => A (ix1 j)) (fun k => if h : p.val < 16 then Y (ix2 k ⟨p.val, h⟩) else 0) := by
  rw [val_main_v17_apply]
  have e : idx_main_v17 (ix2 p r) = ix2 r p := Shape.idx_ext₂ rfl rfl
  rw [e, gate_ref]
  exact congrArg (proj _ _) (funext fun k => by rw [dif_pos p.isLt])

theorem gateC_ref (r : Fin 16896) (q : Fin 128) : (val_main_v18 (F := Ideal) X A Y (ix2 r q) : EReal)
    = proj (fun j => X (ix2 r j)) (fun j => A (ix1 j)) (fun k => if h : q.val < 16 then Y (ix2 k ⟨q.val, h⟩) else 0) := by
  unfold val_main_v18
  by_cases h : q.val < 16
  · refine (pad_apply_of_inside (α := EReal) ![0, 0] ![0, 112] ![0, 0] (val_main_v13 (F := Ideal) X A Y) _ pads_S16896x16_S16896x128_000_01120 _ _ (ix2 r ⟨q.val, h⟩) (fun a => ?_)).trans ?_
    · match a with
      | ⟨0, _⟩ => show r.val = 0 + r.val * (0 + 1); omega
      | ⟨1, _⟩ => show q.val = 0 + q.val * (0 + 1); omega
    · rw [gate_ref]
      exact congrArg (proj _ _) (funext fun k => by rw [dif_pos h])
  · refine (pad_apply_of_not_inside (α := EReal) ![0, 0] ![0, 112] ![0, 0] (val_main_v13 (F := Ideal) X A Y) _ pads_S16896x16_S16896x128_000_01120 _ _ (1 : Fin 2) ?_).trans ?_
    · show ¬(0 ≤ q.val ∧ (q.val - 0) % (0 + 1) = 0 ∧ (q.val - 0) / (0 + 1) < 16)
      rintro ⟨-, -, h3⟩; omega
    · refine (zero_word _).trans ((proj_zero (fun j => X (ix2 r j)) (fun j => A (ix1 j))).symm.trans ?_)
      exact congrArg (proj _ _) (funext fun k => by rw [dif_neg h])

end

/-! ### The kernel and the reference -/

section
variable (m : (ℓ : Loc Cert.Kernel2Ideal.nD Cert.Kernel2Ideal.τ Cert.Kernel2Ideal.sig) → Buf (Elt Ideal) ℓ) (ρ : Dev Cert.Kernel2Ideal.nD → PrngReg) (c : Dev Cert.Kernel2Ideal.nD)

theorem main_meets (i : (⟨2, ![16896, 6144]⟩ : Shape).Idx) :
    (val_main_v16 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) i : EReal)
      = ((Cert.Kernel2Ideal.Proj.dat (Cert.Kernel2Ideal.Proj.V5 m ρ) c).arrAt 5 Cert.Kernel2Ideal.cfg0.N i : EReal) := by
  obtain ⟨r, q, rfl⟩ := Cert.Kernel2Ideal.Proj.idx_two i
  exact (main_ref _ _ _ r q).trans (Cert.Kernel2Ideal.Proj.main_out m ρ c r q).symm

theorem gateT_meets (i : (⟨2, ![16, 16896]⟩ : Shape).Idx) :
    (val_main_v17 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg3)) i : EReal)
      = ((Cert.Kernel2Ideal.Proj.dat (Cert.Kernel2Ideal.Proj.V5 m ρ) c).arrAt 6 Cert.Kernel2Ideal.cfg0.N i : EReal) := by
  obtain ⟨p, r, rfl⟩ := Cert.Kernel2Ideal.Proj.idx_two i
  exact (gateT_ref _ _ _ p r).trans (Cert.Kernel2Ideal.Proj.gateT_out m ρ c p r).symm

theorem gateC_meets (i : (⟨2, ![16896, 128]⟩ : Shape).Idx) :
    (val_main_v18 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg3)) i : EReal)
      = ((Cert.Kernel2Ideal.Proj.dat (Cert.Kernel2Ideal.Proj.V5 m ρ) c).arrAt 7 Cert.Kernel2Ideal.cfg0.N i : EReal) := by
  obtain ⟨r, q, rfl⟩ := Cert.Kernel2Ideal.Proj.idx_two i
  exact (gateC_ref _ _ _ r q).trans (Cert.Kernel2Ideal.Proj.gateC_out m ρ c r q).symm

end

/-- Both programs run, and their three results are equal. -/
theorem algebraic : Cert.algebraic_Kernel2Ideal_Reference2Ideal := by
  intro m g m' g' _ ha
  refine ⟨fun c => (Cert.Kernel2Ideal.Proj.dat (Cert.Kernel2Ideal.Proj.V5 m g) c).arrAt 5 Cert.Kernel2Ideal.cfg0.N,
    fun c => (Cert.Kernel2Ideal.Proj.dat (Cert.Kernel2Ideal.Proj.V5 m g) c).arrAt 6 Cert.Kernel2Ideal.cfg0.N,
    fun c => (Cert.Kernel2Ideal.Proj.dat (Cert.Kernel2Ideal.Proj.V5 m g) c).arrAt 7 Cert.Kernel2Ideal.cfg0.N, Cert.Kernel2Ideal.Proj.ran_results m g, ?_⟩
  refine (θ_run _ _ _).mono (fun r h c => ⟨?_, ?_, ?_, (h c).2.2.2⟩) (Cert.Reference2Ideal.Value.run m' g')
  · refine ((h c).1.trans (val_main_v16_eq _ _ _)).trans ?_
    rw [(ha c).1, (ha c).2.1, (ha c).2.2.1]
    funext i; exact main_meets m g c i
  · refine ((h c).2.1.trans (val_main_v17_eq _ _ _)).trans ?_
    rw [(ha c).1, (ha c).2.1, (ha c).2.2.2]
    funext i; exact gateT_meets m g c i
  · refine ((h c).2.2.1.trans (val_main_v18_eq _ _ _)).trans ?_
    rw [(ha c).1, (ha c).2.1, (ha c).2.2.2]
    funext i; exact gateC_meets m g c i

end Cert.ProjMeet

end
-- ==== Proof.Proj.Twin.lean ====
module

public import proofs.«01_k».proof.Proof.Proj.Launch
public import proofs.«01_k».proof.Proof.Gen.Kernel2
public import Idealize.ShloMosaic.PureOps.BitExact

@[expose] public section

noncomputable section

/-! The printed program is the idealized one's text again, so its run is the same run at the float words. -/

namespace Cert.Kernel2.Proj

open Idealize.ShloMosaic Idealize.SL.Sem

variable {F : FTy → Type} [FloatOps F]

theorem body_eq : Cert.Kernel2.defs₀ (F := F) = Cert.Kernel2Ideal.defs₀ (F := F) := by
  refine congrArg Defs.onTc (funext fun n => ?_)
  match n with
  | 0 => rfl

theorem defs_eq : Cert.Kernel2.defs (F := F) = Cert.Kernel2Ideal.defs (F := F) :=
  congrArg (Pipeline.defs Cert.Kernel2Ideal.pcfgs) body_eq

/-- The frame: the arguments end as launched, the counters at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq]
  exact Cert.Kernel2Ideal.Proj.frame m ρ

end Cert.Kernel2.Proj

end
-- ==== Proof.ProjEven.Run.lean ====
module

public import proofs.«01_k».proof.Proof.Gen.Kernel3Ideal.Skeleton
public import proofs.«01_k».proof.Proof.Gen.Kernel3Ideal.Points
public import Idealize.ShloMosaic.Lib.Ring
public import Idealize.ShloMosaic.Lib.Tactic
public import Idealize.ShloMosaic.Lib.WordCmp
public import Idealize.ShloMosaic.Lib.WholeRead
public import Idealize.ShloMosaic.Lib.Exec
public import Idealize.ShloMosaic.Lib.Pipeline.FrameBody
public import Idealize.ShloMosaic.Lib.Pipeline.ValueKit.Basic

@[expose] public section

set_option maxRecDepth 16384

noncomputable section

/-! The projection's body at a row block's first point, where it norms the rows and projects the gate columns, and at the later ones,
   where it only multiplies the normed rows by the point's weights. -/

namespace Cert.Kernel3Ideal.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The whole of a buffer, read back. -/
theorem rd_whole {S : Shape} {e : EltTy} (a : Memref sig .tc .vmem S e) (ha : a.IsWhole) {off : Fin S.rank → ℕ} (h0 : ∀ b, off b = 0)
    (inb : ∀ b, off b + S.size b ≤ S.size b) (x : Vec F S e) :
    View.readAt (Elt F) a.view (Rect.unit (s := S) off S.size inb).toLoadRect (ha.unread x) = x := by
  funext y
  rw [ha.readAt_unread]
  congr 1
  funext b; apply Fin.ext
  simp [LoadRect.idx, Rect.unit, Rect.toLoadRect, h0 b]

/-- The whole of a buffer, read back after a whole store. -/
theorem rd_stored {S : Shape} {e : EltTy} (a : Memref sig .tc .vmem S e) {off : Fin S.rank → ℕ} (h0 : ∀ b, off b = 0)
    (inb : ∀ b, off b + S.size b ≤ S.size b) (w : Vec F S e) :
    a.view.readCov (Val := Elt F) [⟨Rect.unit (s := S) off S.size inb, w⟩] (Rect.unit (s := S) off S.size inb).toLoadRect = w := by
  rw [View.readCov_eq_canon_ld _ _ _ (fun y => ⟨_, List.mem_cons_self, View.mem_set_unit_zero (funext h0) inb y⟩), View.canon_cons_unit_lit _ _ _ h0]
  funext y
  refine congrArg w (funext fun b => Fin.ext ?_)
  simp [LoadRect.idx, Rect.unit, h0 b]

/-- What a whole store leaves. -/
theorem left_stored {S : Shape} {e : EltTy} (a : Memref sig .tc .vmem S e) {off : Fin S.rank → ℕ} (h0 : ∀ b, off b = 0)
    (inb : ∀ b, off b + S.size b ≤ S.size b) (w : Vec F S e) (f : BufTy.Contents (Elt F) a.view.ty) :
    View.read (Elt F) a.view (a.view.writes (Elt F) f [⟨Rect.unit (s := S) off S.size inb, w⟩]) = w :=
  (View.read_writes_eq_canon _ _ _ (fun y => ⟨_, List.mem_cons_self, View.mem_set_unit_zero (funext h0) inb y⟩)).trans (View.canon_cons_unit_lit _ _ _ h0)

theorem off0 : ∀ b : Fin 2, (![0, 0] : Fin 2 → ℕ) b = 0 := by decide

/-- The point is the first of its row block, as the body's branch reads it. -/
abbrev firstPoint (i : grid0.Coords) : Prop := k0_cond1 i = 1#1

variable (c : Dev nD) (i : grid0.Coords) (arg2 : Memref sig .tc .vmem S768x2048 .f32) (harg2 : arg2.IsWhole) (arg3 : Memref sig .tc .vmem S1x2048 .f32) (harg3 : arg3.IsWhole)
  (arg4 : Memref sig .tc .vmem S2048x1024 .bf16) (harg4 : arg4.IsWhole) (arg5 : Memref sig .tc .vmem S16x2048 .bf16) (harg5 : arg5.IsWhole)
  (arg6 : Memref sig .tc .vmem S2048x128 .bf16) (harg6 : arg6.IsWhole) (arg7 : Memref sig .tc .vmem S768x1024 .bf16) (harg7 : arg7.IsWhole)
  (arg8 : Memref sig .tc .vmem S16x768 .f32) (harg8 : arg8.IsWhole) (arg9 : Memref sig .tc .vmem S768x128 .f32) (harg9 : arg9.IsWhole)
  (arg10 : Memref sig .tc .vmem S768x2048 .bf16) (harg10 : arg10.IsWhole)

set_option maxHeartbeats 4000000 in
/-- The body at a row block's first point. -/
theorem run_first (hc : firstPoint i) (x2 : Vec F S768x2048 .f32) (x3 : Vec F S1x2048 .f32) (x4 : Vec F S2048x1024 .bf16) (x5 : Vec F S16x2048 .bf16) (x6 : Vec F S2048x128 .bf16)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare x6 ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare (k0_pay5 (k0_pay2 x2 x3) x4) ∗ owns (c : Thread nD τ) arg8 fullShare (k0_pay3 x2 x3 x5)
            ∗ owns (c : Thread nD τ) arg9 fullShare (k0_pay4 x2 x3 x6) ∗ owns (c : Thread nD τ) arg10 fullShare (k0_pay2 x2 x3)) -∗ K ⟨⟩))
      ⊢ wp frame (wpE (defs₀ (F := F)) Variants.none c none) E (cc0_norm_inproj i arg2 harg2 arg3 harg3 arg4 harg4 arg5 harg5 arg6 harg6 arg7 harg7 arg8 harg8 arg9 harg9 arg10 harg10) K := by
  simp only [cc0_norm_inproj_eq_skeleton]; unfold cc0_norm_inproj_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds, %fs, -, HS⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | sl_exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (left_stored arg7 off0 _ _ _).trans ?_
    exact congrArg₂ k0_pay5 ((rd_stored arg10 off0 _ _).trans (congrArg₂ k0_pay2 (rd_whole arg2 harg2 off0 _ x2) (rd_whole arg3 harg3 off0 _ x3))) (rd_whole arg4 harg4 off0 _ x4)
  isplitl [H8]
  · iexists _; isplitr
    swap; · iexact H8
    ipureintro
    refine (left_stored arg8 off0 _ _ _).trans ?_
    exact congr (congrArg₂ k0_pay3 (rd_whole arg2 harg2 off0 _ x2) (rd_whole arg3 harg3 off0 _ x3)) (rd_whole arg5 harg5 off0 _ x5)
  isplitl [H9]
  · iexists _; isplitr
    swap; · iexact H9
    ipureintro
    refine (left_stored arg9 off0 _ _ _).trans ?_
    exact congr (congrArg₂ k0_pay4 (rd_whole arg2 harg2 off0 _ x2) (rd_whole arg3 harg3 off0 _ x3)) (rd_whole arg6 harg6 off0 _ x6)
  iexists _; isplitr
  swap; · iexact HS
  ipureintro
  refine (left_stored arg10 off0 _ _ _).trans ?_
  exact congrArg₂ k0_pay2 (rd_whole arg2 harg2 off0 _ x2) (rd_whole arg3 harg3 off0 _ x3)

set_option maxHeartbeats 4000000 in
/-- The body at a later point: the normed rows are where the first point left them. -/
theorem run_later (hc : ¬firstPoint i) (x4 : Vec F S2048x1024 .bf16) (xs : Vec F S768x2048 .bf16)
    (E : Set ℕ) (K : PUnit → sProp 𝕄) :
    iprop(owns (c : Thread nD τ) arg4 fullShare x4 ∗ (∃ d, owns (c : Thread nD τ) arg7 fullShare d) ∗ owns (c : Thread nD τ) arg10 fullShare xs
        ∗ (iprop(owns (c : Thread nD τ) arg4 fullShare x4 ∗ owns (c : Thread nD τ) arg7 fullShare (k0_pay5 xs x4) ∗ owns (c : Thread nD τ) arg10 fullShare xs) -∗ K ⟨⟩))
      ⊢ wp frame (wpE (defs₀ (F := F)) Variants.none c none) E (cc0_norm_inproj i arg2 harg2 arg3 harg3 arg4 harg4 arg5 harg5 arg6 harg6 arg7 harg7 arg8 harg8 arg9 harg9 arg10 harg10) K := by
  simp only [cc0_norm_inproj_eq_skeleton]; unfold cc0_norm_inproj_skel
  unfold owns
  iintro ⟨⟨%f4, %hf4, H4⟩, ⟨%d7, %f7, -, H7⟩, ⟨%fs, %hfs, HS⟩, Hk⟩
  obtain rfl := harg4.eq_unread hf4; obtain rfl := harg10.eq_unread hfs
  sl_exec (disch := first | sl_exact hc)
  sl_step
  iapply Hk
  isplitl [H4]
  · iexists _; isplitr; · ipureintro; exact harg4.read_unread _
    iexact H4
  isplitl [H7]
  · iexists _; isplitr
    swap; · iexact H7
    ipureintro
    refine (left_stored arg7 off0 _ _ _).trans ?_
    exact congrArg₂ k0_pay5 (rd_whole arg10 harg10 off0 _ xs) (rd_whole arg4 harg4 off0 _ x4)
  iexists _; isplitr; · ipureintro; exact harg10.read_unread _
  iexact HS

end Cert.Kernel3Ideal.Proj

end
-- ==== Proof.ProjEven.Data.lean ====
module

public import proofs.«01_k».proof.Proof.ProjEven.Run
public import proofs.«01_k».proof.Proof.Gen.Kernel3Ideal.Launch
public import Idealize.ShloMosaic.Lib.Pipeline.FrameBody
public import Idealize.ShloMosaic.Lib.Pipeline.RegionsLoop
public import Idealize.ShloMosaic.Lib.Pipeline.FrameSuffix

@[expose] public section

set_option maxRecDepth 16384

noncomputable section

/-! The projection's region: what each grid point leaves, and that the body at a point leaves it. -/

namespace Cert.Kernel3Ideal.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid's points -/

theorem row_at (t : Fin cfg0.N) : (grid0.coords t 0).val = t.val / 5 % 22 := Pipeline.Grid.coords_val t 0 (by decide) rfl
theorem col_at (t : Fin cfg0.N) : (grid0.coords t 1).val = t.val % 5 := (Pipeline.Grid.coords_val t 1 (by decide) rfl : (grid0.coords t 1).val = t.val / 1 % 5).trans (by rw [Nat.div_one])

theorem firstPoint_iff (i : grid0.Coords) : firstPoint i ↔ (i 1).val = 0 := by
  have h1 : (i 1).val < 5 := (i 1).isLt
  have e : Scalar.cmpi .eq (BitVec.ofNat 32 (i 1).val) 0#32 = if (i 1).val = 0 then 1#1 else 0#1 := by
    have e' : (BitVec.ofNat 32 (i 1).val = BitVec.ofNat 32 0) ↔ (i 1).val = 0 := WordCmp.ofNat_eq_ofNat_iff (by omega) (by omega)
    show IntOp.cmpi .eq _ _ = _
    rw [WordCmp.cmpi_eq_eq]
    by_cases h : (i 1).val = 0
    · rw [if_pos h, decide_eq_true (e'.mpr h)]; rfl
    · rw [if_neg h, decide_eq_false (fun hh => h (e'.mp hh))]; rfl
  unfold firstPoint k0_cond1
  dsimp only
  rw [e]
  split
  · exact ⟨fun _ => by assumption, fun _ => by decide⟩
  · rename_i h
    exact ⟨fun hh => absurd hh (by decide), fun hh => absurd hh h⟩

theorem firstPoint_at (t : Fin cfg0.N) : firstPoint (grid0.coords t) ↔ t.val % 5 = 0 := by
  rw [firstPoint_iff, col_at]

/-- At a row block's first point the body stores into every output, -/
theorem idle_first (w : Fin 8) (t : Fin cfg0.N) (h : firstPoint (grid0.coords t)) : cfg0.idle w (cfg0.grid.coords t) = false := by
  have h' : k0_cond1 (grid0.coords t) = 1#1 := h
  show idle0 w (grid0.coords t) = false
  fin_cases w <;> simp [idle0, h']

/-- and at a later one into none of the gate outputs. -/
theorem idle_later (w : Fin 8) (hw : 6 ≤ w.val) (t : Fin cfg0.N) (h : ¬firstPoint (grid0.coords t)) : cfg0.idle w (cfg0.grid.coords t) = true := by
  have h' : ¬k0_cond1 (grid0.coords t) = 1#1 := h
  show idle0 w (grid0.coords t) = true
  fin_cases w <;> first | (exfalso; revert hw; decide) | simp [idle0, h']

-- each core's buffers when the region is entered
variable (V : (c : Dev nD) → (b : Ref sig .tc) → Buf (Elt F) ((c : Thread nD τ).loc b))

/-- Window `w`'s block at point `t`, off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The buffer the normed rows are kept in. -/
abbrev rowsM : Memref sig .tc .vmem S768x2048 .bf16 := Memref.whole cc0_scratch0

/-- The normed rows of the point's row block, -/
def normed (c : Dev nD) (t : Fin cfg0.N) : Vec F S768x2048 .bf16 := k0_pay2 (blk V c 0 t) (blk V c 1 t)
/-- their product with the point's weights, -/
def mainBlk (c : Dev nD) (t : Fin cfg0.N) : Vec F S768x1024 .bf16 := k0_pay5 (normed V c t) (blk V c 2 t)
/-- the gate columns of these rows, transposed, -/
def gateT (c : Dev nD) (t : Fin cfg0.N) : Vec F S16x768 .f32 := k0_pay3 (blk V c 0 t) (blk V c 1 t) (blk V c 3 t)
/-- and the gate columns. -/
def gateC (c : Dev nD) (t : Fin cfg0.N) : Vec F S768x128 .f32 := k0_pay4 (blk V c 0 t) (blk V c 1 t) (blk V c 4 t)

theorem blk_0_same (c : Dev nD) {n : ℕ} (hn' : n < cfg0.N) (hn : n + 1 < cfg0.N) (h : (n + 1) % 5 ≠ 0) : blk V c 0 ⟨n, hn'⟩ = blk V c 0 ⟨n + 1, hn⟩ := by
  have e : (grid0.coords ⟨n, hn'⟩ 0).val = (grid0.coords ⟨n + 1, hn⟩ 0).val := by
    rw [row_at, row_at]
    have hN : cfg0.N = 110 := N_0
    show n / 5 % 22 = (n + 1) / 5 % 22
    omega
  have e2 : cc0_transform_0 (grid0.coords ⟨n, hn'⟩) = cc0_transform_0 (grid0.coords ⟨n + 1, hn⟩) := by
    unfold cc0_transform_0
    dsimp only
    rw [e]
  funext y
  unfold blk
  rw [View.read_apply, View.read_apply]
  refine congrArg (V c main_arg0) (show (win0_0.rect ⟨n, hn'⟩).emb y = (win0_0.rect ⟨n + 1, hn⟩).emb y from ?_)
  refine Shape.idx_ext₂ ((win0_0.rect_emb_val _ _ _).trans (Eq.trans ?_ (win0_0.rect_emb_val _ _ _).symm)) ((win0_0.rect_emb_val _ _ _).trans (Eq.trans ?_ (win0_0.rect_emb_val _ _ _).symm))
  · show cc0_transform_0 (grid0.coords ⟨n, hn'⟩) 0 * 768 + (y 0).val = cc0_transform_0 (grid0.coords ⟨n + 1, hn⟩) 0 * 768 + (y 0).val
    rw [e2]
  · show cc0_transform_0 (grid0.coords ⟨n, hn'⟩) 1 * 2048 + (y 1).val = cc0_transform_0 (grid0.coords ⟨n + 1, hn⟩) 1 * 2048 + (y 1).val
    rw [e2]

theorem blk_1_same (c : Dev nD) (t t' : Fin cfg0.N) : blk V c 1 t = blk V c 1 t' := rfl
theorem blk_3_same (c : Dev nD) (t t' : Fin cfg0.N) : blk V c 3 t = blk V c 3 t' := rfl
theorem blk_4_same (c : Dev nD) (t t' : Fin cfg0.N) : blk V c 4 t = blk V c 4 t' := rfl

theorem normed_same (c : Dev nD) {n : ℕ} (hn' : n < cfg0.N) (hn : n + 1 < cfg0.N) (h : (n + 1) % 5 ≠ 0) : normed V c ⟨n, hn'⟩ = normed V c ⟨n + 1, hn⟩ := by
  unfold normed
  rw [blk_0_same V c hn' hn h, blk_1_same V c ⟨n, hn'⟩ ⟨n + 1, hn⟩]
theorem gateT_same (c : Dev nD) {n : ℕ} (hn' : n < cfg0.N) (hn : n + 1 < cfg0.N) (h : (n + 1) % 5 ≠ 0) : gateT V c ⟨n, hn'⟩ = gateT V c ⟨n + 1, hn⟩ := by
  unfold gateT
  rw [blk_0_same V c hn' hn h, blk_1_same V c ⟨n, hn'⟩ ⟨n + 1, hn⟩, blk_3_same V c ⟨n, hn'⟩ ⟨n + 1, hn⟩]
theorem gateC_same (c : Dev nD) {n : ℕ} (hn' : n < cfg0.N) (hn : n + 1 < cfg0.N) (h : (n + 1) % 5 ≠ 0) : gateC V c ⟨n, hn'⟩ = gateC V c ⟨n + 1, hn⟩ := by
  unfold gateC
  rw [blk_0_same V c hn' hn h, blk_1_same V c ⟨n, hn'⟩ ⟨n + 1, hn⟩, blk_4_same V c ⟨n, hn'⟩ ⟨n + 1, hn⟩]

/-- Between points: the normed rows of the point before, and the generator register. -/
def carried (c : Dev nD) (n : ℕ) : sProp 𝕄 :=
  iprop((∃ d, ⌜∀ t : Fin cfg0.N, t.val + 1 = n → d = normed V c t⌝ ∗ owns (c : Thread nD τ) rowsM fullShare d) ∗ ∃ r, prngReg c r)

theorem carried_start (c : Dev nD) : (Pipeline.ΦA spec0 c : sProp 𝕄) ⊢ carried V c 0 := by
  unfold Pipeline.ΦA carried; rw [scopedRest0_eq]; simp only [rowsM, owns_whole]
  iintro ⟨⟨%f, H⟩, Hg⟩
  isplitl [H]
  · iexists f; isplitr; · ipureintro; exact fun t h => absurd h (Nat.succ_ne_zero _)
    iexact H
  iexact Hg

theorem carried_end (c : Dev nD) (n : ℕ) : carried V c n ⊢ (Pipeline.ΦA spec0 c : sProp 𝕄) := by
  unfold Pipeline.ΦA carried; rw [scopedRest0_eq]; simp only [rowsM, owns_whole]
  iintro ⟨⟨%f, -, H⟩, Hg⟩
  isplitl [H]
  · iexists f; iexact H
  iexact Hg

/-- The region's data: arrays as found, inputs left alone, the outputs as above. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => mainBlk V c t
    | ⟨6, _⟩ => gateT V c t
    | ⟨7, _⟩ => gateC V c t
  Φ t := carried V c t.val
  q _ := fullShare
  owed _ := 0

theorem arr (c : Dev nD) (w : Fin cfg0.W) : (dat V c).A w = V c (Pipeline.arrRef spec0 w) := by
  dsimp only [dat]
theorem left_0 (c : Dev nD) (t : Fin cfg0.N) : (dat V c).after 0 t = blk V c 0 t := by dsimp only [dat]
theorem left_1 (c : Dev nD) (t : Fin cfg0.N) : (dat V c).after 1 t = blk V c 1 t := by dsimp only [dat]
theorem left_2 (c : Dev nD) (t : Fin cfg0.N) : (dat V c).after 2 t = blk V c 2 t := by dsimp only [dat]
theorem left_3 (c : Dev nD) (t : Fin cfg0.N) : (dat V c).after 3 t = blk V c 3 t := by dsimp only [dat]
theorem left_4 (c : Dev nD) (t : Fin cfg0.N) : (dat V c).after 4 t = blk V c 4 t := by dsimp only [dat]
theorem left_5 (c : Dev nD) (t : Fin cfg0.N) : (dat V c).after 5 t = mainBlk V c t := by dsimp only [dat]
theorem left_6 (c : Dev nD) (t : Fin cfg0.N) : (dat V c).after 6 t = gateT V c t := by dsimp only [dat]
theorem left_7 (c : Dev nD) (t : Fin cfg0.N) : (dat V c).after 7 t = gateC V c t := by dsimp only [dat]
theorem held_0 (c : Dev nD) (t : Fin cfg0.N) (d) : (dat V c).before 0 t d = blk V c 0 t :=
  ((dat V c).before_in_eq_fetched 0 rfl (fun _ => rfl) (fun _ _ _ => rfl)
      (fun t => by rw [left_0]; unfold Dat.blockOf blk; rw [arr]; try rfl) t d).trans
    (by unfold Dat.fetched Dat.blockOf blk; rw [arr]; try rfl)
theorem held_1 (c : Dev nD) (t : Fin cfg0.N) (d) : (dat V c).before 1 t d = blk V c 1 t :=
  ((dat V c).before_in_eq_fetched 1 rfl (fun _ => rfl) (fun _ _ _ => rfl)
      (fun t => by rw [left_1]; unfold Dat.blockOf blk; rw [arr]; try rfl) t d).trans
    (by unfold Dat.fetched Dat.blockOf blk; rw [arr]; try rfl)
theorem held_2 (c : Dev nD) (t : Fin cfg0.N) (d) : (dat V c).before 2 t d = blk V c 2 t :=
  ((dat V c).before_in_eq_fetched 2 rfl (fun _ => rfl) (fun _ _ _ => rfl)
      (fun t => by rw [left_2]; unfold Dat.blockOf blk; rw [arr]; try rfl) t d).trans
    (by unfold Dat.fetched Dat.blockOf blk; rw [arr]; try rfl)
theorem held_3 (c : Dev nD) (t : Fin cfg0.N) (d) : (dat V c).before 3 t d = blk V c 3 t :=
  ((dat V c).before_in_eq_fetched 3 rfl (fun _ => rfl) (fun _ _ _ => rfl)
      (fun t => by rw [left_3]; unfold Dat.blockOf blk; rw [arr]; try rfl) t d).trans
    (by unfold Dat.fetched Dat.blockOf blk; rw [arr]; try rfl)
theorem held_4 (c : Dev nD) (t : Fin cfg0.N) (d) : (dat V c).before 4 t d = blk V c 4 t :=
  ((dat V c).before_in_eq_fetched 4 rfl (fun _ => rfl) (fun _ _ _ => rfl)
      (fun t => by rw [left_4]; unfold Dat.blockOf blk; rw [arr]; try rfl) t d).trans
    (by unfold Dat.fetched Dat.blockOf blk; rw [arr]; try rfl)

theorem kept_6 (c : Dev nD) (t : Fin cfg0.N) (d) : (dat V c).kept 6 t d = (dat V c).after 6 t := by
  unfold Dat.kept
  rw [Pipeline.fill_of_clip_none 6 (cfg0.grid.coords t) (fun _ => rfl) d ((dat V c).after 6 t)]
  funext j
  unfold Window.fill
  split <;> rfl

theorem kept_7 (c : Dev nD) (t : Fin cfg0.N) (d) : (dat V c).kept 7 t d = (dat V c).after 7 t := by
  unfold Dat.kept
  rw [Pipeline.fill_of_clip_none 7 (cfg0.grid.coords t) (fun _ => rfl) d ((dat V c).after 7 t)]
  funext j
  unfold Window.fill
  split <;> rfl

/-- Output window 6's buffer at a later point holds what the row block's first point left. -/
theorem held_6 (c : Dev nD) (t : Fin cfg0.N) (h : t.val % 5 ≠ 0) (d) : (dat V c).before 6 t d = gateT V c t := by
  obtain ⟨n, hn⟩ := t
  induction n generalizing d with
  | zero => exact absurd rfl h
  | succ n ih =>
    have hn' : n < cfg0.N := by omega
    have h : (n + 1) % 5 ≠ 0 := h
    have hf : (cfg0.win 6).flush ⟨n, hn'⟩ = false := by
      rw [Bool.eq_false_iff]; intro hh
      have := (flush0_6 ⟨n, hn'⟩).mp hh
      have e : n % 5 = 4 := this
      omega
    have hs : gateT V c ⟨n, hn'⟩ = gateT V c ⟨n + 1, hn⟩ := gateT_same V c hn' hn h
    refine ((dat V c).before_of_pos 6 ⟨n + 1, hn⟩ (Nat.succ_ne_zero n) rfl d).trans ?_
    rw [if_neg (show ¬(cfg0.win 6).flush ⟨n + 1 - 1, _⟩ = true from by rw [show (cfg0.win 6).flush ⟨n + 1 - 1, _⟩ = false from hf]; decide)]
    by_cases h0 : n % 5 = 0
    · have hi : cfg0.idle 6 (cfg0.grid.coords ⟨n, hn'⟩) = false := idle_first 6 ⟨n, hn'⟩ ((firstPoint_at ⟨n, hn'⟩).mpr h0)
      refine Eq.trans ?_ hs
      rw [← left_6 V c ⟨n, hn'⟩]
      unfold Dat.left
      rw [show cfg0.idle 6 (cfg0.grid.coords ⟨n + 1 - 1, _⟩) = false from hi]
      exact kept_6 V c ⟨n, hn'⟩ d
    · refine Eq.trans ?_ ((ih d hn' h0).trans hs)
      have hi : cfg0.idle 6 (cfg0.grid.coords ⟨n, hn'⟩) = true := idle_later 6 (by decide) ⟨n, hn'⟩ (fun hh => h0 ((firstPoint_at ⟨n, hn'⟩).mp hh))
      unfold Dat.left
      rw [show cfg0.idle 6 (cfg0.grid.coords ⟨n + 1 - 1, _⟩) = true from hi]
      rfl

/-- Output window 7's buffer at a later point holds what the row block's first point left. -/
theorem held_7 (c : Dev nD) (t : Fin cfg0.N) (h : t.val % 5 ≠ 0) (d) : (dat V c).before 7 t d = gateC V c t := by
  obtain ⟨n, hn⟩ := t
  induction n generalizing d with
  | zero => exact absurd rfl h
  | succ n ih =>
    have hn' : n < cfg0.N := by omega
    have h : (n + 1) % 5 ≠ 0 := h
    have hf : (cfg0.win 7).flush ⟨n, hn'⟩ = false := by
      rw [Bool.eq_false_iff]; intro hh
      have := (flush0_7 ⟨n, hn'⟩).mp hh
      have e : n % 5 = 4 := this
      omega
    have hs : gateC V c ⟨n, hn'⟩ = gateC V c ⟨n + 1, hn⟩ := gateC_same V c hn' hn h
    refine ((dat V c).before_of_pos 7 ⟨n + 1, hn⟩ (Nat.succ_ne_zero n) rfl d).trans ?_
    rw [if_neg (show ¬(cfg0.win 7).flush ⟨n + 1 - 1, _⟩ = true from by rw [show (cfg0.win 7).flush ⟨n + 1 - 1, _⟩ = false from hf]; decide)]
    by_cases h0 : n % 5 = 0
    · have hi : cfg0.idle 7 (cfg0.grid.coords ⟨n, hn'⟩) = false := idle_first 7 ⟨n, hn'⟩ ((firstPoint_at ⟨n, hn'⟩).mpr h0)
      refine Eq.trans ?_ hs
      rw [← left_7 V c ⟨n, hn'⟩]
      unfold Dat.left
      rw [show cfg0.idle 7 (cfg0.grid.coords ⟨n + 1 - 1, _⟩) = false from hi]
      exact kept_7 V c ⟨n, hn'⟩ d
    · refine Eq.trans ?_ ((ih d hn' h0).trans hs)
      have hi : cfg0.idle 7 (cfg0.grid.coords ⟨n, hn'⟩) = true := idle_later 7 (by decide) ⟨n, hn'⟩ (fun hh => h0 ((firstPoint_at ⟨n, hn'⟩).mp hh))
      unfold Dat.left
      rw [show cfg0.idle 7 (cfg0.grid.coords ⟨n + 1 - 1, _⟩) = true from hi]
      rfl

/-- What the body owes of an output it may leave alone. -/
def leaves (c : Dev nD) (w : Fin cfg0.W) (t : Fin cfg0.N) : sProp 𝕄 :=
  match cfg0.idle w (cfg0.grid.coords t) with
  | true =>
    match (cfg0.win w).flush t with
    | false => iprop(∃ d, owns (c : Thread nD τ) ((cfg0.win w).stage (cfg0.slots t w)) fullShare ((dat V c).before w t d))
    | true => owns (c : Thread nD τ) ((cfg0.win w).stage (cfg0.slots t w)) fullShare ((dat V c).after w t)
  | false => owns (c : Thread nD τ) ((cfg0.win w).stage (cfg0.slots t w)) fullShare ((dat V c).after w t)

theorem leaves_first (c : Dev nD) (w : Fin cfg0.W) (t : Fin cfg0.N) (h : firstPoint (grid0.coords t)) :
    leaves V c w t = owns (c : Thread nD τ) ((cfg0.win w).stage (cfg0.slots t w)) fullShare ((dat V c).after w t) := by
  unfold leaves
  rw [idle_first w t h]

theorem leaves_later (c : Dev nD) (w : Fin cfg0.W) (t : Fin cfg0.N) (d) (h : (dat V c).before w t d = (dat V c).after w t) :
    owns (c : Thread nD τ) ((cfg0.win w).stage (cfg0.slots t w)) fullShare ((dat V c).before w t d) ⊢ leaves V c w t := by
  unfold leaves
  cases cfg0.idle w (cfg0.grid.coords t) with
  | false => dsimp only; rw [h]
  | true =>
    cases (cfg0.win w).flush t with
    | true => dsimp only; rw [h]
    | false =>
      dsimp only
      iintro H
      iexists d
      iexact H

/-- What the body is called with at point `t`, the windows one by one, -/
def pre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- and what it gives back. -/
def post (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ leaves V c 6 t
    ∗ leaves V c 7 t)

set_option maxHeartbeats 4000000 in
/-- The body at a point. -/
theorem body (c : Dev nD) (t : Fin cfg0.N) :
    pre V c t ⊢ wp frame (wpE (defs₀ (F := F)) Variants.none c none) Set.univ (bodyAt0 t) (fun _ => post V c t) := by
  unfold pre post bodyAt0
  simp only [held_0, held_1, held_2, held_3, held_4]
  rw [show (dat V c).owesAt () t.succ = (dat V c).owesAt () t.castSucc from rfl,
    show (dat V c).Φ t.castSucc = carried V c t.val from rfl,
    show (dat V c).Φ t.succ = carried V c (t.val + 1) from rfl, left_0, left_1, left_2, left_3, left_4, left_5]
  unfold carried
  by_cases hc : firstPoint (grid0.coords t)
  · rw [leaves_first V c 6 t hc, leaves_first V c 7 t hc, left_6, left_7]
    iintro ⟨⟨⟨%ds, %hds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) rowsM (Memref.isWhole_whole _) hc (blk V c 0 t) (blk V c 1 t) (blk V c 2 t) (blk V c 3 t) (blk V c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexists _; iexact HS
    iintro ⟨H0, H1, H2, H3, H4, H5, H6, H7, HS⟩
    isplitl [HS Hg]
    · isplitl [HS]
      · iexists _; isplitr
        swap; · iexact HS
        ipureintro; intro t' ht'
        obtain rfl : t' = t := Fin.ext (by omega)
        rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iintro ⟨⟨⟨%ds, %hds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have ht : t.val % 5 ≠ 0 := fun h => hc ((firstPoint_at t).mpr h)
    obtain rfl : ds = normed V c t := by
      obtain ⟨n, hn⟩ := t
      cases n with
      | zero => exact absurd rfl ht
      | succ n => exact (hds ⟨n, by omega⟩ rfl).trans (normed_same V c _ hn ht)
    iapply (run_later c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) rowsM (Memref.isWhole_whole _) hc (blk V c 2 t) (normed V c t) Set.univ _)
    isplitl [H2]; · iexact H2
    isplitl [H5]; · iexists _; iexact H5
    isplitl [HS]; · iexact HS
    iintro ⟨H2, H5, HS⟩
    isplitl [HS Hg]
    · isplitl [HS]
      · iexists _; isplitr
        swap; · iexact HS
        ipureintro; intro t' ht'
        obtain rfl : t' = t := Fin.ext (by omega)
        rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iapply (leaves_later V c 6 t d6 ((held_6 V c t ht d6).trans (left_6 V c t).symm)); iexact H6
    iapply (leaves_later V c 7 t d7 ((held_7 V c t ht d7).trans (left_7 V c t).symm)); iexact H7

/-- The table's body at point `t` is the printed body on the point's buffers. -/
theorem row (t : Fin cfg0.N) : defs₀ (F := F) .tc cfg0.body (cfg0.bodyArgs t (cfg0.slots t)) = bodyAt0 t := by
  unfold defs₀; rw [Defs.onTc_tc]

/-- The region's body obligation. -/
theorem obligation (c : Dev nD) : BodyObligation (dat (F := F) V c) (defs₀ (F := F)) Variants.none () Set.univ := fun t => by
  rw [bigSep_W0, bigSep_W0, row]
  exact triple_restated (body V c t) rfl .rfl fun _ => .rfl

end Cert.Kernel3Ideal.Proj

end
-- ==== Proof.ProjEven.Launch.lean ====
module

public import proofs.«01_k».proof.Proof.ProjEven.Data
public import Idealize.ShloMosaic.Lib.Pipeline.FrameBody
public import Idealize.ShloMosaic.Lib.Pipeline.RegionsLoop
public import Idealize.ShloMosaic.Lib.Pipeline.FrameSuffix

@[expose] public section

set_option maxRecDepth 16384

noncomputable section

/-! The run of the whole program: the host's stretches and the kernel region in order, and what every buffer holds at the end. -/

namespace Cert.Kernel3Ideal.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's argument arrays. -/
abbrev argRefs : List (Ref sig .tc) := [main_arg0, main_arg1, main_arg2, main_arg3]

/-! ## The host's stretches -/

theorem hostOps0_new : (hostOps0 : List (HloOp τ sig (Elt F))).Forall fun op => op.fresh = ∅ := by
  simp only [List.Forall]; repeat' constructor
/-- What `hostOps0` writes. -/
abbrev hostOps0_W : List (Ref sig .tc) := [main_v0, main_c]
theorem hostOps0_wr : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps0_1_new : (hostOps0_1 : List (HloOp τ sig (Elt F))).Forall fun op => op.fresh = ∅ := by
  simp only [List.Forall]; repeat' constructor
/-- What `hostOps0_1` writes. -/
abbrev hostOps0_1_W : List (Ref sig .tc) := [main_call0_v0, main_v1]
theorem hostOps0_1_wr : (hostOps0_1 : List (HloOp τ sig (Elt F))).Forall fun op => op.writes ⊆ (hostOps0_1_W.map (Proc.devRef (τ := τ) .tc)).toFinset :=
  StableHlo.forall_writes_sub_of_map rfl
theorem hostOps0_1_args : ∀ a ∈ argRefs, a ∉ hostOps0_1_W := ListAll.forall_mem_of_all_decide (by decide +kernel)

theorem hostOps0_2_new : (hostOps0_2 : List (HloOp τ sig (Elt F))).Forall fun op => op.fresh = ∅ := by
  simp only [List.Forall]; repeat' constructor
/-- What `hostOps0_2` writes. -/
abbrev hostOps0_2_W : List (Ref sig .tc) := [main_v2, main_c_0]
theorem hostOps0_2_wr : (hostOps0_2 : List (HloOp τ sig (Elt F))).Forall fun op => op.writes ⊆ (hostOps0_2_W.map (Proc.devRef (τ := τ) .tc)).toFinset :=
  StableHlo.forall_writes_sub_of_map rfl
theorem hostOps0_2_args : ∀ a ∈ argRefs, a ∉ hostOps0_2_W := ListAll.forall_mem_of_all_decide (by decide +kernel)

theorem hostOps0_3_new : (hostOps0_3 : List (HloOp τ sig (Elt F))).Forall fun op => op.fresh = ∅ := by
  simp only [List.Forall]; repeat' constructor
/-- What `hostOps0_3` writes. -/
abbrev hostOps0_3_W : List (Ref sig .tc) := [main_call1_v0, main_v3]
theorem hostOps0_3_wr : (hostOps0_3 : List (HloOp τ sig (Elt F))).Forall fun op => op.writes ⊆ (hostOps0_3_W.map (Proc.devRef (τ := τ) .tc)).toFinset :=
  StableHlo.forall_writes_sub_of_map rfl
theorem hostOps0_3_args : ∀ a ∈ argRefs, a ∉ hostOps0_3_W := ListAll.forall_mem_of_all_decide (by decide +kernel)

theorem hostOps0_4_new : (hostOps0_4 : List (HloOp τ sig (Elt F))).Forall fun op => op.fresh = ∅ := by
  simp only [List.Forall]; repeat' constructor
/-- What `hostOps0_4` writes. -/
abbrev hostOps0_4_W : List (Ref sig .tc) := [main_v4, main_v5]
theorem hostOps0_4_wr : (hostOps0_4 : List (HloOp τ sig (Elt F))).Forall fun op => op.writes ⊆ (hostOps0_4_W.map (Proc.devRef (τ := τ) .tc)).toFinset :=
  StableHlo.forall_writes_sub_of_map rfl
theorem hostOps0_4_args : ∀ a ∈ argRefs, a ∉ hostOps0_4_W := ListAll.forall_mem_of_all_decide (by decide +kernel)

/-! ## Every buffer's contents between the items of the program -/

/-- At launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl

/-- After `hostOps0`. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_wr h
theorem W1_args (c : Dev nD) : ∀ a ∈ argRefs, W1 m ρ c (Proc.devRef .tc a) = m ((c : Thread nD τ).loc a) :=
  fun a ha => (W1_of m ρ c a (hostOps0_args a ha)).trans (W0_args m ρ c a ha)

/-- After `hostOps0_1`. -/
abbrev W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_wr h
theorem W2_args (c : Dev nD) : ∀ a ∈ argRefs, W2 m ρ c (Proc.devRef .tc a) = m ((c : Thread nD τ).loc a) :=
  fun a ha => (W2_of m ρ c a (hostOps0_1_args a ha)).trans (W1_args m ρ c a ha)

/-- After `hostOps0_2`. -/
abbrev W3 : Dev nD → Valuation τ sig (Elt F) := fun c => StableHlo.after hostOps0_2 (W2 m ρ c)
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_wr h
theorem W3_args (c : Dev nD) : ∀ a ∈ argRefs, W3 m ρ c (Proc.devRef .tc a) = m ((c : Thread nD τ).loc a) :=
  fun a ha => (W3_of m ρ c a (hostOps0_2_args a ha)).trans (W2_args m ρ c a ha)

/-- After `hostOps0_3`. -/
abbrev W4 : Dev nD → Valuation τ sig (Elt F) := fun c => StableHlo.after hostOps0_3 (W3 m ρ c)
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_wr h
theorem W4_args (c : Dev nD) : ∀ a ∈ argRefs, W4 m ρ c (Proc.devRef .tc a) = m ((c : Thread nD τ).loc a) :=
  fun a ha => (W4_of m ρ c a (hostOps0_3_args a ha)).trans (W3_args m ρ c a ha)

/-- After `hostOps0_4`. -/
abbrev W5 : Dev nD → Valuation τ sig (Elt F) := fun c => StableHlo.after hostOps0_4 (W4 m ρ c)
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_wr h
theorem W5_args (c : Dev nD) : ∀ a ∈ argRefs, W5 m ρ c (Proc.devRef .tc a) = m ((c : Thread nD τ).loc a) :=
  fun a ha => (W5_of m ρ c a (hostOps0_4_args a ha)).trans (W4_args m ρ c a ha)

/-- The same at the core's references. -/
abbrev V5 : (c : Dev nD) → (b : Ref sig .tc) → Buf (Elt F) ((c : Thread nD τ).loc b) := fun c b => W5 m ρ c b
/-- After region 0: its arrays as the pipeline leaves them, everything else as before. -/
def W6 (c : Dev nD) : Valuation τ sig (Elt F) :=
  Pipeline.withArrays spec0 c (W5 m ρ c) fun w => (dat (V5 m ρ) c).arrAt w cfg0.N
theorem W6_arr (c : Dev nD) (w : Fin cfg0.W) :
    W6 m ρ c (Proc.devRef .tc (Pipeline.arrRef spec0 w)) = (dat (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
theorem W6_of (c : Dev nD) (r : Ref sig .tc) (h : ∀ w : Fin cfg0.W, Pipeline.arrRef spec0 w = r → (cfg0.win w).isOut = false) :
    W6 m ρ c (Proc.devRef .tc r) = W5 m ρ c (Proc.devRef .tc r) := by
  by_cases hw : ∃ w : Fin cfg0.W, Pipeline.arrRef spec0 w = r
  · obtain ⟨w, rfl⟩ := hw
    exact (W6_arr m ρ c w).trans (((dat (V5 m ρ) c).arrAt_in w (h w rfl) _).trans (arr (V5 m ρ) c w))
  · exact W6_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn0 a ha)).trans (W5_args m ρ c a ha)
/-- The same at the core's references. -/
abbrev V6 : (c : Dev nD) → (b : Ref sig .tc) → Buf (Elt F) ((c : Thread nD τ).loc b) := fun c b => W6 m ρ c b
theorem filled0 (c : Dev nD) (w : Fin cfg0.W) : (dat (V5 m ρ) c).arrAt w cfg0.N = V6 m ρ c (Pipeline.arrRef spec0 w) :=
  (W6_arr m ρ c w).symm
theorem kept0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-! ## The region as a part of the run -/

abbrev adm : (p : Fin 1) → (pcfgs (F := F) p).Adm := fun p => (cfgs p).toPCfg_adm
/-- The region's data at its entry. -/
def pdats : (p : Fin 1) → (c : Dev nD) → Dat τ (Elt F) Unit ℕ (UR sig nD τ) ℕ (Pipeline.pin (pcfgs (F := F)) adm p) c
  | ⟨0, _⟩ => fun c => dat (V5 m ρ) c

abbrev 𝒱₀ : Variants := Variants.none
abbrev L : GSem nD τ sig → Finset Unit := fun _ => ∅
abbrev lv : GSem nD τ sig → Unit → ℕ := fun _ _ => 0
/-- What rides along beside the buffers. -/
abbrev R (c : Dev nD) : sProp 𝕄 := iprop((∃ r, prngReg c r) ∗ ∃ W, owes (c : Thread nD τ) (0 : CellTallies nD τ sig Unit) W)
/-- A host stretch as a part of the run. -/
abbrev hseg (ops : List (HloOp τ sig (Elt F))) (hsub : ops.Forall fun op => op.bufs ⊆ StableHlo.tcRefs τ sig)
    (hnew : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hnew) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The buffers and the generator register at the end. -/
abbrev Tₙ (c : Dev nD) : sProp 𝕄 := iprop(StableHlo.held (c : Thread nD τ) (Pipeline.ucRefs τ sig) (W6 m ρ c) ∗ ∃ r, prngReg c r)

set_option backward.isDefEq.respectTransparency.types false in
/-- The region. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) (arr (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = carried (V5 m ρ) c 0 from rfl]
    have hs := carried_start (V5 m ρ) c
    unfold Pipeline.ΦA at hs
    iintro ⟨Hp, -, Hr⟩
    iapply hs
    isplitl [Hr]; · iexact Hr
    iexact Hp
  hout c := by
    rw [Pipeline.ownSems0_none, show (pdats m ρ 0 c).Φ (Fin.last _) = carried (V5 m ρ) c cfg0.N from rfl]
    have hs := carried_end (V5 m ρ) c cfg0.N
    unfold Pipeline.ΦA at hs
    iintro H
    ihave H' := hs $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (filled0 m ρ c) (kept0 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- The program's parts in order. -/
abbrev segs : List (Pipeline.Seg (pcfgs (F := F)) adm (pdats m ρ) () defs₀ 𝒱₀ L lv) :=
  [ .host (hseg hostOps0 hostOps0_sub hostOps0_new (W0 m ρ)),
    .host (hseg hostOps0_1 hostOps0_1_sub hostOps0_1_new (W1 m ρ)),
    .host (hseg hostOps0_2 hostOps0_2_sub hostOps0_2_new (W2 m ρ)),
    .host (hseg hostOps0_3 hostOps0_3_sub hostOps0_3_new (W3 m ρ)),
    .host (hseg hostOps0_4 hostOps0_4_sub hostOps0_4_new (W4 m ρ)),
    .region (reg0 m ρ) ]

theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- The whole program runs to the end, and leaves every buffer at `W6` and every counter at zero. -/
theorem ran : θ_run defs (onTc (τ := τ) (main (F := F))) ⟨m, fun _ => 0, ρ⟩ (fun r =>
      (∀ c : Dev nD, ∀ b ∈ Pipeline.ucRefs τ sig, r.2.mem (((c : Thread nD τ)).1, b) = W6 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

/-- The frame: the arguments end as launched, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨(h.1 c _ (mem_uc main_arg0 (by decide))).trans (W6_args m ρ c main_arg0 (by decide)),
     (h.1 c _ (mem_uc main_arg1 (by decide))).trans (W6_args m ρ c main_arg1 (by decide)),
     (h.1 c _ (mem_uc main_arg2 (by decide))).trans (W6_args m ρ c main_arg2 (by decide)),
     (h.1 c _ (mem_uc main_arg3 (by decide))).trans (W6_args m ρ c main_arg3 (by decide))⟩, h.2⟩) (ran m ρ)

/-- The program runs, and its results are what the region writes. -/
theorem ran_results :
    θ_run defs (onTc (τ := τ) (main (F := F))) ⟨m, fun _ => 0, ρ⟩ (fun r => ∀ c : Dev nD,
      r.2.mem ((c.tc : Thread nD τ).loc main_v6_0) = (dat (V5 m ρ) c).arrAt 5 cfg0.N
      ∧ r.2.mem ((c.tc : Thread nD τ).loc main_v6_1) = (dat (V5 m ρ) c).arrAt 6 cfg0.N
      ∧ r.2.mem ((c.tc : Thread nD τ).loc main_v6_2) = (dat (V5 m ρ) c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h.1 c _ (mem_uc main_v6_0 (by decide))).trans (W6_arr m ρ c 5),
     (h.1 c _ (mem_uc main_v6_1 (by decide))).trans (W6_arr m ρ c 6),
     (h.1 c _ (mem_uc main_v6_2 (by decide))).trans (W6_arr m ρ c 7),
     (h.1 c _ (mem_uc main_arg0 (by decide))).trans (W6_args m ρ c main_arg0 (by decide)),
     (h.1 c _ (mem_uc main_arg1 (by decide))).trans (W6_args m ρ c main_arg1 (by decide)),
     (h.1 c _ (mem_uc main_arg2 (by decide))).trans (W6_args m ρ c main_arg2 (by decide)),
     (h.1 c _ (mem_uc main_arg3 (by decide))).trans (W6_args m ρ c main_arg3 (by decide))⟩) (ran m ρ)

end Cert.Kernel3Ideal.Proj

end
-- ==== Proof.ProjEven.Value.lean ====
module

public import proofs.«01_k».proof.Proof.ProjEven.Launch
public import Idealize.ShloMosaic.Lib.Pointwise
public import Idealize.ShloMosaic.Lib.KernelVsHost
public import Idealize.ShloMosaic.Lib.Routing.OpsSet

@[expose] public section

set_option maxRecDepth 16384

noncomputable section

/-! What the input projection writes, entry by entry: each row normed, then multiplied by the two blocks of weights. -/

namespace Cert.Kernel3Ideal.Proj

open Cert.Kernel3Ideal Cert.Kernel3Ideal.Gen
open Idealize.ShloMosaic Idealize.ShloMosaic.TcCoe Idealize.ShloMosaic.Tactic
open Idealize.SL Idealize.SL.RA Idealize.SL.BI Idealize.SL.Sem
open Idealize.ShloMosaic.StableHlo Idealize.ShloMosaic.Routing

set_option maxHeartbeats 2000000

/-- A row divided by its root mean square, times the gains. -/
def nrm (x g : Fin 2048 → EReal) (k : Fin 2048) : EReal :=
  x k * Ideal.rsqrt (Ideal.div (∑ j : Fin 2048, x j * x j) (Ideal.ofBits .f32 0x45000000#32) + Ideal.ofBits .f32 0x358637BD#32) * g k

/-- A normed row times a column of weights. -/
def proj (x g w : Fin 2048 → EReal) : EReal := ∑ k : Fin 2048, nrm x g k * w k

/-! ## The body's values -/

section
variable (x : Vec Ideal S768x2048 .f32) (g : Vec Ideal S1x2048 .f32)

theorem pay1_apply (r : Fin 768) (k : Fin 2048) :
    (k0_pay1 (F := Ideal) x g (ix2 r k) : EReal) = nrm (fun j => x (ix2 r j)) (fun j => g (ix2 0 j)) k := by
  unfold nrm
  pointwise [k0_pay1]

theorem pay2_apply (r : Fin 768) (k : Fin 2048) :
    (k0_pay2 (F := Ideal) x g (ix2 r k) : EReal) = nrm (fun j => x (ix2 r j)) (fun j => g (ix2 0 j)) k := by
  refine Eq.trans ?_ (pay1_apply x g r k)
  unfold k0_pay2
  exact shapeCast_apply _ _ (ix2 r k) (ix2 r k) rfl

theorem pay3_apply (w : Vec Ideal S16x2048 .bf16) (p : Fin 16) (r : Fin 768) :
    (k0_pay3 (F := Ideal) x g w (ix2 p r) : EReal) = proj (fun j => x (ix2 r j)) (fun j => g (ix2 0 j)) (fun k => w (ix2 p k)) := by
  have h : (k0_pay3 (F := Ideal) x g w (ix2 p r) : EReal) = ∑ k : Fin 2048, (w (ix2 p k) : EReal) * (k0_pay1 (F := Ideal) x g (ix2 r k) : EReal) := by
    unfold k0_pay3
    generalize k0_pay1 (F := Ideal) x g = u
    pointwise []
  rw [h, proj]
  exact Finset.sum_congr rfl fun k _ => by rw [pay1_apply, mul_comm]

theorem pay4_apply (w : Vec Ideal S2048x128 .bf16) (r : Fin 768) (q : Fin 128) :
    (k0_pay4 (F := Ideal) x g w (ix2 r q) : EReal) = proj (fun j => x (ix2 r j)) (fun j => g (ix2 0 j)) (fun k => w (ix2 k q)) := by
  have h : (k0_pay4 (F := Ideal) x g w (ix2 r q) : EReal) = ∑ k : Fin 2048, (k0_pay1 (F := Ideal) x g (ix2 r k) : EReal) * (w (ix2 k q) : EReal) := by
    unfold k0_pay4
    generalize k0_pay1 (F := Ideal) x g = u
    pointwise []
  rw [h, proj]
  exact Finset.sum_congr rfl fun k _ => by rw [pay1_apply]

theorem pay5_apply (u : Vec Ideal S768x2048 .bf16) (w : Vec Ideal S2048x1024 .bf16) (r : Fin 768) (q : Fin 1024) :
    (k0_pay5 (F := Ideal) u w (ix2 r q) : EReal) = ∑ k : Fin 2048, (u (ix2 r k) : EReal) * (w (ix2 k q) : EReal) := by
  pointwise [k0_pay5]

end

/-! ## The blocks the body reads and writes -/

theorem rows_lt (t : Fin cfg0.N) (r : Fin 768) : 768 * (t.val / 5 % 22) + r.val < 16896 := by omega
theorem cols_lt (t : Fin cfg0.N) (q : Fin 1024) : 1024 * (t.val % 5) + q.val < 5120 := by omega

/-- The row of the whole array that row `r` of point `t`'s block is, -/
abbrev rowOf (t : Fin cfg0.N) (r : Fin 768) : Fin 16896 := ⟨768 * (t.val / 5 % 22) + r.val, rows_lt t r⟩
/-- and the column that column `q` of the point's block is. -/
abbrev colOf (t : Fin cfg0.N) (q : Fin 1024) : Fin 5120 := ⟨1024 * (t.val % 5) + q.val, cols_lt t q⟩

theorem word_at (n : ℕ) (h : n < 2 ^ 32) : (BitVec.ofNat 32 n).toNat = n := by
  rw [BitVec.toNat_ofNat]; exact Nat.mod_eq_of_lt h

theorem inner0 (t : Fin cfg0.N) : cc0_transform_0 (grid0.coords t) = ![t.val / 5 % 22, 0] := by
  rw [← row_at t]
  have h0 : (grid0.coords t 0).val < 22 := (grid0.coords t 0).isLt
  unfold cc0_transform_0
  try simp only [BitVec.toNat_ofNat]
  congr 1; omega
theorem inner2 (t : Fin cfg0.N) : cc0_transform_2 (grid0.coords t) = ![0, t.val % 5] := by
  rw [← col_at t]
  have h0 : (grid0.coords t 1).val < 5 := (grid0.coords t 1).isLt
  unfold cc0_transform_2
  try simp only [BitVec.toNat_ofNat]
  rw [Nat.mod_eq_of_lt (show (grid0.coords t 1).val < 2 ^ 32 by omega)]
theorem inner5 (t : Fin cfg0.N) : cc0_transform_5 (grid0.coords t) = ![t.val / 5 % 22, t.val % 5] := by
  rw [← row_at t, ← col_at t]
  have h0 : (grid0.coords t 0).val < 22 := (grid0.coords t 0).isLt
  have h1 : (grid0.coords t 1).val < 5 := (grid0.coords t 1).isLt
  unfold cc0_transform_5
  try simp only [BitVec.toNat_ofNat]
  rw [Nat.mod_eq_of_lt (show (grid0.coords t 0).val < 2 ^ 32 by omega), Nat.mod_eq_of_lt (show (grid0.coords t 1).val < 2 ^ 32 by omega)]
theorem inner6 (t : Fin cfg0.N) : cc0_transform_6 (grid0.coords t) = ![0, t.val / 5 % 22] := by
  rw [← row_at t]
  have h0 : (grid0.coords t 0).val < 22 := (grid0.coords t 0).isLt
  unfold cc0_transform_6
  try simp only [BitVec.toNat_ofNat]
  rw [Nat.mod_eq_of_lt (show (grid0.coords t 0).val < 2 ^ 32 by omega)]
theorem inner7 (t : Fin cfg0.N) : cc0_transform_7 (grid0.coords t) = ![t.val / 5 % 22, 0] := by
  rw [← row_at t]
  have h0 : (grid0.coords t 0).val < 22 := (grid0.coords t 0).isLt
  unfold cc0_transform_7
  try simp only [BitVec.toNat_ofNat]
  rw [Nat.mod_eq_of_lt (show (grid0.coords t 0).val < 2 ^ 32 by omega)]

section
variable (V : (c : Dev nD) → (b : Ref sig .tc) → Buf (Elt Ideal) ((c : Thread nD τ).loc b)) (c : Dev nD)

theorem blk0_apply (t : Fin cfg0.N) (r : Fin 768) (k : Fin 2048) :
    ((blk V c 0 t : Vec Ideal S768x2048 .f32) (ix2 r k) : EReal) = (V c main_arg0 : Vec Ideal S16896x2048 .f32) (ix2 (rowOf t r) k) := by
  show ((win0_0.blk t).view.read (Elt Ideal) (V c main_arg0)) (ix2 r k) = _
  rw [View.read_apply]
  refine congrArg (V c main_arg0) (show (win0_0.rect t).emb (ix2 r k) = ix2 (rowOf t r) k from ?_)
  refine Shape.idx_ext₂ ((win0_0.rect_emb_val t _ _).trans ?_) ((win0_0.rect_emb_val t _ _).trans ?_)
  · show cc0_transform_0 (grid0.coords t) 0 * 768 + r.val = 768 * (t.val / 5 % 22) + r.val
    rw [inner0]; show (t.val / 5 % 22) * 768 + _ = _; omega
  · show cc0_transform_0 (grid0.coords t) 1 * 2048 + k.val = k.val
    rw [inner0]; show 0 * 2048 + _ = _; omega

theorem blk1_apply (t : Fin cfg0.N) (k : Fin 2048) :
    ((blk V c 1 t : Vec Ideal S1x2048 .f32) (ix2 0 k) : EReal) = (V c main_v5 : Vec Ideal S1x2048 .f32) (ix2 0 k) := by
  show ((win0_1.blk t).view.read (Elt Ideal) (V c main_v5)) (ix2 0 k) = _
  rw [View.read_apply]
  refine congrArg (V c main_v5) (show (win0_1.rect t).emb (ix2 0 k) = ix2 0 k from ?_)
  refine Shape.idx_ext₂ ((win0_1.rect_emb_val t _ _).trans ?_) ((win0_1.rect_emb_val t _ _).trans ?_)
  · show 0 * 1 + 0 = 0; omega
  · show 0 * 2048 + k.val = k.val; omega

theorem blk2_apply (t : Fin cfg0.N) (k : Fin 2048) (q : Fin 1024) :
    ((blk V c 2 t : Vec Ideal S2048x1024 .bf16) (ix2 k q) : EReal) = (V c main_arg2 : Vec Ideal S2048x5120 .bf16) (ix2 k (colOf t q)) := by
  show ((win0_2.blk t).view.read (Elt Ideal) (V c main_arg2)) (ix2 k q) = _
  rw [View.read_apply]
  refine congrArg (V c main_arg2) (show (win0_2.rect t).emb (ix2 k q) = ix2 k (colOf t q) from ?_)
  refine Shape.idx_ext₂ ((win0_2.rect_emb_val t _ _).trans ?_) ((win0_2.rect_emb_val t _ _).trans ?_)
  · show cc0_transform_2 (grid0.coords t) 0 * 2048 + k.val = k.val
    rw [inner2]; show 0 * 2048 + _ = _; omega
  · show cc0_transform_2 (grid0.coords t) 1 * 1024 + q.val = 1024 * (t.val % 5) + q.val
    rw [inner2]; show (t.val % 5) * 1024 + _ = _; omega

theorem blk3_apply (t : Fin cfg0.N) (p : Fin 16) (k : Fin 2048) :
    ((blk V c 3 t : Vec Ideal S16x2048 .bf16) (ix2 p k) : EReal) = (V c main_v2 : Vec Ideal S16x2048 .bf16) (ix2 p k) := by
  show ((win0_3.blk t).view.read (Elt Ideal) (V c main_v2)) (ix2 p k) = _
  rw [View.read_apply]
  refine congrArg (V c main_v2) (show (win0_3.rect t).emb (ix2 p k) = ix2 p k from ?_)
  refine Shape.idx_ext₂ ((win0_3.rect_emb_val t _ _).trans ?_) ((win0_3.rect_emb_val t _ _).trans ?_)
  · show 0 * 16 + p.val = p.val; omega
  · show 0 * 2048 + k.val = k.val; omega

theorem blk4_apply (t : Fin cfg0.N) (k : Fin 2048) (q : Fin 128) :
    ((blk V c 4 t : Vec Ideal S2048x128 .bf16) (ix2 k q) : EReal) = (V c main_v4 : Vec Ideal S2048x128 .bf16) (ix2 k q) := by
  show ((win0_4.blk t).view.read (Elt Ideal) (V c main_v4)) (ix2 k q) = _
  rw [View.read_apply]
  refine congrArg (V c main_v4) (show (win0_4.rect t).emb (ix2 k q) = ix2 k q from ?_)
  refine Shape.idx_ext₂ ((win0_4.rect_emb_val t _ _).trans ?_) ((win0_4.rect_emb_val t _ _).trans ?_)
  · show 0 * 2048 + k.val = k.val; omega
  · show 0 * 128 + q.val = q.val; omega

theorem main_emb (t : Fin cfg0.N) (r : Fin 768) (q : Fin 1024) : (win0_5.rect t).emb (ix2 r q) = ix2 (rowOf t r) (colOf t q) := by
  refine Shape.idx_ext₂ ((win0_5.rect_emb_val t _ _).trans ?_) ((win0_5.rect_emb_val t _ _).trans ?_)
  · show cc0_transform_5 (grid0.coords t) 0 * 768 + r.val = 768 * (t.val / 5 % 22) + r.val
    rw [inner5]; show (t.val / 5 % 22) * 768 + _ = _; omega
  · show cc0_transform_5 (grid0.coords t) 1 * 1024 + q.val = 1024 * (t.val % 5) + q.val
    rw [inner5]; show (t.val % 5) * 1024 + _ = _; omega

theorem gateT_emb (t : Fin cfg0.N) (p : Fin 16) (r : Fin 768) : (win0_6.rect t).emb (ix2 p r) = ix2 p (rowOf t r) := by
  refine Shape.idx_ext₂ ((win0_6.rect_emb_val t _ _).trans ?_) ((win0_6.rect_emb_val t _ _).trans ?_)
  · show cc0_transform_6 (grid0.coords t) 0 * 16 + p.val = p.val
    rw [inner6]; show 0 * 16 + _ = _; omega
  · show cc0_transform_6 (grid0.coords t) 1 * 768 + r.val = 768 * (t.val / 5 % 22) + r.val
    rw [inner6]; show (t.val / 5 % 22) * 768 + _ = _; omega

theorem gateC_emb (t : Fin cfg0.N) (r : Fin 768) (q : Fin 128) : (win0_7.rect t).emb (ix2 r q) = ix2 (rowOf t r) q := by
  refine Shape.idx_ext₂ ((win0_7.rect_emb_val t _ _).trans ?_) ((win0_7.rect_emb_val t _ _).trans ?_)
  · show cc0_transform_7 (grid0.coords t) 0 * 768 + r.val = 768 * (t.val / 5 % 22) + r.val
    rw [inner7]; show (t.val / 5 % 22) * 768 + _ = _; omega
  · show cc0_transform_7 (grid0.coords t) 1 * 128 + q.val = q.val
    rw [inner7]; show 0 * 128 + _ = _; omega

/-! ## The three results -/

/-- Row `r` of the residual stream, -/
abbrev rowX (r : Fin 16896) : Fin 2048 → EReal := fun k => (V c main_arg0 : Vec Ideal S16896x2048 .f32) (ix2 r k)
/-- and the gains. -/
abbrev gains : Fin 2048 → EReal := fun k => (V c main_v5 : Vec Ideal S1x2048 .f32) (ix2 0 k)

theorem normed_apply (t : Fin cfg0.N) (r : Fin 768) (k : Fin 2048) :
    (normed V c t (ix2 r k) : EReal) = nrm (rowX V c (rowOf t r)) (gains V c) k := by
  unfold normed
  refine (pay2_apply _ _ r k).trans ?_
  congr 1
  · funext j; exact blk0_apply V c t r j
  · funext j; exact blk1_apply V c t j

theorem mainBlk_apply (t : Fin cfg0.N) (r : Fin 768) (q : Fin 1024) :
    (mainBlk V c t (ix2 r q) : EReal) = proj (rowX V c (rowOf t r)) (gains V c) (fun k => (V c main_arg2 : Vec Ideal S2048x5120 .bf16) (ix2 k (colOf t q))) := by
  unfold mainBlk
  refine (pay5_apply _ _ r q).trans (Finset.sum_congr rfl fun k _ => ?_)
  exact congrArg₂ (fun a b : EReal => a * b) (normed_apply V c t r k) (blk2_apply V c t k q)

theorem gateT_apply (t : Fin cfg0.N) (p : Fin 16) (r : Fin 768) :
    (gateT V c t (ix2 p r) : EReal) = proj (rowX V c (rowOf t r)) (gains V c) (fun k => (V c main_v2 : Vec Ideal S16x2048 .bf16) (ix2 p k)) := by
  unfold gateT
  refine (pay3_apply _ _ _ p r).trans ?_
  congr 1
  · funext j; exact blk0_apply V c t r j
  · funext j; exact blk1_apply V c t j
  · funext j; exact blk3_apply V c t p j

theorem gateC_apply (t : Fin cfg0.N) (r : Fin 768) (q : Fin 128) :
    (gateC V c t (ix2 r q) : EReal) = proj (rowX V c (rowOf t r)) (gains V c) (fun k => (V c main_v4 : Vec Ideal S2048x128 .bf16) (ix2 k q)) := by
  unfold gateC
  refine (pay4_apply _ _ _ r q).trans ?_
  congr 1
  · funext j; exact blk0_apply V c t r j
  · funext j; exact blk1_apply V c t j
  · funext j; exact blk4_apply V c t j q

theorem idx_two {a b : ℕ} (y : (⟨2, ![a, b]⟩ : Shape).Idx) : ∃ (p : Fin a) (q : Fin b), y = ix2 p q :=
  ⟨y 0, y 1, funext fun d => by
    match d with
    | ⟨0, _⟩ => rfl
    | ⟨1, _⟩ => rfl⟩

theorem flushed5 (t : Fin cfg0.N) : (dat V c).flushed 5 t = mainBlk V c t := by
  rw [← left_5 V c t]
theorem flushed6 (t : Fin cfg0.N) : (dat V c).flushed 6 t = gateT V c t := by
  rw [← left_6 V c t]
theorem flushed7 (t : Fin cfg0.N) : (dat V c).flushed 7 t = gateC V c t := by
  rw [← left_7 V c t]

theorem N_eq : cfg0.N = 110 := N_0

/-- The product with the main weights. -/
theorem main_arr (r : Fin 16896) (q : Fin 5120) :
    ((dat V c).arrAt 5 cfg0.N (ix2 r q) : EReal) = proj (rowX V c r) (gains V c) (fun k => (V c main_arg2 : Vec Ideal S2048x5120 .bf16) (ix2 k q)) := by
  let Q : (⟨2, ![16896, 5120]⟩ : Shape).Idx → EReal → Prop := fun i e =>
    e = proj (rowX V c (i 0)) (gains V c) (fun k => (V c main_arg2 : Vec Ideal S2048x5120 .bf16) (ix2 k (i 1)))
  have hN := N_eq
  let t : Fin cfg0.N := ⟨5 * (r.val / 768) + q.val / 1024, by omega⟩
  refine (dat V c).arrAt_forall_of_flushed 5 Q ?_ cfg0.N t (ix2 r q) t.isLt (flush0_5 t) ?_
  · intro t _ y
    obtain ⟨p, x, rfl⟩ := idx_two y
    have e1 := (congrFun (flushed5 V c t) (ix2 p x)).trans (mainBlk_apply V c t p x)
    show Q ((win0_5.rect t).emb (ix2 p x)) _
    rw [main_emb]
    exact e1
  · show _ ∈ ((View.whole main_v6_0).slice (win0_5.rect t)).set
    have e : ix2 r q = (win0_5.rect t).emb (ix2 ⟨r.val % 768, by omega⟩ ⟨q.val % 1024, by omega⟩) := by
      rw [main_emb]
      refine Shape.idx_ext₂ ?_ ?_
      · show r.val = 768 * ((5 * (r.val / 768) + q.val / 1024) / 5 % 22) + r.val % 768; omega
      · show q.val = 1024 * ((5 * (r.val / 768) + q.val / 1024) % 5) + q.val % 1024; omega
    rw [e]
    exact View.emb_mem_set ((View.whole main_v6_0).slice (win0_5.rect t)) _

/-- The gate columns, transposed. -/
theorem gateT_arr (p : Fin 16) (r : Fin 16896) :
    ((dat V c).arrAt 6 cfg0.N (ix2 p r) : EReal) = proj (rowX V c r) (gains V c) (fun k => (V c main_v2 : Vec Ideal S16x2048 .bf16) (ix2 p k)) := by
  let Q : (⟨2, ![16, 16896]⟩ : Shape).Idx → EReal → Prop := fun i e =>
    e = proj (rowX V c (i 1)) (gains V c) (fun k => (V c main_v2 : Vec Ideal S16x2048 .bf16) (ix2 (i 0) k))
  have hN := N_eq
  let t : Fin cfg0.N := ⟨5 * (r.val / 768) + 4, by omega⟩
  refine (dat V c).arrAt_forall_of_flushed 6 Q ?_ cfg0.N t (ix2 p r) t.isLt ((flush0_6 t).mpr (by show (5 * (r.val / 768) + 4) % 5 = 4; omega)) ?_
  · intro t _ y
    obtain ⟨p, x, rfl⟩ := idx_two y
    have e1 := (congrFun (flushed6 V c t) (ix2 p x)).trans (gateT_apply V c t p x)
    show Q ((win0_6.rect t).emb (ix2 p x)) _
    rw [gateT_emb]
    exact e1
  · show _ ∈ ((View.whole main_v6_1).slice (win0_6.rect t)).set
    have e : ix2 p r = (win0_6.rect t).emb (ix2 p ⟨r.val % 768, by omega⟩) := by
      rw [gateT_emb]
      refine Shape.idx_ext₂ rfl ?_
      show r.val = 768 * ((5 * (r.val / 768) + 4) / 5 % 22) + r.val % 768; omega
    rw [e]
    exact View.emb_mem_set ((View.whole main_v6_1).slice (win0_6.rect t)) _

/-- The gate columns. -/
theorem gateC_arr (r : Fin 16896) (q : Fin 128) :
    ((dat V c).arrAt 7 cfg0.N (ix2 r q) : EReal) = proj (rowX V c r) (gains V c) (fun k => (V c main_v4 : Vec Ideal S2048x128 .bf16) (ix2 k q)) := by
  let Q : (⟨2, ![16896, 128]⟩ : Shape).Idx → EReal → Prop := fun i e =>
    e = proj (rowX V c (i 0)) (gains V c) (fun k => (V c main_v4 : Vec Ideal S2048x128 .bf16) (ix2 k (i 1)))
  have hN := N_eq
  let t : Fin cfg0.N := ⟨5 * (r.val / 768) + 4, by omega⟩
  refine (dat V c).arrAt_forall_of_flushed 7 Q ?_ cfg0.N t (ix2 r q) t.isLt ((flush0_7 t).mpr (by show (5 * (r.val / 768) + 4) % 5 = 4; omega)) ?_
  · intro t _ y
    obtain ⟨p, x, rfl⟩ := idx_two y
    have e1 := (congrFun (flushed7 V c t) (ix2 p x)).trans (gateC_apply V c t p x)
    show Q ((win0_7.rect t).emb (ix2 p x)) _
    rw [gateC_emb]
    exact e1
  · show _ ∈ ((View.whole main_v6_2).slice (win0_7.rect t)).set
    have e : ix2 r q = (win0_7.rect t).emb (ix2 ⟨r.val % 768, by omega⟩ q) := by
      rw [gateC_emb]
      refine Shape.idx_ext₂ ?_ rfl
      show r.val = 768 * ((5 * (r.val / 768) + 4) / 5 % 22) + r.val % 768; omega
    rw [e]
    exact View.emb_mem_set ((View.whole main_v6_2).slice (win0_7.rect t)) _

end

/-! ## What the host operations prepare -/

section
variable (m : (ℓ : Loc nD τ sig) → Buf (Elt Ideal) ℓ) (ρ : Dev nD → PrngReg) (c : Dev nD)

/-- The gate weights as given. -/
abbrev argC : Vec Ideal S2048x8 .f32 := m ((c.tc : Thread nD τ).loc main_arg3)

theorem wT_eq : (V5 m ρ c main_v2 : Vec Ideal S16x2048 .bf16) =
    truncf .bf16 (pad S16x2048 ![0, 0] ![8, 0] ![0, 0] (transpose S8x2048 [1, 0] (argC m c) transposes_S2048x8_S8x2048_1_0)
      (sitofp (F := Ideal) .f32 (constantI S_ 32 0#32)) pads_S8x2048_S16x2048_080_000 h_S_) bitsLt_bf16_f32 := by
  refine (W5_of m ρ c main_v2 (by decide)).trans ((W4_of m ρ c main_v2 (by decide)).trans ?_)
  show StableHlo.after hostOps0_2 (W2 m ρ c) (Proc.devRef .tc main_v2) = _
  simp only [W2, W1, hostOps0, hostOps0_1, hostOps0_2, TRef.binary, TRef.nullary, TRef.ternary, TRef.unary, TRef.toBuf, TRef.ofBuf, cast_eq]
  after_results_simp <;> rfl

theorem wC_eq : (V5 m ρ c main_v4 : Vec Ideal S2048x128 .bf16) =
    truncf .bf16 (pad S2048x128 ![0, 0] ![0, 120] ![0, 0] (argC m c)
      (sitofp (F := Ideal) .f32 (constantI S_ 32 0#32)) pads_S2048x8_S2048x128_000_01200 h_S_) bitsLt_bf16_f32 := by
  show StableHlo.after hostOps0_4 (W4 m ρ c) (Proc.devRef .tc main_v4) = _
  simp only [W4, W3, W2, W1, hostOps0, hostOps0_1, hostOps0_2, hostOps0_3, hostOps0_4, TRef.binary, TRef.nullary, TRef.ternary, TRef.unary, TRef.toBuf, TRef.ofBuf, cast_eq]
  after_results_simp <;> rfl

theorem gains_eq : (V5 m ρ c main_v5 : Vec Ideal S1x2048 .f32) =
    shapeCast S1x2048 (m ((c.tc : Thread nD τ).loc main_arg1) : Vec Ideal S2048 .f32) shapeCasts_S2048_S1x2048 := by
  show StableHlo.after hostOps0_4 (W4 m ρ c) (Proc.devRef .tc main_v5) = _
  simp only [W4, W3, W2, W1, hostOps0, hostOps0_1, hostOps0_2, hostOps0_3, hostOps0_4, TRef.binary, TRef.nullary, TRef.ternary, TRef.unary, TRef.toBuf, TRef.ofBuf, cast_eq]
  after_results_simp <;> rfl

theorem zero_word (i : S_.Idx) : (sitofp (F := Ideal) .f32 (constantI S_ 32 0#32) i : EReal) = 0 := by
  show (((0#32 : BitVec 32).toInt : ℝ) : EReal) = 0
  simp

/-- A gate column's weight: the weight given, and zero past the columns given. -/
def gateW (k : Fin 2048) (q : ℕ) : EReal := if h : q < 8 then argC m c (ix2 k ⟨q, h⟩) else 0

theorem wC_apply (k : Fin 2048) (q : Fin 128) : ((V5 m ρ c main_v4 : Vec Ideal S2048x128 .bf16) (ix2 k q) : EReal) = gateW m c k q.val := by
  rw [wC_eq]
  unfold gateW
  by_cases h : q.val < 8
  · refine Eq.trans ?_ (dif_pos h).symm
    refine pad_apply_of_inside (α := EReal) ![0, 0] ![0, 120] ![0, 0] _ _ pads_S2048x8_S2048x128_000_01200 _ _ (ix2 k ⟨q.val, h⟩) (fun a => ?_)
    match a with
    | ⟨0, _⟩ => show k.val = 0 + k.val * (0 + 1); omega
    | ⟨1, _⟩ => show q.val = 0 + q.val * (0 + 1); omega
  · refine Eq.trans ?_ (dif_neg h).symm
    refine (pad_apply_of_not_inside (α := EReal) ![0, 0] ![0, 120] ![0, 0] (argC m c) _ pads_S2048x8_S2048x128_000_01200 _ _ (1 : Fin 2) ?_).trans (zero_word _)
    show ¬(0 ≤ q.val ∧ (q.val - 0) % (0 + 1) = 0 ∧ (q.val - 0) / (0 + 1) < 8)
    rintro ⟨-, -, h3⟩; omega

theorem wT_apply (p : Fin 16) (k : Fin 2048) : ((V5 m ρ c main_v2 : Vec Ideal S16x2048 .bf16) (ix2 p k) : EReal) = gateW m c k p.val := by
  rw [wT_eq]
  unfold gateW
  by_cases h : p.val < 8
  · refine Eq.trans ?_ (dif_pos h).symm
    refine (pad_apply_of_inside (α := EReal) ![0, 0] ![8, 0] ![0, 0] _ _ pads_S8x2048_S16x2048_080_000 _ _ (ix2 ⟨p.val, h⟩ k) (fun a => ?_)).trans ?_
    · match a with
      | ⟨0, _⟩ => show p.val = 0 + p.val * (0 + 1); omega
      | ⟨1, _⟩ => show k.val = 0 + k.val * (0 + 1); omega
    · exact transpose_apply [1, 0] (argC m c) transposes_S2048x8_S8x2048_1_0 (ix2 ⟨p.val, h⟩ k) (ix2 k ⟨p.val, h⟩) (fun b => by
        match b with
        | ⟨0, _⟩ => rfl
        | ⟨1, _⟩ => rfl)
  · refine Eq.trans ?_ (dif_neg h).symm
    refine (pad_apply_of_not_inside (α := EReal) ![0, 0] ![8, 0] ![0, 0] (transpose S8x2048 [1, 0] (argC m c) transposes_S2048x8_S8x2048_1_0) _ pads_S8x2048_S16x2048_080_000 _ _ (0 : Fin 2) ?_).trans (zero_word _)
    show ¬(0 ≤ p.val ∧ (p.val - 0) % (0 + 1) = 0 ∧ (p.val - 0) / (0 + 1) < 8)
    rintro ⟨-, -, h3⟩; omega

theorem gains_apply (k : Fin 2048) : ((V5 m ρ c main_v5 : Vec Ideal S1x2048 .f32) (ix2 0 k) : EReal) = (m ((c.tc : Thread nD τ).loc main_arg1) : Vec Ideal S2048 .f32) (ix1 k) := by
  rw [gains_eq]
  refine shapeCast_apply _ shapeCasts_S2048_S1x2048 (ix2 0 k) (ix1 k) ?_
  rw [Shape.rowMajor_val_two, Shape.rowMajor_val_one]; show k.val = 0 * 2048 + k.val; omega

/-- Row `r` of the residual stream as given, -/
abbrev rowA (r : Fin 16896) : Fin 2048 → EReal := fun k => (m ((c.tc : Thread nD τ).loc main_arg0) : Vec Ideal S16896x2048 .f32) (ix2 r k)
/-- and the gains as given. -/
abbrev gainA : Fin 2048 → EReal := fun k => (m ((c.tc : Thread nD τ).loc main_arg1) : Vec Ideal S2048 .f32) (ix1 k)

theorem rowX_eq (r : Fin 16896) : rowX (V5 m ρ) c r = rowA m c r := by
  funext k; exact congrFun (W5_args m ρ c main_arg0 (by decide)) _
theorem gainX_eq : gains (V5 m ρ) c = gainA m c := funext fun k => gains_apply m ρ c k

theorem main_out (r : Fin 16896) (q : Fin 5120) : ((dat (V5 m ρ) c).arrAt 5 cfg0.N (ix2 r q) : EReal)
    = proj (rowA m c r) (gainA m c) (fun k => (m ((c.tc : Thread nD τ).loc main_arg2) : Vec Ideal S2048x5120 .bf16) (ix2 k q)) := by
  refine (main_arr (V5 m ρ) c r q).trans ?_
  rw [rowX_eq, gainX_eq]
  exact congrArg (proj _ _) (funext fun k => congrFun (W5_args m ρ c main_arg2 (by decide)) _)
theorem gateT_out (p : Fin 16) (r : Fin 16896) : ((dat (V5 m ρ) c).arrAt 6 cfg0.N (ix2 p r) : EReal)
    = proj (rowA m c r) (gainA m c) (fun k => gateW m c k p.val) := by
  refine (gateT_arr (V5 m ρ) c p r).trans ?_
  rw [rowX_eq, gainX_eq]
  exact congrArg (proj _ _) (funext fun k => wT_apply m ρ c p k)
theorem gateC_out (r : Fin 16896) (q : Fin 128) : ((dat (V5 m ρ) c).arrAt 7 cfg0.N (ix2 r q) : EReal)
    = proj (rowA m c r) (gainA m c) (fun k => gateW m c k q.val) := by
  refine (gateC_arr (V5 m ρ) c r q).trans ?_
  rw [rowX_eq, gainX_eq]
  exact congrArg (proj _ _) (funext fun k => wC_apply m ρ c k q)

end

end Cert.Kernel3Ideal.Proj

end
-- ==== Proof.ProjEven.Meet.lean ====
module

public import proofs.«01_k».proof.Proof.ProjEven.Value
public import proofs.«01_k».proof.Proof.Gen.Reference3Ideal.Run
public import proofs.«01_k».proof.Proof.Gen.Reference3Ideal.Read
public import proofs.«01_k».proof.Defs

@[expose] public section

set_option maxRecDepth 16384

noncomputable section

/-! The reference of the input projection entry by entry, and that the kernel's three results are the reference's. -/

namespace Cert.ProjEvenMeet

open Idealize.ShloMosaic Idealize.ShloMosaic.TcCoe Idealize.ShloMosaic.Tactic
open Idealize.SL Idealize.SL.Sem
open Cert.Reference3Ideal Cert.Reference3Ideal.Gen Cert.Reference3Ideal.Read
open Cert.Kernel3Ideal.Proj (nrm proj)

set_option maxHeartbeats 2000000

section
variable (X : (⟨S16896x2048, .f32⟩ : BufTy).Contents (Elt Ideal)) (A : (⟨S2048, .f32⟩ : BufTy).Contents (Elt Ideal))
  (W : (⟨S2048x5120, .bf16⟩ : BufTy).Contents (Elt Ideal)) (Y : (⟨S2048x8, .f32⟩ : BufTy).Contents (Elt Ideal))

theorem square_sum (r : Fin 16896) : (val_main_v1 (F := Ideal) X (ix1 r) : EReal) = ∑ j : Fin 2048, X (ix2 r j) * X (ix2 r j) := by
  have h0 : (val_main_cst (F := Ideal) (Shape.Idx.first h_S_) : EReal) = (0 : EReal) := by
    show Ideal.ofBits .f32 0x00000000#32 = 0
    simp [Ideal.ofBits, Ideal.ieee]
  rw [val_main_v1_apply, h0, zero_add]
  refine Finset.sum_congr rfl fun j _ => ?_
  have e : idx_main_v1 (ix1 r) j = ix2 r j := Shape.idx_ext₂ rfl rfl
  rw [e]
  rfl

theorem scale (r : Fin 16896) : (val_main_v7 (F := Ideal) X (ix2 r 0) : EReal)
    = Ideal.rsqrt (Ideal.div (∑ j : Fin 2048, X (ix2 r j) * X (ix2 r j)) (Ideal.ofBits .f32 0x45000000#32) + Ideal.ofBits .f32 0x358637BD#32) := by
  rw [val_main_v7_apply, val_main_v6_apply, val_main_v4_apply, val_main_v2_apply, val_main_v3_apply, val_main_v5_apply]
  have e : idx_main_v2 (ix2 r 0) = ix1 r := by
    funext a
    match a with
    | ⟨0, _⟩ => rfl
  rw [e, square_sum]
  rfl

theorem normed_row (r : Fin 16896) (k : Fin 2048) : (val_main_v12 (F := Ideal) X A (ix2 r k) : EReal) = nrm (fun j => X (ix2 r j)) (fun j => A (ix1 j)) k := by
  rw [val_main_v12_apply, val_main_v9_apply, val_main_v8_apply, val_main_v11_apply, val_main_v10_apply]
  have e1 : idx_main_v8 (ix2 r k) = ix2 r 0 := Shape.idx_ext₂ rfl rfl
  have e2 : idx_main_v10 (idx_main_v11 (ix2 r k)) = ix1 k := by
    funext a
    match a with
    | ⟨0, _⟩ => rfl
  rw [e1, e2, scale]
  rfl

theorem main_ref (r : Fin 16896) (q : Fin 5120) : (val_main_v16 (F := Ideal) X A W (ix2 r q) : EReal) = proj (fun j => X (ix2 r j)) (fun j => A (ix1 j)) (fun k => W (ix2 k q)) := by
  have h : (val_main_v16 (F := Ideal) X A W (ix2 r q) : EReal) = val_main_v15 (F := Ideal) X A W (ix2 r q) := rfl
  rw [h, val_main_v15_apply, proj]
  refine Finset.sum_congr rfl fun k _ => ?_
  have e1 : lidx_main_v15 (ix2 r q) k = ix2 r k := Shape.idx_ext₂ rfl rfl
  have e2 : ridx_main_v15 (ix2 r q) k = ix2 k q := Shape.idx_ext₂ rfl rfl
  rw [e1, e2, normed_row]
  rfl

theorem gate_ref (r : Fin 16896) (q : Fin 8) : (val_main_v13 (F := Ideal) X A Y (ix2 r q) : EReal) = proj (fun j => X (ix2 r j)) (fun j => A (ix1 j)) (fun k => Y (ix2 k q)) := by
  rw [val_main_v13_apply, proj]
  refine Finset.sum_congr rfl fun k _ => ?_
  have e1 : lidx_main_v13 (ix2 r q) k = ix2 r k := Shape.idx_ext₂ rfl rfl
  have e2 : ridx_main_v13 (ix2 r q) k = ix2 k q := Shape.idx_ext₂ rfl rfl
  rw [e1, e2, normed_row]

/-- A product with no weights is zero. -/
theorem proj_zero (x g : Fin 2048 → EReal) : proj x g (fun _ => 0) = 0 := by
  rw [proj]
  exact Finset.sum_eq_zero fun k _ => mul_zero _

theorem zero_word (i : S_.Idx) : (val_main_call0_v0 (F := Ideal) i : EReal) = 0 := by
  show (((0#32 : BitVec 32).toInt : ℝ) : EReal) = 0
  simp

theorem zero_word1 (i : S_.Idx) : (val_main_call1_v0 (F := Ideal) i : EReal) = 0 := by
  show (((0#32 : BitVec 32).toInt : ℝ) : EReal) = 0
  simp

theorem gateT_ref (p : Fin 16) (r : Fin 16896) : (val_main_v18 (F := Ideal) X A Y (ix2 p r) : EReal)
    = proj (fun j => X (ix2 r j)) (fun j => A (ix1 j)) (fun k => if h : p.val < 8 then Y (ix2 k ⟨p.val, h⟩) else 0) := by
  unfold val_main_v18
  by_cases h : p.val < 8
  · refine (pad_apply_of_inside (α := EReal) ![0, 0] ![8, 0] ![0, 0] (val_main_v17 (F := Ideal) X A Y) _ pads_S8x16896_S16x16896_080_000 _ _ (ix2 ⟨p.val, h⟩ r) (fun a => ?_)).trans ?_
    · match a with
      | ⟨0, _⟩ => show p.val = 0 + p.val * (0 + 1); omega
      | ⟨1, _⟩ => show r.val = 0 + r.val * (0 + 1); omega
    · rw [val_main_v17_apply]
      have e : idx_main_v17 (ix2 ⟨p.val, h⟩ r) = ix2 r ⟨p.val, h⟩ := Shape.idx_ext₂ rfl rfl
      rw [e, gate_ref]
      exact congrArg (proj _ _) (funext fun k => by rw [dif_pos h])
  · refine (pad_apply_of_not_inside (α := EReal) ![0, 0] ![8, 0] ![0, 0] (val_main_v17 (F := Ideal) X A Y) _ pads_S8x16896_S16x16896_080_000 _ _ (0 : Fin 2) ?_).trans ?_
    · show ¬(0 ≤ p.val ∧ (p.val - 0) % (0 + 1) = 0 ∧ (p.val - 0) / (0 + 1) < 8)
      rintro ⟨-, -, h3⟩; omega
    · refine (zero_word _).trans ((proj_zero (fun j => X (ix2 r j)) (fun j => A (ix1 j))).symm.trans ?_)
      exact congrArg (proj _ _) (funext fun k => by rw [dif_neg h])

theorem gateC_ref (r : Fin 16896) (q : Fin 128) : (val_main_v19 (F := Ideal) X A Y (ix2 r q) : EReal)
    = proj (fun j => X (ix2 r j)) (fun j => A (ix1 j)) (fun k => if h : q.val < 8 then Y (ix2 k ⟨q.val, h⟩) else 0) := by
  unfold val_main_v19
  by_cases h : q.val < 8
  · refine (pad_apply_of_inside (α := EReal) ![0, 0] ![0, 120] ![0, 0] (val_main_v13 (F := Ideal) X A Y) _ pads_S16896x8_S16896x128_000_01200 _ _ (ix2 r ⟨q.val, h⟩) (fun a => ?_)).trans ?_
    · match a with
      | ⟨0, _⟩ => show r.val = 0 + r.val * (0 + 1); omega
      | ⟨1, _⟩ => show q.val = 0 + q.val * (0 + 1); omega
    · rw [gate_ref]
      exact congrArg (proj _ _) (funext fun k => by rw [dif_pos h])
  · refine (pad_apply_of_not_inside (α := EReal) ![0, 0] ![0, 120] ![0, 0] (val_main_v13 (F := Ideal) X A Y) _ pads_S16896x8_S16896x128_000_01200 _ _ (1 : Fin 2) ?_).trans ?_
    · show ¬(0 ≤ q.val ∧ (q.val - 0) % (0 + 1) = 0 ∧ (q.val - 0) / (0 + 1) < 8)
      rintro ⟨-, -, h3⟩; omega
    · refine (zero_word1 _).trans ((proj_zero (fun j => X (ix2 r j)) (fun j => A (ix1 j))).symm.trans ?_)
      exact congrArg (proj _ _) (funext fun k => by rw [dif_neg h])

end

/-! ### The kernel and the reference -/

section
variable (m : (ℓ : Loc Cert.Kernel3Ideal.nD Cert.Kernel3Ideal.τ Cert.Kernel3Ideal.sig) → Buf (Elt Ideal) ℓ) (ρ : Dev Cert.Kernel3Ideal.nD → PrngReg) (c : Dev Cert.Kernel3Ideal.nD)

theorem main_meets (i : (⟨2, ![16896, 5120]⟩ : Shape).Idx) :
    (val_main_v16 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) i : EReal)
      = ((Cert.Kernel3Ideal.Proj.dat (Cert.Kernel3Ideal.Proj.V5 m ρ) c).arrAt 5 Cert.Kernel3Ideal.cfg0.N i : EReal) := by
  obtain ⟨r, q, rfl⟩ := Cert.Kernel3Ideal.Proj.idx_two i
  exact (main_ref _ _ _ r q).trans (Cert.Kernel3Ideal.Proj.main_out m ρ c r q).symm

theorem gateT_meets (i : (⟨2, ![16, 16896]⟩ : Shape).Idx) :
    (val_main_v18 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg3)) i : EReal)
      = ((Cert.Kernel3Ideal.Proj.dat (Cert.Kernel3Ideal.Proj.V5 m ρ) c).arrAt 6 Cert.Kernel3Ideal.cfg0.N i : EReal) := by
  obtain ⟨p, r, rfl⟩ := Cert.Kernel3Ideal.Proj.idx_two i
  exact (gateT_ref _ _ _ p r).trans (Cert.Kernel3Ideal.Proj.gateT_out m ρ c p r).symm

theorem gateC_meets (i : (⟨2, ![16896, 128]⟩ : Shape).Idx) :
    (val_main_v19 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg3)) i : EReal)
      = ((Cert.Kernel3Ideal.Proj.dat (Cert.Kernel3Ideal.Proj.V5 m ρ) c).arrAt 7 Cert.Kernel3Ideal.cfg0.N i : EReal) := by
  obtain ⟨r, q, rfl⟩ := Cert.Kernel3Ideal.Proj.idx_two i
  exact (gateC_ref _ _ _ r q).trans (Cert.Kernel3Ideal.Proj.gateC_out m ρ c r q).symm

end

/-- Both programs run, and their three results are equal. -/
theorem algebraic : Cert.algebraic_Kernel3Ideal_Reference3Ideal := by
  intro m g m' g' _ ha
  refine ⟨fun c => (Cert.Kernel3Ideal.Proj.dat (Cert.Kernel3Ideal.Proj.V5 m g) c).arrAt 5 Cert.Kernel3Ideal.cfg0.N,
    fun c => (Cert.Kernel3Ideal.Proj.dat (Cert.Kernel3Ideal.Proj.V5 m g) c).arrAt 6 Cert.Kernel3Ideal.cfg0.N,
    fun c => (Cert.Kernel3Ideal.Proj.dat (Cert.Kernel3Ideal.Proj.V5 m g) c).arrAt 7 Cert.Kernel3Ideal.cfg0.N, Cert.Kernel3Ideal.Proj.ran_results m g, ?_⟩
  refine (θ_run _ _ _).mono (fun r h c => ⟨?_, ?_, ?_, (h c).2.2.2⟩) (Cert.Reference3Ideal.Value.run m' g')
  · refine ((h c).1.trans (val_main_v16_eq _ _ _)).trans ?_
    rw [(ha c).1, (ha c).2.1, (ha c).2.2.1]
    funext i; exact main_meets m g c i
  · refine ((h c).2.1.trans (val_main_v18_eq _ _ _)).trans ?_
    rw [(ha c).1, (ha c).2.1, (ha c).2.2.2]
    funext i; exact gateT_meets m g c i
  · refine ((h c).2.2.1.trans (val_main_v19_eq _ _ _)).trans ?_
    rw [(ha c).1, (ha c).2.1, (ha c).2.2.2]
    funext i; exact gateC_meets m g c i

end Cert.ProjEvenMeet

end
-- ==== Proof.OutProj.Value.lean ====
module

public import proofs.«01_k».proof.Proof.Gen.Kernel4Ideal.Value
public import Idealize.ShloMosaic.Lib.Pointwise
public import Idealize.ShloMosaic.Lib.KernelVsHost
public import Idealize.ShloMosaic.Lib.Routing.OpsSet

@[expose] public section

set_option maxRecDepth 16384

noncomputable section

/-! What the output projection writes, entry by entry: the residual row plus the two halves' products, and zero off the real tokens. -/

namespace Cert.Kernel4Ideal.OutP

open Cert.Kernel4Ideal Cert.Kernel4Ideal.Gen
open Idealize.ShloMosaic Idealize.ShloMosaic.TcCoe Idealize.ShloMosaic.Tactic
open Idealize.SL Idealize.SL.RA Idealize.SL.BI Idealize.SL.Sem
open Idealize.ShloMosaic.StableHlo Idealize.ShloMosaic.Routing

set_option maxHeartbeats 4000000

theorem sge_nat (a b : ℕ) (ha : a < 2 ^ 31) (hb : b < 2 ^ 31) :
    IntOp.cmpi CmpIPredicate.sge (BitVec.ofNat 32 a) (BitVec.ofNat 32 b) = if b ≤ a then 1#1 else 0#1 := by
  rw [WordCmp.cmpi_sge_ofNat ha hb]
  split <;> simp [*]

theorem slt_nat (a b : ℕ) (ha : a < 2 ^ 31) (hb : b < 2 ^ 31) :
    IntOp.cmpi CmpIPredicate.slt (BitVec.ofNat 32 a) (BitVec.ofNat 32 b) = if a < b then 1#1 else 0#1 := by
  rw [WordCmp.cmpi_slt_ofNat ha hb]
  split <;> simp [*]

/-- A block's row number in its sequence: the first row of the block, as the kernel computes it. -/
abbrev baseWord (x : BitVec 32) : BitVec 32 :=
  let v0 : BitVec 1 := Scalar.cmpi .eq 33#32 0#32
  let v1 : BitVec 32 := Scalar.select v0 1#32 33#32
  let v2 : BitVec 32 := Scalar.remsi x v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  Scalar.muli v9 256#32

theorem base_word : ∀ n : Fin 66, baseWord (BitVec.ofNat 32 n.val) = BitVec.ofNat 32 (256 * (n.val % 33)) := by decide +kernel

theorem row_word (n r : ℕ) (hn : n < 33) (hr : r < 256) (w : BitVec 32) (hw : w = BitVec.ofNat 32 (256 * n)) (k : ℕ) (hk : k ≤ 128) :
    IntOp.addi (Scalar.addi w (BitVec.ofNat 32 k)) (BitVec.ofNat 32 r) = BitVec.ofNat 32 (256 * n + (k + r)) := by
  subst hw
  apply BitVec.eq_of_toNat_eq
  simp only [Scalar.addi, IntOp.addi, BitVec.toNat_add, BitVec.toNat_ofNat]
  omega

/-- One entry of the product of the two halves. -/
def prod2 (a b : Fin 1024 → EReal) (u v : Fin 1024 → EReal) : EReal := ∑ k : Fin 1024, a k * u k + ∑ k : Fin 1024, b k * v k

/-- What one entry is: the residual entry plus the product on a real token's row, zero elsewhere. -/
def entry (p : ℕ) (h y : EReal) : EReal := if 48 ≤ p ∧ p < 8256 then h + y else 0

theorem pay2_apply (a b : Vec Ideal S128x1024 .bf16) (u v : Vec Ideal S1024x2048 .bf16) (r : Fin 128) (q : Fin 2048) :
    (k0_pay2 (F := Ideal) a u b v (ix2 r q) : EReal) = prod2 (fun k => a (ix2 r k)) (fun k => b (ix2 r k)) (fun k => u (ix2 k q)) (fun k => v (ix2 k q)) := by
  unfold prod2
  pointwise [k0_pay2]

theorem pay3_apply (a b : Vec Ideal S128x1024 .bf16) (u v : Vec Ideal S1024x2048 .bf16) (r : Fin 128) (q : Fin 2048) :
    (k0_pay3 (F := Ideal) a u b v (ix2 r q) : EReal) = prod2 (fun k => a (ix2 r k)) (fun k => b (ix2 r k)) (fun k => u (ix2 k q)) (fun k => v (ix2 k q)) := by
  unfold prod2
  pointwise [k0_pay3]

theorem sel_entry (p : ℕ) (hp : p < 2 ^ 31) (h y : EReal) :
    Scalar.select (IntOp.andi (IntOp.cmpi .sge (BitVec.ofNat 32 p) 48#32) (IntOp.cmpi .slt (BitVec.ofNat 32 p) 8256#32)) (h + y) (0 : EReal) = entry p h y := by
  rw [sge_nat _ _ hp (by omega), slt_nat _ _ hp (by omega)]
  unfold entry
  by_cases a : 48 ≤ p
  · by_cases b : p < 8256
    · rw [if_pos a, if_pos b, if_pos ⟨a, b⟩]; rfl
    · rw [if_pos a, if_neg b, if_neg (show ¬(48 ≤ p ∧ p < 8256) from fun h => b h.2)]; rfl
  · rw [if_neg a, if_neg (show ¬(48 ≤ p ∧ p < 8256) from fun h => a h.1)]
    split <;> rfl

theorem pay4_apply (n : ℕ) (hn : n < 33) (w : BitVec 32) (hw : w = BitVec.ofNat 32 (256 * n)) (y h : Vec Ideal S128x2048 .f32) (r : Fin 128) (q : Fin 2048) :
    (k0_pay4 (F := Ideal) y (Scalar.addi w 0#32) (iota .tc S128x1 32 [0] iota_S128x1_d0_w32) h (ix2 r q) : EReal)
      = entry (256 * n + r.val) (h (ix2 r q)) (y (ix2 r q)) := by
  have h1 : (k0_pay4 (F := Ideal) y (Scalar.addi w 0#32) (iota .tc S128x1 32 [0] iota_S128x1_d0_w32) h (ix2 r q) : EReal)
      = Scalar.select (IntOp.andi (IntOp.cmpi .sge (IntOp.addi (Scalar.addi w 0#32) (BitVec.ofNat 32 r.val)) 48#32)
          (IntOp.cmpi .slt (IntOp.addi (Scalar.addi w 0#32) (BitVec.ofNat 32 r.val)) 8256#32))
        ((h (ix2 r q) : EReal) + (y (ix2 r q) : EReal)) (0 : EReal) := by
    pointwise [k0_pay4]
  have hr := r.isLt
  rw [h1, row_word n r.val hn (by omega) w hw 0 (by omega), sel_entry _ (by omega), Nat.zero_add]

theorem pay10_apply (n : ℕ) (hn : n < 33) (w : BitVec 32) (hw : w = BitVec.ofNat 32 (256 * n)) (y h : Vec Ideal S128x2048 .f32) (r : Fin 128) (q : Fin 2048) :
    (k0_pay10 (F := Ideal) w y h (ix2 r q) : EReal)
      = entry (256 * n + (128 + r.val)) (h (ix2 r q)) (y (ix2 r q)) := by
  have h1 : (k0_pay10 (F := Ideal) w y h (ix2 r q) : EReal)
      = Scalar.select (IntOp.andi (IntOp.cmpi .sge (IntOp.addi (Scalar.addi w 128#32) (BitVec.ofNat 32 r.val)) 48#32)
          (IntOp.cmpi .slt (IntOp.addi (Scalar.addi w 128#32) (BitVec.ofNat 32 r.val)) 8256#32))
        ((h (ix2 r q) : EReal) + (y (ix2 r q) : EReal)) (0 : EReal) := by
    pointwise [k0_pay10]
  have hr := r.isLt
  rw [h1, row_word n r.val hn (by omega) w hw 128 (by omega), sel_entry _ (by omega)]

/-- What the body leaves in the block, entry by entry. -/
def blockOut (n : ℕ) (x0 x1 : Vec Ideal S256x1024 .bf16) (x2 : Vec Ideal S256x2048 .f32) (x3 : Vec Ideal S2048x2048 .bf16) : Vec Ideal S256x2048 .f32 :=
  fun y => entry (256 * n + (y 0).val) (x2 y)
    (prod2 (fun k => x0 (ix2 (y 0) k)) (fun k => x1 (ix2 (y 0) k)) (fun k => x3 (ix2 ⟨k.val, by omega⟩ (y 1))) (fun k => x3 (ix2 ⟨1024 + k.val, by omega⟩ (y 1))))

theorem idx_two {a b : ℕ} (y : (⟨2, ![a, b]⟩ : Shape).Idx) : ∃ (p : Fin a) (q : Fin b), y = ix2 p q :=
  ⟨y 0, y 1, funext fun d => by
    match d with
    | ⟨0, _⟩ => rfl
    | ⟨1, _⟩ => rfl⟩

abbrev rectA0 : Rect S256x1024 := Rect.unit (s := S256x1024) ![0, 0] S128x1024.size inb_S256x1024_S128x1024_0_0
abbrev rectA1 : Rect S256x1024 := Rect.unit (s := S256x1024) ![128, 0] S128x1024.size inb_S256x1024_S128x1024_128_0
abbrev rectW0 : Rect S2048x2048 := Rect.unit (s := S2048x2048) ![0, 0] S1024x2048.size inb_S2048x2048_S1024x2048_0_0
abbrev rectW1 : Rect S2048x2048 := Rect.unit (s := S2048x2048) ![1024, 0] S1024x2048.size inb_S2048x2048_S1024x2048_1024_0
abbrev rectH0 : Rect S256x2048 := Rect.unit (s := S256x2048) ![0, 0] S128x2048.size inb_S256x2048_S128x2048_0_0
abbrev rectH1 : Rect S256x2048 := Rect.unit (s := S256x2048) ![128, 0] S128x2048.size inb_S256x2048_S128x2048_128_0

section
variable (x0 x1 : Vec Ideal S256x1024 .bf16) (x2 : Vec Ideal S256x2048 .f32) (x3 : Vec Ideal S2048x2048 .bf16)

theorem ld_a0 (x : Vec Ideal S256x1024 .bf16) (r : Fin 128) (k : Fin 1024) : View.ld x rectA0 (ix2 r k) = x (ix2 ⟨r.val, by omega⟩ k) :=
  congrArg x (Shape.idx_ext₂ (by show 0 + 1 * r.val = r.val; omega) (by show 0 + 1 * k.val = k.val; omega))
theorem ld_a1 (x : Vec Ideal S256x1024 .bf16) (r : Fin 128) (k : Fin 1024) : View.ld x rectA1 (ix2 r k) = x (ix2 ⟨128 + r.val, by omega⟩ k) :=
  congrArg x (Shape.idx_ext₂ (by show 128 + 1 * r.val = 128 + r.val; omega) (by show 0 + 1 * k.val = k.val; omega))
theorem ld_w0 (r : Fin 1024) (k : Fin 2048) : View.ld x3 rectW0 (ix2 r k) = x3 (ix2 ⟨r.val, by omega⟩ k) :=
  congrArg x3 (Shape.idx_ext₂ (by show 0 + 1 * r.val = r.val; omega) (by show 0 + 1 * k.val = k.val; omega))
theorem ld_w1 (r : Fin 1024) (k : Fin 2048) : View.ld x3 rectW1 (ix2 r k) = x3 (ix2 ⟨1024 + r.val, by omega⟩ k) :=
  congrArg x3 (Shape.idx_ext₂ (by show 1024 + 1 * r.val = 1024 + r.val; omega) (by show 0 + 1 * k.val = k.val; omega))
theorem emb_h0 (r : Fin 128) (k : Fin 2048) : rectH0.emb (ix2 r k) = ix2 ⟨r.val, by omega⟩ k :=
  Shape.idx_ext₂ (by show 0 + 1 * r.val = r.val; omega) (by show 0 + 1 * k.val = k.val; omega)
theorem emb_h1 (r : Fin 128) (k : Fin 2048) : rectH1.emb (ix2 r k) = ix2 ⟨128 + r.val, by omega⟩ k :=
  Shape.idx_ext₂ (by show 128 + 1 * r.val = 128 + r.val; omega) (by show 0 + 1 * k.val = k.val; omega)

/-- The upper half of the block's rows, -/
theorem piece_lo (n : ℕ) (hn : n < 33) (w : BitVec 32) (hw : w = BitVec.ofNat 32 (256 * n)) (j : S128x2048.Idx) :
    k0_pay4 (F := Ideal) (k0_pay2 (View.ld x0 rectA0) (View.ld x3 rectW0) (View.ld x1 rectA0) (View.ld x3 rectW1)) (Scalar.addi w 0#32)
      (iota .tc S128x1 32 [0] iota_S128x1_d0_w32) (View.ld x2 rectH0) j = blockOut n x0 x1 x2 x3 (rectH0.emb j) := by
  obtain ⟨r, q, rfl⟩ := idx_two j
  refine (pay4_apply n hn w hw _ _ r q).trans ?_
  rw [emb_h0]
  unfold blockOut
  refine congrArg₂ (entry _) (congrArg x2 (emb_h0 r q)) ((pay2_apply _ _ _ _ r q).trans ?_)
  unfold prod2
  refine congrArg₂ (fun a b : EReal => a + b) (Finset.sum_congr rfl fun k _ => ?_) (Finset.sum_congr rfl fun k _ => ?_)
  · exact congrArg₂ (fun a b : EReal => a * b) (ld_a0 x0 r k) (ld_w0 x3 k q)
  · exact congrArg₂ (fun a b : EReal => a * b) (ld_a0 x1 r k) (ld_w1 x3 k q)

/-- and the lower half. -/
theorem piece_hi (n : ℕ) (hn : n < 33) (w : BitVec 32) (hw : w = BitVec.ofNat 32 (256 * n)) (j : S128x2048.Idx) :
    k0_pay10 (F := Ideal) w (k0_pay3 (View.ld x0 rectA1) (View.ld x3 rectW0) (View.ld x1 rectA1) (View.ld x3 rectW1)) (View.ld x2 rectH1) j
      = blockOut n x0 x1 x2 x3 (rectH1.emb j) := by
  obtain ⟨r, q, rfl⟩ := idx_two j
  refine (pay10_apply n hn w hw _ _ r q).trans ?_
  rw [emb_h1]
  unfold blockOut
  refine congrArg₂ (entry _) (congrArg x2 (emb_h1 r q)) ((pay3_apply _ _ _ _ r q).trans ?_)
  unfold prod2
  refine congrArg₂ (fun a b : EReal => a + b) (Finset.sum_congr rfl fun k _ => ?_) (Finset.sum_congr rfl fun k _ => ?_)
  · exact congrArg₂ (fun a b : EReal => a * b) (ld_a1 x0 r k) (ld_w0 x3 k q)
  · exact congrArg₂ (fun a b : EReal => a * b) (ld_a1 x1 r k) (ld_w1 x3 k q)

end

end Cert.Kernel4Ideal.OutP

end
-- ==== Proof.OutProj.Block.lean ====
module

public import proofs.«01_k».proof.Proof.OutProj.Value
public import Idealize.ShloMosaic.Lib.Pointwise
public import Idealize.ShloMosaic.Lib.KernelVsHost
public import Idealize.ShloMosaic.Lib.Routing.OpsSet

@[expose] public section

set_option maxRecDepth 16384

noncomputable section

/-! What one run of the body leaves in the block of the residual stream, in the two cases of the body. -/

namespace Cert.Kernel4Ideal.OutP

open Cert.Kernel4Ideal Cert.Kernel4Ideal.Gen
open Idealize.ShloMosaic Idealize.ShloMosaic.TcCoe Idealize.ShloMosaic.Tactic
open Idealize.SL Idealize.SL.RA Idealize.SL.BI Idealize.SL.Sem
open Idealize.ShloMosaic.StableHlo Idealize.ShloMosaic.Routing

set_option maxHeartbeats 4000000

theorem out_A (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x2048 .f32) (harg3 : arg3.IsWhole) (arg4 : Memref sig .tc .vmem S2048x2048 .bf16) (harg4 : arg4.IsWhole) (arg5 : Memref sig .tc .vmem S1x2048 .f32) (harg5 : arg5.IsWhole) (arg6 : Memref sig .tc .vmem S2048x256 .bf16) (harg6 : arg6.IsWhole) (arg7 : Memref sig .tc .vmem S1x128 .f32) (harg7 : arg7.IsWhole) (arg8 : Memref sig .tc .vmem S256x2048 .f32) (harg8 : arg8.IsWhole) (arg9 : Memref sig .tc .vmem S256x128 .f32) (harg9 : arg9.IsWhole) (arg10 : Memref sig .tc .vmem S8x128 .f32) (harg10 : arg10.IsWhole) (arg11 : Memref sig .tc .vmem S256x2x1024 .bf16) (harg11 : arg11.IsWhole) (arg12 : Memref sig .tc .vmem S1x4x256 .f32) (harg12 : arg12.IsWhole) (hc0 : cond0_0 i)
    (x0 : Vec Ideal S256x1024 .bf16) (x1 : Vec Ideal S256x1024 .bf16) (x2 : Vec Ideal S256x2048 .f32) (x3 : Vec Ideal S2048x2048 .bf16) (x4 : Vec Ideal S1x2048 .f32) (x5 : Vec Ideal S2048x256 .bf16) (x6 : Vec Ideal S1x128 .f32) :
    out0_A_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6
      = blockOut ((i 0).val % 33) x0 x1 x2 x3 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6)]
  funext y
  refine View.canon_apply_of_pieces _ _ (fun p hp j => ?_) y (cover0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 y)
  unfold kernelRun0_A at hp
  dsimp only at hp
  have hb := base_word ⟨(i 0).val, (i 0).isLt⟩
  have hm : (i 0).val % 33 < 33 := Nat.mod_lt _ (by omega)
  simp only [List.mem_cons, List.mem_nil_iff, or_false] at hp
  rcases hp with rfl | rfl
  · refine Eq.trans ?_ (piece_hi x0 x1 x2 x3 _ hm _ hb j)
    sl_unfold_words
    simp only [View.readAt_eq_ld, harg1.read_unread, harg2.read_unread, harg3.read_unread, harg4.read_unread]
    rfl
  · refine Eq.trans ?_ (piece_lo x0 x1 x2 x3 _ hm _ hb j)
    sl_unfold_words
    simp only [View.readAt_eq_ld, harg1.read_unread, harg2.read_unread, harg3.read_unread, harg4.read_unread]
    rfl

theorem out_B (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x2048 .f32) (harg3 : arg3.IsWhole) (arg4 : Memref sig .tc .vmem S2048x2048 .bf16) (harg4 : arg4.IsWhole) (arg5 : Memref sig .tc .vmem S1x2048 .f32) (harg5 : arg5.IsWhole) (arg6 : Memref sig .tc .vmem S2048x256 .bf16) (harg6 : arg6.IsWhole) (arg7 : Memref sig .tc .vmem S1x128 .f32) (harg7 : arg7.IsWhole) (arg8 : Memref sig .tc .vmem S256x2048 .f32) (harg8 : arg8.IsWhole) (arg9 : Memref sig .tc .vmem S256x128 .f32) (harg9 : arg9.IsWhole) (arg10 : Memref sig .tc .vmem S8x128 .f32) (harg10 : arg10.IsWhole) (arg11 : Memref sig .tc .vmem S256x2x1024 .bf16) (harg11 : arg11.IsWhole) (arg12 : Memref sig .tc .vmem S1x4x256 .f32) (harg12 : arg12.IsWhole) (hc0 : ¬cond0_0 i)
    (x0 : Vec Ideal S256x1024 .bf16) (x1 : Vec Ideal S256x1024 .bf16) (x2 : Vec Ideal S256x2048 .f32) (x3 : Vec Ideal S2048x2048 .bf16) (x4 : Vec Ideal S1x2048 .f32) (x5 : Vec Ideal S2048x256 .bf16) (x6 : Vec Ideal S1x128 .f32) (xo9 : Vec Ideal S8x128 .f32) :
    out0_B_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo9
      = blockOut ((i 0).val % 33) x0 x1 x2 x3 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo9)]
  funext y
  refine View.canon_apply_of_pieces _ _ (fun p hp j => ?_) y (cover0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo9 y)
  unfold kernelRun0_B at hp
  dsimp only at hp
  have hb := base_word ⟨(i 0).val, (i 0).isLt⟩
  have hm : (i 0).val % 33 < 33 := Nat.mod_lt _ (by omega)
  simp only [List.mem_cons, List.mem_nil_iff, or_false] at hp
  rcases hp with rfl | rfl
  · refine Eq.trans ?_ (piece_hi x0 x1 x2 x3 _ hm _ hb j)
    sl_unfold_words
    simp only [View.readAt_eq_ld, harg1.read_unread, harg2.read_unread, harg3.read_unread, harg4.read_unread]
    rfl
  · refine Eq.trans ?_ (piece_lo x0 x1 x2 x3 _ hm _ hb j)
    sl_unfold_words
    simp only [View.readAt_eq_ld, harg1.read_unread, harg2.read_unread, harg3.read_unread, harg4.read_unread]
    rfl

end Cert.Kernel4Ideal.OutP

end
-- ==== Proof.OutProj.Array.lean ====
module

public import proofs.«01_k».proof.Proof.OutProj.Block

@[expose] public section

set_option maxRecDepth 16384

noncomputable section

/-! The whole array the output projection writes, from the blocks. -/

namespace Cert.Kernel4Ideal.OutP

open Cert.Kernel4Ideal Cert.Kernel4Ideal.Gen
open Idealize.ShloMosaic Idealize.ShloMosaic.TcCoe Idealize.ShloMosaic.Tactic
open Idealize.SL Idealize.SL.RA Idealize.SL.BI Idealize.SL.Sem
open Idealize.ShloMosaic.StableHlo Idealize.ShloMosaic.Routing

set_option maxHeartbeats 2000000

theorem N_eq : cfg0.N = 66 := N_0

theorem point_at (t : Fin cfg0.N) : (grid0.coords t 0).val = t.val :=
  (Pipeline.Grid.coords_val t 0 (by decide) rfl : (grid0.coords t 0).val = t.val / 1 % 66).trans (by have := Nat.lt_of_lt_of_eq t.isLt N_eq; omega)

theorem rows_lt (t : Fin cfg0.N) (r : Fin 256) : 256 * t.val + r.val < 16896 := by have := Nat.lt_of_lt_of_eq t.isLt N_eq; omega

/-- The row of the whole array that row `r` of point `t`'s block is. -/
abbrev rowOf (t : Fin cfg0.N) (r : Fin 256) : Fin 16896 := ⟨256 * t.val + r.val, rows_lt t r⟩

theorem inner_of (f : grid0.Coords → Fin 2 → ℕ) (hf : ∀ i, f i = ![(BitVec.ofNat 32 (i 0).val).toNat, 0]) (t : Fin cfg0.N) : f (grid0.coords t) = ![t.val, 0] := by
  have h := Nat.lt_of_lt_of_eq t.isLt N_eq
  rw [hf, point_at, BitVec.toNat_ofNat, Nat.mod_eq_of_lt (by omega)]

theorem inner0 (t : Fin cfg0.N) : cc0_transform_0 (grid0.coords t) = ![t.val, 0] := inner_of _ (fun _ => rfl) t
theorem inner1 (t : Fin cfg0.N) : cc0_transform_1 (grid0.coords t) = ![t.val, 0] := inner_of _ (fun _ => rfl) t
theorem inner2 (t : Fin cfg0.N) : cc0_transform_2 (grid0.coords t) = ![t.val, 0] := inner_of _ (fun _ => rfl) t
theorem inner7 (t : Fin cfg0.N) : cc0_transform_7 (grid0.coords t) = ![t.val, 0] := inner_of _ (fun _ => rfl) t

section
variable (m : (ℓ : Loc nD τ sig) → Buf (Elt Ideal) ℓ) (c : Dev nD)

/-- The given arrays: the two halves of the heads' outputs, the residual stream and the weights. -/
abbrev argA : Vec Ideal S16896x1024 .bf16 := m ((c.tc : Thread nD τ).loc main_arg0)
abbrev argB : Vec Ideal S16896x1024 .bf16 := m ((c.tc : Thread nD τ).loc main_arg1)
abbrev argH : Vec Ideal S16896x2048 .f32 := m ((c.tc : Thread nD τ).loc main_arg2)
abbrev argW : Vec Ideal S2048x2048 .f32 := m ((c.tc : Thread nD τ).loc main_arg3)

theorem blk0_apply (t : Fin cfg0.N) (r : Fin 256) (k : Fin 1024) :
    ((iblk m c 0 t : Vec Ideal S256x1024 .bf16) (ix2 r k) : EReal) = argA m c (ix2 (rowOf t r) k) := by
  refine Eq.trans ?_ (congrFun (V_main_arg0 m c) _)
  show ((win0_0.blk t).view.read (Elt Ideal) (V m c main_arg0)) (ix2 r k) = _
  rw [View.read_apply]
  refine congrArg (V m c main_arg0) (show (win0_0.rect t).emb (ix2 r k) = ix2 (rowOf t r) k from ?_)
  refine Shape.idx_ext₂ ((win0_0.rect_emb_val t _ _).trans ?_) ((win0_0.rect_emb_val t _ _).trans ?_)
  · show cc0_transform_0 (grid0.coords t) 0 * 256 + r.val = 256 * t.val + r.val
    rw [inner0]; show t.val * 256 + _ = _; omega
  · show cc0_transform_0 (grid0.coords t) 1 * 1024 + k.val = k.val
    rw [inner0]; show 0 * 1024 + _ = _; omega

theorem blk1_apply (t : Fin cfg0.N) (r : Fin 256) (k : Fin 1024) :
    ((iblk m c 1 t : Vec Ideal S256x1024 .bf16) (ix2 r k) : EReal) = argB m c (ix2 (rowOf t r) k) := by
  refine Eq.trans ?_ (congrFun (V_main_arg1 m c) _)
  show ((win0_1.blk t).view.read (Elt Ideal) (V m c main_arg1)) (ix2 r k) = _
  rw [View.read_apply]
  refine congrArg (V m c main_arg1) (show (win0_1.rect t).emb (ix2 r k) = ix2 (rowOf t r) k from ?_)
  refine Shape.idx_ext₂ ((win0_1.rect_emb_val t _ _).trans ?_) ((win0_1.rect_emb_val t _ _).trans ?_)
  · show cc0_transform_1 (grid0.coords t) 0 * 256 + r.val = 256 * t.val + r.val
    rw [inner1]; show t.val * 256 + _ = _; omega
  · show cc0_transform_1 (grid0.coords t) 1 * 1024 + k.val = k.val
    rw [inner1]; show 0 * 1024 + _ = _; omega

theorem blk2_apply (t : Fin cfg0.N) (r : Fin 256) (k : Fin 2048) :
    ((iblk m c 2 t : Vec Ideal S256x2048 .f32) (ix2 r k) : EReal) = argH m c (ix2 (rowOf t r) k) := by
  refine Eq.trans ?_ (congrFun (V_main_arg2 m c) _)
  show ((win0_2.blk t).view.read (Elt Ideal) (V m c main_arg2)) (ix2 r k) = _
  rw [View.read_apply]
  refine congrArg (V m c main_arg2) (show (win0_2.rect t).emb (ix2 r k) = ix2 (rowOf t r) k from ?_)
  refine Shape.idx_ext₂ ((win0_2.rect_emb_val t _ _).trans ?_) ((win0_2.rect_emb_val t _ _).trans ?_)
  · show cc0_transform_2 (grid0.coords t) 0 * 256 + r.val = 256 * t.val + r.val
    rw [inner2]; show t.val * 256 + _ = _; omega
  · show cc0_transform_2 (grid0.coords t) 1 * 2048 + k.val = k.val
    rw [inner2]; show 0 * 2048 + _ = _; omega

theorem weights_eq : @Eq (Vec Ideal S2048x2048 .bf16) (V m c main_v10) (truncf (F := Ideal) .bf16 (argW m c) bitsLt_bf16_f32) := by
  show StableHlo.after (List.flatten [hostOps0, hostOps0_1, hostOps0_2, hostOps0_3, hostOps0_4]) (fun b => m (c, b)) (Proc.devRef .tc main_v10) = _
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp <;> rfl

theorem blk3_apply (t : Fin cfg0.N) (r k : Fin 2048) :
    ((iblk m c 3 t : Vec Ideal S2048x2048 .bf16) (ix2 r k) : EReal) = argW m c (ix2 r k) := by
  refine Eq.trans ?_ (congrFun (weights_eq m c) (ix2 r k))
  show ((win0_3.blk t).view.read (Elt Ideal) (V m c main_v10)) (ix2 r k) = _
  rw [View.read_apply]
  refine congrArg (V m c main_v10) (show (win0_3.rect t).emb (ix2 r k) = ix2 r k from ?_)
  refine Shape.idx_ext₂ ((win0_3.rect_emb_val t _ _).trans ?_) ((win0_3.rect_emb_val t _ _).trans ?_)
  · show 0 * 2048 + r.val = r.val; omega
  · show 0 * 2048 + k.val = k.val; omega

/-- What the point leaves of the residual stream's block. -/
theorem flushed_apply (t : Fin cfg0.N) : (Cert.Kernel4Ideal.Gen.dats m 0 c).flushed 7 t = blockOut (t.val % 33) (iblk m c 0 t) (iblk m c 1 t) (iblk m c 2 t) (iblk m c 3 t) := by
  by_cases h0 : t.val % 66 = 0
  · rw [Cert.Kernel4Ideal.Value.flushed7_A m c t h0, out_A, point_at]
    rfl
  · rw [Cert.Kernel4Ideal.Value.flushed7_B m c t h0, out_B, point_at]
    rfl

/-- One entry of the product of a row of the two halves with a column of the weights. -/
def rowProd (r : Fin 16896) (q : Fin 2048) : EReal :=
  prod2 (fun k => argA m c (ix2 r k)) (fun k => argB m c (ix2 r k)) (fun k => argW m c (ix2 ⟨k.val, by omega⟩ q)) (fun k => argW m c (ix2 ⟨1024 + k.val, by omega⟩ q))

theorem block_apply (t : Fin cfg0.N) (p : Fin 256) (q : Fin 2048) :
    (blockOut (t.val % 33) (iblk m c 0 t) (iblk m c 1 t) (iblk m c 2 t) (iblk m c 3 t) (ix2 p q) : EReal)
      = entry ((rowOf t p).val % 8448) (argH m c (ix2 (rowOf t p) q)) (rowProd m c (rowOf t p) q) := by
  unfold blockOut rowProd prod2
  have e : 256 * (t.val % 33) + p.val = (rowOf t p).val % 8448 := by
    show _ = (256 * t.val + p.val) % 8448
    omega
  rw [← e]
  refine congrArg₂ (entry _) (blk2_apply m c t p q) ?_
  refine congrArg₂ (fun a b : EReal => a + b) (Finset.sum_congr rfl fun k _ => ?_) (Finset.sum_congr rfl fun k _ => ?_)
  · exact congrArg₂ (fun a b : EReal => a * b) (blk0_apply m c t p k) (blk3_apply m c t _ q)
  · exact congrArg₂ (fun a b : EReal => a * b) (blk1_apply m c t p k) (blk3_apply m c t _ q)

theorem out_emb (t : Fin cfg0.N) (r : Fin 256) (q : Fin 2048) : (win0_7.rect t).emb (ix2 r q) = ix2 (rowOf t r) q := by
  refine Shape.idx_ext₂ ((win0_7.rect_emb_val t _ _).trans ?_) ((win0_7.rect_emb_val t _ _).trans ?_)
  · show cc0_transform_7 (grid0.coords t) 0 * 256 + r.val = 256 * t.val + r.val
    rw [inner7]; show t.val * 256 + _ = _; omega
  · show cc0_transform_7 (grid0.coords t) 1 * 2048 + q.val = q.val
    rw [inner7]; show 0 * 2048 + _ = _; omega

/-- The residual stream as written. -/
theorem out_arr (r : Fin 16896) (q : Fin 2048) :
    ((dats m 0 c).arrAt 7 cfg0.N (ix2 r q) : EReal) = entry (r.val % 8448) (argH m c (ix2 r q)) (rowProd m c r q) := by
  let Q : S16896x2048.Idx → EReal → Prop := fun i e => e = entry ((i 0).val % 8448) (argH m c (ix2 (i 0) (i 1))) (rowProd m c (i 0) (i 1))
  have hN := N_eq
  let t : Fin cfg0.N := ⟨r.val / 256, by omega⟩
  refine (dats m 0 c).arrAt_forall_of_flushed 7 Q ?_ cfg0.N t (ix2 r q) t.isLt (flush0_7 t) ?_
  · intro t _ y
    obtain ⟨p, x, rfl⟩ := idx_two y
    have e1 := (congrFun (flushed_apply m c t) (ix2 p x)).trans (block_apply m c t p x)
    show Q ((win0_7.rect t).emb (ix2 p x)) _
    rw [out_emb]
    exact e1
  · show _ ∈ ((View.whole main_v12_0).slice (win0_7.rect t)).set
    have e : ix2 r q = (win0_7.rect t).emb (ix2 ⟨r.val % 256, by omega⟩ q) := by
      rw [out_emb]
      refine Shape.idx_ext₂ ?_ rfl
      show r.val = 256 * (r.val / 256) + r.val % 256; omega
    rw [e]
    exact View.emb_mem_set ((View.whole main_v12_0).slice (win0_7.rect t)) _

end

end Cert.Kernel4Ideal.OutP

end
-- ==== Proof.OutProj.Meet.lean ====
module

public import proofs.«01_k».proof.Proof.OutProj.Array
public import proofs.«01_k».proof.Proof.Gen.Reference4Ideal.Run
public import proofs.«01_k».proof.Proof.Gen.Reference4Ideal.Read
public import proofs.«01_k».proof.Proof.Gen.On_hidden_rows
public import proofs.«01_k».proof.Defs

@[expose] public section

set_option maxRecDepth 16384

noncomputable section

/-! The reference of the output projection entry by entry, and that the kernel's rows of the real tokens are the reference's. -/

namespace Cert.OutPMeet

open Idealize.ShloMosaic Idealize.ShloMosaic.TcCoe Idealize.ShloMosaic.Tactic
open Idealize.SL Idealize.SL.Sem
open Cert.Reference4Ideal Cert.Reference4Ideal.Gen Cert.Reference4Ideal.Read
open Cert.Kernel4Ideal.OutP (prod2 entry rowProd sge_nat slt_nat argA argB argH argW)

set_option maxHeartbeats 2000000

instance : Cert.On_hidden_rows.Facts := Cert.On_hidden_rows.Gen.facts

section
variable (A B : (⟨S16896x1024, .bf16⟩ : BufTy).Contents (Elt Ideal)) (H : (⟨S16896x2048, .f32⟩ : BufTy).Contents (Elt Ideal))
  (W : (⟨S2048x2048, .f32⟩ : BufTy).Contents (Elt Ideal))

/-- The concatenated row: its first half -/
theorem joined_left (r : Fin 16896) (k : Fin 1024) : (val_main_v2 (F := Ideal) A B (ix2 r ⟨k.val, by omega⟩) : EReal) = A (ix2 r k) := by
  unfold val_main_v2
  refine (concatenate_pair_apply_left (α := EReal) (1 : Fin S16896x2048.rank) (val_main_v0 (F := Ideal) A) (val_main_v1 (F := Ideal) B)
    concatenates_S16896x1024_S16896x1024_S16896x2048_d1 _ rfl (ix2 r k) (fun b => ?_)).trans rfl
  match b with
  | ⟨0, _⟩ => rfl
  | ⟨1, _⟩ => rfl

/-- and its second. -/
theorem joined_right (r : Fin 16896) (k : Fin 1024) : (val_main_v2 (F := Ideal) A B (ix2 r ⟨1024 + k.val, by omega⟩) : EReal) = B (ix2 r k) := by
  unfold val_main_v2
  refine (concatenate_pair_apply_right (α := EReal) (1 : Fin S16896x2048.rank) (val_main_v0 (F := Ideal) A) (val_main_v1 (F := Ideal) B)
    concatenates_S16896x1024_S16896x1024_S16896x2048_d1 _ rfl rfl (ix2 r k) (fun b hb => ?_) ?_).trans rfl
  · match b with
    | ⟨0, _⟩ => rfl
    | ⟨1, _⟩ => exact absurd rfl hb
  · show k.val + 1024 = 1024 + k.val
    omega

/-- A sum over the whole row is the sum of the sums over its halves. -/
theorem sum_halves (f : Fin 2048 → EReal) : ∑ k : Fin 2048, f k = ∑ k : Fin 1024, f ⟨k.val, by omega⟩ + ∑ k : Fin 1024, f ⟨1024 + k.val, by omega⟩ :=
  Fin.sum_univ_add (a := 1024) (b := 1024) f

theorem ref_at (r : Fin 16896) (q : Fin 2048) : (val_main_v4 (F := Ideal) A B H W (ix2 r q) : EReal)
    = H (ix2 r q) + prod2 (fun k => A (ix2 r k)) (fun k => B (ix2 r k)) (fun k => W (ix2 ⟨k.val, by omega⟩ q)) (fun k => W (ix2 ⟨1024 + k.val, by omega⟩ q)) := by
  rw [val_main_v4_apply]
  refine congrArg (fun y : EReal => (H (ix2 r q) : EReal) + y) ?_
  rw [val_main_v3_apply, sum_halves]
  unfold prod2
  refine congrArg₂ (fun a b : EReal => a + b) (Finset.sum_congr rfl fun k _ => ?_) (Finset.sum_congr rfl fun k _ => ?_)
  · have e1 : lidx_main_v3 (ix2 r q) ⟨k.val, by omega⟩ = ix2 r ⟨k.val, by omega⟩ := Shape.idx_ext₂ rfl rfl
    have e2 : ridx_main_v3 (ix2 r q) ⟨k.val, by omega⟩ = ix2 ⟨k.val, by omega⟩ q := Shape.idx_ext₂ rfl rfl
    rw [e1, e2, joined_left]
  · have e1 : lidx_main_v3 (ix2 r q) ⟨1024 + k.val, by omega⟩ = ix2 r ⟨1024 + k.val, by omega⟩ := Shape.idx_ext₂ rfl rfl
    have e2 : ridx_main_v3 (ix2 r q) ⟨1024 + k.val, by omega⟩ = ix2 ⟨1024 + k.val, by omega⟩ q := Shape.idx_ext₂ rfl rfl
    rw [e1, e2, joined_right]

end

/-! ### The rows of the real tokens -/

section
variable (A B : FVec Ideal Cert.On_hidden_rows.S16896x1024 .bf16) (H : FVec Ideal Cert.On_hidden_rows.S16896x2048 .f32)
  (W : FVec Ideal Cert.On_hidden_rows.S2048x2048 .f32) (G : FVec Ideal Cert.On_hidden_rows.S2048 .f32)
  (X : FVec Ideal Cert.On_hidden_rows.S2048x4 .f32) (Y : FVec Ideal Cert.On_hidden_rows.S4 .f32)
  (Z : FVec Ideal Cert.On_hidden_rows.S2048x32 .f32) (U : FVec Ideal Cert.On_hidden_rows.S32 .f32)

theorem real_row (r : Fin 16896) (q : Fin 2048) (h : Cert.On_hidden_rows.fn (F := Ideal) A B H W G X Y Z U (ix2 r q) = 1#1) :
    48 ≤ r.val % 8448 ∧ r.val % 8448 < 8256 := by
  have e : Cert.On_hidden_rows.fn (F := Ideal) A B H W G X Y Z U (ix2 r q)
      = IntOp.andi (IntOp.cmpi .sge (BitVec.ofNat 32 (r.val % 8448)) (BitVec.ofNat 32 48)) (IntOp.cmpi .slt (BitVec.ofNat 32 (r.val % 8448)) (BitVec.ofNat 32 8256)) := by
    have e0 : Cert.On_hidden_rows.fn (F := Ideal) A B H W G X Y Z U = shapeCast Cert.On_hidden_rows.S16896x2048
        (fun i : Cert.On_hidden_rows.S2x8448x2048.Idx => IntOp.andi (IntOp.cmpi .sge (BitVec.ofNat 32 (i 1).val) (BitVec.ofNat 32 48)) (IntOp.cmpi .slt (BitVec.ofNat 32 (i 1).val) (BitVec.ofNat 32 8256)))
        Cert.On_hidden_rows.Facts.shapeCasts_S2x8448x2048_S16896x2048 := rfl
    rw [e0]
    refine (shapeCast_apply _ _ _ (ix3 (⟨r.val / 8448, by omega⟩ : Fin 2) (⟨r.val % 8448, by omega⟩ : Fin 8448) q) ?_).trans rfl
    rw [Shape.rowMajor_val_two, Shape.rowMajor_val_three]
    show (r.val / 8448 * 8448 + r.val % 8448) * 2048 + q.val = r.val * 2048 + q.val
    omega
  rw [e] at h
  obtain ⟨h1, h2⟩ := (IntOp.andi_eq_one).1 h
  rw [sge_nat _ _ (by omega) (by omega)] at h1
  rw [slt_nat _ _ (by omega) (by omega)] at h2
  constructor
  · by_contra q; rw [if_neg q] at h1; exact absurd h1 (by decide)
  · by_contra q; rw [if_neg q] at h2; exact absurd h2 (by decide)

end

/-! ### The kernel and the reference -/

section
variable (m : (ℓ : Loc Cert.Kernel4Ideal.nD Cert.Kernel4Ideal.τ Cert.Kernel4Ideal.sig) → Buf (Elt Ideal) ℓ) (c : Dev Cert.Kernel4Ideal.nD)

/-- On a real token's row what the kernel writes is what the reference computes. -/
theorem meet (r : Fin 16896) (q : Fin 2048) (h : 48 ≤ r.val % 8448 ∧ r.val % 8448 < 8256) :
    (val_main_v4 (F := Ideal) (argA m c) (argB m c) (argH m c) (argW m c) (ix2 r q) : EReal)
      = ((Cert.Kernel4Ideal.Gen.dats m 0 c).arrAt 7 Cert.Kernel4Ideal.cfg0.N (ix2 r q) : EReal) := by
  refine (ref_at _ _ _ _ r q).trans (Eq.trans ?_ (Cert.Kernel4Ideal.OutP.out_arr m c r q).symm)
  unfold entry
  rw [if_pos h]
  rfl

end

/-- Both programs run, and their results are equal on the rows of the real tokens. -/
theorem algebraic : Cert.algebraic_Kernel4Ideal_Reference4Ideal_on_hidden_rows := by
  intro m g m' g' _ ha
  refine ⟨fun c => (Cert.Kernel4Ideal.Gen.dats m 0 c).arrAt 7 Cert.Kernel4Ideal.cfg0.N, ?_, ?_⟩
  · exact (θ_run _ _ _).mono (fun r h c => ⟨fun i _ => congrFun (h c).1 i, (h c).2.2.2.2.2⟩) (Cert.Kernel4Ideal.Value.run_blocks m g)
  · refine (θ_run _ _ _).mono (fun r h c => ⟨fun i hi => ?_, (h c).2⟩) (Cert.Reference4Ideal.Value.run m' g')
    refine (congrFun ((h c).1.trans (val_main_v4_eq _ _ _ _)) i).trans ?_
    rw [(ha c).1, (ha c).2.1, (ha c).2.2.1, (ha c).2.2.2.1]
    obtain ⟨p, q, rfl⟩ := Cert.Kernel4Ideal.OutP.idx_two i
    exact meet m c p q (real_row _ _ _ _ _ _ _ _ _ p q hi)

end Cert.OutPMeet

end
-- ==== Proof.Conv.Value.lean ====
module

public import proofs.«01_k».proof.Proof.Gen.Kernel5Ideal.Value
public import Idealize.ShloMosaic.Lib.Pointwise
public import Idealize.ShloMosaic.Lib.KernelVsHost
public import Idealize.ShloMosaic.Lib.Routing.OpsSet

@[expose] public section

set_option maxRecDepth 16384

noncomputable section

/-! What the Conformer convolution computes, entry by entry: the gated rows, the 31 products in the kernel's order, the layer norm and the swish. -/

namespace Cert.Kernel5Ideal.Conv

open Cert.Kernel5Ideal Cert.Kernel5Ideal.Gen
open Idealize.ShloMosaic Idealize.ShloMosaic.TcCoe Idealize.ShloMosaic.Tactic
open Idealize.SL Idealize.SL.RA Idealize.SL.BI Idealize.SL.Sem
open Idealize.ShloMosaic.StableHlo Idealize.ShloMosaic.Routing

set_option maxHeartbeats 4000000

/-- The logistic function as both sides print it. -/
def sigm (x : EReal) : EReal := Ideal.div (Ideal.ofBits .f32 0x3F800000#32) (Ideal.ofBits .f32 0x3F800000#32 + Ideal.exp (-x))

/-- A value gated by the logistic of another. -/
def glu (a b : EReal) : EReal := a * sigm b

/-- The mean of a row. -/
def mean (y : Fin 1024 → EReal) : EReal := Ideal.div (∑ j : Fin 1024, y j) (Ideal.ofBits .f32 0x44800000#32)

/-- A row with its mean taken off and divided by its deviation, times the gains, plus the shifts. -/
def lnorm (y g b : Fin 1024 → EReal) (c : Fin 1024) : EReal :=
  (y c - mean y) * Ideal.rsqrt (mean (fun j => (y j - mean y) * (y j - mean y)) + Ideal.ofBits .f32 0x358637BD#32) * g c + b c

/-- The layer norm, then the swish. -/
def post (y g b : Fin 1024 → EReal) (c : Fin 1024) : EReal := lnorm y g b c * sigm (lnorm y g b c)

theorem zero_bits : Ideal.ofBits .f32 0x00000000#32 = (0 : EReal) := by simp [Ideal.ofBits, Ideal.ieee]

theorem pay2_apply (a b : Vec Ideal S256x1024 .bf16) (r : Fin 256) (c : Fin 1024) :
    (k0_pay2 (F := Ideal) a b (ix2 r c) : EReal) = glu (a (ix2 r c)) (b (ix2 r c)) := by
  have h : (k0_pay2 (F := Ideal) a b (ix2 r c) : EReal)
      = a (ix2 r c) * Ideal.div (Ideal.ofBits .f32 0x3F800000#32) (Ideal.ofBits .f32 0x3F800000#32 + Ideal.exp (Ideal.ofBits .f32 0x00000000#32 - b (ix2 r c))) := by
    pointwise [k0_pay2]
  rw [h, zero_bits, sub_eq_add_neg, zero_add]
  rfl

theorem pay4_apply (a b : Vec Ideal S256x1024 .bf16) (r : Fin 32) (c : Fin 1024) :
    (k0_pay4 (F := Ideal) a b (ix2 r c) : EReal) = glu (a (ix2 ⟨224 + r.val, by omega⟩ c)) (b (ix2 ⟨224 + r.val, by omega⟩ c)) := by
  refine Eq.trans ?_ (pay2_apply a b ⟨224 + r.val, by omega⟩ c)
  unfold k0_pay4
  generalize k0_pay2 (F := Ideal) a b = u
  pointwise []

theorem pay3_halo (a b : Vec Ideal S256x1024 .bf16) (h : Vec Ideal S32x1024 .f32) (n : Fin 288) (hn : n.val < 32) (c : Fin 1024) :
    (k0_pay3 (F := Ideal) a b h (ix2 n c) : EReal) = h (ix2 ⟨n.val, hn⟩ c) := by
  unfold k0_pay3
  generalize k0_pay2 (F := Ideal) a b = u
  refine concatenate_pair_apply_left (α := EReal) (0 : Fin S288x1024.rank) h u concatenates_S32x1024_S256x1024_S288x1024_d0 (ix2 n c) rfl (ix2 ⟨n.val, hn⟩ c) (fun d => ?_)
  match d with
  | ⟨0, _⟩ => rfl
  | ⟨1, _⟩ => rfl

theorem pay3_rows (a b : Vec Ideal S256x1024 .bf16) (h : Vec Ideal S32x1024 .f32) (n : Fin 288) (r : Fin 256) (hn : n.val = 32 + r.val) (c : Fin 1024) :
    (k0_pay3 (F := Ideal) a b h (ix2 n c) : EReal) = glu (a (ix2 r c)) (b (ix2 r c)) := by
  refine Eq.trans ?_ (pay2_apply a b r c)
  unfold k0_pay3
  generalize k0_pay2 (F := Ideal) a b = u
  refine concatenate_pair_apply_right (α := EReal) (0 : Fin S288x1024.rank) h u concatenates_S32x1024_S256x1024_S288x1024_d0 (ix2 n c) rfl rfl (ix2 r c) (fun d hd => ?_) ?_
  · match d with
    | ⟨0, _⟩ => exact absurd rfl hd
    | ⟨1, _⟩ => rfl
  · show r.val + 32 = n.val
    omega

/-! ## The 31 products -/

/-- Tap `s`: the weight of the row `s` back, times that row. -/
def term (W : Vec Ideal S32x1024 .f32) (X : Vec Ideal S288x1024 .f32) (i : Fin 256) (c : Fin 1024) (s : ℕ) : EReal :=
  W (ix2 ⟨(30 - s) % 32, Nat.mod_lt _ (by omega)⟩ c) * X (ix2 ⟨(32 + i.val - s) % 288, Nat.mod_lt _ (by omega)⟩ c)

/-- The order in which the kernel adds them. -/
def order : List ℕ := [0, 8, 16, 24, 1, 9, 17, 25, 2, 10, 18, 26, 3, 11, 19, 27, 4, 12, 20, 28, 5, 13, 21, 29, 6, 14, 22, 30, 7, 15, 23]

theorem add_at {s : Shape} (x y : FVec Ideal s .f32) (i : s.Idx) : (addf x y i : EReal) = (x i : EReal) + (y i : EReal) := rfl

section
variable (W : Vec Ideal S32x1024 .f32) (X : Vec Ideal S288x1024 .f32) (i : Fin 256) (c : Fin 1024)

theorem row_apply (w : Vec Ideal S1x1024 .f32) (h1) (h2) :
    ((broadcastTo S256x1024 (shapeCast S1x1024 w h1) h2 : FVec Ideal S256x1024 .f32) (ix2 i c) : EReal) = w (ix2 0 c) := by
  pointwise []

theorem ld_row (k s : ℕ) (hk) (e1 : k + s = 30) :
    ((View.ld W (Rect.unit (s := S32x1024) ![k, 0] S1x1024.size hk) : Vec Ideal S1x1024 .f32) (ix2 0 c) : EReal) = W (ix2 ⟨(30 - s) % 32, Nat.mod_lt _ (by omega)⟩ c) := by
  refine congrArg W (Shape.idx_ext₂ ?_ ?_)
  · show k + 1 * 0 = (30 - s) % 32; omega
  · show 0 + 1 * c.val = c.val; omega

theorem slice_apply (o n : ℕ) (hn : n < 288) (hs) (e : n = o + i.val) :
    ((extractStridedSlice S256x1024 ![o, 0] X hs : FVec Ideal S256x1024 .f32) (ix2 i c) : EReal) = X (ix2 ⟨n, hn⟩ c) := by
  refine extractStridedSlice_apply ![o, 0] X hs (ix2 i c) (ix2 ⟨n, hn⟩ c) (fun d => ?_)
  match d with
  | ⟨0, _⟩ => exact e
  | ⟨1, _⟩ => show c.val = 0 + c.val; omega

theorem rot_apply (sb : BitVec 32) (hr) (n n' : ℕ) (hn : n < 288) (hn' : n' < 288) (e : n' = (n + 288 - sb.toNat % 288) % 288) :
    ((dynamicRotate 0 sb none X hr : FVec Ideal S288x1024 .f32) (ix2 ⟨n, hn⟩ c) : EReal) = X (ix2 ⟨n', hn'⟩ c) := by
  refine dynamicRotate_apply (0 : Fin S288x1024.rank) sb X hr (ix2 ⟨n, hn⟩ c) (ix2 ⟨n', hn'⟩ c) (fun d => ?_)
  match d with
  | ⟨0, _⟩ => exact e
  | ⟨1, _⟩ => rfl

theorem mul_at {s : Shape} (x y : FVec Ideal s .f32) (i : s.Idx) : (mulf x y i : EReal) = (x i : EReal) * (y i : EReal) := rfl

theorem tap_plain {k o s : ℕ} {hk} {h1} {h2} {hs} (ho : o ≤ 32) (e1 : k + s = 30) (e2 : o + s = 32) :
    ((mulf (broadcastTo S256x1024 (shapeCast S1x1024 (View.ld W (Rect.unit (s := S32x1024) ![k, 0] S1x1024.size hk)) h1) h2)
      (extractStridedSlice S256x1024 ![o, 0] X hs) : FVec Ideal S256x1024 .f32) (ix2 i c) : EReal) = term W X i c s := by
  have hi := i.isLt
  rw [mul_at, row_apply, ld_row W c k s hk e1, slice_apply X i c o ((32 + i.val - s) % 288) (Nat.mod_lt _ (by omega)) hs (by omega)]
  rfl

theorem tap_rot {sb : BitVec 32} {k o s : ℕ} {hk} {h1} {h2} {hr} {hs} (hb : sb.toNat < 8) (h8 : 8 ≤ o) (ho : o ≤ 32) (e1 : k + s = 30) (e2 : o + s = 32 + sb.toNat) :
    ((mulf (broadcastTo S256x1024 (shapeCast S1x1024 (View.ld W (Rect.unit (s := S32x1024) ![k, 0] S1x1024.size hk)) h1) h2)
      (extractStridedSlice S256x1024 ![o, 0] (dynamicRotate 0 sb none X hr) hs) : FVec Ideal S256x1024 .f32) (ix2 i c) : EReal) = term W X i c s := by
  have hi := i.isLt
  rw [mul_at, row_apply, ld_row W c k s hk e1, slice_apply _ i c o (o + i.val) (by omega) hs rfl,
    rot_apply X c sb hr (o + i.val) ((32 + i.val - s) % 288) (by omega) (Nat.mod_lt _ (by omega)) (by omega)]
  rfl

end

/-- A row of the weights, as the kernel loads it. -/
abbrev wRow (W : Vec Ideal S32x1024 .f32) (k : ℕ) (hk : ∀ a : Fin 2, (![k, 0] : Fin 2 → ℕ) a + S1x1024.size a ≤ S32x1024.size a) : Vec Ideal S1x1024 .f32 := View.ld W (Rect.unit (s := S32x1024) ![k, 0] S1x1024.size hk)

/-- The first 30 products' sum, as the kernel composes it. -/
abbrev convHead (a b : Vec Ideal S256x1024 .bf16) (h : Vec Ideal S32x1024 .f32) (W : Vec Ideal S32x1024 .f32) : FVec Ideal S256x1024 .f32 :=
  let X := k0_pay3 (F := Ideal) a b h
  let acc1 := k0_pay8 X (k0_pay5 a b h (wRow W 30 inb_S32x1024_S1x1024_30_0) (wRow W 22 inb_S32x1024_S1x1024_22_0)) (k0_pay6 a b h)
    (wRow W 14 inb_S32x1024_S1x1024_14_0) (wRow W 6 inb_S32x1024_S1x1024_6_0) (wRow W 29 inb_S32x1024_S1x1024_29_0) (wRow W 21 inb_S32x1024_S1x1024_21_0)
    (wRow W 13 inb_S32x1024_S1x1024_13_0) (wRow W 5 inb_S32x1024_S1x1024_5_0) (wRow W 28 inb_S32x1024_S1x1024_28_0)
  let acc2 := k0_pay10 X (k0_pay7 X) acc1 (k0_pay9 X) (wRow W 20 inb_S32x1024_S1x1024_20_0) (wRow W 12 inb_S32x1024_S1x1024_12_0) (wRow W 4 inb_S32x1024_S1x1024_4_0)
    (wRow W 27 inb_S32x1024_S1x1024_27_0) (wRow W 19 inb_S32x1024_S1x1024_19_0) (wRow W 11 inb_S32x1024_S1x1024_11_0) (wRow W 3 inb_S32x1024_S1x1024_3_0)
  let acc3 := k0_pay14 X acc2 (k0_pay11 X) (k0_pay12 X) (wRow W 26 inb_S32x1024_S1x1024_26_0) (wRow W 18 inb_S32x1024_S1x1024_18_0) (wRow W 10 inb_S32x1024_S1x1024_10_0)
    (wRow W 2 inb_S32x1024_S1x1024_2_0) (wRow W 25 inb_S32x1024_S1x1024_25_0) (wRow W 17 inb_S32x1024_S1x1024_17_0) (wRow W 9 inb_S32x1024_S1x1024_9_0)
  k0_pay18 X acc3 (k0_pay15 X) (k0_pay16 (wRow W 1 inb_S32x1024_S1x1024_1_0)) (wRow W 24 inb_S32x1024_S1x1024_24_0) (wRow W 16 inb_S32x1024_S1x1024_16_0)
    (wRow W 8 inb_S32x1024_S1x1024_8_0) (wRow W 0 inb_S32x1024_S1x1024_0_0) (wRow W 23 inb_S32x1024_S1x1024_23_0) (wRow W 15 inb_S32x1024_S1x1024_15_0)

/-- All 31 products' sum. -/
abbrev convVec (a b : Vec Ideal S256x1024 .bf16) (h : Vec Ideal S32x1024 .f32) (W : Vec Ideal S32x1024 .f32) : FVec Ideal S256x1024 .f32 :=
  addf (convHead a b h W) (mulf (k0_pay20 (wRow W 7 inb_S32x1024_S1x1024_7_0)) (k0_pay19 (k0_pay3 (F := Ideal) a b h)))

section
variable (W : Vec Ideal S32x1024 .f32) (X : Vec Ideal S288x1024 .f32) (i : Fin 256) (c : Fin 1024)

theorem step_plain {k o s : ℕ} {hk} {h1} {h2} {hs} {A : FVec Ideal S256x1024 .f32} {e : EReal} (hA : (A (ix2 i c) : EReal) = e)
    (ho : o ≤ 32) (e1 : k + s = 30) (e2 : o + s = 32) :
    (addf A (mulf (broadcastTo S256x1024 (shapeCast S1x1024 (View.ld W (Rect.unit (s := S32x1024) ![k, 0] S1x1024.size hk)) h1) h2)
      (extractStridedSlice S256x1024 ![o, 0] X hs)) (ix2 i c) : EReal) = e + term W X i c s :=
  (add_at _ _ _).trans (congrArg₂ (fun a b : EReal => a + b) hA (tap_plain W X i c ho e1 e2))

theorem step_rot {sb : BitVec 32} {k o s : ℕ} {hk} {h1} {h2} {hr} {hs} {A : FVec Ideal S256x1024 .f32} {e : EReal} (hA : (A (ix2 i c) : EReal) = e)
    (hb : sb.toNat < 8) (h8 : 8 ≤ o) (ho : o ≤ 32) (e1 : k + s = 30) (e2 : o + s = 32 + sb.toNat) :
    (addf A (mulf (broadcastTo S256x1024 (shapeCast S1x1024 (View.ld W (Rect.unit (s := S32x1024) ![k, 0] S1x1024.size hk)) h1) h2)
      (extractStridedSlice S256x1024 ![o, 0] (dynamicRotate 0 sb none X hr) hs)) (ix2 i c) : EReal) = e + term W X i c s :=
  (add_at _ _ _).trans (congrArg₂ (fun a b : EReal => a + b) hA (tap_rot W X i c hb h8 ho e1 e2))

theorem conv_apply (a b : Vec Ideal S256x1024 .bf16) (h : Vec Ideal S32x1024 .f32) :
    (convVec a b h W (ix2 i c) : EReal) = order.foldl (fun acc s => acc + term W (k0_pay3 (F := Ideal) a b h) i c s) 0 := by
  simp only [order, List.foldl]
  unfold convVec convHead k0_pay20 k0_pay19 k0_pay18 k0_pay17 k0_pay16 k0_pay15 k0_pay14 k0_pay13 k0_pay12 k0_pay11 k0_pay10 k0_pay9 k0_pay8 k0_pay7 k0_pay6 k0_pay5
  generalize k0_pay3 (F := Ideal) a b h = X
  iterate 27 refine step_rot W X i c ?_ (by decide) (by decide) (by decide) (by decide) (by decide)
  iterate 4 refine step_plain W X i c ?_ (by decide) (by decide) (by decide)
  exact zero_bits

end

/-- The last payload: the shift of the convolution, the layer norm and the swish. -/
theorem pay21_apply (u v w : FVec Ideal S256x1024 .f32) (cb g l : Vec Ideal S1x1024 .f32) (i : Fin 256) (c : Fin 1024) :
    (k0_pay21 (F := Ideal) u v w cb g l (ix2 i c) : EReal)
      = post (fun j => (addf u (mulf w v) (ix2 i j) : EReal) + cb (ix2 0 j)) (fun j => g (ix2 0 j)) (fun j => l (ix2 0 j)) c := by
  unfold k0_pay21
  dsimp only
  generalize addf u (mulf w v) = y
  unfold post lnorm mean sigm
  have e : ∀ x : EReal, -x = Ideal.ofBits .f32 0x00000000#32 - x := fun x => by rw [zero_bits, sub_eq_add_neg, zero_add]
  rw [e]
  pointwise []

end Cert.Kernel5Ideal.Conv

end
-- ==== Proof.Conv.Block.lean ====
module

public import proofs.«01_k».proof.Proof.Conv.Value
public import Idealize.ShloMosaic.Lib.Pipeline.ValueKit.Basic
public import Idealize.ShloMosaic.Lib.Pointwise
public import Idealize.ShloMosaic.Lib.KernelVsHost
public import Idealize.ShloMosaic.Lib.Routing.OpsSet

@[expose] public section

set_option maxRecDepth 16384

noncomputable section

/-! What one run of the body leaves in the output's block and in the carried rows, in the two cases of the body. -/

namespace Cert.Kernel5Ideal.Conv

open Cert.Kernel5Ideal Cert.Kernel5Ideal.Gen
open Idealize.ShloMosaic Idealize.ShloMosaic.TcCoe Idealize.ShloMosaic.Tactic
open Idealize.SL Idealize.SL.RA Idealize.SL.BI Idealize.SL.Sem
open Idealize.ShloMosaic.StableHlo Idealize.ShloMosaic.Routing

set_option maxHeartbeats 4000000

/-- What the body leaves in the block, from the rows carried in front of it. -/
def blockOut (h : Vec Ideal S32x1024 .f32) (x0 x1 : Vec Ideal S256x1024 .bf16) (W : Vec Ideal S32x1024 .f32) (cb g l : Vec Ideal S1x1024 .f32) : Vec Ideal S256x1024 .bf16 :=
  fun y => post (fun j => order.foldl (fun acc s => acc + term W (k0_pay3 (F := Ideal) x0 x1 h) (y 0) j s) 0 + cb (ix2 0 j))
    (fun j => g (ix2 0 j)) (fun j => l (ix2 0 j)) (y 1)

theorem idx_two {a b : ℕ} (y : (⟨2, ![a, b]⟩ : Shape).Idx) : ∃ (p : Fin a) (q : Fin b), y = ix2 p q :=
  ⟨y 0, y 1, funext fun d => by
    match d with
    | ⟨0, _⟩ => rfl
    | ⟨1, _⟩ => rfl⟩

abbrev rectX : Rect S256x1024 := Rect.unit (s := S256x1024) ![0, 0] S256x1024.size inb_S256x1024_S256x1024_0_0
abbrev rectS : Rect S32x1024 := Rect.unit (s := S32x1024) ![0, 0] S32x1024.size inb_S32x1024_S32x1024_0_0
abbrev rectR : Rect S1x1024 := Rect.unit (s := S1x1024) ![0, 0] S1x1024.size inb_S1x1024_S1x1024_0_0

theorem ldX (x : Vec Ideal S256x1024 .bf16) : View.ld x rectX = x := by
  funext y; obtain ⟨r, k, rfl⟩ := idx_two y
  exact congrArg x (Shape.idx_ext₂ (by show 0 + 1 * r.val = r.val; omega) (by show 0 + 1 * k.val = k.val; omega))
theorem ldS (x : Vec Ideal S32x1024 .f32) : View.ld x rectS = x := by
  funext y; obtain ⟨r, k, rfl⟩ := idx_two y
  exact congrArg x (Shape.idx_ext₂ (by show 0 + 1 * r.val = r.val; omega) (by show 0 + 1 * k.val = k.val; omega))
theorem ldR (x : Vec Ideal S1x1024 .f32) : View.ld x rectR = x := by
  funext y; obtain ⟨r, k, rfl⟩ := idx_two y
  exact congrArg x (Shape.idx_ext₂ (by show 0 + 1 * r.val = r.val; omega) (by show 0 + 1 * k.val = k.val; omega))
theorem embX (y : S256x1024.Idx) : rectX.emb y = y := by
  obtain ⟨r, k, rfl⟩ := idx_two y
  exact Shape.idx_ext₂ (by show 0 + 1 * r.val = r.val; omega) (by show 0 + 1 * k.val = k.val; omega)
theorem embS (y : S32x1024.Idx) : rectS.emb y = y := by
  obtain ⟨r, k, rfl⟩ := idx_two y
  exact Shape.idx_ext₂ (by show 0 + 1 * r.val = r.val; omega) (by show 0 + 1 * k.val = k.val; omega)

/-- Rows just written whole and then read are what was written. -/
theorem cov_read {sig' : RefSig} {κ : Kind} {sp : Space} (a : View sig' κ sp S32x1024 .f32) (w : Vec Ideal S32x1024 .f32) :
    a.readCov (Val := Elt Ideal) [⟨rectS, w⟩] rectS.toLoadRect = w := by
  have h0 : ∀ d : Fin 2, (![0, 0] : Fin 2 → ℕ) d = 0 := fun d => match d with
    | ⟨0, _⟩ => rfl
    | ⟨1, _⟩ => rfl
  rw [View.readCov_eq_canon_ld _ _ _ (fun y => ⟨_, List.mem_cons_self, View.mem_set_unit_zero (funext h0) inb_S32x1024_S32x1024_0_0 y⟩), View.canon_cons_unit_lit _ _ _ h0]
  exact ldS w

theorem piece (h : Vec Ideal S32x1024 .f32) (x0 x1 : Vec Ideal S256x1024 .bf16) (W : Vec Ideal S32x1024 .f32) (cb g l : Vec Ideal S1x1024 .f32) (j : S256x1024.Idx) :
    k0_pay21 (F := Ideal) (convHead (View.ld x0 rectX) (View.ld x1 rectX) h W) (k0_pay19 (k0_pay3 (View.ld x0 rectX) (View.ld x1 rectX) h))
      (k0_pay20 (wRow W 7 inb_S32x1024_S1x1024_7_0)) (View.ld cb rectR) (View.ld g rectR) (View.ld l rectR) j = blockOut h x0 x1 W cb g l (rectX.emb j) := by
  rw [embX, ldX, ldX, ldR, ldR, ldR]
  obtain ⟨r, q, rfl⟩ := idx_two j
  refine (pay21_apply _ _ _ cb g l r q).trans ?_
  unfold blockOut
  refine congrFun (congrArg (fun f => post f _ _) (funext fun k => ?_)) q
  exact congrArg (fun a : EReal => a + cb (ix2 0 k)) (conv_apply W r k x0 x1 h)

/-- At a sequence's first block the rows in front are zeros, -/
theorem out_A (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S32x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S256x1024 .bf16) (harg8 : arg8.IsWhole) (arg9 : Memref sig .tc .vmem S32x1024 .f32) (harg9 : arg9.IsWhole) (hc0 : cond0_0 i)
    (x0 : Vec Ideal S256x1024 .bf16) (x1 : Vec Ideal S256x1024 .bf16) (x2 : Vec Ideal S32x1024 .f32) (x3 : Vec Ideal S1x1024 .f32) (x4 : Vec Ideal S1x1024 .f32) (x5 : Vec Ideal S1x1024 .f32) :
    out0_A_6 (F := Ideal) c i arg2 harg2 arg3 harg3 arg4 harg4 arg5 harg5 arg6 harg6 arg7 harg7 arg8 harg8 arg9 harg9 hc0 x0 x1 x2 x3 x4 x5
      = blockOut (k0_pay1 (F := Ideal)) x0 x1 x2 x3 x4 x5 := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4 x5)]
  funext y
  refine View.canon_apply_of_pieces _ _ (fun p hp j => ?_) y (cover0_A_6 c i arg2 harg2 arg3 harg3 arg4 harg4 arg5 harg5 arg6 harg6 arg7 harg7 arg8 harg8 arg9 harg9 hc0 x0 x1 x2 x3 x4 x5 y)
  unfold kernelRun0_A at hp
  dsimp only at hp
  simp only [List.mem_cons, List.mem_nil_iff, or_false] at hp
  subst hp
  refine Eq.trans ?_ (piece (k0_pay1 (F := Ideal)) x0 x1 x2 x3 x4 x5 j)
  sl_unfold_words
  simp only [View.readAt_eq_ld, harg2.read_unread, harg3.read_unread, harg4.read_unread, harg5.read_unread, harg6.read_unread, harg7.read_unread, harg9.read_unread]
  rw [cov_read]

/-- and elsewhere the ones the point before left. -/
theorem out_B (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S32x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S256x1024 .bf16) (harg8 : arg8.IsWhole) (arg9 : Memref sig .tc .vmem S32x1024 .f32) (harg9 : arg9.IsWhole) (hc0 : ¬cond0_0 i)
    (x0 : Vec Ideal S256x1024 .bf16) (x1 : Vec Ideal S256x1024 .bf16) (x2 : Vec Ideal S32x1024 .f32) (x3 : Vec Ideal S1x1024 .f32) (x4 : Vec Ideal S1x1024 .f32) (x5 : Vec Ideal S1x1024 .f32) (xs0 : Vec Ideal S32x1024 .f32) :
    out0_B_6 (F := Ideal) c i arg2 harg2 arg3 harg3 arg4 harg4 arg5 harg5 arg6 harg6 arg7 harg7 arg8 harg8 arg9 harg9 hc0 x0 x1 x2 x3 x4 x5 xs0
      = blockOut xs0 x0 x1 x2 x3 x4 x5 := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 x5 xs0)]
  funext y
  refine View.canon_apply_of_pieces _ _ (fun p hp j => ?_) y (cover0_B_6 c i arg2 harg2 arg3 harg3 arg4 harg4 arg5 harg5 arg6 harg6 arg7 harg7 arg8 harg8 arg9 harg9 hc0 x0 x1 x2 x3 x4 x5 xs0 y)
  unfold kernelRun0_B at hp
  dsimp only at hp
  simp only [List.mem_cons, List.mem_nil_iff, or_false] at hp
  subst hp
  refine Eq.trans ?_ (piece xs0 x0 x1 x2 x3 x4 x5 j)
  sl_unfold_words
  simp only [View.readAt_eq_ld, harg2.read_unread, harg3.read_unread, harg4.read_unread, harg5.read_unread, harg6.read_unread, harg7.read_unread, harg9.read_unread]
  rw [ldS]

/-- Both cases leave the block's last gated rows to the next point. -/
theorem sout_A (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S32x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S256x1024 .bf16) (harg8 : arg8.IsWhole) (arg9 : Memref sig .tc .vmem S32x1024 .f32) (harg9 : arg9.IsWhole) (hc0 : cond0_0 i)
    (x0 : Vec Ideal S256x1024 .bf16) (x1 : Vec Ideal S256x1024 .bf16) (x2 : Vec Ideal S32x1024 .f32) (x3 : Vec Ideal S1x1024 .f32) (x4 : Vec Ideal S1x1024 .f32) (x5 : Vec Ideal S1x1024 .f32) :
    sout0_A_0 (F := Ideal) c i arg2 harg2 arg3 harg3 arg4 harg4 arg5 harg5 arg6 harg6 arg7 harg7 arg8 harg8 arg9 harg9 hc0 x0 x1 x2 x3 x4 x5
      = k0_pay4 (F := Ideal) x0 x1 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4 x5)]
  unfold kernelRun0_A
  dsimp only
  rw [View.canon_cons_unit_lit _ _ _ (fun d => match d with
    | ⟨0, _⟩ => rfl
    | ⟨1, _⟩ => rfl)]
  sl_unfold_words
  simp only [View.readAt_eq_ld, harg2.read_unread, harg3.read_unread, harg4.read_unread, harg5.read_unread, harg6.read_unread, harg7.read_unread, harg9.read_unread]
  rw [ldX, ldX]

theorem sout_B (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S32x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S256x1024 .bf16) (harg8 : arg8.IsWhole) (arg9 : Memref sig .tc .vmem S32x1024 .f32) (harg9 : arg9.IsWhole) (hc0 : ¬cond0_0 i)
    (x0 : Vec Ideal S256x1024 .bf16) (x1 : Vec Ideal S256x1024 .bf16) (x2 : Vec Ideal S32x1024 .f32) (x3 : Vec Ideal S1x1024 .f32) (x4 : Vec Ideal S1x1024 .f32) (x5 : Vec Ideal S1x1024 .f32) (xs0 : Vec Ideal S32x1024 .f32) :
    sout0_B_0 (F := Ideal) c i arg2 harg2 arg3 harg3 arg4 harg4 arg5 harg5 arg6 harg6 arg7 harg7 arg8 harg8 arg9 harg9 hc0 x0 x1 x2 x3 x4 x5 xs0
      = k0_pay4 (F := Ideal) x0 x1 := by
  unfold sout0_B_0
  rw [View.read_writes_eq_canon _ _ _ (scover0_B_0 c i arg2 harg2 arg3 harg3 arg4 harg4 arg5 harg5 arg6 harg6 arg7 harg7 arg8 harg8 arg9 harg9 hc0 x0 x1 x2 x3 x4 x5 xs0)]
  unfold kernelRun0_B
  dsimp only
  rw [View.canon_cons_unit_lit _ _ _ (fun d => match d with
    | ⟨0, _⟩ => rfl
    | ⟨1, _⟩ => rfl)]
  sl_unfold_words
  simp only [View.readAt_eq_ld, harg2.read_unread, harg3.read_unread, harg4.read_unread, harg5.read_unread, harg6.read_unread, harg7.read_unread, harg9.read_unread]
  rw [ldX, ldX]

end Cert.Kernel5Ideal.Conv

end
-- ==== Proof.Conv.Array.lean ====
module

public import proofs.«01_k».proof.Proof.Conv.Block

@[expose] public section

set_option maxRecDepth 16384

noncomputable section

/-! The whole array the convolution writes, from the blocks. -/

namespace Cert.Kernel5Ideal.Conv

open Cert.Kernel5Ideal Cert.Kernel5Ideal.Gen
open Idealize.ShloMosaic Idealize.ShloMosaic.TcCoe Idealize.ShloMosaic.Tactic
open Idealize.SL Idealize.SL.RA Idealize.SL.BI Idealize.SL.Sem
open Idealize.ShloMosaic.StableHlo Idealize.ShloMosaic.Routing

set_option maxHeartbeats 2000000

theorem fold_acc (f : ℕ → EReal) (l : List ℕ) : ∀ a : EReal, l.foldl (fun acc s => acc + f s) a = a + (l.map f).sum := by
  induction l with
  | nil => intro a; simp
  | cons x l ih => intro a; rw [List.foldl_cons, ih, List.map_cons, List.sum_cons, add_assoc]

/-- The taps' order does not matter. -/
theorem fold_order (f : ℕ → EReal) : order.foldl (fun acc s => acc + f s) 0 = ∑ s : Fin 31, f s.val := by
  have p : order.Perm ((List.finRange 31).map Fin.val) := by decide
  rw [fold_acc, zero_add, (p.map f).sum_eq, List.map_map, Fin.sum_univ_def]
  rfl

theorem N_eq : cfg0.N = 66 := N_0

theorem rows_lt (t : Fin cfg0.N) (r : Fin 256) : 256 * t.val + r.val < 16896 := by have := Nat.lt_of_lt_of_eq t.isLt N_eq; omega

/-- The row of the whole array that row `r` of point `t`'s block is. -/
abbrev rowOf (t : Fin cfg0.N) (r : Fin 256) : Fin 16896 := ⟨256 * t.val + r.val, rows_lt t r⟩

theorem inner0 : ∀ t : Fin grid0.N, cc0_transform_0 (grid0.coords t) = ![t.val, 3] := by decide +kernel
theorem inner1 : ∀ t : Fin grid0.N, cc0_transform_1 (grid0.coords t) = ![t.val, 4] := by decide +kernel
theorem inner6 : ∀ t : Fin grid0.N, cc0_transform_6 (grid0.coords t) = ![t.val, 0] := by decide +kernel

section
variable (m : (ℓ : Loc nD τ sig) → Buf (Elt Ideal) ℓ) (c : Dev nD)

/-- The given arrays: the projections, the taps' weights, the bias, the gains and the shifts. -/
abbrev argZ : Vec Ideal S16896x5120 .bf16 := m ((c.tc : Thread nD τ).loc main_arg0)
abbrev argW : Vec Ideal S31x1024 .f32 := m ((c.tc : Thread nD τ).loc main_arg1)
abbrev argB : Vec Ideal S1024 .f32 := m ((c.tc : Thread nD τ).loc main_arg2)
abbrev argG : Vec Ideal S1024 .f32 := m ((c.tc : Thread nD τ).loc main_arg3)
abbrev argL : Vec Ideal S1024 .f32 := m ((c.tc : Thread nD τ).loc main_arg4)

theorem blk0_apply (t : Fin cfg0.N) (r : Fin 256) (k : Fin 1024) :
    ((iblk m c 0 t : Vec Ideal S256x1024 .bf16) (ix2 r k) : EReal) = argZ m c (ix2 (rowOf t r) ⟨3072 + k.val, by omega⟩) := by
  refine Eq.trans ?_ (congrFun (V_main_arg0 m c) _)
  show ((win0_0.blk t).view.read (Elt Ideal) (V m c main_arg0)) (ix2 r k) = _
  rw [View.read_apply]
  refine congrArg (V m c main_arg0) (show (win0_0.rect t).emb (ix2 r k) = ix2 (rowOf t r) ⟨3072 + k.val, by omega⟩ from ?_)
  refine Shape.idx_ext₂ ((win0_0.rect_emb_val t _ _).trans ?_) ((win0_0.rect_emb_val t _ _).trans ?_)
  · show cc0_transform_0 (grid0.coords t) 0 * 256 + r.val = 256 * t.val + r.val
    rw [inner0]; show t.val * 256 + _ = _; omega
  · show cc0_transform_0 (grid0.coords t) 1 * 1024 + k.val = 3072 + k.val
    rw [inner0]; show 3 * 1024 + _ = _; omega

theorem blk1_apply (t : Fin cfg0.N) (r : Fin 256) (k : Fin 1024) :
    ((iblk m c 1 t : Vec Ideal S256x1024 .bf16) (ix2 r k) : EReal) = argZ m c (ix2 (rowOf t r) ⟨4096 + k.val, by omega⟩) := by
  refine Eq.trans ?_ (congrFun (V_main_arg0 m c) _)
  show ((win0_1.blk t).view.read (Elt Ideal) (V m c main_arg0)) (ix2 r k) = _
  rw [View.read_apply]
  refine congrArg (V m c main_arg0) (show (win0_1.rect t).emb (ix2 r k) = ix2 (rowOf t r) ⟨4096 + k.val, by omega⟩ from ?_)
  refine Shape.idx_ext₂ ((win0_1.rect_emb_val t _ _).trans ?_) ((win0_1.rect_emb_val t _ _).trans ?_)
  · show cc0_transform_1 (grid0.coords t) 0 * 256 + r.val = 256 * t.val + r.val
    rw [inner1]; show t.val * 256 + _ = _; omega
  · show cc0_transform_1 (grid0.coords t) 1 * 1024 + k.val = 4096 + k.val
    rw [inner1]; show 4 * 1024 + _ = _; omega

theorem weights_eq : @Eq (Vec Ideal S32x1024 .f32) (V m c main_v0) (pad S32x1024 ![0, 0] ![1, 0] ![0, 0] (argW m c)
      (sitofp (F := Ideal) .f32 (constantI S_ 32 0#32)) pads_S31x1024_S32x1024_010_000 h_S_) := by
  show StableHlo.after (List.flatten [hostOps0, hostOps0_1, hostOps0_2]) (fun b => m (c, b)) (Proc.devRef .tc main_v0) = _
  simp only [hostOps0, hostOps0_1, hostOps0_2, List.flatten_cons, List.flatten_nil, List.append_nil, List.cons_append, List.nil_append,
    TRef.binary, TRef.nullary, TRef.ternary, TRef.unary, TRef.toBuf, TRef.ofBuf, cast_eq]
  after_results_simp <;> rfl

theorem bias_eq : @Eq (Vec Ideal S1x1024 .f32) (V m c main_v1) (shapeCast S1x1024 (argB m c) shapeCasts_S1024_S1x1024) := by
  show StableHlo.after (List.flatten [hostOps0, hostOps0_1, hostOps0_2]) (fun b => m (c, b)) (Proc.devRef .tc main_v1) = _
  simp only [hostOps0, hostOps0_1, hostOps0_2, List.flatten_cons, List.flatten_nil, List.append_nil, List.cons_append, List.nil_append,
    TRef.binary, TRef.nullary, TRef.ternary, TRef.unary, TRef.toBuf, TRef.ofBuf, cast_eq]
  after_results_simp <;> rfl

theorem gain_eq : @Eq (Vec Ideal S1x1024 .f32) (V m c main_v2) (shapeCast S1x1024 (argG m c) shapeCasts_S1024_S1x1024) := by
  show StableHlo.after (List.flatten [hostOps0, hostOps0_1, hostOps0_2]) (fun b => m (c, b)) (Proc.devRef .tc main_v2) = _
  simp only [hostOps0, hostOps0_1, hostOps0_2, List.flatten_cons, List.flatten_nil, List.append_nil, List.cons_append, List.nil_append,
    TRef.binary, TRef.nullary, TRef.ternary, TRef.unary, TRef.toBuf, TRef.ofBuf, cast_eq]
  after_results_simp <;> rfl

theorem shift_eq : @Eq (Vec Ideal S1x1024 .f32) (V m c main_v3) (shapeCast S1x1024 (argL m c) shapeCasts_S1024_S1x1024) := by
  show StableHlo.after (List.flatten [hostOps0, hostOps0_1, hostOps0_2]) (fun b => m (c, b)) (Proc.devRef .tc main_v3) = _
  simp only [hostOps0, hostOps0_1, hostOps0_2, List.flatten_cons, List.flatten_nil, List.append_nil, List.cons_append, List.nil_append,
    TRef.binary, TRef.nullary, TRef.ternary, TRef.unary, TRef.toBuf, TRef.ofBuf, cast_eq]
  after_results_simp <;> rfl

theorem blk2_apply (t : Fin cfg0.N) (s : Fin 31) (k : Fin 1024) :
    ((iblk m c 2 t : Vec Ideal S32x1024 .f32) (ix2 ⟨s.val, by omega⟩ k) : EReal) = argW m c (ix2 s k) := by
  refine Eq.trans ?_ ((congrFun (weights_eq m c) (ix2 ⟨s.val, by omega⟩ k)).trans ?_)
  · show ((win0_2.blk t).view.read (Elt Ideal) (V m c main_v0)) (ix2 ⟨s.val, by omega⟩ k) = _
    rw [View.read_apply]
    refine congrArg (V m c main_v0) (show (win0_2.rect t).emb (ix2 ⟨s.val, by omega⟩ k) = ix2 ⟨s.val, by omega⟩ k from ?_)
    refine Shape.idx_ext₂ ((win0_2.rect_emb_val t _ _).trans ?_) ((win0_2.rect_emb_val t _ _).trans ?_)
    · show 0 * 32 + s.val = s.val; omega
    · show 0 * 1024 + k.val = k.val; omega
  · refine pad_apply_of_inside (α := EReal) ![0, 0] ![1, 0] ![0, 0] _ _ pads_S31x1024_S32x1024_010_000 _ _ (ix2 s k) (fun a => ?_)
    match a with
    | ⟨0, _⟩ => show s.val = 0 + s.val * (0 + 1); omega
    | ⟨1, _⟩ => show k.val = 0 + k.val * (0 + 1); omega

theorem row_cast (v : Vec Ideal S1024 .f32) (k : Fin 1024) : (shapeCast S1x1024 v shapeCasts_S1024_S1x1024 : Vec Ideal S1x1024 .f32) (ix2 0 k) = v (ix1 k) := by
  refine shapeCast_apply _ shapeCasts_S1024_S1x1024 (ix2 0 k) (ix1 k) ?_
  rw [Shape.rowMajor_val_two, Shape.rowMajor_val_one]; show k.val = 0 * 1024 + k.val; omega

theorem blk3_apply (t : Fin cfg0.N) (k : Fin 1024) : ((iblk m c 3 t : Vec Ideal S1x1024 .f32) (ix2 0 k) : EReal) = argB m c (ix1 k) := by
  refine Eq.trans ?_ ((congrFun (bias_eq m c) (ix2 0 k)).trans (row_cast _ k))
  show ((win0_3.blk t).view.read (Elt Ideal) (V m c main_v1)) (ix2 0 k) = _
  rw [View.read_apply]
  refine congrArg (V m c main_v1) (show (win0_3.rect t).emb (ix2 0 k) = ix2 0 k from ?_)
  refine Shape.idx_ext₂ ((win0_3.rect_emb_val t _ _).trans ?_) ((win0_3.rect_emb_val t _ _).trans ?_)
  · rfl
  · show 0 * 1024 + k.val = k.val; omega

theorem blk4_apply (t : Fin cfg0.N) (k : Fin 1024) : ((iblk m c 4 t : Vec Ideal S1x1024 .f32) (ix2 0 k) : EReal) = argG m c (ix1 k) := by
  refine Eq.trans ?_ ((congrFun (gain_eq m c) (ix2 0 k)).trans (row_cast _ k))
  show ((win0_4.blk t).view.read (Elt Ideal) (V m c main_v2)) (ix2 0 k) = _
  rw [View.read_apply]
  refine congrArg (V m c main_v2) (show (win0_4.rect t).emb (ix2 0 k) = ix2 0 k from ?_)
  refine Shape.idx_ext₂ ((win0_4.rect_emb_val t _ _).trans ?_) ((win0_4.rect_emb_val t _ _).trans ?_)
  · rfl
  · show 0 * 1024 + k.val = k.val; omega

theorem blk5_apply (t : Fin cfg0.N) (k : Fin 1024) : ((iblk m c 5 t : Vec Ideal S1x1024 .f32) (ix2 0 k) : EReal) = argL m c (ix1 k) := by
  refine Eq.trans ?_ ((congrFun (shift_eq m c) (ix2 0 k)).trans (row_cast _ k))
  show ((win0_5.blk t).view.read (Elt Ideal) (V m c main_v3)) (ix2 0 k) = _
  rw [View.read_apply]
  refine congrArg (V m c main_v3) (show (win0_5.rect t).emb (ix2 0 k) = ix2 0 k from ?_)
  refine Shape.idx_ext₂ ((win0_5.rect_emb_val t _ _).trans ?_) ((win0_5.rect_emb_val t _ _).trans ?_)
  · rfl
  · show 0 * 1024 + k.val = k.val; omega

end

/-- A gated entry. -/
def gate (Z : Vec Ideal S16896x5120 .bf16) (r : Fin 16896) (k : Fin 1024) : EReal :=
  glu (Z (ix2 r ⟨3072 + k.val, by omega⟩)) (Z (ix2 r ⟨4096 + k.val, by omega⟩))

/-- The gated entry `s` rows before row `r` of the same sequence, and 0 before the first row. -/
def back (Z : Vec Ideal S16896x5120 .bf16) (r : Fin 16896) (k : Fin 1024) (s : ℕ) : EReal :=
  if s ≤ r.val % 8448 then gate Z ⟨r.val - s, by omega⟩ k else 0

/-- An entry of what the convolution writes. -/
def entry (Z : Vec Ideal S16896x5120 .bf16) (W : Vec Ideal S31x1024 .f32) (B G L : Vec Ideal S1024 .f32) (r : Fin 16896) (q : Fin 1024) : EReal :=
  post (fun j => (∑ s : Fin 31, W (ix2 ⟨30 - s.val, by omega⟩ j) * back Z r j s.val) + B (ix1 j)) (fun j => G (ix1 j)) (fun j => L (ix1 j)) q

section
variable (m : (ℓ : Loc nD τ sig) → Buf (Elt Ideal) ℓ) (c : Dev nD)

/-- The rows carried away from a point. -/
theorem carried (t : Fin cfg0.N) : (outsAt0 m c t.val t.isLt).2 = k0_pay4 (F := Ideal) (iblk m c 0 t) (iblk m c 1 t) := by
  by_cases h0 : t.val % 33 = 0
  · rw [outsAt0_A m c t h0]; dsimp only; rw [sout_A]
  · rw [outsAt0_B m c t h0]; dsimp only; rw [sout_B]

theorem gate_blk (t : Fin cfg0.N) (r : Fin 256) (k : Fin 1024) (R : Fin 16896) (h : R.val = 256 * t.val + r.val) :
    glu ((iblk m c 0 t : Vec Ideal S256x1024 .bf16) (ix2 r k)) ((iblk m c 1 t : Vec Ideal S256x1024 .bf16) (ix2 r k)) = gate (argZ m c) R k := by
  obtain rfl : R = rowOf t r := Fin.ext h
  exact congrArg₂ glu (blk0_apply m c t r k) (blk1_apply m c t r k)

/-- One tap, where the rows in front are the rows before the block's first. -/
theorem tap_eq (t : Fin cfg0.N) (H : Vec Ideal S32x1024 .f32)
    (hH : ∀ (s : Fin 31) (i : Fin 256) (k : Fin 1024) (h : i.val < s.val), (H (ix2 ⟨32 + i.val - s.val, by omega⟩ k) : EReal) = back (argZ m c) (rowOf t i) k s.val)
    (i : Fin 256) (k : Fin 1024) (s : Fin 31) :
    term (iblk m c 2 t) (k0_pay3 (F := Ideal) (iblk m c 0 t) (iblk m c 1 t) H) i k s.val = argW m c (ix2 ⟨30 - s.val, by omega⟩ k) * back (argZ m c) (rowOf t i) k s.val := by
  unfold term
  refine congrArg₂ (fun a b : EReal => a * b) ?_ ?_
  · refine Eq.trans ?_ (blk2_apply m c t ⟨30 - s.val, by omega⟩ k)
    refine congrArg (fun j => (iblk m c 2 t : Vec Ideal S32x1024 .f32) (ix2 j k)) (Fin.ext ?_)
    show (30 - s.val) % 32 = 30 - s.val; omega
  · have e : (32 + i.val - s.val) % 288 = 32 + i.val - s.val := by omega
    by_cases h : i.val < s.val
    · refine Eq.trans ?_ (hH s i k h)
      refine (pay3_halo _ _ H _ (show (32 + i.val - s.val) % 288 < 32 by omega) k).trans ?_
      exact congrArg (fun j => H (ix2 j k)) (Fin.ext e)
    · refine (pay3_rows _ _ H _ ⟨i.val - s.val, by omega⟩ (show (32 + i.val - s.val) % 288 = 32 + (i.val - s.val) by omega) k).trans ?_
      unfold back
      rw [if_pos (show s.val ≤ (256 * t.val + i.val) % 8448 by omega)]
      exact gate_blk m c t _ k _ (show 256 * t.val + i.val - s.val = 256 * t.val + (i.val - s.val) by omega)

theorem block_apply (t : Fin cfg0.N) (H : Vec Ideal S32x1024 .f32)
    (hH : ∀ (s : Fin 31) (i : Fin 256) (k : Fin 1024) (h : i.val < s.val), (H (ix2 ⟨32 + i.val - s.val, by omega⟩ k) : EReal) = back (argZ m c) (rowOf t i) k s.val)
    (p : Fin 256) (q : Fin 1024) :
    (blockOut H (iblk m c 0 t) (iblk m c 1 t) (iblk m c 2 t) (iblk m c 3 t) (iblk m c 4 t) (iblk m c 5 t) (ix2 p q) : EReal)
      = entry (argZ m c) (argW m c) (argB m c) (argG m c) (argL m c) (rowOf t p) q := by
  have ey : (fun j => order.foldl (fun acc s => acc + term (iblk m c 2 t) (k0_pay3 (F := Ideal) (iblk m c 0 t) (iblk m c 1 t) H) p j s) 0 + (iblk m c 3 t : Vec Ideal S1x1024 .f32) (ix2 0 j))
      = (fun j => (∑ s : Fin 31, argW m c (ix2 ⟨30 - s.val, by omega⟩ j) * back (argZ m c) (rowOf t p) j s.val) + argB m c (ix1 j)) := by
    funext j
    refine congrArg₂ (fun a b : EReal => a + b) ((fold_order _).trans (Finset.sum_congr rfl fun s _ => tap_eq m c t H hH p j s)) (blk3_apply m c t j)
  have eg : (fun j => (iblk m c 4 t : Vec Ideal S1x1024 .f32) (ix2 0 j)) = (fun j => argG m c (ix1 j)) := funext fun j => blk4_apply m c t j
  have el : (fun j => (iblk m c 5 t : Vec Ideal S1x1024 .f32) (ix2 0 j)) = (fun j => argL m c (ix1 j)) := funext fun j => blk5_apply m c t j
  show post (fun j => order.foldl (fun acc s => acc + term (iblk m c 2 t) (k0_pay3 (F := Ideal) (iblk m c 0 t) (iblk m c 1 t) H) p j s) 0 + (iblk m c 3 t : Vec Ideal S1x1024 .f32) (ix2 0 j))
    (fun j => (iblk m c 4 t : Vec Ideal S1x1024 .f32) (ix2 0 j)) (fun j => (iblk m c 5 t : Vec Ideal S1x1024 .f32) (ix2 0 j)) q = _
  rw [ey, eg, el]
  rfl

/-- What the point leaves of the array. -/
theorem flushed_apply (t : Fin cfg0.N) (p : Fin 256) (q : Fin 1024) :
    ((Cert.Kernel5Ideal.Gen.dats m 0 c).flushed 6 t (ix2 p q) : EReal) = entry (argZ m c) (argW m c) (argB m c) (argG m c) (argL m c) (rowOf t p) q := by
  have hN := Nat.lt_of_lt_of_eq t.isLt N_eq
  by_cases h0 : t.val % 33 = 0
  · rw [Cert.Kernel5Ideal.Value.flushed6_A m c t h0, out_A]
    refine (block_apply m c t (k0_pay1 (F := Ideal)) (fun s i k h => ?_) p q)
    unfold back
    rw [if_neg (show ¬ s.val ≤ (256 * t.val + i.val) % 8448 by omega)]
    exact zero_bits
  · rw [Cert.Kernel5Ideal.Value.flushed6_B m c t h0, out_B]
    refine (block_apply m c t _ (fun s i k h => ?_) p q)
    refine (congrFun (carried m c ⟨t.val - 1, Nat.lt_of_le_of_lt (Nat.sub_le _ _) t.isLt⟩) _).trans ?_
    refine (pay4_apply _ _ _ k).trans ?_
    unfold back
    rw [if_pos (show s.val ≤ (256 * t.val + i.val) % 8448 by omega)]
    exact gate_blk m c _ _ k _ (show 256 * t.val + i.val - s.val = 256 * (t.val - 1) + (224 + (32 + i.val - s.val)) by omega)

theorem out_emb (t : Fin cfg0.N) (r : Fin 256) (q : Fin 1024) : (win0_6.rect t).emb (ix2 r q) = ix2 (rowOf t r) q := by
  refine Shape.idx_ext₂ ((win0_6.rect_emb_val t _ _).trans ?_) ((win0_6.rect_emb_val t _ _).trans ?_)
  · show cc0_transform_6 (grid0.coords t) 0 * 256 + r.val = 256 * t.val + r.val
    rw [inner6]; show t.val * 256 + _ = _; omega
  · show cc0_transform_6 (grid0.coords t) 1 * 1024 + q.val = q.val
    rw [inner6]; show 0 * 1024 + _ = _; omega

/-- The array as written. -/
theorem out_arr (r : Fin 16896) (q : Fin 1024) :
    ((dats m 0 c).arrAt 6 cfg0.N (ix2 r q) : EReal) = entry (argZ m c) (argW m c) (argB m c) (argG m c) (argL m c) r q := by
  let Q : S16896x1024.Idx → EReal → Prop := fun i e => e = entry (argZ m c) (argW m c) (argB m c) (argG m c) (argL m c) (i 0) (i 1)
  have hN := N_eq
  let t : Fin cfg0.N := ⟨r.val / 256, by omega⟩
  refine (dats m 0 c).arrAt_forall_of_flushed 6 Q ?_ cfg0.N t (ix2 r q) t.isLt (flush0_6 t) ?_
  · intro t _ y
    obtain ⟨p, x, rfl⟩ := idx_two y
    have e1 := flushed_apply m c t p x
    show Q ((win0_6.rect t).emb (ix2 p x)) _
    rw [out_emb]
    exact e1
  · show _ ∈ ((View.whole main_v4).slice (win0_6.rect t)).set
    have e : ix2 r q = (win0_6.rect t).emb (ix2 ⟨r.val % 256, by omega⟩ q) := by
      rw [out_emb]
      refine Shape.idx_ext₂ ?_ rfl
      show r.val = 256 * (r.val / 256) + r.val % 256; omega
    rw [e]
    exact View.emb_mem_set ((View.whole main_v4).slice (win0_6.rect t)) _

end

end Cert.Kernel5Ideal.Conv

end
-- ==== Proof.Conv.Meet.lean ====
module

public import proofs.«01_k».proof.Proof.Conv.Array
public import proofs.«01_k».proof.Proof.Gen.Reference5Ideal.Run
public import proofs.«01_k».proof.Proof.Gen.Reference5Ideal.Read
public import proofs.«01_k».proof.Defs

@[expose] public section

set_option maxRecDepth 16384

noncomputable section

/-! The reference of the convolution entry by entry, and that the kernel's entries are the reference's. -/

namespace Cert.ConvMeet

open Idealize.ShloMosaic Idealize.ShloMosaic.TcCoe Idealize.ShloMosaic.Tactic
open Idealize.SL Idealize.SL.Sem
open Cert.Reference5Ideal Cert.Reference5Ideal.Gen Cert.Reference5Ideal.Read
open Cert.Kernel5Ideal.Conv (sigm glu mean lnorm post gate back entry argZ argW argB argG argL)

set_option maxHeartbeats 2000000

theorem ext3 {d e f : ℕ} (x y : (⟨3, ![d, e, f]⟩ : Shape).Idx) (h0 : (x 0).val = (y 0).val) (h1 : (x 1).val = (y 1).val) (h2 : (x 2).val = (y 2).val) : x = y :=
  funext fun a => match a with
    | ⟨0, _⟩ => Fin.ext h0
    | ⟨1, _⟩ => Fin.ext h1
    | ⟨2, _⟩ => Fin.ext h2

section
variable (Z : (⟨S16896x5120, .bf16⟩ : BufTy).Contents (Elt Ideal)) (W : (⟨S31x1024, .f32⟩ : BufTy).Contents (Elt Ideal))
  (B G L : (⟨S1024, .f32⟩ : BufTy).Contents (Elt Ideal)) (b : Fin 2) (n : Fin 8448) (c : Fin 1024)

/-- Row `n` of sequence `b` among all the rows. -/
abbrev row (b : Fin 2) (n : Fin 8448) : Fin 16896 := ⟨b.val * 8448 + n.val, by omega⟩

/-- The gated entries. -/
theorem gate_ref : (val_main_v12 (F := Ideal) Z (ix3 b n c) : EReal) = gate Z (row b n) c := by
  rw [val_main_v12_apply, val_main_v2_apply, val_main_v1_apply, val_main_v0_apply, val_main_v11_apply, val_main_v10_apply, val_main_cst_0_apply,
    val_main_v9_apply, val_main_v8_apply, val_main_cst_apply, val_main_v7_apply, val_main_v6_apply, val_main_v5_apply, val_main_v4_apply, val_main_v3_apply]
  have e1 : idx_main_v0 (idx_main_v2 (ix3 b n c)) = ix2 (row b n) ⟨3072 + c.val, by omega⟩ := Shape.idx_ext₂
    (by show ((b.val * 8448 + n.val) * 1024 + c.val) / 1024 = b.val * 8448 + n.val; omega)
    (by show 3072 + ((b.val * 8448 + n.val) * 1024 + c.val) % 1024 = 3072 + c.val; omega)
  have e2 : idx_main_v3 (idx_main_v5 (ix3 b n c)) = ix2 (row b n) ⟨4096 + c.val, by omega⟩ := Shape.idx_ext₂
    (by show ((b.val * 8448 + n.val) * 1024 + c.val) / 1024 = b.val * 8448 + n.val; omega)
    (by show 4096 + ((b.val * 8448 + n.val) * 1024 + c.val) % 1024 = 4096 + c.val; omega)
  rw [e1, e2]
  rfl

/-- The gated entries behind thirty rows of zeros, read at `j` rows after row `n`. -/
theorem pad_ref (j : Fin 31) : (val_main_v13 (F := Ideal) Z (ix3 b ⟨j.val + n.val, by omega⟩ c) : EReal) = back Z (row b n) c (30 - j.val) := by
  unfold val_main_v13 back
  by_cases h : 30 - j.val ≤ n.val
  · rw [if_pos (show 30 - j.val ≤ (b.val * 8448 + n.val) % 8448 by omega)]
    refine (pad_apply_of_inside (α := EReal) ![0, 30, 0] ![0, 0, 0] ![0, 0, 0] (val_main_v12 (F := Ideal) Z) _ pads_S2x8448x1024_S2x8478x1024_000_3000_000 _ _
      (ix3 b ⟨n.val - (30 - j.val), by omega⟩ c) (fun a => ?_)).trans ?_
    · match a with
      | ⟨0, _⟩ => show b.val = 0 + b.val * (0 + 1); omega
      | ⟨1, _⟩ => show j.val + n.val = 30 + (n.val - (30 - j.val)) * (0 + 1); omega
      | ⟨2, _⟩ => show c.val = 0 + c.val * (0 + 1); omega
    · rw [gate_ref]
      exact congrArg (fun r => gate Z r c) (Fin.ext (show b.val * 8448 + (n.val - (30 - j.val)) = b.val * 8448 + n.val - (30 - j.val) by omega))
  · rw [if_neg (show ¬ 30 - j.val ≤ (b.val * 8448 + n.val) % 8448 by omega)]
    refine (pad_apply_of_not_inside (α := EReal) ![0, 30, 0] ![0, 0, 0] ![0, 0, 0] (val_main_v12 (F := Ideal) Z) _ pads_S2x8448x1024_S2x8478x1024_000_3000_000 _ _ (1 : Fin 3) ?_).trans ?_
    · show ¬(30 ≤ j.val + n.val ∧ (j.val + n.val - 30) % (0 + 1) = 0 ∧ (j.val + n.val - 30) / (0 + 1) < 8448)
      rintro ⟨h1, -, -⟩; omega
    · show (((0#32 : BitVec 32).toInt : ℝ) : EReal) = 0
      simp

/-- What the tap with weight row `j` adds. -/
def T (j : ℕ) : EReal := back Z (row b n) c (30 - j) * W (ix2 ⟨j % 31, Nat.mod_lt _ (by decide)⟩ c)

theorem tap_of (j : ℕ) (hj : j < 31) (x : S2x8478x1024.Idx) (k : S31x1024.Idx) (h0 : (x 0).val = b.val) (h1 : (x 1).val = j + n.val) (h2 : (x 2).val = c.val)
    (k0 : (k 0).val = j) (k1 : (k 1).val = c.val % 1024) : (FloatOps.mulf (F := Ideal) (φ := .f32) (val_main_v13 (F := Ideal) Z x) (W k) : EReal) = T Z W b n c j := by
  have ex : x = ix3 b ⟨j + n.val, by omega⟩ c := ext3 _ _ h0 h1 h2
  have ek : k = ix2 ⟨j % 31, Nat.mod_lt _ (by decide)⟩ c := Shape.idx_ext₂ (k0.trans (Nat.mod_eq_of_lt hj).symm) (k1.trans (Nat.mod_eq_of_lt c.isLt))
  exact congrArg₂ (fun u v : EReal => u * v) ((congrArg (val_main_v13 (F := Ideal) Z) ex).trans (pad_ref Z b n c ⟨j, hj⟩)) (congrArg W ek)

theorem tap0 : (val_main_v19 (F := Ideal) Z W (ix3 b n c) : EReal) = T Z W b n c 0 := by
  rw [val_main_v19_apply, val_main_v14_apply, val_main_v18_apply, val_main_v17_apply, val_main_v16_apply, val_main_v15_apply]
  exact tap_of Z W b n c 0 (by decide) _ _ rfl (Nat.zero_add _).symm rfl rfl rfl
theorem tap1 : (val_main_v25 (F := Ideal) Z W (ix3 b n c) : EReal) = T Z W b n c 1 := by
  rw [val_main_v25_apply, val_main_v20_apply, val_main_v24_apply, val_main_v23_apply, val_main_v22_apply, val_main_v21_apply]
  exact tap_of Z W b n c 1 (by decide) _ _ rfl rfl rfl rfl rfl
theorem tap2 : (val_main_v32 (F := Ideal) Z W (ix3 b n c) : EReal) = T Z W b n c 2 := by
  rw [val_main_v32_apply, val_main_v27_apply, val_main_v31_apply, val_main_v30_apply, val_main_v29_apply, val_main_v28_apply]
  exact tap_of Z W b n c 2 (by decide) _ _ rfl rfl rfl rfl rfl
theorem tap3 : (val_main_v39 (F := Ideal) Z W (ix3 b n c) : EReal) = T Z W b n c 3 := by
  rw [val_main_v39_apply, val_main_v34_apply, val_main_v38_apply, val_main_v37_apply, val_main_v36_apply, val_main_v35_apply]
  exact tap_of Z W b n c 3 (by decide) _ _ rfl rfl rfl rfl rfl
theorem tap4 : (val_main_v46 (F := Ideal) Z W (ix3 b n c) : EReal) = T Z W b n c 4 := by
  rw [val_main_v46_apply, val_main_v41_apply, val_main_v45_apply, val_main_v44_apply, val_main_v43_apply, val_main_v42_apply]
  exact tap_of Z W b n c 4 (by decide) _ _ rfl rfl rfl rfl rfl
theorem tap5 : (val_main_v53 (F := Ideal) Z W (ix3 b n c) : EReal) = T Z W b n c 5 := by
  rw [val_main_v53_apply, val_main_v48_apply, val_main_v52_apply, val_main_v51_apply, val_main_v50_apply, val_main_v49_apply]
  exact tap_of Z W b n c 5 (by decide) _ _ rfl rfl rfl rfl rfl
theorem tap6 : (val_main_v60 (F := Ideal) Z W (ix3 b n c) : EReal) = T Z W b n c 6 := by
  rw [val_main_v60_apply, val_main_v55_apply, val_main_v59_apply, val_main_v58_apply, val_main_v57_apply, val_main_v56_apply]
  exact tap_of Z W b n c 6 (by decide) _ _ rfl rfl rfl rfl rfl
theorem tap7 : (val_main_v67 (F := Ideal) Z W (ix3 b n c) : EReal) = T Z W b n c 7 := by
  rw [val_main_v67_apply, val_main_v62_apply, val_main_v66_apply, val_main_v65_apply, val_main_v64_apply, val_main_v63_apply]
  exact tap_of Z W b n c 7 (by decide) _ _ rfl rfl rfl rfl rfl
theorem tap8 : (val_main_v74 (F := Ideal) Z W (ix3 b n c) : EReal) = T Z W b n c 8 := by
  rw [val_main_v74_apply, val_main_v69_apply, val_main_v73_apply, val_main_v72_apply, val_main_v71_apply, val_main_v70_apply]
  exact tap_of Z W b n c 8 (by decide) _ _ rfl rfl rfl rfl rfl
theorem tap9 : (val_main_v81 (F := Ideal) Z W (ix3 b n c) : EReal) = T Z W b n c 9 := by
  rw [val_main_v81_apply, val_main_v76_apply, val_main_v80_apply, val_main_v79_apply, val_main_v78_apply, val_main_v77_apply]
  exact tap_of Z W b n c 9 (by decide) _ _ rfl rfl rfl rfl rfl
theorem tap10 : (val_main_v88 (F := Ideal) Z W (ix3 b n c) : EReal) = T Z W b n c 10 := by
  rw [val_main_v88_apply, val_main_v83_apply, val_main_v87_apply, val_main_v86_apply, val_main_v85_apply, val_main_v84_apply]
  exact tap_of Z W b n c 10 (by decide) _ _ rfl rfl rfl rfl rfl
theorem tap11 : (val_main_v95 (F := Ideal) Z W (ix3 b n c) : EReal) = T Z W b n c 11 := by
  rw [val_main_v95_apply, val_main_v90_apply, val_main_v94_apply, val_main_v93_apply, val_main_v92_apply, val_main_v91_apply]
  exact tap_of Z W b n c 11 (by decide) _ _ rfl rfl rfl rfl rfl
theorem tap12 : (val_main_v102 (F := Ideal) Z W (ix3 b n c) : EReal) = T Z W b n c 12 := by
  rw [val_main_v102_apply, val_main_v97_apply, val_main_v101_apply, val_main_v100_apply, val_main_v99_apply, val_main_v98_apply]
  exact tap_of Z W b n c 12 (by decide) _ _ rfl rfl rfl rfl rfl
theorem tap13 : (val_main_v109 (F := Ideal) Z W (ix3 b n c) : EReal) = T Z W b n c 13 := by
  rw [val_main_v109_apply, val_main_v104_apply, val_main_v108_apply, val_main_v107_apply, val_main_v106_apply, val_main_v105_apply]
  exact tap_of Z W b n c 13 (by decide) _ _ rfl rfl rfl rfl rfl
theorem tap14 : (val_main_v116 (F := Ideal) Z W (ix3 b n c) : EReal) = T Z W b n c 14 := by
  rw [val_main_v116_apply, val_main_v111_apply, val_main_v115_apply, val_main_v114_apply, val_main_v113_apply, val_main_v112_apply]
  exact tap_of Z W b n c 14 (by decide) _ _ rfl rfl rfl rfl rfl
theorem tap15 : (val_main_v123 (F := Ideal) Z W (ix3 b n c) : EReal) = T Z W b n c 15 := by
  rw [val_main_v123_apply, val_main_v118_apply, val_main_v122_apply, val_main_v121_apply, val_main_v120_apply, val_main_v119_apply]
  exact tap_of Z W b n c 15 (by decide) _ _ rfl rfl rfl rfl rfl
theorem tap16 : (val_main_v130 (F := Ideal) Z W (ix3 b n c) : EReal) = T Z W b n c 16 := by
  rw [val_main_v130_apply, val_main_v125_apply, val_main_v129_apply, val_main_v128_apply, val_main_v127_apply, val_main_v126_apply]
  exact tap_of Z W b n c 16 (by decide) _ _ rfl rfl rfl rfl rfl
theorem tap17 : (val_main_v137 (F := Ideal) Z W (ix3 b n c) : EReal) = T Z W b n c 17 := by
  rw [val_main_v137_apply, val_main_v132_apply, val_main_v136_apply, val_main_v135_apply, val_main_v134_apply, val_main_v133_apply]
  exact tap_of Z W b n c 17 (by decide) _ _ rfl rfl rfl rfl rfl
theorem tap18 : (val_main_v144 (F := Ideal) Z W (ix3 b n c) : EReal) = T Z W b n c 18 := by
  rw [val_main_v144_apply, val_main_v139_apply, val_main_v143_apply, val_main_v142_apply, val_main_v141_apply, val_main_v140_apply]
  exact tap_of Z W b n c 18 (by decide) _ _ rfl rfl rfl rfl rfl
theorem tap19 : (val_main_v151 (F := Ideal) Z W (ix3 b n c) : EReal) = T Z W b n c 19 := by
  rw [val_main_v151_apply, val_main_v146_apply, val_main_v150_apply, val_main_v149_apply, val_main_v148_apply, val_main_v147_apply]
  exact tap_of Z W b n c 19 (by decide) _ _ rfl rfl rfl rfl rfl
theorem tap20 : (val_main_v158 (F := Ideal) Z W (ix3 b n c) : EReal) = T Z W b n c 20 := by
  rw [val_main_v158_apply, val_main_v153_apply, val_main_v157_apply, val_main_v156_apply, val_main_v155_apply, val_main_v154_apply]
  exact tap_of Z W b n c 20 (by decide) _ _ rfl rfl rfl rfl rfl
theorem tap21 : (val_main_v165 (F := Ideal) Z W (ix3 b n c) : EReal) = T Z W b n c 21 := by
  rw [val_main_v165_apply, val_main_v160_apply, val_main_v164_apply, val_main_v163_apply, val_main_v162_apply, val_main_v161_apply]
  exact tap_of Z W b n c 21 (by decide) _ _ rfl rfl rfl rfl rfl
theorem tap22 : (val_main_v172 (F := Ideal) Z W (ix3 b n c) : EReal) = T Z W b n c 22 := by
  rw [val_main_v172_apply, val_main_v167_apply, val_main_v171_apply, val_main_v170_apply, val_main_v169_apply, val_main_v168_apply]
  exact tap_of Z W b n c 22 (by decide) _ _ rfl rfl rfl rfl rfl
theorem tap23 : (val_main_v179 (F := Ideal) Z W (ix3 b n c) : EReal) = T Z W b n c 23 := by
  rw [val_main_v179_apply, val_main_v174_apply, val_main_v178_apply, val_main_v177_apply, val_main_v176_apply, val_main_v175_apply]
  exact tap_of Z W b n c 23 (by decide) _ _ rfl rfl rfl rfl rfl
theorem tap24 : (val_main_v186 (F := Ideal) Z W (ix3 b n c) : EReal) = T Z W b n c 24 := by
  rw [val_main_v186_apply, val_main_v181_apply, val_main_v185_apply, val_main_v184_apply, val_main_v183_apply, val_main_v182_apply]
  exact tap_of Z W b n c 24 (by decide) _ _ rfl rfl rfl rfl rfl
theorem tap25 : (val_main_v193 (F := Ideal) Z W (ix3 b n c) : EReal) = T Z W b n c 25 := by
  rw [val_main_v193_apply, val_main_v188_apply, val_main_v192_apply, val_main_v191_apply, val_main_v190_apply, val_main_v189_apply]
  exact tap_of Z W b n c 25 (by decide) _ _ rfl rfl rfl rfl rfl
theorem tap26 : (val_main_v200 (F := Ideal) Z W (ix3 b n c) : EReal) = T Z W b n c 26 := by
  rw [val_main_v200_apply, val_main_v195_apply, val_main_v199_apply, val_main_v198_apply, val_main_v197_apply, val_main_v196_apply]
  exact tap_of Z W b n c 26 (by decide) _ _ rfl rfl rfl rfl rfl
theorem tap27 : (val_main_v207 (F := Ideal) Z W (ix3 b n c) : EReal) = T Z W b n c 27 := by
  rw [val_main_v207_apply, val_main_v202_apply, val_main_v206_apply, val_main_v205_apply, val_main_v204_apply, val_main_v203_apply]
  exact tap_of Z W b n c 27 (by decide) _ _ rfl rfl rfl rfl rfl
theorem tap28 : (val_main_v214 (F := Ideal) Z W (ix3 b n c) : EReal) = T Z W b n c 28 := by
  rw [val_main_v214_apply, val_main_v209_apply, val_main_v213_apply, val_main_v212_apply, val_main_v211_apply, val_main_v210_apply]
  exact tap_of Z W b n c 28 (by decide) _ _ rfl rfl rfl rfl rfl
theorem tap29 : (val_main_v221 (F := Ideal) Z W (ix3 b n c) : EReal) = T Z W b n c 29 := by
  rw [val_main_v221_apply, val_main_v216_apply, val_main_v220_apply, val_main_v219_apply, val_main_v218_apply, val_main_v217_apply]
  exact tap_of Z W b n c 29 (by decide) _ _ rfl rfl rfl rfl rfl
theorem tap30 : (val_main_v228 (F := Ideal) Z W (ix3 b n c) : EReal) = T Z W b n c 30 := by
  rw [val_main_v228_apply, val_main_v223_apply, val_main_v227_apply, val_main_v226_apply, val_main_v225_apply, val_main_v224_apply]
  exact tap_of Z W b n c 30 (by decide) _ _ rfl rfl rfl rfl rfl

/-- The sum of the first taps. -/
def S (k : ℕ) : EReal := ∑ j ∈ Finset.range k, T Z W b n c j

theorem sum0 : (val_main_v19 (F := Ideal) Z W (ix3 b n c) : EReal) = S Z W b n c 1 := (tap0 Z W b n c).trans (Finset.sum_range_one _).symm
theorem sum_of (k : ℕ) (x y : EReal) (hx : x = S Z W b n c k) (hy : y = T Z W b n c k) : x + y = S Z W b n c (k + 1) := by
  rw [hx, hy]; exact (Finset.sum_range_succ _ _).symm
theorem sum1 : (val_main_v26 (F := Ideal) Z W (ix3 b n c) : EReal) = S Z W b n c 2 := by
  rw [val_main_v26_apply]; exact sum_of Z W b n c 1 _ _ (sum0 Z W b n c) (tap1 Z W b n c)
theorem sum2 : (val_main_v33 (F := Ideal) Z W (ix3 b n c) : EReal) = S Z W b n c 3 := by
  rw [val_main_v33_apply]; exact sum_of Z W b n c 2 _ _ (sum1 Z W b n c) (tap2 Z W b n c)
theorem sum3 : (val_main_v40 (F := Ideal) Z W (ix3 b n c) : EReal) = S Z W b n c 4 := by
  rw [val_main_v40_apply]; exact sum_of Z W b n c 3 _ _ (sum2 Z W b n c) (tap3 Z W b n c)
theorem sum4 : (val_main_v47 (F := Ideal) Z W (ix3 b n c) : EReal) = S Z W b n c 5 := by
  rw [val_main_v47_apply]; exact sum_of Z W b n c 4 _ _ (sum3 Z W b n c) (tap4 Z W b n c)
theorem sum5 : (val_main_v54 (F := Ideal) Z W (ix3 b n c) : EReal) = S Z W b n c 6 := by
  rw [val_main_v54_apply]; exact sum_of Z W b n c 5 _ _ (sum4 Z W b n c) (tap5 Z W b n c)
theorem sum6 : (val_main_v61 (F := Ideal) Z W (ix3 b n c) : EReal) = S Z W b n c 7 := by
  rw [val_main_v61_apply]; exact sum_of Z W b n c 6 _ _ (sum5 Z W b n c) (tap6 Z W b n c)
theorem sum7 : (val_main_v68 (F := Ideal) Z W (ix3 b n c) : EReal) = S Z W b n c 8 := by
  rw [val_main_v68_apply]; exact sum_of Z W b n c 7 _ _ (sum6 Z W b n c) (tap7 Z W b n c)
theorem sum8 : (val_main_v75 (F := Ideal) Z W (ix3 b n c) : EReal) = S Z W b n c 9 := by
  rw [val_main_v75_apply]; exact sum_of Z W b n c 8 _ _ (sum7 Z W b n c) (tap8 Z W b n c)
theorem sum9 : (val_main_v82 (F := Ideal) Z W (ix3 b n c) : EReal) = S Z W b n c 10 := by
  rw [val_main_v82_apply]; exact sum_of Z W b n c 9 _ _ (sum8 Z W b n c) (tap9 Z W b n c)
theorem sum10 : (val_main_v89 (F := Ideal) Z W (ix3 b n c) : EReal) = S Z W b n c 11 := by
  rw [val_main_v89_apply]; exact sum_of Z W b n c 10 _ _ (sum9 Z W b n c) (tap10 Z W b n c)
theorem sum11 : (val_main_v96 (F := Ideal) Z W (ix3 b n c) : EReal) = S Z W b n c 12 := by
  rw [val_main_v96_apply]; exact sum_of Z W b n c 11 _ _ (sum10 Z W b n c) (tap11 Z W b n c)
theorem sum12 : (val_main_v103 (F := Ideal) Z W (ix3 b n c) : EReal) = S Z W b n c 13 := by
  rw [val_main_v103_apply]; exact sum_of Z W b n c 12 _ _ (sum11 Z W b n c) (tap12 Z W b n c)
theorem sum13 : (val_main_v110 (F := Ideal) Z W (ix3 b n c) : EReal) = S Z W b n c 14 := by
  rw [val_main_v110_apply]; exact sum_of Z W b n c 13 _ _ (sum12 Z W b n c) (tap13 Z W b n c)
theorem sum14 : (val_main_v117 (F := Ideal) Z W (ix3 b n c) : EReal) = S Z W b n c 15 := by
  rw [val_main_v117_apply]; exact sum_of Z W b n c 14 _ _ (sum13 Z W b n c) (tap14 Z W b n c)
theorem sum15 : (val_main_v124 (F := Ideal) Z W (ix3 b n c) : EReal) = S Z W b n c 16 := by
  rw [val_main_v124_apply]; exact sum_of Z W b n c 15 _ _ (sum14 Z W b n c) (tap15 Z W b n c)
theorem sum16 : (val_main_v131 (F := Ideal) Z W (ix3 b n c) : EReal) = S Z W b n c 17 := by
  rw [val_main_v131_apply]; exact sum_of Z W b n c 16 _ _ (sum15 Z W b n c) (tap16 Z W b n c)
theorem sum17 : (val_main_v138 (F := Ideal) Z W (ix3 b n c) : EReal) = S Z W b n c 18 := by
  rw [val_main_v138_apply]; exact sum_of Z W b n c 17 _ _ (sum16 Z W b n c) (tap17 Z W b n c)
theorem sum18 : (val_main_v145 (F := Ideal) Z W (ix3 b n c) : EReal) = S Z W b n c 19 := by
  rw [val_main_v145_apply]; exact sum_of Z W b n c 18 _ _ (sum17 Z W b n c) (tap18 Z W b n c)
theorem sum19 : (val_main_v152 (F := Ideal) Z W (ix3 b n c) : EReal) = S Z W b n c 20 := by
  rw [val_main_v152_apply]; exact sum_of Z W b n c 19 _ _ (sum18 Z W b n c) (tap19 Z W b n c)
theorem sum20 : (val_main_v159 (F := Ideal) Z W (ix3 b n c) : EReal) = S Z W b n c 21 := by
  rw [val_main_v159_apply]; exact sum_of Z W b n c 20 _ _ (sum19 Z W b n c) (tap20 Z W b n c)
theorem sum21 : (val_main_v166 (F := Ideal) Z W (ix3 b n c) : EReal) = S Z W b n c 22 := by
  rw [val_main_v166_apply]; exact sum_of Z W b n c 21 _ _ (sum20 Z W b n c) (tap21 Z W b n c)
theorem sum22 : (val_main_v173 (F := Ideal) Z W (ix3 b n c) : EReal) = S Z W b n c 23 := by
  rw [val_main_v173_apply]; exact sum_of Z W b n c 22 _ _ (sum21 Z W b n c) (tap22 Z W b n c)
theorem sum23 : (val_main_v180 (F := Ideal) Z W (ix3 b n c) : EReal) = S Z W b n c 24 := by
  rw [val_main_v180_apply]; exact sum_of Z W b n c 23 _ _ (sum22 Z W b n c) (tap23 Z W b n c)
theorem sum24 : (val_main_v187 (F := Ideal) Z W (ix3 b n c) : EReal) = S Z W b n c 25 := by
  rw [val_main_v187_apply]; exact sum_of Z W b n c 24 _ _ (sum23 Z W b n c) (tap24 Z W b n c)
theorem sum25 : (val_main_v194 (F := Ideal) Z W (ix3 b n c) : EReal) = S Z W b n c 26 := by
  rw [val_main_v194_apply]; exact sum_of Z W b n c 25 _ _ (sum24 Z W b n c) (tap25 Z W b n c)
theorem sum26 : (val_main_v201 (F := Ideal) Z W (ix3 b n c) : EReal) = S Z W b n c 27 := by
  rw [val_main_v201_apply]; exact sum_of Z W b n c 26 _ _ (sum25 Z W b n c) (tap26 Z W b n c)
theorem sum27 : (val_main_v208 (F := Ideal) Z W (ix3 b n c) : EReal) = S Z W b n c 28 := by
  rw [val_main_v208_apply]; exact sum_of Z W b n c 27 _ _ (sum26 Z W b n c) (tap27 Z W b n c)
theorem sum28 : (val_main_v215 (F := Ideal) Z W (ix3 b n c) : EReal) = S Z W b n c 29 := by
  rw [val_main_v215_apply]; exact sum_of Z W b n c 28 _ _ (sum27 Z W b n c) (tap28 Z W b n c)
theorem sum29 : (val_main_v222 (F := Ideal) Z W (ix3 b n c) : EReal) = S Z W b n c 30 := by
  rw [val_main_v222_apply]; exact sum_of Z W b n c 29 _ _ (sum28 Z W b n c) (tap29 Z W b n c)
theorem sum30 : (val_main_v229 (F := Ideal) Z W (ix3 b n c) : EReal) = S Z W b n c 31 := by
  rw [val_main_v229_apply]; exact sum_of Z W b n c 30 _ _ (sum29 Z W b n c) (tap30 Z W b n c)

/-- The taps counted back from the row itself. -/
theorem sum_back : S Z W b n c 31 = ∑ s : Fin 31, (W (ix2 ⟨30 - s.val, by omega⟩ c) : EReal) * back Z (row b n) c s.val := by
  refine (Finset.sum_range _).trans (Eq.trans (Finset.sum_congr rfl fun j _ => ?_) (Equiv.sum_comp Fin.revPerm fun s : Fin 31 => (W (ix2 ⟨30 - s.val, by omega⟩ c) : EReal) * back Z (row b n) c s.val))
  refine (mul_comm _ _).trans ?_
  have e : (Fin.revPerm j).val = 30 - j.val := by
    show 31 - (j.val + 1) = 30 - j.val; omega
  refine congrArg₂ (fun a b : EReal => a * b) (congrArg (fun r => (W (ix2 r c) : EReal)) (Fin.ext ?_)) (congrArg (back Z (row b n) c) e.symm)
  show j.val % 31 = 30 - (Fin.revPerm j).val
  rw [e]; omega

/-- The convolution with its bias. -/
theorem conv_ref : (val_main_v232 (F := Ideal) Z W B (ix3 b n c) : EReal) = (∑ s : Fin 31, (W (ix2 ⟨30 - s.val, by omega⟩ c) : EReal) * back Z (row b n) c s.val) + B (ix1 c) := by
  rw [val_main_v232_apply, val_main_v231_apply, val_main_v230_apply, sum30, sum_back]
  have e : idx_main_v230 (idx_main_v231 (ix3 b n c)) = ix1 c := by
    funext a
    match a with
    | ⟨0, _⟩ => rfl
  rw [e]
  rfl

/-- A row before its normalization. -/
abbrev Y : Fin 1024 → EReal := fun j => val_main_v232 (F := Ideal) Z W B (ix3 b n j)

theorem mean_ref : (val_main_v236 (F := Ideal) Z W B (ix3 b n 0) : EReal) = mean (Y Z W B b n) := by
  have h0 : (val_main_cst_1 (F := Ideal) (Shape.Idx.first h_S_) : EReal) = (0 : EReal) := by
    show Ideal.ofBits .f32 0x00000000#32 = 0
    simp [Ideal.ofBits, Ideal.ieee]
  rw [val_main_v236_apply, val_main_v234_apply, val_main_v235_apply, val_main_cst_2_apply, val_main_v233_apply, h0, zero_add]
  have e : ∀ j, idx_main_v233 (idx_main_v234 (ix3 b n 0)) j = ix3 b n j := fun j => ext3 _ _ rfl rfl rfl
  simp only [e]
  rfl

theorem diff_ref : (val_main_v238 (F := Ideal) Z W B (ix3 b n c) : EReal) = Y Z W B b n c - mean (Y Z W B b n) := by
  rw [val_main_v238_apply, val_main_v237_apply]
  have e : idx_main_v237 (ix3 b n c) = ix3 b n 0 := ext3 _ _ rfl rfl rfl
  rw [e, mean_ref]
  rfl

theorem diff_ref' : (val_main_v245 (F := Ideal) Z W B (ix3 b n c) : EReal) = Y Z W B b n c - mean (Y Z W B b n) := by
  rw [val_main_v245_apply, val_main_v244_apply]
  have e : idx_main_v244 (ix3 b n c) = ix3 b n 0 := ext3 _ _ rfl rfl rfl
  rw [e, mean_ref]
  rfl

theorem var_ref : (val_main_v243 (F := Ideal) Z W B (ix3 b n 0) : EReal)
    = mean (fun j => (Y Z W B b n j - mean (Y Z W B b n)) * (Y Z W B b n j - mean (Y Z W B b n))) := by
  have h0 : (val_main_cst_3 (F := Ideal) (Shape.Idx.first h_S_) : EReal) = (0 : EReal) := by
    show Ideal.ofBits .f32 0x00000000#32 = 0
    simp [Ideal.ofBits, Ideal.ieee]
  rw [val_main_v243_apply, val_main_v241_apply, val_main_v242_apply, val_main_cst_4_apply, val_main_v240_apply, h0, zero_add]
  have e : ∀ j, idx_main_v240 (idx_main_v241 (ix3 b n 0)) j = ix3 b n j := fun j => ext3 _ _ rfl rfl rfl
  simp only [e, val_main_v239_apply, diff_ref]
  rfl

theorem norm_ref : (val_main_v256 (F := Ideal) Z W B G L (ix3 b n c) : EReal) = lnorm (Y Z W B b n) (fun j => G (ix1 j)) (fun j => L (ix1 j)) c := by
  rw [val_main_v256_apply, val_main_v253_apply, val_main_v250_apply, val_main_v249_apply, val_main_v248_apply, val_main_v247_apply, val_main_v246_apply, val_main_cst_5_apply,
    val_main_v252_apply, val_main_v251_apply, val_main_v255_apply, val_main_v254_apply, diff_ref']
  have e : idx_main_v249 (ix3 b n c) = ix3 b n 0 := ext3 _ _ rfl rfl rfl
  have e1 : idx_main_v251 (idx_main_v252 (ix3 b n c)) = ix1 c := by
    funext a
    match a with
    | ⟨0, _⟩ => rfl
  have e2 : idx_main_v254 (idx_main_v255 (ix3 b n c)) = ix1 c := by
    funext a
    match a with
    | ⟨0, _⟩ => rfl
  rw [e, e1, e2, var_ref]
  rfl

theorem post_ref : (val_main_v257 (F := Ideal) Z W B G L (ix3 b n c) : EReal) = post (Y Z W B b n) (fun j => G (ix1 j)) (fun j => L (ix1 j)) c := by
  rw [val_main_v257_apply, val_main_call1_v5_apply, val_main_call1_v4_apply, val_main_call1_cst_0_apply, val_main_call1_v3_apply, val_main_call1_v2_apply, val_main_call1_cst_apply,
    val_main_call1_v1_apply, val_main_call1_v0_apply, norm_ref]
  rfl

end

/-- The reference's entries. -/
theorem out_ref (Z : (⟨S16896x5120, .bf16⟩ : BufTy).Contents (Elt Ideal)) (W : (⟨S31x1024, .f32⟩ : BufTy).Contents (Elt Ideal)) (B G L : (⟨S1024, .f32⟩ : BufTy).Contents (Elt Ideal))
    (r : Fin 16896) (q : Fin 1024) : (val_main_v259 (F := Ideal) Z W B G L (ix2 r q) : EReal) = entry Z W B G L r q := by
  have h : (val_main_v259 (F := Ideal) Z W B G L (ix2 r q) : EReal) = val_main_v258 (F := Ideal) Z W B G L (ix2 r q) := rfl
  have e : idx_main_v258 (ix2 r q) = ix3 ⟨r.val / 8448, by omega⟩ ⟨r.val % 8448, by omega⟩ q := ext3 _ _
    (by show (r.val * 1024 + q.val) / 8650752 = r.val / 8448; omega)
    (by show (r.val * 1024 + q.val) / 1024 % 8448 = r.val % 8448; omega)
    (by show (r.val * 1024 + q.val) % 1024 = q.val; omega)
  have er : row ⟨r.val / 8448, by omega⟩ ⟨r.val % 8448, by omega⟩ = r := Fin.ext (show r.val / 8448 * 8448 + r.val % 8448 = r.val by omega)
  rw [h, val_main_v258_apply, e, post_ref]
  unfold entry
  refine congrArg (fun y => post y (fun j => G (ix1 j)) (fun j => L (ix1 j)) q) (funext fun j => ?_)
  refine (conv_ref Z W B _ _ j).trans ?_
  rw [er]

theorem meets (m : (ℓ : Loc Cert.Kernel5Ideal.nD Cert.Kernel5Ideal.τ Cert.Kernel5Ideal.sig) → Buf (Elt Ideal) ℓ) (c : Dev Cert.Kernel5Ideal.nD)
    (Z : (⟨S16896x5120, .bf16⟩ : BufTy).Contents (Elt Ideal)) (W : (⟨S31x1024, .f32⟩ : BufTy).Contents (Elt Ideal)) (B G L : (⟨S1024, .f32⟩ : BufTy).Contents (Elt Ideal))
    (hZ : Z = argZ m c) (hW : W = argW m c) (hB : B = argB m c) (hG : G = argG m c) (hL : L = argL m c) :
    val_main_v259 (F := Ideal) Z W B G L = (Cert.Kernel5Ideal.Gen.dats m 0 c).arrAt 6 Cert.Kernel5Ideal.cfg0.N := by
  funext i
  obtain ⟨p, q, rfl⟩ := Cert.Kernel5Ideal.Conv.idx_two i
  rw [hZ, hW, hB, hG, hL]
  exact (out_ref _ _ _ _ _ p q).trans (Cert.Kernel5Ideal.Conv.out_arr m c p q).symm

/-- Both programs run, and every entry of their results is equal. -/
theorem algebraic : Cert.algebraic_Kernel5Ideal_Reference5Ideal := by
  intro m g m' g' _ ha
  refine ⟨fun c => (Cert.Kernel5Ideal.Gen.dats m 0 c).arrAt 6 Cert.Kernel5Ideal.cfg0.N, Cert.Kernel5Ideal.Value.run_blocks m g, ?_⟩
  refine (θ_run _ _ _).mono (fun r h c => ⟨?_, (h c).2⟩) (Cert.Reference5Ideal.Value.run m' g')
  exact ((h c).1.trans (val_main_v259_eq (F := Ideal) (StableHlo.launchContents m' c))).trans
    (meets m c _ _ _ _ _ (ha c).1 (ha c).2.1 (ha c).2.2.1 (ha c).2.2.2.1 (ha c).2.2.2.2)

end Cert.ConvMeet

end
-- ==== Proof.ProjEven.Twin.lean ====
module

public import proofs.«01_k».proof.Proof.ProjEven.Launch
public import proofs.«01_k».proof.Proof.Gen.Kernel3
public import Idealize.ShloMosaic.PureOps.BitExact

@[expose] public section

noncomputable section

/-! The printed program is the idealized one's text again, so its run is the same run at the float words. -/

namespace Cert.Kernel3.Proj

open Idealize.ShloMosaic Idealize.SL.Sem

variable {F : FTy → Type} [FloatOps F]

theorem body_eq : Cert.Kernel3.defs₀ (F := F) = Cert.Kernel3Ideal.defs₀ (F := F) := by
  refine congrArg Defs.onTc (funext fun n => ?_)
  match n with
  | 0 => rfl

theorem defs_eq : Cert.Kernel3.defs (F := F) = Cert.Kernel3Ideal.defs (F := F) :=
  congrArg (Pipeline.defs Cert.Kernel3Ideal.pcfgs) body_eq

/-- The frame: the arguments end as launched, the counters at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq]
  exact Cert.Kernel3Ideal.Proj.frame m ρ

end Cert.Kernel3.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.Ideal.Launch
public import proofs.«01_k».proof.Proof.Plain.Launch
public import proofs.«01_k».proof.Proof.Ideal.Meet
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Reference3Ideal.Read
public import proofs.«01_k».proof.Proof.Proj.Meet
public import proofs.«01_k».proof.Proof.Proj.Twin
public import proofs.«01_k».proof.Proof.ProjEven.Meet
public import proofs.«01_k».proof.Proof.OutProj.Meet
public import proofs.«01_k».proof.Proof.Conv.Meet
public import proofs.«01_k».proof.Proof.ProjEven.Twin
public import proofs.«01_k».proof.Proof.Gen.Pre_finite
public import proofs.«01_k».proof.Proof.Gen.Kernel4
public import proofs.«01_k».proof.Proof.Gen.Kernel4.Frame
public import proofs.«01_k».proof.Proof.Gen.Kernel4.Launch
public import proofs.«01_k».proof.Proof.Gen.Kernel4.Points
public import proofs.«01_k».proof.Proof.Gen.Kernel4.Skeleton
public import proofs.«01_k».proof.Proof.Gen.Kernel4Ideal
public import proofs.«01_k».proof.Proof.Gen.Kernel4Ideal.Value
public import proofs.«01_k».proof.Proof.Gen.Kernel4Ideal.Frame
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Reference4Ideal
public import proofs.«01_k».proof.Proof.Gen.Reference4Ideal.Run
public import proofs.«01_k».proof.Proof.Gen.Reference4Ideal.Read
public import proofs.«01_k».proof.Proof.Gen.On_hidden_rows
public import proofs.«01_k».proof.Proof.Gen.Kernel5
public import proofs.«01_k».proof.Proof.Gen.Kernel5.Skeleton
public import proofs.«01_k».proof.Proof.Gen.Kernel5.Frame
public import proofs.«01_k».proof.Proof.Gen.Kernel5.Launch
public import proofs.«01_k».proof.Proof.Gen.Kernel5.Points
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Value
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.On_real_rows
public import Idealize.ShloMosaic.Adequacy
public import Idealize.ShloMosaic.Lib.Bf16Pair
public import Idealize.ShloMosaic.Lib.Bf16PairInverse
public import Idealize.ShloMosaic.Init

@[expose] public section

noncomputable section

namespace Cert.Proof

open Idealize.ShloMosaic Idealize.SL.Sem

/-- Two of the kernel's constants are read as the reals they stand for: the minus of `log₂ e`, and the mask, minus infinity. -/
theorem preserves : Cert.preserves_Kernel_KernelIdeal :=
  ⟨IdealRules.named_const.statement Cert.KernelIdeal.κ "neg_log2e" .f32 0xBFB8AA3B#32 ((-((Real.log 2)⁻¹) : ℝ) : EReal) rfl,
   IdealRules.named_const.statement Cert.KernelIdeal.κ "mask" .f32 0xF149F2CA#32 ⊥ rfl⟩

/-- The kernel runs, its arguments unchanged and its counters at zero. -/
theorem frame_kernel : Cert.quiescent_Kernel := fun m g _ => Cert.Kernel.Attn.frame m g

/-- The idealized kernel runs, its arguments unchanged and its counters at zero. -/
theorem frame_ideal : Cert.quiescent_KernelIdeal := fun m g _ => Cert.KernelIdeal.Attn.frame m g

/-- The same where the inputs are finite. -/
theorem frame_ideal_finite : Cert.quiescent_KernelIdeal_pre_finite := fun m g _ => Cert.KernelIdeal.Attn.frame m g

/-- The reference runs, its arguments unchanged. -/
theorem frame_reference : Cert.quiescent_ReferenceIdeal := fun m g _ =>
  (θ_run Cert.ReferenceIdeal.defs _ _).mono (fun r h => ⟨fun c => (h c).2,
      Idealize.ShloMosaic.sem_eq_zero_of_no_sems (by decide) r.2⟩)
    (Cert.ReferenceIdeal.Value.run m g)

/-- The same where the inputs are finite. -/
theorem frame_reference_finite : Cert.quiescent_ReferenceIdeal_pre_finite := fun m g _ => frame_reference m g trivial

/-- The odd layer's projection runs, its arguments unchanged and its counters at zero, whatever the float values are: as printed, -/
theorem frame_kernel2 : Cert.quiescent_Kernel2 := fun m g _ => Cert.Kernel2.Proj.frame m g

/-- and idealized. -/
theorem frame_ideal2 : Cert.quiescent_Kernel2Ideal := fun m g _ => Cert.Kernel2Ideal.Proj.frame m g

/-- Its reference runs, its arguments unchanged. -/
theorem frame_reference2 : Cert.quiescent_Reference2Ideal := fun m g _ =>
  (θ_run Cert.Reference2Ideal.defs _ _).mono (fun r h => ⟨fun c => (h c).2.2.2,
      Idealize.ShloMosaic.sem_eq_zero_of_no_sems (by decide) r.2⟩)
    (Cert.Reference2Ideal.Value.run m g)

/-- The even layer's projection runs likewise, as printed, -/
theorem frame_kernel3 : Cert.quiescent_Kernel3 := fun m g _ => Cert.Kernel3.Proj.frame m g

/-- and idealized. -/
theorem frame_ideal3 : Cert.quiescent_Kernel3Ideal := fun m g _ => Cert.Kernel3Ideal.Proj.frame m g

/-- Its reference runs, its arguments unchanged. -/
theorem frame_reference3 : Cert.quiescent_Reference3Ideal := fun m g _ =>
  (θ_run Cert.Reference3Ideal.defs _ _).mono (fun r h => ⟨fun c => (h c).2.2.2,
      Idealize.ShloMosaic.sem_eq_zero_of_no_sems (by decide) r.2⟩)
    (Cert.Reference3Ideal.Value.run m g)

/-- The output projection runs likewise, as printed, -/
theorem frame_kernel4 : Cert.quiescent_Kernel4 := fun m g _ => Cert.Kernel4.Gen.frame m g

/-- and idealized. -/
theorem frame_ideal4 : Cert.quiescent_Kernel4Ideal := fun m g _ => Cert.Kernel4Ideal.Gen.frame m g

/-- Its reference runs, its arguments unchanged. -/
theorem frame_reference4 : Cert.quiescent_Reference4Ideal := fun m g _ =>
  (θ_run Cert.Reference4Ideal.defs _ _).mono (fun r h => ⟨fun c => (h c).2,
      Idealize.ShloMosaic.sem_eq_zero_of_no_sems (by decide) r.2⟩)
    (Cert.Reference4Ideal.Value.run m g)

/-- The convolution runs likewise, as printed, -/
theorem frame_kernel5 : Cert.quiescent_Kernel5 := fun m g _ => Cert.Kernel5.Gen.frame m g

/-- and idealized. -/
theorem frame_ideal5 : Cert.quiescent_Kernel5Ideal := fun m g _ => Cert.Kernel5Ideal.Gen.frame m g

/-- Its reference runs, its arguments unchanged. -/
theorem frame_reference5 : Cert.quiescent_Reference5Ideal := fun m g _ =>
  (θ_run Cert.Reference5Ideal.defs _ _).mono (fun r h => ⟨fun c => (h c).2,
      Idealize.ShloMosaic.sem_eq_zero_of_no_sems (by decide) r.2⟩)
    (Cert.Reference5Ideal.Value.run m g)

/-- Two bfloat16 rows packed in one row of words are read as the two rows: the array, the block and the stores. -/
theorem preserves4 : Cert.preserves_Kernel4_Kernel4Ideal :=
  ⟨IdealRules.bf16_pair.bufferStatement Cert.Kernel4Ideal.S16896x2x1024 Cert.Kernel4Ideal.S16896x1x1024,
   IdealRules.bf16_pair.bufferStatement Cert.Kernel4Ideal.S256x2x1024 Cert.Kernel4Ideal.S256x1x1024,
   IdealRules.bf16_pair.statement Cert.Kernel4Ideal.S128x2x1024 Cert.Kernel4Ideal.S128x1x1024,
   IdealRules.bf16_pack.statement Cert.Kernel4Ideal.S128x1024⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_finite.Gen.facts, Cert.On_real_rows.Gen.facts, Cert.On_hidden_rows.Gen.facts,
  frame_kernel, frame_ideal, frame_ideal_finite, frame_reference, frame_reference_finite,
  frame_kernel2, frame_ideal2, frame_reference2, frame_kernel3, frame_ideal3, frame_reference3,
  frame_kernel4, frame_ideal4, frame_reference4, frame_kernel5, frame_ideal5, frame_reference5,
  preserves, Cert.Meet.algebraic, trivial, Cert.ProjMeet.algebraic,
  trivial, Cert.ProjEvenMeet.algebraic, preserves4, Cert.OutPMeet.algebraic, trivial, Cert.ConvMeet.algebraic⟩

end Cert.Proof

end
